-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_PostFinal (m : (ℓ : Loc Cert.PostFinal.nD Cert.PostFinal.τ Cert.PostFinal.sig) → Buf (Elt Bits) ℓ) : Prop :=
  True

def Pre_PostFinalIdeal (m : (ℓ : Loc Cert.PostFinalIdeal.nD Cert.PostFinalIdeal.τ Cert.PostFinalIdeal.sig) → Buf (Elt Ideal) ℓ) : Prop :=
  True

def Pre_RefPostFinalIdeal (m : (ℓ : Loc Cert.RefPostFinalIdeal.nD Cert.RefPostFinalIdeal.τ Cert.RefPostFinalIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_RefPostIdeal (m : (ℓ : Loc Cert.RefPostIdeal.nD Cert.RefPostIdeal.τ Cert.RefPostIdeal.sig) → Buf (Elt Ideal) ℓ) : Prop :=
  True

def Pre_Qkv0 (m : (ℓ : Loc Cert.Qkv0.nD Cert.Qkv0.τ Cert.Qkv0.sig) → Buf (Elt Bits) ℓ) : Prop :=
  True

def Pre_Qkv0Ideal (m : (ℓ : Loc Cert.Qkv0Ideal.nD Cert.Qkv0Ideal.τ Cert.Qkv0Ideal.sig) → Buf (Elt Ideal) ℓ) : Prop :=
  True

def Pre_RefQkv0Ideal (m : (ℓ : Loc Cert.RefQkv0Ideal.nD Cert.RefQkv0Ideal.τ Cert.RefQkv0Ideal.sig) → Buf (Elt Ideal) ℓ) : Prop :=
  True

def Pre_Qkv3 (m : (ℓ : Loc Cert.Qkv3.nD Cert.Qkv3.τ Cert.Qkv3.sig) → Buf (Elt Bits) ℓ) : Prop :=
  True

def Pre_Qkv3Ideal (m : (ℓ : Loc Cert.Qkv3Ideal.nD Cert.Qkv3Ideal.τ Cert.Qkv3Ideal.sig) → Buf (Elt Ideal) ℓ) : Prop :=
  True

def Pre_RefQkv3Ideal (m : (ℓ : Loc Cert.RefQkv3Ideal.nD Cert.RefQkv3Ideal.τ Cert.RefQkv3Ideal.sig) → Buf (Elt Ideal) ℓ) : Prop :=
  True

def Pre_PostMerge (m : (ℓ : Loc Cert.PostMerge.nD Cert.PostMerge.τ Cert.PostMerge.sig) → Buf (Elt Bits) ℓ) : Prop :=
  True

def Pre_PostMergeIdeal (m : (ℓ : Loc Cert.PostMergeIdeal.nD Cert.PostMergeIdeal.τ Cert.PostMergeIdeal.sig) → Buf (Elt Ideal) ℓ) : Prop :=
  True

def Pre_PostMergeIdeal_finite_lse [hPre_finite_lse : Cert.Pre_finite_lse.Facts] (m : (ℓ : Loc Cert.PostMergeIdeal.nD Cert.PostMergeIdeal.τ Cert.PostMergeIdeal.sig) → Buf (Elt Ideal) ℓ) : Prop :=
  ∀ c : Dev Cert.PostMergeIdeal.nD,
    (Cert.Pre_finite_lse.fn (F := Ideal) (m ((c.tc : Thread Cert.PostMergeIdeal.nD Cert.PostMergeIdeal.τ).loc Cert.PostMergeIdeal.main_arg0)) (m ((c.tc : Thread Cert.PostMergeIdeal.nD Cert.PostMergeIdeal.τ).loc Cert.PostMergeIdeal.main_arg1)) (m ((c.tc : Thread Cert.PostMergeIdeal.nD Cert.PostMergeIdeal.τ).loc Cert.PostMergeIdeal.main_arg2)) (m ((c.tc : Thread Cert.PostMergeIdeal.nD Cert.PostMergeIdeal.τ).loc Cert.PostMergeIdeal.main_arg3)) (m ((c.tc : Thread Cert.PostMergeIdeal.nD Cert.PostMergeIdeal.τ).loc Cert.PostMergeIdeal.main_arg4)) (m ((c.tc : Thread Cert.PostMergeIdeal.nD Cert.PostMergeIdeal.τ).loc Cert.PostMergeIdeal.main_arg5)) (m ((c.tc : Thread Cert.PostMergeIdeal.nD Cert.PostMergeIdeal.τ).loc Cert.PostMergeIdeal.main_arg6)) (m ((c.tc : Thread Cert.PostMergeIdeal.nD Cert.PostMergeIdeal.τ).loc Cert.PostMergeIdeal.main_arg7)) (m ((c.tc : Thread Cert.PostMergeIdeal.nD Cert.PostMergeIdeal.τ).loc Cert.PostMergeIdeal.main_arg8)) (m ((c.tc : Thread Cert.PostMergeIdeal.nD Cert.PostMergeIdeal.τ).loc Cert.PostMergeIdeal.main_arg9)) (m ((c.tc : Thread Cert.PostMergeIdeal.nD Cert.PostMergeIdeal.τ).loc Cert.PostMergeIdeal.main_arg10))).1 = (fun _ => 1#1)
    ∧ (Cert.Pre_finite_lse.fn (F := Ideal) (m ((c.tc : Thread Cert.PostMergeIdeal.nD Cert.PostMergeIdeal.τ).loc Cert.PostMergeIdeal.main_arg0)) (m ((c.tc : Thread Cert.PostMergeIdeal.nD Cert.PostMergeIdeal.τ).loc Cert.PostMergeIdeal.main_arg1)) (m ((c.tc : Thread Cert.PostMergeIdeal.nD Cert.PostMergeIdeal.τ).loc Cert.PostMergeIdeal.main_arg2)) (m ((c.tc : Thread Cert.PostMergeIdeal.nD Cert.PostMergeIdeal.τ).loc Cert.PostMergeIdeal.main_arg3)) (m ((c.tc : Thread Cert.PostMergeIdeal.nD Cert.PostMergeIdeal.τ).loc Cert.PostMergeIdeal.main_arg4)) (m ((c.tc : Thread Cert.PostMergeIdeal.nD Cert.PostMergeIdeal.τ).loc Cert.PostMergeIdeal.main_arg5)) (m ((c.tc : Thread Cert.PostMergeIdeal.nD Cert.PostMergeIdeal.τ).loc Cert.PostMergeIdeal.main_arg6)) (m ((c.tc : Thread Cert.PostMergeIdeal.nD Cert.PostMergeIdeal.τ).loc Cert.PostMergeIdeal.main_arg7)) (m ((c.tc : Thread Cert.PostMergeIdeal.nD Cert.PostMergeIdeal.τ).loc Cert.PostMergeIdeal.main_arg8)) (m ((c.tc : Thread Cert.PostMergeIdeal.nD Cert.PostMergeIdeal.τ).loc Cert.PostMergeIdeal.main_arg9)) (m ((c.tc : Thread Cert.PostMergeIdeal.nD Cert.PostMergeIdeal.τ).loc Cert.PostMergeIdeal.main_arg10))).2.1 = (fun _ => 1#1)
    ∧ (Cert.Pre_finite_lse.fn (F := Ideal) (m ((c.tc : Thread Cert.PostMergeIdeal.nD Cert.PostMergeIdeal.τ).loc Cert.PostMergeIdeal.main_arg0)) (m ((c.tc : Thread Cert.PostMergeIdeal.nD Cert.PostMergeIdeal.τ).loc Cert.PostMergeIdeal.main_arg1)) (m ((c.tc : Thread Cert.PostMergeIdeal.nD Cert.PostMergeIdeal.τ).loc Cert.PostMergeIdeal.main_arg2)) (m ((c.tc : Thread Cert.PostMergeIdeal.nD Cert.PostMergeIdeal.τ).loc Cert.PostMergeIdeal.main_arg3)) (m ((c.tc : Thread Cert.PostMergeIdeal.nD Cert.PostMergeIdeal.τ).loc Cert.PostMergeIdeal.main_arg4)) (m ((c.tc : Thread Cert.PostMergeIdeal.nD Cert.PostMergeIdeal.τ).loc Cert.PostMergeIdeal.main_arg5)) (m ((c.tc : Thread Cert.PostMergeIdeal.nD Cert.PostMergeIdeal.τ).loc Cert.PostMergeIdeal.main_arg6)) (m ((c.tc : Thread Cert.PostMergeIdeal.nD Cert.PostMergeIdeal.τ).loc Cert.PostMergeIdeal.main_arg7)) (m ((c.tc : Thread Cert.PostMergeIdeal.nD Cert.PostMergeIdeal.τ).loc Cert.PostMergeIdeal.main_arg8)) (m ((c.tc : Thread Cert.PostMergeIdeal.nD Cert.PostMergeIdeal.τ).loc Cert.PostMergeIdeal.main_arg9)) (m ((c.tc : Thread Cert.PostMergeIdeal.nD Cert.PostMergeIdeal.τ).loc Cert.PostMergeIdeal.main_arg10))).2.2 = (fun _ => 1#1)

def Pre_RefPostMergeIdeal (m : (ℓ : Loc Cert.RefPostMergeIdeal.nD Cert.RefPostMergeIdeal.τ Cert.RefPostMergeIdeal.sig) → Buf (Elt Ideal) ℓ) : Prop :=
  True

def Pre_RefPostMergeIdeal_finite_lse [hPre_finite_lse : Cert.Pre_finite_lse.Facts] (m : (ℓ : Loc Cert.RefPostMergeIdeal.nD Cert.RefPostMergeIdeal.τ Cert.RefPostMergeIdeal.sig) → Buf (Elt Ideal) ℓ) : Prop :=
  ∀ c : Dev Cert.RefPostMergeIdeal.nD,
    (Cert.Pre_finite_lse.fn (F := Ideal) (m ((c.tc : Thread Cert.RefPostMergeIdeal.nD Cert.RefPostMergeIdeal.τ).loc Cert.RefPostMergeIdeal.main_arg0)) (m ((c.tc : Thread Cert.RefPostMergeIdeal.nD Cert.RefPostMergeIdeal.τ).loc Cert.RefPostMergeIdeal.main_arg1)) (m ((c.tc : Thread Cert.RefPostMergeIdeal.nD Cert.RefPostMergeIdeal.τ).loc Cert.RefPostMergeIdeal.main_arg2)) (m ((c.tc : Thread Cert.RefPostMergeIdeal.nD Cert.RefPostMergeIdeal.τ).loc Cert.RefPostMergeIdeal.main_arg3)) (m ((c.tc : Thread Cert.RefPostMergeIdeal.nD Cert.RefPostMergeIdeal.τ).loc Cert.RefPostMergeIdeal.main_arg4)) (m ((c.tc : Thread Cert.RefPostMergeIdeal.nD Cert.RefPostMergeIdeal.τ).loc Cert.RefPostMergeIdeal.main_arg5)) (m ((c.tc : Thread Cert.RefPostMergeIdeal.nD Cert.RefPostMergeIdeal.τ).loc Cert.RefPostMergeIdeal.main_arg6)) (m ((c.tc : Thread Cert.RefPostMergeIdeal.nD Cert.RefPostMergeIdeal.τ).loc Cert.RefPostMergeIdeal.main_arg7)) (m ((c.tc : Thread Cert.RefPostMergeIdeal.nD Cert.RefPostMergeIdeal.τ).loc Cert.RefPostMergeIdeal.main_arg8)) (m ((c.tc : Thread Cert.RefPostMergeIdeal.nD Cert.RefPostMergeIdeal.τ).loc Cert.RefPostMergeIdeal.main_arg9)) (m ((c.tc : Thread Cert.RefPostMergeIdeal.nD Cert.RefPostMergeIdeal.τ).loc Cert.RefPostMergeIdeal.main_arg10))).1 = (fun _ => 1#1)
    ∧ (Cert.Pre_finite_lse.fn (F := Ideal) (m ((c.tc : Thread Cert.RefPostMergeIdeal.nD Cert.RefPostMergeIdeal.τ).loc Cert.RefPostMergeIdeal.main_arg0)) (m ((c.tc : Thread Cert.RefPostMergeIdeal.nD Cert.RefPostMergeIdeal.τ).loc Cert.RefPostMergeIdeal.main_arg1)) (m ((c.tc : Thread Cert.RefPostMergeIdeal.nD Cert.RefPostMergeIdeal.τ).loc Cert.RefPostMergeIdeal.main_arg2)) (m ((c.tc : Thread Cert.RefPostMergeIdeal.nD Cert.RefPostMergeIdeal.τ).loc Cert.RefPostMergeIdeal.main_arg3)) (m ((c.tc : Thread Cert.RefPostMergeIdeal.nD Cert.RefPostMergeIdeal.τ).loc Cert.RefPostMergeIdeal.main_arg4)) (m ((c.tc : Thread Cert.RefPostMergeIdeal.nD Cert.RefPostMergeIdeal.τ).loc Cert.RefPostMergeIdeal.main_arg5)) (m ((c.tc : Thread Cert.RefPostMergeIdeal.nD Cert.RefPostMergeIdeal.τ).loc Cert.RefPostMergeIdeal.main_arg6)) (m ((c.tc : Thread Cert.RefPostMergeIdeal.nD Cert.RefPostMergeIdeal.τ).loc Cert.RefPostMergeIdeal.main_arg7)) (m ((c.tc : Thread Cert.RefPostMergeIdeal.nD Cert.RefPostMergeIdeal.τ).loc Cert.RefPostMergeIdeal.main_arg8)) (m ((c.tc : Thread Cert.RefPostMergeIdeal.nD Cert.RefPostMergeIdeal.τ).loc Cert.RefPostMergeIdeal.main_arg9)) (m ((c.tc : Thread Cert.RefPostMergeIdeal.nD Cert.RefPostMergeIdeal.τ).loc Cert.RefPostMergeIdeal.main_arg10))).2.1 = (fun _ => 1#1)
    ∧ (Cert.Pre_finite_lse.fn (F := Ideal) (m ((c.tc : Thread Cert.RefPostMergeIdeal.nD Cert.RefPostMergeIdeal.τ).loc Cert.RefPostMergeIdeal.main_arg0)) (m ((c.tc : Thread Cert.RefPostMergeIdeal.nD Cert.RefPostMergeIdeal.τ).loc Cert.RefPostMergeIdeal.main_arg1)) (m ((c.tc : Thread Cert.RefPostMergeIdeal.nD Cert.RefPostMergeIdeal.τ).loc Cert.RefPostMergeIdeal.main_arg2)) (m ((c.tc : Thread Cert.RefPostMergeIdeal.nD Cert.RefPostMergeIdeal.τ).loc Cert.RefPostMergeIdeal.main_arg3)) (m ((c.tc : Thread Cert.RefPostMergeIdeal.nD Cert.RefPostMergeIdeal.τ).loc Cert.RefPostMergeIdeal.main_arg4)) (m ((c.tc : Thread Cert.RefPostMergeIdeal.nD Cert.RefPostMergeIdeal.τ).loc Cert.RefPostMergeIdeal.main_arg5)) (m ((c.tc : Thread Cert.RefPostMergeIdeal.nD Cert.RefPostMergeIdeal.τ).loc Cert.RefPostMergeIdeal.main_arg6)) (m ((c.tc : Thread Cert.RefPostMergeIdeal.nD Cert.RefPostMergeIdeal.τ).loc Cert.RefPostMergeIdeal.main_arg7)) (m ((c.tc : Thread Cert.RefPostMergeIdeal.nD Cert.RefPostMergeIdeal.τ).loc Cert.RefPostMergeIdeal.main_arg8)) (m ((c.tc : Thread Cert.RefPostMergeIdeal.nD Cert.RefPostMergeIdeal.τ).loc Cert.RefPostMergeIdeal.main_arg9)) (m ((c.tc : Thread Cert.RefPostMergeIdeal.nD Cert.RefPostMergeIdeal.τ).loc Cert.RefPostMergeIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_PostFinal [hPostFinal : Cert.PostFinal.Facts] : Prop :=
  ∀ (m : (ℓ : Loc Cert.PostFinal.nD Cert.PostFinal.τ Cert.PostFinal.sig) → Buf (Elt Bits) ℓ) (g : Dev Cert.PostFinal.nD → PrngReg), Pre_PostFinal m →
    θ_run (Cert.PostFinal.defs (F := Bits)) (onTc (τ := Cert.PostFinal.τ) (Cert.PostFinal.main (F := Bits))) ⟨m, fun _ => 0, g⟩ (fun r => (∀ c : Dev Cert.PostFinal.nD,
      r.2.mem ((c.tc : Thread Cert.PostFinal.nD Cert.PostFinal.τ).loc Cert.PostFinal.main_arg0) = m ((c.tc : Thread Cert.PostFinal.nD Cert.PostFinal.τ).loc Cert.PostFinal.main_arg0)
      ∧ r.2.mem ((c.tc : Thread Cert.PostFinal.nD Cert.PostFinal.τ).loc Cert.PostFinal.main_arg1) = m ((c.tc : Thread Cert.PostFinal.nD Cert.PostFinal.τ).loc Cert.PostFinal.main_arg1)
      ∧ r.2.mem ((c.tc : Thread Cert.PostFinal.nD Cert.PostFinal.τ).loc Cert.PostFinal.main_arg2) = m ((c.tc : Thread Cert.PostFinal.nD Cert.PostFinal.τ).loc Cert.PostFinal.main_arg2)
      ∧ r.2.mem ((c.tc : Thread Cert.PostFinal.nD Cert.PostFinal.τ).loc Cert.PostFinal.main_arg3) = m ((c.tc : Thread Cert.PostFinal.nD Cert.PostFinal.τ).loc Cert.PostFinal.main_arg3)
      ∧ r.2.mem ((c.tc : Thread Cert.PostFinal.nD Cert.PostFinal.τ).loc Cert.PostFinal.main_arg4) = m ((c.tc : Thread Cert.PostFinal.nD Cert.PostFinal.τ).loc Cert.PostFinal.main_arg4)
      ∧ r.2.mem ((c.tc : Thread Cert.PostFinal.nD Cert.PostFinal.τ).loc Cert.PostFinal.main_arg5) = m ((c.tc : Thread Cert.PostFinal.nD Cert.PostFinal.τ).loc Cert.PostFinal.main_arg5)
      ∧ r.2.mem ((c.tc : Thread Cert.PostFinal.nD Cert.PostFinal.τ).loc Cert.PostFinal.main_arg6) = m ((c.tc : Thread Cert.PostFinal.nD Cert.PostFinal.τ).loc Cert.PostFinal.main_arg6))
      ∧ r.2.sem = fun _ => 0)

def quiescent_PostFinalIdeal [hPostFinalIdeal : Cert.PostFinalIdeal.Facts] : Prop :=
  ∀ (m : (ℓ : Loc Cert.PostFinalIdeal.nD Cert.PostFinalIdeal.τ Cert.PostFinalIdeal.sig) → Buf (Elt Ideal) ℓ) (g : Dev Cert.PostFinalIdeal.nD → PrngReg), Pre_PostFinalIdeal m →
    θ_run (Cert.PostFinalIdeal.defs (F := Ideal)) (onTc (τ := Cert.PostFinalIdeal.τ) (Cert.PostFinalIdeal.main (F := Ideal))) ⟨m, fun _ => 0, g⟩ (fun r => (∀ c : Dev Cert.PostFinalIdeal.nD,
      r.2.mem ((c.tc : Thread Cert.PostFinalIdeal.nD Cert.PostFinalIdeal.τ).loc Cert.PostFinalIdeal.main_arg0) = m ((c.tc : Thread Cert.PostFinalIdeal.nD Cert.PostFinalIdeal.τ).loc Cert.PostFinalIdeal.main_arg0)
      ∧ r.2.mem ((c.tc : Thread Cert.PostFinalIdeal.nD Cert.PostFinalIdeal.τ).loc Cert.PostFinalIdeal.main_arg1) = m ((c.tc : Thread Cert.PostFinalIdeal.nD Cert.PostFinalIdeal.τ).loc Cert.PostFinalIdeal.main_arg1)
      ∧ r.2.mem ((c.tc : Thread Cert.PostFinalIdeal.nD Cert.PostFinalIdeal.τ).loc Cert.PostFinalIdeal.main_arg2) = m ((c.tc : Thread Cert.PostFinalIdeal.nD Cert.PostFinalIdeal.τ).loc Cert.PostFinalIdeal.main_arg2)
      ∧ r.2.mem ((c.tc : Thread Cert.PostFinalIdeal.nD Cert.PostFinalIdeal.τ).loc Cert.PostFinalIdeal.main_arg3) = m ((c.tc : Thread Cert.PostFinalIdeal.nD Cert.PostFinalIdeal.τ).loc Cert.PostFinalIdeal.main_arg3)
      ∧ r.2.mem ((c.tc : Thread Cert.PostFinalIdeal.nD Cert.PostFinalIdeal.τ).loc Cert.PostFinalIdeal.main_arg4) = m ((c.tc : Thread Cert.PostFinalIdeal.nD Cert.PostFinalIdeal.τ).loc Cert.PostFinalIdeal.main_arg4)
      ∧ r.2.mem ((c.tc : Thread Cert.PostFinalIdeal.nD Cert.PostFinalIdeal.τ).loc Cert.PostFinalIdeal.main_arg5) = m ((c.tc : Thread Cert.PostFinalIdeal.nD Cert.PostFinalIdeal.τ).loc Cert.PostFinalIdeal.main_arg5)
      ∧ r.2.mem ((c.tc : Thread Cert.PostFinalIdeal.nD Cert.PostFinalIdeal.τ).loc Cert.PostFinalIdeal.main_arg6) = m ((c.tc : Thread Cert.PostFinalIdeal.nD Cert.PostFinalIdeal.τ).loc Cert.PostFinalIdeal.main_arg6))
      ∧ r.2.sem = fun _ => 0)

def quiescent_RefPostFinalIdeal [hRefPostFinalIdeal : Cert.RefPostFinalIdeal.Facts] : Prop :=
  ∀ (m : (ℓ : Loc Cert.RefPostFinalIdeal.nD Cert.RefPostFinalIdeal.τ Cert.RefPostFinalIdeal.sig) → Buf (Elt Ideal) ℓ) (g : Dev Cert.RefPostFinalIdeal.nD → PrngReg), Pre_RefPostFinalIdeal m →
    θ_run (Cert.RefPostFinalIdeal.defs (F := Ideal)) (onTc (τ := Cert.RefPostFinalIdeal.τ) (Cert.RefPostFinalIdeal.main (F := Ideal))) ⟨m, fun _ => 0, g⟩ (fun r => (∀ c : Dev Cert.RefPostFinalIdeal.nD,
      r.2.mem ((c.tc : Thread Cert.RefPostFinalIdeal.nD Cert.RefPostFinalIdeal.τ).loc Cert.RefPostFinalIdeal.main_arg0) = m ((c.tc : Thread Cert.RefPostFinalIdeal.nD Cert.RefPostFinalIdeal.τ).loc Cert.RefPostFinalIdeal.main_arg0)
      ∧ r.2.mem ((c.tc : Thread Cert.RefPostFinalIdeal.nD Cert.RefPostFinalIdeal.τ).loc Cert.RefPostFinalIdeal.main_arg1) = m ((c.tc : Thread Cert.RefPostFinalIdeal.nD Cert.RefPostFinalIdeal.τ).loc Cert.RefPostFinalIdeal.main_arg1)
      ∧ r.2.mem ((c.tc : Thread Cert.RefPostFinalIdeal.nD Cert.RefPostFinalIdeal.τ).loc Cert.RefPostFinalIdeal.main_arg2) = m ((c.tc : Thread Cert.RefPostFinalIdeal.nD Cert.RefPostFinalIdeal.τ).loc Cert.RefPostFinalIdeal.main_arg2)
      ∧ r.2.mem ((c.tc : Thread Cert.RefPostFinalIdeal.nD Cert.RefPostFinalIdeal.τ).loc Cert.RefPostFinalIdeal.main_arg3) = m ((c.tc : Thread Cert.RefPostFinalIdeal.nD Cert.RefPostFinalIdeal.τ).loc Cert.RefPostFinalIdeal.main_arg3)
      ∧ r.2.mem ((c.tc : Thread Cert.RefPostFinalIdeal.nD Cert.RefPostFinalIdeal.τ).loc Cert.RefPostFinalIdeal.main_arg4) = m ((c.tc : Thread Cert.RefPostFinalIdeal.nD Cert.RefPostFinalIdeal.τ).loc Cert.RefPostFinalIdeal.main_arg4)
      ∧ r.2.mem ((c.tc : Thread Cert.RefPostFinalIdeal.nD Cert.RefPostFinalIdeal.τ).loc Cert.RefPostFinalIdeal.main_arg5) = m ((c.tc : Thread Cert.RefPostFinalIdeal.nD Cert.RefPostFinalIdeal.τ).loc Cert.RefPostFinalIdeal.main_arg5)
      ∧ r.2.mem ((c.tc : Thread Cert.RefPostFinalIdeal.nD Cert.RefPostFinalIdeal.τ).loc Cert.RefPostFinalIdeal.main_arg6) = m ((c.tc : Thread Cert.RefPostFinalIdeal.nD Cert.RefPostFinalIdeal.τ).loc Cert.RefPostFinalIdeal.main_arg6))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_RefPostIdeal [hRefPostIdeal : Cert.RefPostIdeal.Facts] : Prop :=
  ∀ (m : (ℓ : Loc Cert.RefPostIdeal.nD Cert.RefPostIdeal.τ Cert.RefPostIdeal.sig) → Buf (Elt Ideal) ℓ) (g : Dev Cert.RefPostIdeal.nD → PrngReg), Pre_RefPostIdeal m →
    θ_run (Cert.RefPostIdeal.defs (F := Ideal)) (onTc (τ := Cert.RefPostIdeal.τ) (Cert.RefPostIdeal.main (F := Ideal))) ⟨m, fun _ => 0, g⟩ (fun r => (∀ c : Dev Cert.RefPostIdeal.nD,
      r.2.mem ((c.tc : Thread Cert.RefPostIdeal.nD Cert.RefPostIdeal.τ).loc Cert.RefPostIdeal.main_arg0) = m ((c.tc : Thread Cert.RefPostIdeal.nD Cert.RefPostIdeal.τ).loc Cert.RefPostIdeal.main_arg0)
      ∧ r.2.mem ((c.tc : Thread Cert.RefPostIdeal.nD Cert.RefPostIdeal.τ).loc Cert.RefPostIdeal.main_arg1) = m ((c.tc : Thread Cert.RefPostIdeal.nD Cert.RefPostIdeal.τ).loc Cert.RefPostIdeal.main_arg1)
      ∧ r.2.mem ((c.tc : Thread Cert.RefPostIdeal.nD Cert.RefPostIdeal.τ).loc Cert.RefPostIdeal.main_arg2) = m ((c.tc : Thread Cert.RefPostIdeal.nD Cert.RefPostIdeal.τ).loc Cert.RefPostIdeal.main_arg2)
      ∧ r.2.mem ((c.tc : Thread Cert.RefPostIdeal.nD Cert.RefPostIdeal.τ).loc Cert.RefPostIdeal.main_arg3) = m ((c.tc : Thread Cert.RefPostIdeal.nD Cert.RefPostIdeal.τ).loc Cert.RefPostIdeal.main_arg3)
      ∧ r.2.mem ((c.tc : Thread Cert.RefPostIdeal.nD Cert.RefPostIdeal.τ).loc Cert.RefPostIdeal.main_arg4) = m ((c.tc : Thread Cert.RefPostIdeal.nD Cert.RefPostIdeal.τ).loc Cert.RefPostIdeal.main_arg4)
      ∧ r.2.mem ((c.tc : Thread Cert.RefPostIdeal.nD Cert.RefPostIdeal.τ).loc Cert.RefPostIdeal.main_arg5) = m ((c.tc : Thread Cert.RefPostIdeal.nD Cert.RefPostIdeal.τ).loc Cert.RefPostIdeal.main_arg5))
      ∧ r.2.sem = fun _ => 0)

def quiescent_Qkv0 [hQkv0 : Cert.Qkv0.Facts] : Prop :=
  ∀ (m : (ℓ : Loc Cert.Qkv0.nD Cert.Qkv0.τ Cert.Qkv0.sig) → Buf (Elt Bits) ℓ) (g : Dev Cert.Qkv0.nD → PrngReg), Pre_Qkv0 m →
    θ_run (Cert.Qkv0.defs (F := Bits)) (onTc (τ := Cert.Qkv0.τ) (Cert.Qkv0.main (F := Bits))) ⟨m, fun _ => 0, g⟩ (fun r => (∀ c : Dev Cert.Qkv0.nD,
      r.2.mem ((c.tc : Thread Cert.Qkv0.nD Cert.Qkv0.τ).loc Cert.Qkv0.main_arg0) = m ((c.tc : Thread Cert.Qkv0.nD Cert.Qkv0.τ).loc Cert.Qkv0.main_arg0)
      ∧ r.2.mem ((c.tc : Thread Cert.Qkv0.nD Cert.Qkv0.τ).loc Cert.Qkv0.main_arg1) = m ((c.tc : Thread Cert.Qkv0.nD Cert.Qkv0.τ).loc Cert.Qkv0.main_arg1)
      ∧ r.2.mem ((c.tc : Thread Cert.Qkv0.nD Cert.Qkv0.τ).loc Cert.Qkv0.main_arg2) = m ((c.tc : Thread Cert.Qkv0.nD Cert.Qkv0.τ).loc Cert.Qkv0.main_arg2))
      ∧ r.2.sem = fun _ => 0)

def quiescent_Qkv0Ideal [hQkv0Ideal : Cert.Qkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg), Pre_Qkv0Ideal m →
    θ_run (Cert.Qkv0Ideal.defs (F := Ideal)) (onTc (τ := Cert.Qkv0Ideal.τ) (Cert.Qkv0Ideal.main (F := Ideal))) ⟨m, fun _ => 0, g⟩ (fun r => (∀ c : Dev Cert.Qkv0Ideal.nD,
      r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
      ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1)
      ∧ r.2.mem ((c.tc : Thread Cert.Qkv0Ideal.nD Cert.Qkv0Ideal.τ).loc Cert.Qkv0Ideal.main_arg2) = m ((c.tc : Thread Cert.Qkv0Ideal.nD Cert.Qkv0Ideal.τ).loc Cert.Qkv0Ideal.main_arg2))
      ∧ r.2.sem = fun _ => 0)

def quiescent_RefQkv0Ideal [hRefQkv0Ideal : Cert.RefQkv0Ideal.Facts] : Prop :=
  ∀ (m : (ℓ : Loc Cert.RefQkv0Ideal.nD Cert.RefQkv0Ideal.τ Cert.RefQkv0Ideal.sig) → Buf (Elt Ideal) ℓ) (g : Dev Cert.RefQkv0Ideal.nD → PrngReg), Pre_RefQkv0Ideal m →
    θ_run (Cert.RefQkv0Ideal.defs (F := Ideal)) (onTc (τ := Cert.RefQkv0Ideal.τ) (Cert.RefQkv0Ideal.main (F := Ideal))) ⟨m, fun _ => 0, g⟩ (fun r => (∀ c : Dev Cert.RefQkv0Ideal.nD,
      r.2.mem ((c.tc : Thread Cert.RefQkv0Ideal.nD Cert.RefQkv0Ideal.τ).loc Cert.RefQkv0Ideal.main_arg0) = m ((c.tc : Thread Cert.RefQkv0Ideal.nD Cert.RefQkv0Ideal.τ).loc Cert.RefQkv0Ideal.main_arg0)
      ∧ r.2.mem ((c.tc : Thread Cert.RefQkv0Ideal.nD Cert.RefQkv0Ideal.τ).loc Cert.RefQkv0Ideal.main_arg1) = m ((c.tc : Thread Cert.RefQkv0Ideal.nD Cert.RefQkv0Ideal.τ).loc Cert.RefQkv0Ideal.main_arg1)
      ∧ r.2.mem ((c.tc : Thread Cert.RefQkv0Ideal.nD Cert.RefQkv0Ideal.τ).loc Cert.RefQkv0Ideal.main_arg2) = m ((c.tc : Thread Cert.RefQkv0Ideal.nD Cert.RefQkv0Ideal.τ).loc Cert.RefQkv0Ideal.main_arg2))
      ∧ r.2.sem = fun _ => 0)

def quiescent_Qkv3 [hQkv3 : Cert.Qkv3.Facts] : Prop :=
  ∀ (m : (ℓ : Loc Cert.Qkv3.nD Cert.Qkv3.τ Cert.Qkv3.sig) → Buf (Elt Bits) ℓ) (g : Dev Cert.Qkv3.nD → PrngReg), Pre_Qkv3 m →
    θ_run (Cert.Qkv3.defs (F := Bits)) (onTc (τ := Cert.Qkv3.τ) (Cert.Qkv3.main (F := Bits))) ⟨m, fun _ => 0, g⟩ (fun r => (∀ c : Dev Cert.Qkv3.nD,
      r.2.mem ((c.tc : Thread Cert.Qkv3.nD Cert.Qkv3.τ).loc Cert.Qkv3.main_arg0) = m ((c.tc : Thread Cert.Qkv3.nD Cert.Qkv3.τ).loc Cert.Qkv3.main_arg0)
      ∧ r.2.mem ((c.tc : Thread Cert.Qkv3.nD Cert.Qkv3.τ).loc Cert.Qkv3.main_arg1) = m ((c.tc : Thread Cert.Qkv3.nD Cert.Qkv3.τ).loc Cert.Qkv3.main_arg1)
      ∧ r.2.mem ((c.tc : Thread Cert.Qkv3.nD Cert.Qkv3.τ).loc Cert.Qkv3.main_arg2) = m ((c.tc : Thread Cert.Qkv3.nD Cert.Qkv3.τ).loc Cert.Qkv3.main_arg2))
      ∧ r.2.sem = fun _ => 0)

def quiescent_Qkv3Ideal [hQkv3Ideal : Cert.Qkv3Ideal.Facts] : Prop :=
  ∀ (m : (ℓ : Loc Cert.Qkv3Ideal.nD Cert.Qkv3Ideal.τ Cert.Qkv3Ideal.sig) → Buf (Elt Ideal) ℓ) (g : Dev Cert.Qkv3Ideal.nD → PrngReg), Pre_Qkv3Ideal m →
    θ_run (Cert.Qkv3Ideal.defs (F := Ideal)) (onTc (τ := Cert.Qkv3Ideal.τ) (Cert.Qkv3Ideal.main (F := Ideal))) ⟨m, fun _ => 0, g⟩ (fun r => (∀ c : Dev Cert.Qkv3Ideal.nD,
      r.2.mem ((c.tc : Thread Cert.Qkv3Ideal.nD Cert.Qkv3Ideal.τ).loc Cert.Qkv3Ideal.main_arg0) = m ((c.tc : Thread Cert.Qkv3Ideal.nD Cert.Qkv3Ideal.τ).loc Cert.Qkv3Ideal.main_arg0)
      ∧ r.2.mem ((c.tc : Thread Cert.Qkv3Ideal.nD Cert.Qkv3Ideal.τ).loc Cert.Qkv3Ideal.main_arg1) = m ((c.tc : Thread Cert.Qkv3Ideal.nD Cert.Qkv3Ideal.τ).loc Cert.Qkv3Ideal.main_arg1)
      ∧ r.2.mem ((c.tc : Thread Cert.Qkv3Ideal.nD Cert.Qkv3Ideal.τ).loc Cert.Qkv3Ideal.main_arg2) = m ((c.tc : Thread Cert.Qkv3Ideal.nD Cert.Qkv3Ideal.τ).loc Cert.Qkv3Ideal.main_arg2))
      ∧ r.2.sem = fun _ => 0)

def quiescent_RefQkv3Ideal [hRefQkv3Ideal : Cert.RefQkv3Ideal.Facts] : Prop :=
  ∀ (m : (ℓ : Loc Cert.RefQkv3Ideal.nD Cert.RefQkv3Ideal.τ Cert.RefQkv3Ideal.sig) → Buf (Elt Ideal) ℓ) (g : Dev Cert.RefQkv3Ideal.nD → PrngReg), Pre_RefQkv3Ideal m →
    θ_run (Cert.RefQkv3Ideal.defs (F := Ideal)) (onTc (τ := Cert.RefQkv3Ideal.τ) (Cert.RefQkv3Ideal.main (F := Ideal))) ⟨m, fun _ => 0, g⟩ (fun r => (∀ c : Dev Cert.RefQkv3Ideal.nD,
      r.2.mem ((c.tc : Thread Cert.RefQkv3Ideal.nD Cert.RefQkv3Ideal.τ).loc Cert.RefQkv3Ideal.main_arg0) = m ((c.tc : Thread Cert.RefQkv3Ideal.nD Cert.RefQkv3Ideal.τ).loc Cert.RefQkv3Ideal.main_arg0)
      ∧ r.2.mem ((c.tc : Thread Cert.RefQkv3Ideal.nD Cert.RefQkv3Ideal.τ).loc Cert.RefQkv3Ideal.main_arg1) = m ((c.tc : Thread Cert.RefQkv3Ideal.nD Cert.RefQkv3Ideal.τ).loc Cert.RefQkv3Ideal.main_arg1)
      ∧ r.2.mem ((c.tc : Thread Cert.RefQkv3Ideal.nD Cert.RefQkv3Ideal.τ).loc Cert.RefQkv3Ideal.main_arg2) = m ((c.tc : Thread Cert.RefQkv3Ideal.nD Cert.RefQkv3Ideal.τ).loc Cert.RefQkv3Ideal.main_arg2))
      ∧ r.2.sem = fun _ => 0)

def quiescent_PostMerge [hPostMerge : Cert.PostMerge.Facts] : Prop :=
  ∀ (m : (ℓ : Loc Cert.PostMerge.nD Cert.PostMerge.τ Cert.PostMerge.sig) → Buf (Elt Bits) ℓ) (g : Dev Cert.PostMerge.nD → PrngReg), Pre_PostMerge m →
    θ_run (Cert.PostMerge.defs (F := Bits)) (onTc (τ := Cert.PostMerge.τ) (Cert.PostMerge.main (F := Bits))) ⟨m, fun _ => 0, g⟩ (fun r => (∀ c : Dev Cert.PostMerge.nD,
      r.2.mem ((c.tc : Thread Cert.PostMerge.nD Cert.PostMerge.τ).loc Cert.PostMerge.main_arg0) = m ((c.tc : Thread Cert.PostMerge.nD Cert.PostMerge.τ).loc Cert.PostMerge.main_arg0)
      ∧ r.2.mem ((c.tc : Thread Cert.PostMerge.nD Cert.PostMerge.τ).loc Cert.PostMerge.main_arg1) = m ((c.tc : Thread Cert.PostMerge.nD Cert.PostMerge.τ).loc Cert.PostMerge.main_arg1)
      ∧ r.2.mem ((c.tc : Thread Cert.PostMerge.nD Cert.PostMerge.τ).loc Cert.PostMerge.main_arg2) = m ((c.tc : Thread Cert.PostMerge.nD Cert.PostMerge.τ).loc Cert.PostMerge.main_arg2)
      ∧ r.2.mem ((c.tc : Thread Cert.PostMerge.nD Cert.PostMerge.τ).loc Cert.PostMerge.main_arg3) = m ((c.tc : Thread Cert.PostMerge.nD Cert.PostMerge.τ).loc Cert.PostMerge.main_arg3)
      ∧ r.2.mem ((c.tc : Thread Cert.PostMerge.nD Cert.PostMerge.τ).loc Cert.PostMerge.main_arg4) = m ((c.tc : Thread Cert.PostMerge.nD Cert.PostMerge.τ).loc Cert.PostMerge.main_arg4)
      ∧ r.2.mem ((c.tc : Thread Cert.PostMerge.nD Cert.PostMerge.τ).loc Cert.PostMerge.main_arg5) = m ((c.tc : Thread Cert.PostMerge.nD Cert.PostMerge.τ).loc Cert.PostMerge.main_arg5)
      ∧ r.2.mem ((c.tc : Thread Cert.PostMerge.nD Cert.PostMerge.τ).loc Cert.PostMerge.main_arg6) = m ((c.tc : Thread Cert.PostMerge.nD Cert.PostMerge.τ).loc Cert.PostMerge.main_arg6)
      ∧ r.2.mem ((c.tc : Thread Cert.PostMerge.nD Cert.PostMerge.τ).loc Cert.PostMerge.main_arg7) = m ((c.tc : Thread Cert.PostMerge.nD Cert.PostMerge.τ).loc Cert.PostMerge.main_arg7)
      ∧ r.2.mem ((c.tc : Thread Cert.PostMerge.nD Cert.PostMerge.τ).loc Cert.PostMerge.main_arg8) = m ((c.tc : Thread Cert.PostMerge.nD Cert.PostMerge.τ).loc Cert.PostMerge.main_arg8)
      ∧ r.2.mem ((c.tc : Thread Cert.PostMerge.nD Cert.PostMerge.τ).loc Cert.PostMerge.main_arg9) = m ((c.tc : Thread Cert.PostMerge.nD Cert.PostMerge.τ).loc Cert.PostMerge.main_arg9)
      ∧ r.2.mem ((c.tc : Thread Cert.PostMerge.nD Cert.PostMerge.τ).loc Cert.PostMerge.main_arg10) = m ((c.tc : Thread Cert.PostMerge.nD Cert.PostMerge.τ).loc Cert.PostMerge.main_arg10))
      ∧ r.2.sem = fun _ => 0)

def quiescent_PostMergeIdeal [hPostMergeIdeal : Cert.PostMergeIdeal.Facts] : Prop :=
  ∀ (m : (ℓ : Loc Cert.PostMergeIdeal.nD Cert.PostMergeIdeal.τ Cert.PostMergeIdeal.sig) → Buf (Elt Ideal) ℓ) (g : Dev Cert.PostMergeIdeal.nD → PrngReg), Pre_PostMergeIdeal m →
    θ_run (Cert.PostMergeIdeal.defs (F := Ideal)) (onTc (τ := Cert.PostMergeIdeal.τ) (Cert.PostMergeIdeal.main (F := Ideal))) ⟨m, fun _ => 0, g⟩ (fun r => (∀ c : Dev Cert.PostMergeIdeal.nD,
      r.2.mem ((c.tc : Thread Cert.PostMergeIdeal.nD Cert.PostMergeIdeal.τ).loc Cert.PostMergeIdeal.main_arg0) = m ((c.tc : Thread Cert.PostMergeIdeal.nD Cert.PostMergeIdeal.τ).loc Cert.PostMergeIdeal.main_arg0)
      ∧ r.2.mem ((c.tc : Thread Cert.PostMergeIdeal.nD Cert.PostMergeIdeal.τ).loc Cert.PostMergeIdeal.main_arg1) = m ((c.tc : Thread Cert.PostMergeIdeal.nD Cert.PostMergeIdeal.τ).loc Cert.PostMergeIdeal.main_arg1)
      ∧ r.2.mem ((c.tc : Thread Cert.PostMergeIdeal.nD Cert.PostMergeIdeal.τ).loc Cert.PostMergeIdeal.main_arg2) = m ((c.tc : Thread Cert.PostMergeIdeal.nD Cert.PostMergeIdeal.τ).loc Cert.PostMergeIdeal.main_arg2)
      ∧ r.2.mem ((c.tc : Thread Cert.PostMergeIdeal.nD Cert.PostMergeIdeal.τ).loc Cert.PostMergeIdeal.main_arg3) = m ((c.tc : Thread Cert.PostMergeIdeal.nD Cert.PostMergeIdeal.τ).loc Cert.PostMergeIdeal.main_arg3)
      ∧ r.2.mem ((c.tc : Thread Cert.PostMergeIdeal.nD Cert.PostMergeIdeal.τ).loc Cert.PostMergeIdeal.main_arg4) = m ((c.tc : Thread Cert.PostMergeIdeal.nD Cert.PostMergeIdeal.τ).loc Cert.PostMergeIdeal.main_arg4)
      ∧ r.2.mem ((c.tc : Thread Cert.PostMergeIdeal.nD Cert.PostMergeIdeal.τ).loc Cert.PostMergeIdeal.main_arg5) = m ((c.tc : Thread Cert.PostMergeIdeal.nD Cert.PostMergeIdeal.τ).loc Cert.PostMergeIdeal.main_arg5)
      ∧ r.2.mem ((c.tc : Thread Cert.PostMergeIdeal.nD Cert.PostMergeIdeal.τ).loc Cert.PostMergeIdeal.main_arg6) = m ((c.tc : Thread Cert.PostMergeIdeal.nD Cert.PostMergeIdeal.τ).loc Cert.PostMergeIdeal.main_arg6)
      ∧ r.2.mem ((c.tc : Thread Cert.PostMergeIdeal.nD Cert.PostMergeIdeal.τ).loc Cert.PostMergeIdeal.main_arg7) = m ((c.tc : Thread Cert.PostMergeIdeal.nD Cert.PostMergeIdeal.τ).loc Cert.PostMergeIdeal.main_arg7)
      ∧ r.2.mem ((c.tc : Thread Cert.PostMergeIdeal.nD Cert.PostMergeIdeal.τ).loc Cert.PostMergeIdeal.main_arg8) = m ((c.tc : Thread Cert.PostMergeIdeal.nD Cert.PostMergeIdeal.τ).loc Cert.PostMergeIdeal.main_arg8)
      ∧ r.2.mem ((c.tc : Thread Cert.PostMergeIdeal.nD Cert.PostMergeIdeal.τ).loc Cert.PostMergeIdeal.main_arg9) = m ((c.tc : Thread Cert.PostMergeIdeal.nD Cert.PostMergeIdeal.τ).loc Cert.PostMergeIdeal.main_arg9)
      ∧ r.2.mem ((c.tc : Thread Cert.PostMergeIdeal.nD Cert.PostMergeIdeal.τ).loc Cert.PostMergeIdeal.main_arg10) = m ((c.tc : Thread Cert.PostMergeIdeal.nD Cert.PostMergeIdeal.τ).loc Cert.PostMergeIdeal.main_arg10))
      ∧ r.2.sem = fun _ => 0)

def quiescent_PostMergeIdeal_pre_finite_lse [hPostMergeIdeal : Cert.PostMergeIdeal.Facts] [hPre_finite_lse : Cert.Pre_finite_lse.Facts] : Prop :=
  ∀ (m : (ℓ : Loc Cert.PostMergeIdeal.nD Cert.PostMergeIdeal.τ Cert.PostMergeIdeal.sig) → Buf (Elt Ideal) ℓ) (g : Dev Cert.PostMergeIdeal.nD → PrngReg), Pre_PostMergeIdeal_finite_lse m →
    θ_run (Cert.PostMergeIdeal.defs (F := Ideal)) (onTc (τ := Cert.PostMergeIdeal.τ) (Cert.PostMergeIdeal.main (F := Ideal))) ⟨m, fun _ => 0, g⟩ (fun r => (∀ c : Dev Cert.PostMergeIdeal.nD,
      r.2.mem ((c.tc : Thread Cert.PostMergeIdeal.nD Cert.PostMergeIdeal.τ).loc Cert.PostMergeIdeal.main_arg0) = m ((c.tc : Thread Cert.PostMergeIdeal.nD Cert.PostMergeIdeal.τ).loc Cert.PostMergeIdeal.main_arg0)
      ∧ r.2.mem ((c.tc : Thread Cert.PostMergeIdeal.nD Cert.PostMergeIdeal.τ).loc Cert.PostMergeIdeal.main_arg1) = m ((c.tc : Thread Cert.PostMergeIdeal.nD Cert.PostMergeIdeal.τ).loc Cert.PostMergeIdeal.main_arg1)
      ∧ r.2.mem ((c.tc : Thread Cert.PostMergeIdeal.nD Cert.PostMergeIdeal.τ).loc Cert.PostMergeIdeal.main_arg2) = m ((c.tc : Thread Cert.PostMergeIdeal.nD Cert.PostMergeIdeal.τ).loc Cert.PostMergeIdeal.main_arg2)
      ∧ r.2.mem ((c.tc : Thread Cert.PostMergeIdeal.nD Cert.PostMergeIdeal.τ).loc Cert.PostMergeIdeal.main_arg3) = m ((c.tc : Thread Cert.PostMergeIdeal.nD Cert.PostMergeIdeal.τ).loc Cert.PostMergeIdeal.main_arg3)
      ∧ r.2.mem ((c.tc : Thread Cert.PostMergeIdeal.nD Cert.PostMergeIdeal.τ).loc Cert.PostMergeIdeal.main_arg4) = m ((c.tc : Thread Cert.PostMergeIdeal.nD Cert.PostMergeIdeal.τ).loc Cert.PostMergeIdeal.main_arg4)
      ∧ r.2.mem ((c.tc : Thread Cert.PostMergeIdeal.nD Cert.PostMergeIdeal.τ).loc Cert.PostMergeIdeal.main_arg5) = m ((c.tc : Thread Cert.PostMergeIdeal.nD Cert.PostMergeIdeal.τ).loc Cert.PostMergeIdeal.main_arg5)
      ∧ r.2.mem ((c.tc : Thread Cert.PostMergeIdeal.nD Cert.PostMergeIdeal.τ).loc Cert.PostMergeIdeal.main_arg6) = m ((c.tc : Thread Cert.PostMergeIdeal.nD Cert.PostMergeIdeal.τ).loc Cert.PostMergeIdeal.main_arg6)
      ∧ r.2.mem ((c.tc : Thread Cert.PostMergeIdeal.nD Cert.PostMergeIdeal.τ).loc Cert.PostMergeIdeal.main_arg7) = m ((c.tc : Thread Cert.PostMergeIdeal.nD Cert.PostMergeIdeal.τ).loc Cert.PostMergeIdeal.main_arg7)
      ∧ r.2.mem ((c.tc : Thread Cert.PostMergeIdeal.nD Cert.PostMergeIdeal.τ).loc Cert.PostMergeIdeal.main_arg8) = m ((c.tc : Thread Cert.PostMergeIdeal.nD Cert.PostMergeIdeal.τ).loc Cert.PostMergeIdeal.main_arg8)
      ∧ r.2.mem ((c.tc : Thread Cert.PostMergeIdeal.nD Cert.PostMergeIdeal.τ).loc Cert.PostMergeIdeal.main_arg9) = m ((c.tc : Thread Cert.PostMergeIdeal.nD Cert.PostMergeIdeal.τ).loc Cert.PostMergeIdeal.main_arg9)
      ∧ r.2.mem ((c.tc : Thread Cert.PostMergeIdeal.nD Cert.PostMergeIdeal.τ).loc Cert.PostMergeIdeal.main_arg10) = m ((c.tc : Thread Cert.PostMergeIdeal.nD Cert.PostMergeIdeal.τ).loc Cert.PostMergeIdeal.main_arg10))
      ∧ r.2.sem = fun _ => 0)

def quiescent_RefPostMergeIdeal [hRefPostMergeIdeal : Cert.RefPostMergeIdeal.Facts] : Prop :=
  ∀ (m : (ℓ : Loc Cert.RefPostMergeIdeal.nD Cert.RefPostMergeIdeal.τ Cert.RefPostMergeIdeal.sig) → Buf (Elt Ideal) ℓ) (g : Dev Cert.RefPostMergeIdeal.nD → PrngReg), Pre_RefPostMergeIdeal m →
    θ_run (Cert.RefPostMergeIdeal.defs (F := Ideal)) (onTc (τ := Cert.RefPostMergeIdeal.τ) (Cert.RefPostMergeIdeal.main (F := Ideal))) ⟨m, fun _ => 0, g⟩ (fun r => (∀ c : Dev Cert.RefPostMergeIdeal.nD,
      r.2.mem ((c.tc : Thread Cert.RefPostMergeIdeal.nD Cert.RefPostMergeIdeal.τ).loc Cert.RefPostMergeIdeal.main_arg0) = m ((c.tc : Thread Cert.RefPostMergeIdeal.nD Cert.RefPostMergeIdeal.τ).loc Cert.RefPostMergeIdeal.main_arg0)
      ∧ r.2.mem ((c.tc : Thread Cert.RefPostMergeIdeal.nD Cert.RefPostMergeIdeal.τ).loc Cert.RefPostMergeIdeal.main_arg1) = m ((c.tc : Thread Cert.RefPostMergeIdeal.nD Cert.RefPostMergeIdeal.τ).loc Cert.RefPostMergeIdeal.main_arg1)
      ∧ r.2.mem ((c.tc : Thread Cert.RefPostMergeIdeal.nD Cert.RefPostMergeIdeal.τ).loc Cert.RefPostMergeIdeal.main_arg2) = m ((c.tc : Thread Cert.RefPostMergeIdeal.nD Cert.RefPostMergeIdeal.τ).loc Cert.RefPostMergeIdeal.main_arg2)
      ∧ r.2.mem ((c.tc : Thread Cert.RefPostMergeIdeal.nD Cert.RefPostMergeIdeal.τ).loc Cert.RefPostMergeIdeal.main_arg3) = m ((c.tc : Thread Cert.RefPostMergeIdeal.nD Cert.RefPostMergeIdeal.τ).loc Cert.RefPostMergeIdeal.main_arg3)
      ∧ r.2.mem ((c.tc : Thread Cert.RefPostMergeIdeal.nD Cert.RefPostMergeIdeal.τ).loc Cert.RefPostMergeIdeal.main_arg4) = m ((c.tc : Thread Cert.RefPostMergeIdeal.nD Cert.RefPostMergeIdeal.τ).loc Cert.RefPostMergeIdeal.main_arg4)
      ∧ r.2.mem ((c.tc : Thread Cert.RefPostMergeIdeal.nD Cert.RefPostMergeIdeal.τ).loc Cert.RefPostMergeIdeal.main_arg5) = m ((c.tc : Thread Cert.RefPostMergeIdeal.nD Cert.RefPostMergeIdeal.τ).loc Cert.RefPostMergeIdeal.main_arg5)
      ∧ r.2.mem ((c.tc : Thread Cert.RefPostMergeIdeal.nD Cert.RefPostMergeIdeal.τ).loc Cert.RefPostMergeIdeal.main_arg6) = m ((c.tc : Thread Cert.RefPostMergeIdeal.nD Cert.RefPostMergeIdeal.τ).loc Cert.RefPostMergeIdeal.main_arg6)
      ∧ r.2.mem ((c.tc : Thread Cert.RefPostMergeIdeal.nD Cert.RefPostMergeIdeal.τ).loc Cert.RefPostMergeIdeal.main_arg7) = m ((c.tc : Thread Cert.RefPostMergeIdeal.nD Cert.RefPostMergeIdeal.τ).loc Cert.RefPostMergeIdeal.main_arg7)
      ∧ r.2.mem ((c.tc : Thread Cert.RefPostMergeIdeal.nD Cert.RefPostMergeIdeal.τ).loc Cert.RefPostMergeIdeal.main_arg8) = m ((c.tc : Thread Cert.RefPostMergeIdeal.nD Cert.RefPostMergeIdeal.τ).loc Cert.RefPostMergeIdeal.main_arg8)
      ∧ r.2.mem ((c.tc : Thread Cert.RefPostMergeIdeal.nD Cert.RefPostMergeIdeal.τ).loc Cert.RefPostMergeIdeal.main_arg9) = m ((c.tc : Thread Cert.RefPostMergeIdeal.nD Cert.RefPostMergeIdeal.τ).loc Cert.RefPostMergeIdeal.main_arg9)
      ∧ r.2.mem ((c.tc : Thread Cert.RefPostMergeIdeal.nD Cert.RefPostMergeIdeal.τ).loc Cert.RefPostMergeIdeal.main_arg10) = m ((c.tc : Thread Cert.RefPostMergeIdeal.nD Cert.RefPostMergeIdeal.τ).loc Cert.RefPostMergeIdeal.main_arg10))
      ∧ r.2.sem = fun _ => 0)

def quiescent_RefPostMergeIdeal_pre_finite_lse [hRefPostMergeIdeal : Cert.RefPostMergeIdeal.Facts] [hPre_finite_lse : Cert.Pre_finite_lse.Facts] : Prop :=
  ∀ (m : (ℓ : Loc Cert.RefPostMergeIdeal.nD Cert.RefPostMergeIdeal.τ Cert.RefPostMergeIdeal.sig) → Buf (Elt Ideal) ℓ) (g : Dev Cert.RefPostMergeIdeal.nD → PrngReg), Pre_RefPostMergeIdeal_finite_lse m →
    θ_run (Cert.RefPostMergeIdeal.defs (F := Ideal)) (onTc (τ := Cert.RefPostMergeIdeal.τ) (Cert.RefPostMergeIdeal.main (F := Ideal))) ⟨m, fun _ => 0, g⟩ (fun r => (∀ c : Dev Cert.RefPostMergeIdeal.nD,
      r.2.mem ((c.tc : Thread Cert.RefPostMergeIdeal.nD Cert.RefPostMergeIdeal.τ).loc Cert.RefPostMergeIdeal.main_arg0) = m ((c.tc : Thread Cert.RefPostMergeIdeal.nD Cert.RefPostMergeIdeal.τ).loc Cert.RefPostMergeIdeal.main_arg0)
      ∧ r.2.mem ((c.tc : Thread Cert.RefPostMergeIdeal.nD Cert.RefPostMergeIdeal.τ).loc Cert.RefPostMergeIdeal.main_arg1) = m ((c.tc : Thread Cert.RefPostMergeIdeal.nD Cert.RefPostMergeIdeal.τ).loc Cert.RefPostMergeIdeal.main_arg1)
      ∧ r.2.mem ((c.tc : Thread Cert.RefPostMergeIdeal.nD Cert.RefPostMergeIdeal.τ).loc Cert.RefPostMergeIdeal.main_arg2) = m ((c.tc : Thread Cert.RefPostMergeIdeal.nD Cert.RefPostMergeIdeal.τ).loc Cert.RefPostMergeIdeal.main_arg2)
      ∧ r.2.mem ((c.tc : Thread Cert.RefPostMergeIdeal.nD Cert.RefPostMergeIdeal.τ).loc Cert.RefPostMergeIdeal.main_arg3) = m ((c.tc : Thread Cert.RefPostMergeIdeal.nD Cert.RefPostMergeIdeal.τ).loc Cert.RefPostMergeIdeal.main_arg3)
      ∧ r.2.mem ((c.tc : Thread Cert.RefPostMergeIdeal.nD Cert.RefPostMergeIdeal.τ).loc Cert.RefPostMergeIdeal.main_arg4) = m ((c.tc : Thread Cert.RefPostMergeIdeal.nD Cert.RefPostMergeIdeal.τ).loc Cert.RefPostMergeIdeal.main_arg4)
      ∧ r.2.mem ((c.tc : Thread Cert.RefPostMergeIdeal.nD Cert.RefPostMergeIdeal.τ).loc Cert.RefPostMergeIdeal.main_arg5) = m ((c.tc : Thread Cert.RefPostMergeIdeal.nD Cert.RefPostMergeIdeal.τ).loc Cert.RefPostMergeIdeal.main_arg5)
      ∧ r.2.mem ((c.tc : Thread Cert.RefPostMergeIdeal.nD Cert.RefPostMergeIdeal.τ).loc Cert.RefPostMergeIdeal.main_arg6) = m ((c.tc : Thread Cert.RefPostMergeIdeal.nD Cert.RefPostMergeIdeal.τ).loc Cert.RefPostMergeIdeal.main_arg6)
      ∧ r.2.mem ((c.tc : Thread Cert.RefPostMergeIdeal.nD Cert.RefPostMergeIdeal.τ).loc Cert.RefPostMergeIdeal.main_arg7) = m ((c.tc : Thread Cert.RefPostMergeIdeal.nD Cert.RefPostMergeIdeal.τ).loc Cert.RefPostMergeIdeal.main_arg7)
      ∧ r.2.mem ((c.tc : Thread Cert.RefPostMergeIdeal.nD Cert.RefPostMergeIdeal.τ).loc Cert.RefPostMergeIdeal.main_arg8) = m ((c.tc : Thread Cert.RefPostMergeIdeal.nD Cert.RefPostMergeIdeal.τ).loc Cert.RefPostMergeIdeal.main_arg8)
      ∧ r.2.mem ((c.tc : Thread Cert.RefPostMergeIdeal.nD Cert.RefPostMergeIdeal.τ).loc Cert.RefPostMergeIdeal.main_arg9) = m ((c.tc : Thread Cert.RefPostMergeIdeal.nD Cert.RefPostMergeIdeal.τ).loc Cert.RefPostMergeIdeal.main_arg9)
      ∧ r.2.mem ((c.tc : Thread Cert.RefPostMergeIdeal.nD Cert.RefPostMergeIdeal.τ).loc Cert.RefPostMergeIdeal.main_arg10) = m ((c.tc : Thread Cert.RefPostMergeIdeal.nD Cert.RefPostMergeIdeal.τ).loc Cert.RefPostMergeIdeal.main_arg10))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "bias_mask" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_PostFinal_PostFinalIdeal : Prop :=
  True

def algebraic_PostFinalIdeal_RefPostFinalIdeal [hPostFinalIdeal : Cert.PostFinalIdeal.Facts] [hRefPostFinalIdeal : Cert.RefPostFinalIdeal.Facts] : Prop :=
  ∀ (m : (ℓ : Loc Cert.PostFinalIdeal.nD Cert.PostFinalIdeal.τ Cert.PostFinalIdeal.sig) → Buf (Elt Ideal) ℓ) (g : Dev Cert.PostFinalIdeal.nD → PrngReg)
    (m' : (ℓ : Loc Cert.RefPostFinalIdeal.nD Cert.RefPostFinalIdeal.τ Cert.RefPostFinalIdeal.sig) → Buf (Elt Ideal) ℓ) (g' : Dev Cert.RefPostFinalIdeal.nD → PrngReg), Pre_PostFinalIdeal m →
    (∀ c : Dev Cert.PostFinalIdeal.nD,
      m' ((c.tc : Thread Cert.RefPostFinalIdeal.nD Cert.RefPostFinalIdeal.τ).loc Cert.RefPostFinalIdeal.main_arg0) = m ((c.tc : Thread Cert.PostFinalIdeal.nD Cert.PostFinalIdeal.τ).loc Cert.PostFinalIdeal.main_arg0)
      ∧ m' ((c.tc : Thread Cert.RefPostFinalIdeal.nD Cert.RefPostFinalIdeal.τ).loc Cert.RefPostFinalIdeal.main_arg1) = m ((c.tc : Thread Cert.PostFinalIdeal.nD Cert.PostFinalIdeal.τ).loc Cert.PostFinalIdeal.main_arg1)
      ∧ m' ((c.tc : Thread Cert.RefPostFinalIdeal.nD Cert.RefPostFinalIdeal.τ).loc Cert.RefPostFinalIdeal.main_arg2) = m ((c.tc : Thread Cert.PostFinalIdeal.nD Cert.PostFinalIdeal.τ).loc Cert.PostFinalIdeal.main_arg2)
      ∧ m' ((c.tc : Thread Cert.RefPostFinalIdeal.nD Cert.RefPostFinalIdeal.τ).loc Cert.RefPostFinalIdeal.main_arg3) = m ((c.tc : Thread Cert.PostFinalIdeal.nD Cert.PostFinalIdeal.τ).loc Cert.PostFinalIdeal.main_arg3)
      ∧ m' ((c.tc : Thread Cert.RefPostFinalIdeal.nD Cert.RefPostFinalIdeal.τ).loc Cert.RefPostFinalIdeal.main_arg4) = m ((c.tc : Thread Cert.PostFinalIdeal.nD Cert.PostFinalIdeal.τ).loc Cert.PostFinalIdeal.main_arg4)
      ∧ m' ((c.tc : Thread Cert.RefPostFinalIdeal.nD Cert.RefPostFinalIdeal.τ).loc Cert.RefPostFinalIdeal.main_arg5) = m ((c.tc : Thread Cert.PostFinalIdeal.nD Cert.PostFinalIdeal.τ).loc Cert.PostFinalIdeal.main_arg5)
      ∧ m' ((c.tc : Thread Cert.RefPostFinalIdeal.nD Cert.RefPostFinalIdeal.τ).loc Cert.RefPostFinalIdeal.main_arg6) = m ((c.tc : Thread Cert.PostFinalIdeal.nD Cert.PostFinalIdeal.τ).loc Cert.PostFinalIdeal.main_arg6)) →
    ∃ (v0 : (c : Dev Cert.PostFinalIdeal.nD) → Buf (Elt Ideal) ((c.tc : Thread Cert.PostFinalIdeal.nD Cert.PostFinalIdeal.τ).loc Cert.PostFinalIdeal.main_v5)),
      θ_run (Cert.PostFinalIdeal.defs (F := Ideal)) (onTc (τ := Cert.PostFinalIdeal.τ) (Cert.PostFinalIdeal.main (F := Ideal))) ⟨m, fun _ => 0, g⟩ (fun r => ∀ c : Dev Cert.PostFinalIdeal.nD,
          r.2.mem ((c.tc : Thread Cert.PostFinalIdeal.nD Cert.PostFinalIdeal.τ).loc Cert.PostFinalIdeal.main_v5) = v0 c
          ∧ r.2.mem ((c.tc : Thread Cert.PostFinalIdeal.nD Cert.PostFinalIdeal.τ).loc Cert.PostFinalIdeal.main_arg0) = m ((c.tc : Thread Cert.PostFinalIdeal.nD Cert.PostFinalIdeal.τ).loc Cert.PostFinalIdeal.main_arg0)
          ∧ r.2.mem ((c.tc : Thread Cert.PostFinalIdeal.nD Cert.PostFinalIdeal.τ).loc Cert.PostFinalIdeal.main_arg1) = m ((c.tc : Thread Cert.PostFinalIdeal.nD Cert.PostFinalIdeal.τ).loc Cert.PostFinalIdeal.main_arg1)
          ∧ r.2.mem ((c.tc : Thread Cert.PostFinalIdeal.nD Cert.PostFinalIdeal.τ).loc Cert.PostFinalIdeal.main_arg2) = m ((c.tc : Thread Cert.PostFinalIdeal.nD Cert.PostFinalIdeal.τ).loc Cert.PostFinalIdeal.main_arg2)
          ∧ r.2.mem ((c.tc : Thread Cert.PostFinalIdeal.nD Cert.PostFinalIdeal.τ).loc Cert.PostFinalIdeal.main_arg3) = m ((c.tc : Thread Cert.PostFinalIdeal.nD Cert.PostFinalIdeal.τ).loc Cert.PostFinalIdeal.main_arg3)
          ∧ r.2.mem ((c.tc : Thread Cert.PostFinalIdeal.nD Cert.PostFinalIdeal.τ).loc Cert.PostFinalIdeal.main_arg4) = m ((c.tc : Thread Cert.PostFinalIdeal.nD Cert.PostFinalIdeal.τ).loc Cert.PostFinalIdeal.main_arg4)
          ∧ r.2.mem ((c.tc : Thread Cert.PostFinalIdeal.nD Cert.PostFinalIdeal.τ).loc Cert.PostFinalIdeal.main_arg5) = m ((c.tc : Thread Cert.PostFinalIdeal.nD Cert.PostFinalIdeal.τ).loc Cert.PostFinalIdeal.main_arg5)
          ∧ r.2.mem ((c.tc : Thread Cert.PostFinalIdeal.nD Cert.PostFinalIdeal.τ).loc Cert.PostFinalIdeal.main_arg6) = m ((c.tc : Thread Cert.PostFinalIdeal.nD Cert.PostFinalIdeal.τ).loc Cert.PostFinalIdeal.main_arg6))
      ∧ θ_run (Cert.RefPostFinalIdeal.defs (F := Ideal)) (onTc (τ := Cert.RefPostFinalIdeal.τ) (Cert.RefPostFinalIdeal.main (F := Ideal))) ⟨m', fun _ => 0, g'⟩ (fun r => ∀ c : Dev Cert.RefPostFinalIdeal.nD,
          r.2.mem ((c.tc : Thread Cert.RefPostFinalIdeal.nD Cert.RefPostFinalIdeal.τ).loc Cert.RefPostFinalIdeal.main_v34) = v0 c
          ∧ r.2.mem ((c.tc : Thread Cert.RefPostFinalIdeal.nD Cert.RefPostFinalIdeal.τ).loc Cert.RefPostFinalIdeal.main_arg0) = m' ((c.tc : Thread Cert.RefPostFinalIdeal.nD Cert.RefPostFinalIdeal.τ).loc Cert.RefPostFinalIdeal.main_arg0)
          ∧ r.2.mem ((c.tc : Thread Cert.RefPostFinalIdeal.nD Cert.RefPostFinalIdeal.τ).loc Cert.RefPostFinalIdeal.main_arg1) = m' ((c.tc : Thread Cert.RefPostFinalIdeal.nD Cert.RefPostFinalIdeal.τ).loc Cert.RefPostFinalIdeal.main_arg1)
          ∧ r.2.mem ((c.tc : Thread Cert.RefPostFinalIdeal.nD Cert.RefPostFinalIdeal.τ).loc Cert.RefPostFinalIdeal.main_arg2) = m' ((c.tc : Thread Cert.RefPostFinalIdeal.nD Cert.RefPostFinalIdeal.τ).loc Cert.RefPostFinalIdeal.main_arg2)
          ∧ r.2.mem ((c.tc : Thread Cert.RefPostFinalIdeal.nD Cert.RefPostFinalIdeal.τ).loc Cert.RefPostFinalIdeal.main_arg3) = m' ((c.tc : Thread Cert.RefPostFinalIdeal.nD Cert.RefPostFinalIdeal.τ).loc Cert.RefPostFinalIdeal.main_arg3)
          ∧ r.2.mem ((c.tc : Thread Cert.RefPostFinalIdeal.nD Cert.RefPostFinalIdeal.τ).loc Cert.RefPostFinalIdeal.main_arg4) = m' ((c.tc : Thread Cert.RefPostFinalIdeal.nD Cert.RefPostFinalIdeal.τ).loc Cert.RefPostFinalIdeal.main_arg4)
          ∧ r.2.mem ((c.tc : Thread Cert.RefPostFinalIdeal.nD Cert.RefPostFinalIdeal.τ).loc Cert.RefPostFinalIdeal.main_arg5) = m' ((c.tc : Thread Cert.RefPostFinalIdeal.nD Cert.RefPostFinalIdeal.τ).loc Cert.RefPostFinalIdeal.main_arg5)
          ∧ r.2.mem ((c.tc : Thread Cert.RefPostFinalIdeal.nD Cert.RefPostFinalIdeal.τ).loc Cert.RefPostFinalIdeal.main_arg6) = m' ((c.tc : Thread Cert.RefPostFinalIdeal.nD Cert.RefPostFinalIdeal.τ).loc Cert.RefPostFinalIdeal.main_arg6))

def preserves_Post_PostIdeal : Prop :=
  True

def algebraic_PostIdeal_RefPostIdeal [hPostIdeal : Cert.PostIdeal.Facts] [hRefPostIdeal : Cert.RefPostIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.RefPostIdeal.nD Cert.RefPostIdeal.τ Cert.RefPostIdeal.sig) → Buf (Elt Ideal) ℓ) (g' : Dev Cert.RefPostIdeal.nD → PrngReg), Pre_PostIdeal m →
    (∀ c : Dev Cert.PostIdeal.nD,
      m' ((c.tc : Thread Cert.RefPostIdeal.nD Cert.RefPostIdeal.τ).loc Cert.RefPostIdeal.main_arg0) = m ((c.tc : Thread Cert.PostIdeal.nD Cert.PostIdeal.τ).loc Cert.PostIdeal.main_arg0)
      ∧ m' ((c.tc : Thread Cert.RefPostIdeal.nD Cert.RefPostIdeal.τ).loc Cert.RefPostIdeal.main_arg1) = m ((c.tc : Thread Cert.PostIdeal.nD Cert.PostIdeal.τ).loc Cert.PostIdeal.main_arg1)
      ∧ m' ((c.tc : Thread Cert.RefPostIdeal.nD Cert.RefPostIdeal.τ).loc Cert.RefPostIdeal.main_arg2) = m ((c.tc : Thread Cert.PostIdeal.nD Cert.PostIdeal.τ).loc Cert.PostIdeal.main_arg2)
      ∧ m' ((c.tc : Thread Cert.RefPostIdeal.nD Cert.RefPostIdeal.τ).loc Cert.RefPostIdeal.main_arg3) = m ((c.tc : Thread Cert.PostIdeal.nD Cert.PostIdeal.τ).loc Cert.PostIdeal.main_arg3)
      ∧ m' ((c.tc : Thread Cert.RefPostIdeal.nD Cert.RefPostIdeal.τ).loc Cert.RefPostIdeal.main_arg4) = m ((c.tc : Thread Cert.PostIdeal.nD Cert.PostIdeal.τ).loc Cert.PostIdeal.main_arg4)
      ∧ m' ((c.tc : Thread Cert.RefPostIdeal.nD Cert.RefPostIdeal.τ).loc Cert.RefPostIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v4)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v4) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.RefPostIdeal.defs (F := Ideal)) (onTc (τ := Cert.RefPostIdeal.τ) (Cert.RefPostIdeal.main (F := Ideal))) ⟨m', fun _ => 0, g'⟩ (fun r => ∀ c : Dev Cert.RefPostIdeal.nD,
          r.2.mem ((c.tc : Thread Cert.RefPostIdeal.nD Cert.RefPostIdeal.τ).loc Cert.RefPostIdeal.main_v21) = v0 c
          ∧ r.2.mem ((c.tc : Thread Cert.RefPostIdeal.nD Cert.RefPostIdeal.τ).loc Cert.RefPostIdeal.main_arg0) = m' ((c.tc : Thread Cert.RefPostIdeal.nD Cert.RefPostIdeal.τ).loc Cert.RefPostIdeal.main_arg0)
          ∧ r.2.mem ((c.tc : Thread Cert.RefPostIdeal.nD Cert.RefPostIdeal.τ).loc Cert.RefPostIdeal.main_arg1) = m' ((c.tc : Thread Cert.RefPostIdeal.nD Cert.RefPostIdeal.τ).loc Cert.RefPostIdeal.main_arg1)
          ∧ r.2.mem ((c.tc : Thread Cert.RefPostIdeal.nD Cert.RefPostIdeal.τ).loc Cert.RefPostIdeal.main_arg2) = m' ((c.tc : Thread Cert.RefPostIdeal.nD Cert.RefPostIdeal.τ).loc Cert.RefPostIdeal.main_arg2)
          ∧ r.2.mem ((c.tc : Thread Cert.RefPostIdeal.nD Cert.RefPostIdeal.τ).loc Cert.RefPostIdeal.main_arg3) = m' ((c.tc : Thread Cert.RefPostIdeal.nD Cert.RefPostIdeal.τ).loc Cert.RefPostIdeal.main_arg3)
          ∧ r.2.mem ((c.tc : Thread Cert.RefPostIdeal.nD Cert.RefPostIdeal.τ).loc Cert.RefPostIdeal.main_arg4) = m' ((c.tc : Thread Cert.RefPostIdeal.nD Cert.RefPostIdeal.τ).loc Cert.RefPostIdeal.main_arg4)
          ∧ r.2.mem ((c.tc : Thread Cert.RefPostIdeal.nD Cert.RefPostIdeal.τ).loc Cert.RefPostIdeal.main_arg5) = m' ((c.tc : Thread Cert.RefPostIdeal.nD Cert.RefPostIdeal.τ).loc Cert.RefPostIdeal.main_arg5))

def preserves_Qkv0_Qkv0Ideal : Prop :=
  IdealRules.named_const.Statement Cert.Qkv0Ideal.κ "q_scale" .f32 0x3E38AA3B#32 (((1 / 8) * (Real.log 2)⁻¹ : ℝ) : EReal)

def algebraic_Qkv0Ideal_RefQkv0Ideal [hQkv0Ideal : Cert.Qkv0Ideal.Facts] [hRefQkv0Ideal : Cert.RefQkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg)
    (m' : (ℓ : Loc Cert.RefQkv0Ideal.nD Cert.RefQkv0Ideal.τ Cert.RefQkv0Ideal.sig) → Buf (Elt Ideal) ℓ) (g' : Dev Cert.RefQkv0Ideal.nD → PrngReg), Pre_Qkv0Ideal m →
    (∀ c : Dev Cert.Qkv0Ideal.nD,
      m' ((c.tc : Thread Cert.RefQkv0Ideal.nD Cert.RefQkv0Ideal.τ).loc Cert.RefQkv0Ideal.main_arg0) = m ((c.tc : Thread Cert.Qkv0Ideal.nD Cert.Qkv0Ideal.τ).loc Cert.Qkv0Ideal.main_arg0)
      ∧ m' ((c.tc : Thread Cert.RefQkv0Ideal.nD Cert.RefQkv0Ideal.τ).loc Cert.RefQkv0Ideal.main_arg1) = m ((c.tc : Thread Cert.Qkv0Ideal.nD Cert.Qkv0Ideal.τ).loc Cert.Qkv0Ideal.main_arg1)
      ∧ m' ((c.tc : Thread Cert.RefQkv0Ideal.nD Cert.RefQkv0Ideal.τ).loc Cert.RefQkv0Ideal.main_arg2) = m ((c.tc : Thread Cert.Qkv0Ideal.nD Cert.Qkv0Ideal.τ).loc Cert.Qkv0Ideal.main_arg2)) →
    ∃ (v0 : (c : Dev Cert.Qkv0Ideal.nD) → Buf (Elt Ideal) ((c.tc : Thread Cert.Qkv0Ideal.nD Cert.Qkv0Ideal.τ).loc Cert.Qkv0Ideal.main_v2)),
      θ_run (Cert.Qkv0Ideal.defs (F := Ideal)) (onTc (τ := Cert.Qkv0Ideal.τ) (Cert.Qkv0Ideal.main (F := Ideal))) ⟨m, fun _ => 0, g⟩ (fun r => ∀ c : Dev Cert.Qkv0Ideal.nD,
          r.2.mem ((c.tc : Thread Cert.Qkv0Ideal.nD Cert.Qkv0Ideal.τ).loc Cert.Qkv0Ideal.main_v2) = v0 c
          ∧ r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
          ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1)
          ∧ r.2.mem ((c.tc : Thread Cert.Qkv0Ideal.nD Cert.Qkv0Ideal.τ).loc Cert.Qkv0Ideal.main_arg2) = m ((c.tc : Thread Cert.Qkv0Ideal.nD Cert.Qkv0Ideal.τ).loc Cert.Qkv0Ideal.main_arg2))
      ∧ θ_run (Cert.RefQkv0Ideal.defs (F := Ideal)) (onTc (τ := Cert.RefQkv0Ideal.τ) (Cert.RefQkv0Ideal.main (F := Ideal))) ⟨m', fun _ => 0, g'⟩ (fun r => ∀ c : Dev Cert.RefQkv0Ideal.nD,
          r.2.mem ((c.tc : Thread Cert.RefQkv0Ideal.nD Cert.RefQkv0Ideal.τ).loc Cert.RefQkv0Ideal.main_v21) = v0 c
          ∧ r.2.mem ((c.tc : Thread Cert.RefQkv0Ideal.nD Cert.RefQkv0Ideal.τ).loc Cert.RefQkv0Ideal.main_arg0) = m' ((c.tc : Thread Cert.RefQkv0Ideal.nD Cert.RefQkv0Ideal.τ).loc Cert.RefQkv0Ideal.main_arg0)
          ∧ r.2.mem ((c.tc : Thread Cert.RefQkv0Ideal.nD Cert.RefQkv0Ideal.τ).loc Cert.RefQkv0Ideal.main_arg1) = m' ((c.tc : Thread Cert.RefQkv0Ideal.nD Cert.RefQkv0Ideal.τ).loc Cert.RefQkv0Ideal.main_arg1)
          ∧ r.2.mem ((c.tc : Thread Cert.RefQkv0Ideal.nD Cert.RefQkv0Ideal.τ).loc Cert.RefQkv0Ideal.main_arg2) = m' ((c.tc : Thread Cert.RefQkv0Ideal.nD Cert.RefQkv0Ideal.τ).loc Cert.RefQkv0Ideal.main_arg2))

def preserves_Qkv3_Qkv3Ideal : Prop :=
  IdealRules.named_const.Statement Cert.Qkv3Ideal.κ "q_scale" .f32 0x3E38AA3B#32 (((1 / 8) * (Real.log 2)⁻¹ : ℝ) : EReal)

def algebraic_Qkv3Ideal_RefQkv3Ideal [hQkv3Ideal : Cert.Qkv3Ideal.Facts] [hRefQkv3Ideal : Cert.RefQkv3Ideal.Facts] : Prop :=
  ∀ (m : (ℓ : Loc Cert.Qkv3Ideal.nD Cert.Qkv3Ideal.τ Cert.Qkv3Ideal.sig) → Buf (Elt Ideal) ℓ) (g : Dev Cert.Qkv3Ideal.nD → PrngReg)
    (m' : (ℓ : Loc Cert.RefQkv3Ideal.nD Cert.RefQkv3Ideal.τ Cert.RefQkv3Ideal.sig) → Buf (Elt Ideal) ℓ) (g' : Dev Cert.RefQkv3Ideal.nD → PrngReg), Pre_Qkv3Ideal m →
    (∀ c : Dev Cert.Qkv3Ideal.nD,
      m' ((c.tc : Thread Cert.RefQkv3Ideal.nD Cert.RefQkv3Ideal.τ).loc Cert.RefQkv3Ideal.main_arg0) = m ((c.tc : Thread Cert.Qkv3Ideal.nD Cert.Qkv3Ideal.τ).loc Cert.Qkv3Ideal.main_arg0)
      ∧ m' ((c.tc : Thread Cert.RefQkv3Ideal.nD Cert.RefQkv3Ideal.τ).loc Cert.RefQkv3Ideal.main_arg1) = m ((c.tc : Thread Cert.Qkv3Ideal.nD Cert.Qkv3Ideal.τ).loc Cert.Qkv3Ideal.main_arg1)
      ∧ m' ((c.tc : Thread Cert.RefQkv3Ideal.nD Cert.RefQkv3Ideal.τ).loc Cert.RefQkv3Ideal.main_arg2) = m ((c.tc : Thread Cert.Qkv3Ideal.nD Cert.Qkv3Ideal.τ).loc Cert.Qkv3Ideal.main_arg2)) →
    ∃ (v0 : (c : Dev Cert.Qkv3Ideal.nD) → Buf (Elt Ideal) ((c.tc : Thread Cert.Qkv3Ideal.nD Cert.Qkv3Ideal.τ).loc Cert.Qkv3Ideal.main_v2)),
      θ_run (Cert.Qkv3Ideal.defs (F := Ideal)) (onTc (τ := Cert.Qkv3Ideal.τ) (Cert.Qkv3Ideal.main (F := Ideal))) ⟨m, fun _ => 0, g⟩ (fun r => ∀ c : Dev Cert.Qkv3Ideal.nD,
          r.2.mem ((c.tc : Thread Cert.Qkv3Ideal.nD Cert.Qkv3Ideal.τ).loc Cert.Qkv3Ideal.main_v2) = v0 c
          ∧ r.2.mem ((c.tc : Thread Cert.Qkv3Ideal.nD Cert.Qkv3Ideal.τ).loc Cert.Qkv3Ideal.main_arg0) = m ((c.tc : Thread Cert.Qkv3Ideal.nD Cert.Qkv3Ideal.τ).loc Cert.Qkv3Ideal.main_arg0)
          ∧ r.2.mem ((c.tc : Thread Cert.Qkv3Ideal.nD Cert.Qkv3Ideal.τ).loc Cert.Qkv3Ideal.main_arg1) = m ((c.tc : Thread Cert.Qkv3Ideal.nD Cert.Qkv3Ideal.τ).loc Cert.Qkv3Ideal.main_arg1)
          ∧ r.2.mem ((c.tc : Thread Cert.Qkv3Ideal.nD Cert.Qkv3Ideal.τ).loc Cert.Qkv3Ideal.main_arg2) = m ((c.tc : Thread Cert.Qkv3Ideal.nD Cert.Qkv3Ideal.τ).loc Cert.Qkv3Ideal.main_arg2))
      ∧ θ_run (Cert.RefQkv3Ideal.defs (F := Ideal)) (onTc (τ := Cert.RefQkv3Ideal.τ) (Cert.RefQkv3Ideal.main (F := Ideal))) ⟨m', fun _ => 0, g'⟩ (fun r => ∀ c : Dev Cert.RefQkv3Ideal.nD,
          r.2.mem ((c.tc : Thread Cert.RefQkv3Ideal.nD Cert.RefQkv3Ideal.τ).loc Cert.RefQkv3Ideal.main_v21) = v0 c
          ∧ r.2.mem ((c.tc : Thread Cert.RefQkv3Ideal.nD Cert.RefQkv3Ideal.τ).loc Cert.RefQkv3Ideal.main_arg0) = m' ((c.tc : Thread Cert.RefQkv3Ideal.nD Cert.RefQkv3Ideal.τ).loc Cert.RefQkv3Ideal.main_arg0)
          ∧ r.2.mem ((c.tc : Thread Cert.RefQkv3Ideal.nD Cert.RefQkv3Ideal.τ).loc Cert.RefQkv3Ideal.main_arg1) = m' ((c.tc : Thread Cert.RefQkv3Ideal.nD Cert.RefQkv3Ideal.τ).loc Cert.RefQkv3Ideal.main_arg1)
          ∧ r.2.mem ((c.tc : Thread Cert.RefQkv3Ideal.nD Cert.RefQkv3Ideal.τ).loc Cert.RefQkv3Ideal.main_arg2) = m' ((c.tc : Thread Cert.RefQkv3Ideal.nD Cert.RefQkv3Ideal.τ).loc Cert.RefQkv3Ideal.main_arg2))

def preserves_PostMerge_PostMergeIdeal : Prop :=
  True

def algebraic_PostMergeIdeal_RefPostMergeIdeal_pre_finite_lse [hPostMergeIdeal : Cert.PostMergeIdeal.Facts] [hRefPostMergeIdeal : Cert.RefPostMergeIdeal.Facts] [hPre_finite_lse : Cert.Pre_finite_lse.Facts] : Prop :=
  ∀ (m : (ℓ : Loc Cert.PostMergeIdeal.nD Cert.PostMergeIdeal.τ Cert.PostMergeIdeal.sig) → Buf (Elt Ideal) ℓ) (g : Dev Cert.PostMergeIdeal.nD → PrngReg)
    (m' : (ℓ : Loc Cert.RefPostMergeIdeal.nD Cert.RefPostMergeIdeal.τ Cert.RefPostMergeIdeal.sig) → Buf (Elt Ideal) ℓ) (g' : Dev Cert.RefPostMergeIdeal.nD → PrngReg), Pre_PostMergeIdeal_finite_lse m →
    (∀ c : Dev Cert.PostMergeIdeal.nD,
      m' ((c.tc : Thread Cert.RefPostMergeIdeal.nD Cert.RefPostMergeIdeal.τ).loc Cert.RefPostMergeIdeal.main_arg0) = m ((c.tc : Thread Cert.PostMergeIdeal.nD Cert.PostMergeIdeal.τ).loc Cert.PostMergeIdeal.main_arg0)
      ∧ m' ((c.tc : Thread Cert.RefPostMergeIdeal.nD Cert.RefPostMergeIdeal.τ).loc Cert.RefPostMergeIdeal.main_arg1) = m ((c.tc : Thread Cert.PostMergeIdeal.nD Cert.PostMergeIdeal.τ).loc Cert.PostMergeIdeal.main_arg1)
      ∧ m' ((c.tc : Thread Cert.RefPostMergeIdeal.nD Cert.RefPostMergeIdeal.τ).loc Cert.RefPostMergeIdeal.main_arg2) = m ((c.tc : Thread Cert.PostMergeIdeal.nD Cert.PostMergeIdeal.τ).loc Cert.PostMergeIdeal.main_arg2)
      ∧ m' ((c.tc : Thread Cert.RefPostMergeIdeal.nD Cert.RefPostMergeIdeal.τ).loc Cert.RefPostMergeIdeal.main_arg3) = m ((c.tc : Thread Cert.PostMergeIdeal.nD Cert.PostMergeIdeal.τ).loc Cert.PostMergeIdeal.main_arg3)
      ∧ m' ((c.tc : Thread Cert.RefPostMergeIdeal.nD Cert.RefPostMergeIdeal.τ).loc Cert.RefPostMergeIdeal.main_arg4) = m ((c.tc : Thread Cert.PostMergeIdeal.nD Cert.PostMergeIdeal.τ).loc Cert.PostMergeIdeal.main_arg4)
      ∧ m' ((c.tc : Thread Cert.RefPostMergeIdeal.nD Cert.RefPostMergeIdeal.τ).loc Cert.RefPostMergeIdeal.main_arg5) = m ((c.tc : Thread Cert.PostMergeIdeal.nD Cert.PostMergeIdeal.τ).loc Cert.PostMergeIdeal.main_arg5)
      ∧ m' ((c.tc : Thread Cert.RefPostMergeIdeal.nD Cert.RefPostMergeIdeal.τ).loc Cert.RefPostMergeIdeal.main_arg6) = m ((c.tc : Thread Cert.PostMergeIdeal.nD Cert.PostMergeIdeal.τ).loc Cert.PostMergeIdeal.main_arg6)
      ∧ m' ((c.tc : Thread Cert.RefPostMergeIdeal.nD Cert.RefPostMergeIdeal.τ).loc Cert.RefPostMergeIdeal.main_arg7) = m ((c.tc : Thread Cert.PostMergeIdeal.nD Cert.PostMergeIdeal.τ).loc Cert.PostMergeIdeal.main_arg7)
      ∧ m' ((c.tc : Thread Cert.RefPostMergeIdeal.nD Cert.RefPostMergeIdeal.τ).loc Cert.RefPostMergeIdeal.main_arg8) = m ((c.tc : Thread Cert.PostMergeIdeal.nD Cert.PostMergeIdeal.τ).loc Cert.PostMergeIdeal.main_arg8)
      ∧ m' ((c.tc : Thread Cert.RefPostMergeIdeal.nD Cert.RefPostMergeIdeal.τ).loc Cert.RefPostMergeIdeal.main_arg9) = m ((c.tc : Thread Cert.PostMergeIdeal.nD Cert.PostMergeIdeal.τ).loc Cert.PostMergeIdeal.main_arg9)
      ∧ m' ((c.tc : Thread Cert.RefPostMergeIdeal.nD Cert.RefPostMergeIdeal.τ).loc Cert.RefPostMergeIdeal.main_arg10) = m ((c.tc : Thread Cert.PostMergeIdeal.nD Cert.PostMergeIdeal.τ).loc Cert.PostMergeIdeal.main_arg10)) →
    ∃ (v0 : (c : Dev Cert.PostMergeIdeal.nD) → Buf (Elt Ideal) ((c.tc : Thread Cert.PostMergeIdeal.nD Cert.PostMergeIdeal.τ).loc Cert.PostMergeIdeal.main_v4)),
      θ_run (Cert.PostMergeIdeal.defs (F := Ideal)) (onTc (τ := Cert.PostMergeIdeal.τ) (Cert.PostMergeIdeal.main (F := Ideal))) ⟨m, fun _ => 0, g⟩ (fun r => ∀ c : Dev Cert.PostMergeIdeal.nD,
          r.2.mem ((c.tc : Thread Cert.PostMergeIdeal.nD Cert.PostMergeIdeal.τ).loc Cert.PostMergeIdeal.main_v4) = v0 c
          ∧ r.2.mem ((c.tc : Thread Cert.PostMergeIdeal.nD Cert.PostMergeIdeal.τ).loc Cert.PostMergeIdeal.main_arg0) = m ((c.tc : Thread Cert.PostMergeIdeal.nD Cert.PostMergeIdeal.τ).loc Cert.PostMergeIdeal.main_arg0)
          ∧ r.2.mem ((c.tc : Thread Cert.PostMergeIdeal.nD Cert.PostMergeIdeal.τ).loc Cert.PostMergeIdeal.main_arg1) = m ((c.tc : Thread Cert.PostMergeIdeal.nD Cert.PostMergeIdeal.τ).loc Cert.PostMergeIdeal.main_arg1)
          ∧ r.2.mem ((c.tc : Thread Cert.PostMergeIdeal.nD Cert.PostMergeIdeal.τ).loc Cert.PostMergeIdeal.main_arg2) = m ((c.tc : Thread Cert.PostMergeIdeal.nD Cert.PostMergeIdeal.τ).loc Cert.PostMergeIdeal.main_arg2)
          ∧ r.2.mem ((c.tc : Thread Cert.PostMergeIdeal.nD Cert.PostMergeIdeal.τ).loc Cert.PostMergeIdeal.main_arg3) = m ((c.tc : Thread Cert.PostMergeIdeal.nD Cert.PostMergeIdeal.τ).loc Cert.PostMergeIdeal.main_arg3)
          ∧ r.2.mem ((c.tc : Thread Cert.PostMergeIdeal.nD Cert.PostMergeIdeal.τ).loc Cert.PostMergeIdeal.main_arg4) = m ((c.tc : Thread Cert.PostMergeIdeal.nD Cert.PostMergeIdeal.τ).loc Cert.PostMergeIdeal.main_arg4)
          ∧ r.2.mem ((c.tc : Thread Cert.PostMergeIdeal.nD Cert.PostMergeIdeal.τ).loc Cert.PostMergeIdeal.main_arg5) = m ((c.tc : Thread Cert.PostMergeIdeal.nD Cert.PostMergeIdeal.τ).loc Cert.PostMergeIdeal.main_arg5)
          ∧ r.2.mem ((c.tc : Thread Cert.PostMergeIdeal.nD Cert.PostMergeIdeal.τ).loc Cert.PostMergeIdeal.main_arg6) = m ((c.tc : Thread Cert.PostMergeIdeal.nD Cert.PostMergeIdeal.τ).loc Cert.PostMergeIdeal.main_arg6)
          ∧ r.2.mem ((c.tc : Thread Cert.PostMergeIdeal.nD Cert.PostMergeIdeal.τ).loc Cert.PostMergeIdeal.main_arg7) = m ((c.tc : Thread Cert.PostMergeIdeal.nD Cert.PostMergeIdeal.τ).loc Cert.PostMergeIdeal.main_arg7)
          ∧ r.2.mem ((c.tc : Thread Cert.PostMergeIdeal.nD Cert.PostMergeIdeal.τ).loc Cert.PostMergeIdeal.main_arg8) = m ((c.tc : Thread Cert.PostMergeIdeal.nD Cert.PostMergeIdeal.τ).loc Cert.PostMergeIdeal.main_arg8)
          ∧ r.2.mem ((c.tc : Thread Cert.PostMergeIdeal.nD Cert.PostMergeIdeal.τ).loc Cert.PostMergeIdeal.main_arg9) = m ((c.tc : Thread Cert.PostMergeIdeal.nD Cert.PostMergeIdeal.τ).loc Cert.PostMergeIdeal.main_arg9)
          ∧ r.2.mem ((c.tc : Thread Cert.PostMergeIdeal.nD Cert.PostMergeIdeal.τ).loc Cert.PostMergeIdeal.main_arg10) = m ((c.tc : Thread Cert.PostMergeIdeal.nD Cert.PostMergeIdeal.τ).loc Cert.PostMergeIdeal.main_arg10))
      ∧ θ_run (Cert.RefPostMergeIdeal.defs (F := Ideal)) (onTc (τ := Cert.RefPostMergeIdeal.τ) (Cert.RefPostMergeIdeal.main (F := Ideal))) ⟨m', fun _ => 0, g'⟩ (fun r => ∀ c : Dev Cert.RefPostMergeIdeal.nD,
          r.2.mem ((c.tc : Thread Cert.RefPostMergeIdeal.nD Cert.RefPostMergeIdeal.τ).loc Cert.RefPostMergeIdeal.main_v50) = v0 c
          ∧ r.2.mem ((c.tc : Thread Cert.RefPostMergeIdeal.nD Cert.RefPostMergeIdeal.τ).loc Cert.RefPostMergeIdeal.main_arg0) = m' ((c.tc : Thread Cert.RefPostMergeIdeal.nD Cert.RefPostMergeIdeal.τ).loc Cert.RefPostMergeIdeal.main_arg0)
          ∧ r.2.mem ((c.tc : Thread Cert.RefPostMergeIdeal.nD Cert.RefPostMergeIdeal.τ).loc Cert.RefPostMergeIdeal.main_arg1) = m' ((c.tc : Thread Cert.RefPostMergeIdeal.nD Cert.RefPostMergeIdeal.τ).loc Cert.RefPostMergeIdeal.main_arg1)
          ∧ r.2.mem ((c.tc : Thread Cert.RefPostMergeIdeal.nD Cert.RefPostMergeIdeal.τ).loc Cert.RefPostMergeIdeal.main_arg2) = m' ((c.tc : Thread Cert.RefPostMergeIdeal.nD Cert.RefPostMergeIdeal.τ).loc Cert.RefPostMergeIdeal.main_arg2)
          ∧ r.2.mem ((c.tc : Thread Cert.RefPostMergeIdeal.nD Cert.RefPostMergeIdeal.τ).loc Cert.RefPostMergeIdeal.main_arg3) = m' ((c.tc : Thread Cert.RefPostMergeIdeal.nD Cert.RefPostMergeIdeal.τ).loc Cert.RefPostMergeIdeal.main_arg3)
          ∧ r.2.mem ((c.tc : Thread Cert.RefPostMergeIdeal.nD Cert.RefPostMergeIdeal.τ).loc Cert.RefPostMergeIdeal.main_arg4) = m' ((c.tc : Thread Cert.RefPostMergeIdeal.nD Cert.RefPostMergeIdeal.τ).loc Cert.RefPostMergeIdeal.main_arg4)
          ∧ r.2.mem ((c.tc : Thread Cert.RefPostMergeIdeal.nD Cert.RefPostMergeIdeal.τ).loc Cert.RefPostMergeIdeal.main_arg5) = m' ((c.tc : Thread Cert.RefPostMergeIdeal.nD Cert.RefPostMergeIdeal.τ).loc Cert.RefPostMergeIdeal.main_arg5)
          ∧ r.2.mem ((c.tc : Thread Cert.RefPostMergeIdeal.nD Cert.RefPostMergeIdeal.τ).loc Cert.RefPostMergeIdeal.main_arg6) = m' ((c.tc : Thread Cert.RefPostMergeIdeal.nD Cert.RefPostMergeIdeal.τ).loc Cert.RefPostMergeIdeal.main_arg6)
          ∧ r.2.mem ((c.tc : Thread Cert.RefPostMergeIdeal.nD Cert.RefPostMergeIdeal.τ).loc Cert.RefPostMergeIdeal.main_arg7) = m' ((c.tc : Thread Cert.RefPostMergeIdeal.nD Cert.RefPostMergeIdeal.τ).loc Cert.RefPostMergeIdeal.main_arg7)
          ∧ r.2.mem ((c.tc : Thread Cert.RefPostMergeIdeal.nD Cert.RefPostMergeIdeal.τ).loc Cert.RefPostMergeIdeal.main_arg8) = m' ((c.tc : Thread Cert.RefPostMergeIdeal.nD Cert.RefPostMergeIdeal.τ).loc Cert.RefPostMergeIdeal.main_arg8)
          ∧ r.2.mem ((c.tc : Thread Cert.RefPostMergeIdeal.nD Cert.RefPostMergeIdeal.τ).loc Cert.RefPostMergeIdeal.main_arg9) = m' ((c.tc : Thread Cert.RefPostMergeIdeal.nD Cert.RefPostMergeIdeal.τ).loc Cert.RefPostMergeIdeal.main_arg9)
          ∧ r.2.mem ((c.tc : Thread Cert.RefPostMergeIdeal.nD Cert.RefPostMergeIdeal.τ).loc Cert.RefPostMergeIdeal.main_arg10) = m' ((c.tc : Thread Cert.RefPostMergeIdeal.nD Cert.RefPostMergeIdeal.τ).loc Cert.RefPostMergeIdeal.main_arg10))

def Claim : Prop :=
  ∃ (hKernel : Cert.Kernel.Facts) (hKernelIdeal : Cert.KernelIdeal.Facts) (hReferenceIdeal : Cert.ReferenceIdeal.Facts) (hPostFinal : Cert.PostFinal.Facts) (hPostFinalIdeal : Cert.PostFinalIdeal.Facts) (hRefPostFinalIdeal : Cert.RefPostFinalIdeal.Facts) (hPost : Cert.Post.Facts) (hPostIdeal : Cert.PostIdeal.Facts) (hRefPostIdeal : Cert.RefPostIdeal.Facts) (hQkv0 : Cert.Qkv0.Facts) (hQkv0Ideal : Cert.Qkv0Ideal.Facts) (hRefQkv0Ideal : Cert.RefQkv0Ideal.Facts) (hQkv3 : Cert.Qkv3.Facts) (hQkv3Ideal : Cert.Qkv3Ideal.Facts) (hRefQkv3Ideal : Cert.RefQkv3Ideal.Facts) (hPostMerge : Cert.PostMerge.Facts) (hPostMergeIdeal : Cert.PostMergeIdeal.Facts) (hRefPostMergeIdeal : Cert.RefPostMergeIdeal.Facts) (hPre_finite : Cert.Pre_finite.Facts) (hPre_finite_lse : Cert.Pre_finite_lse.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_PostFinal (hPostFinal := hPostFinal)
    ∧ quiescent_PostFinalIdeal (hPostFinalIdeal := hPostFinalIdeal)
    ∧ quiescent_RefPostFinalIdeal (hRefPostFinalIdeal := hRefPostFinalIdeal)
    ∧ quiescent_Post (hPost := hPost)
    ∧ quiescent_PostIdeal (hPostIdeal := hPostIdeal)
    ∧ quiescent_RefPostIdeal (hRefPostIdeal := hRefPostIdeal)
    ∧ quiescent_Qkv0 (hQkv0 := hQkv0)
    ∧ quiescent_Qkv0Ideal (hQkv0Ideal := hQkv0Ideal)
    ∧ quiescent_RefQkv0Ideal (hRefQkv0Ideal := hRefQkv0Ideal)
    ∧ quiescent_Qkv3 (hQkv3 := hQkv3)
    ∧ quiescent_Qkv3Ideal (hQkv3Ideal := hQkv3Ideal)
    ∧ quiescent_RefQkv3Ideal (hRefQkv3Ideal := hRefQkv3Ideal)
    ∧ quiescent_PostMerge (hPostMerge := hPostMerge)
    ∧ quiescent_PostMergeIdeal (hPostMergeIdeal := hPostMergeIdeal)
    ∧ quiescent_PostMergeIdeal_pre_finite_lse (hPostMergeIdeal := hPostMergeIdeal) (hPre_finite_lse := hPre_finite_lse)
    ∧ quiescent_RefPostMergeIdeal (hRefPostMergeIdeal := hRefPostMergeIdeal)
    ∧ quiescent_RefPostMergeIdeal_pre_finite_lse (hRefPostMergeIdeal := hRefPostMergeIdeal) (hPre_finite_lse := hPre_finite_lse)
    ∧ preserves_Kernel_KernelIdeal
    ∧ algebraic_KernelIdeal_ReferenceIdeal_pre_finite (hKernelIdeal := hKernelIdeal) (hReferenceIdeal := hReferenceIdeal) (hPre_finite := hPre_finite)
    ∧ preserves_PostFinal_PostFinalIdeal
    ∧ algebraic_PostFinalIdeal_RefPostFinalIdeal (hPostFinalIdeal := hPostFinalIdeal) (hRefPostFinalIdeal := hRefPostFinalIdeal)
    ∧ preserves_Post_PostIdeal
    ∧ algebraic_PostIdeal_RefPostIdeal (hPostIdeal := hPostIdeal) (hRefPostIdeal := hRefPostIdeal)
    ∧ preserves_Qkv0_Qkv0Ideal
    ∧ algebraic_Qkv0Ideal_RefQkv0Ideal (hQkv0Ideal := hQkv0Ideal) (hRefQkv0Ideal := hRefQkv0Ideal)
    ∧ preserves_Qkv3_Qkv3Ideal
    ∧ algebraic_Qkv3Ideal_RefQkv3Ideal (hQkv3Ideal := hQkv3Ideal) (hRefQkv3Ideal := hRefQkv3Ideal)
    ∧ preserves_PostMerge_PostMergeIdeal
    ∧ algebraic_PostMergeIdeal_RefPostMergeIdeal_pre_finite_lse (hPostMergeIdeal := hPostMergeIdeal) (hRefPostMergeIdeal := hRefPostMergeIdeal) (hPre_finite_lse := hPre_finite_lse)
-- ==== Pre_finite.lean ====
abbrev S8x4096x1280 : Shape := ⟨3, ![8, 4096, 1280]⟩
abbrev S16 : Shape := ⟨1, ![16]⟩
abbrev S_ : Shape := ⟨0, ![]⟩

class Facts : Prop where
  bitsLt_bf16_f32 : FTy.bits .bf16 < FTy.bits .f32
  bcast_S_S8x4096x1280 : S_.BroadcastsInDim S8x4096x1280 (![] : Fin 0 → Fin S8x4096x1280.rank)
  bcast_S_S16 : S_.BroadcastsInDim S16 (![] : Fin 0 → Fin S16.rank)

variable [Facts]

def fn {F : FTy → Type} [FloatOps F] (main_arg0 : FVec F S8x4096x1280 .bf16) (main_arg1 : FVec F S16 .f32) : IVec S8x4096x1280 1 × IVec S16 1 :=
  let main_v0 : FVec F S8x4096x1280 .f32 := (extf .f32 · bitsLt_bf16_f32) main_arg0
  let main_v1 : FVec F S8x4096x1280 .f32 := Host.absf main_v0
  let main_cst : FVec F S_ .f32 := constant S_ .f32 0x7F800000#32
  let main_v2 : FVec F S8x4096x1280 .f32 := broadcastInDim S8x4096x1280 ![] bcast_S_S8x4096x1280 main_cst
  let main_v3 : IVec S8x4096x1280 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== Pre_finite_lse.lean ====
abbrev S32768x1024 : Shape := ⟨2, ![32768, 1024]⟩
abbrev S32768x512 : Shape := ⟨2, ![32768, 512]⟩
abbrev S8192x2048 : Shape := ⟨2, ![8192, 2048]⟩
abbrev S2048x8192 : Shape := ⟨2, ![2048, 8192]⟩
abbrev S512x1024 : Shape := ⟨2, ![512, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S32768x512 : S_.BroadcastsInDim S32768x512 (![] : Fin 0 → Fin S32768x512.rank)
  bcast_S_S8192x2048 : S_.BroadcastsInDim S8192x2048 (![] : Fin 0 → Fin S8192x2048.rank)
  bcast_S_S2048x8192 : S_.BroadcastsInDim S2048x8192 (![] : Fin 0 → Fin S2048x8192.rank)

variable [Facts]

def fn {F : FTy → Type} [FloatOps F] (main_arg0 : FVec F S32768x1024 .f32) (main_arg1 : FVec F S32768x512 .f32) (main_arg2 : FVec F S8192x2048 .f32) (main_arg3 : FVec F S2048x8192 .f32) (main_arg4 : FVec F S32768x512 .f32) (main_arg5 : FVec F S8192x2048 .f32) (main_arg6 : FVec F S2048x8192 .f32) (main_arg7 : FVec F S512x1024 .f32) (main_arg8 : FVec F S1024 .f32) (main_arg9 : FVec F S1024x4096 .f32) (main_arg10 : FVec F S4096x1024 .f32) : IVec S32768x512 1 × IVec S8192x2048 1 × IVec S2048x8192 1 :=
  let main_v0 : FVec F S32768x512 .f32 := Host.absf main_arg4
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S8192x2048 .f32 := Host.absf main_arg5
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S2048x8192 .f32 := Host.absf main_arg6
  let main_cst_1 : FVec F S_ .f32 := constant S_ .f32 0x7F800000#32
  let main_v7 : FVec F S2048x8192 .f32 := broadcastInDim S2048x8192 ![] bcast_S_S2048x8192 main_cst_1
  let main_v8 : IVec S2048x8192 1 := cmpf .olt main_v6 main_v7
  (main_v2, main_v5, main_v8)
-- ==== Kernel.lean ====
abbrev S8x4096x1280 : Shape := ⟨3, ![8, 4096, 1280]⟩
abbrev S16 : Shape := ⟨1, ![16]⟩
abbrev S_ : Shape := ⟨0, ![]⟩
abbrev S8x4096x1024 : Shape := ⟨3, ![8, 4096, 1024]⟩
abbrev S1x1024x1280 : Shape := ⟨3, ![1, 1024, 1280]⟩
abbrev S1x1024x1024 : Shape := ⟨3, ![1, 1024, 1024]⟩
abbrev S128x256x128 : Shape := ⟨3, ![128, 256, 128]⟩
abbrev S1x128x128 : Shape := ⟨3, ![1, 128, 128]⟩
abbrev S16x2x256x128 : Shape := ⟨4, ![16, 2, 256, 128]⟩
abbrev S256x128 : Shape := ⟨2, ![256, 128]⟩
abbrev S1 : Shape := ⟨1, ![1]⟩
abbrev S1x1x256x128 : Shape := ⟨4, ![1, 1, 256, 128]⟩
abbrev S128x128 : Shape := ⟨2, ![128, 128]⟩
abbrev S1x1024x128 : Shape := ⟨3, ![1, 1024, 128]⟩
abbrev S256x64 : Shape := ⟨2, ![256, 64]⟩
abbrev S1x256x128 : Shape := ⟨3, ![1, 256, 128]⟩
abbrev S128 : Shape := ⟨1, ![128]⟩
abbrev S1x128 : Shape := ⟨2, ![1, 128]⟩
abbrev S64x128 : Shape := ⟨2, ![64, 128]⟩

abbrev nBuf : Space → Nat
  | .hbm => 16
  | .vmem => 8
  | .smem => 2
  | _ => 0

abbrev bufTy : (tb : Table) → Fin (tcTables nBuf tb) → BufTy
  | .hbm, ⟨0, _⟩ => ⟨S8x4096x1280, .bf16⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8x4096x1024, .bf16⟩
  | .local _ .vmem, ⟨0, _⟩ => ⟨S1x1024x1280, .bf16⟩
  | .local _ .vmem, ⟨1, _⟩ => ⟨S1x1024x1280, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S128x256x128, .f32⟩
  | .local _ .vmem, ⟨5, _⟩ => ⟨S1x128x128, .bf16⟩
  | .local _ .vmem, ⟨6, _⟩ => ⟨S1x128x128, .bf16⟩
  | .local _ .vmem, ⟨7, _⟩ => ⟨S16x2x256x128, .f32⟩
  | .local _ .smem, ⟨0, _⟩ => ⟨S16, .f32⟩
  | .local _ .smem, ⟨1, _⟩ => ⟨S16, .f32⟩
  | _, _ => ⟨S8x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 4], ![false, false]⟩

def k0_off1 (i : grid0.Coords) : Fin 4 → Nat :=
  let c0_235 : Index := 0#32
  let arg1 : BitVec 32 := BitVec.ofNat 32 (i 1).val
  let c0_i32_234 : BitVec 32 := 0#32
  let v218 : BitVec 1 := Scalar.cmpi .eq arg1 c0_i32_234
  let v219 : BitVec 32 := Scalar.extui v218
  let v220 : Index := Scalar.indexCast v219
  let c0_236 : Index := 0#32
  let c0_237 : Index := 0#32
  ![0, v220.toNat, 0, 0]
def k0_off2 (i : grid0.Coords) : Fin 4 → Nat :=
  let c1_258 : Index := 1#32
  let arg1 : BitVec 32 := BitVec.ofNat 32 (i 1).val
  let c0_i32_257 : BitVec 32 := 0#32
  let v258 : BitVec 1 := Scalar.cmpi .eq arg1 c0_i32_257
  let v259 : BitVec 32 := Scalar.extui v258
  let v260 : Index := Scalar.indexCast v259
  let c0_259 : Index := 0#32
  let c0_260 : Index := 0#32
  ![1, v260.toNat, 0, 0]
def k0_off3 (i : grid0.Coords) : Fin 4 → Nat :=
  let c2_284 : Index := 2#32
  let arg1 : BitVec 32 := BitVec.ofNat 32 (i 1).val
  let c0_i32_283 : BitVec 32 := 0#32
  let v304 : BitVec 1 := Scalar.cmpi .eq arg1 c0_i32_283
  let v305 : BitVec 32 := Scalar.extui v304
  let v306 : Index := Scalar.indexCast v305
  let c0_285 : Index := 0#32
  let c0_286 : Index := 0#32
  ![2, v306.toNat, 0, 0]
def k0_off4 (i : grid0.Coords) : Fin 4 → Nat :=
  let c3_307 : Index := 3#32
  let arg1 : BitVec 32 := BitVec.ofNat 32 (i 1).val
  let c0_i32_306 : BitVec 32 := 0#32
  let v344 : BitVec 1 := Scalar.cmpi .eq arg1 c0_i32_306
  let v345 : BitVec 32 := Scalar.extui v344
  let v346 : Index := Scalar.indexCast v345
  let c0_308 : Index := 0#32
  let c0_309 : Index := 0#32
  ![3, v346.toNat, 0, 0]
def k0_off5 (i : grid0.Coords) : Fin 4 → Nat :=
  let c4_333 : Index := 4#32
  let arg1 : BitVec 32 := BitVec.ofNat 32 (i 1).val
  let c0_i32_332 : BitVec 32 := 0#32
  let v390 : BitVec 1 := Scalar.cmpi .eq arg1 c0_i32_332
  let v391 : BitVec 32 := Scalar.extui v390
  let v392 : Index := Scalar.indexCast v391
  let c0_334 : Index := 0#32
  let c0_335 : Index := 0#32
  ![4, v392.toNat, 0, 0]
def k0_off6 (i : grid0.Coords) : Fin 4 → Nat :=
  let c5_356 : Index := 5#32
  let arg1 : BitVec 32 := BitVec.ofNat 32 (i 1).val
  let c0_i32_355 : BitVec 32 := 0#32
  let v430 : BitVec 1 := Scalar.cmpi .eq arg1 c0_i32_355
  let v431 : BitVec 32 := Scalar.extui v430
  let v432 : Index := Scalar.indexCast v431
  let c0_357 : Index := 0#32
  let c0_358 : Index := 0#32
  ![5, v432.toNat, 0, 0]
def k0_off7 (i : grid0.Coords) : Fin 4 → Nat :=
  let c6_382 : Index := 6#32
  let arg1 : BitVec 32 := BitVec.ofNat 32 (i 1).val
  let c0_i32_381 : BitVec 32 := 0#32
  let v476 : BitVec 1 := Scalar.cmpi .eq arg1 c0_i32_381
  let v477 : BitVec 32 := Scalar.extui v476
  let v478 : Index := Scalar.indexCast v477
  let c0_383 : Index := 0#32
  let c0_384 : Index := 0#32
  ![6, v478.toNat, 0, 0]
def k0_off8 (i : grid0.Coords) : Fin 4 → Nat :=
  let c7_405 : Index := 7#32
  let arg1 : BitVec 32 := BitVec.ofNat 32 (i 1).val
  let c0_i32_404 : BitVec 32 := 0#32
  let v516 : BitVec 1 := Scalar.cmpi .eq arg1 c0_i32_404
  let v517 : BitVec 32 := Scalar.extui v516
  let v518 : Index := Scalar.indexCast v517
  let c0_406 : Index := 0#32
  let c0_407 : Index := 0#32
  ![7, v518.toNat, 0, 0]
def k0_off9 (i : grid0.Coords) : Fin 4 → Nat :=
  let c8_431 : Index := 8#32
  let arg1 : BitVec 32 := BitVec.ofNat 32 (i 1).val
  let c0_i32_430 : BitVec 32 := 0#32
  let v562 : BitVec 1 := Scalar.cmpi .eq arg1 c0_i32_430
  let v563 : BitVec 32 := Scalar.extui v562
  let v564 : Index := Scalar.indexCast v563
  let c0_432 : Index := 0#32
  let c0_433 : Index := 0#32
  ![8, v564.toNat, 0, 0]
def k0_off10 (i : grid0.Coords) : Fin 4 → Nat :=
  let c9_454 : Index := 9#32
  let arg1 : BitVec 32 := BitVec.ofNat 32 (i 1).val
  let c0_i32_453 : BitVec 32 := 0#32
  let v602 : BitVec 1 := Scalar.cmpi .eq arg1 c0_i32_453
  let v603 : BitVec 32 := Scalar.extui v602
  let v604 : Index := Scalar.indexCast v603
  let c0_455 : Index := 0#32
  let c0_456 : Index := 0#32
  ![9, v604.toNat, 0, 0]
def k0_off11 (i : grid0.Coords) : Fin 4 → Nat :=
  let c10_480 : Index := 10#32
  let arg1 : BitVec 32 := BitVec.ofNat 32 (i 1).val
  let c0_i32_479 : BitVec 32 := 0#32
  let v648 : BitVec 1 := Scalar.cmpi .eq arg1 c0_i32_479
  let v649 : BitVec 32 := Scalar.extui v648
  let v650 : Index := Scalar.indexCast v649
  let c0_481 : Index := 0#32
  let c0_482 : Index := 0#32
  ![10, v650.toNat, 0, 0]
def k0_off12 (i : grid0.Coords) : Fin 4 → Nat :=
  let c11_503 : Index := 11#32
  let arg1 : BitVec 32 := BitVec.ofNat 32 (i 1).val
  let c0_i32_502 : BitVec 32 := 0#32
  let v688 : BitVec 1 := Scalar.cmpi .eq arg1 c0_i32_502
  let v689 : BitVec 32 := Scalar.extui v688
  let v690 : Index := Scalar.indexCast v689
  let c0_504 : Index := 0#32
  let c0_505 : Index := 0#32
  ![11, v690.toNat, 0, 0]
def k0_off13 (i : grid0.Coords) : Fin 4 → Nat :=
  let c12_528 : Index := 12#32
  let arg1 : BitVec 32 := BitVec.ofNat 32 (i 1).val
  let c0_i32_527 : BitVec 32 := 0#32
  let v734 : BitVec 1 := Scalar.cmpi .eq arg1 c0_i32_527
  let v735 : BitVec 32 := Scalar.extui v734
  let v736 : Index := Scalar.indexCast v735
  let c0_529 : Index := 0#32
  let c0_530 : Index := 0#32
  ![12, v736.toNat, 0, 0]
def k0_off14 (i : grid0.Coords) : Fin 4 → Nat :=
  let c13_551 : Index := 13#32
  let arg1 : BitVec 32 := BitVec.ofNat 32 (i 1).val
  let c0_i32_550 : BitVec 32 := 0#32
  let v774 : BitVec 1 := Scalar.cmpi .eq arg1 c0_i32_550
  let v775 : BitVec 32 := Scalar.extui v774
  let v776 : Index := Scalar.indexCast v775
  let c0_552 : Index := 0#32
  let c0_553 : Index := 0#32
  ![13, v776.toNat, 0, 0]
def k0_off15 (i : grid0.Coords) : Fin 4 → Nat :=
  let c14_577 : Index := 14#32
  let arg1 : BitVec 32 := BitVec.ofNat 32 (i 1).val
  let c0_i32_576 : BitVec 32 := 0#32
  let v820 : BitVec 1 := Scalar.cmpi .eq arg1 c0_i32_576
  let v821 : BitVec 32 := Scalar.extui v820
  let v822 : Index := Scalar.indexCast v821
  let c0_578 : Index := 0#32
  let c0_579 : Index := 0#32
  ![14, v822.toNat, 0, 0]
def k0_off16 (i : grid0.Coords) : Fin 4 → Nat :=
  let c15_600 : Index := 15#32
  let arg1 : BitVec 32 := BitVec.ofNat 32 (i 1).val
  let c0_i32_599 : BitVec 32 := 0#32
  let v860 : BitVec 1 := Scalar.cmpi .eq arg1 c0_i32_599
  let v861 : BitVec 32 := Scalar.extui v860
  let v862 : Index := Scalar.indexCast v861
  let c0_601 : Index := 0#32
  let c0_602 : Index := 0#32
  ![15, v862.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "bias_mask" => some ⊤
  | "log2_e" => some (((Real.log 2)⁻¹ : ℝ) : EReal)
  | _ => none
-- ==== ReferenceIdeal.lean ====
abbrev S8x4096x1280 : Shape := ⟨3, ![8, 4096, 1280]⟩
abbrev S16 : Shape := ⟨1, ![16]⟩
abbrev S8x4096x1024 : Shape := ⟨3, ![8, 4096, 1024]⟩
abbrev S8x4096x128 : Shape := ⟨3, ![8, 4096, 128]⟩
abbrev S8x32x128x2x8x64 : Shape := ⟨6, ![8, 32, 128, 2, 8, 64]⟩
abbrev S8x2x8x32x128x64 : Shape := ⟨6, ![8, 2, 8, 32, 128, 64]⟩
abbrev S8x32x128x2x64 : Shape := ⟨5, ![8, 32, 128, 2, 64]⟩
abbrev S8x2x32x128x64 : Shape := ⟨5, ![8, 2, 32, 128, 64]⟩
abbrev S8x2x31x128x64 : Shape := ⟨5, ![8, 2, 31, 128, 64]⟩
abbrev S_ : Shape := ⟨0, ![]⟩
abbrev S8x2x32x256x64 : Shape := ⟨5, ![8, 2, 32, 256, 64]⟩
abbrev S8x2x32x256x8x128 : Shape := ⟨6, ![8, 2, 32, 256, 8, 128]⟩
abbrev S8x2x8x32x128x256 : Shape := ⟨6, ![8, 2, 8, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S2x8 : Shape := ⟨2, ![2, 8]⟩
abbrev S2x8x1x1x1 : Shape := ⟨5, ![2, 8, 1, 1, 1]⟩
abbrev S1x1x1x128x256 : Shape := ⟨5, ![1, 1, 1, 128, 256]⟩
abbrev S2x8x1x128x256 : Shape := ⟨5, ![2, 8, 1, 128, 256]⟩
abbrev S1x2x8x1x128x256 : Shape := ⟨6, ![1, 2, 8, 1, 128, 256]⟩
abbrev S8x2x8x32x128x1 : Shape := ⟨6, ![8, 2, 8, 32, 128, 1]⟩
abbrev S8x2x8x32x128x257 : Shape := ⟨6, ![8, 2, 8, 32, 128, 257]⟩
abbrev S8x2x8x32x128 : Shape := ⟨5, ![8, 2, 8, 32, 128]⟩
abbrev S8x2x32x64x8x128 : Shape := ⟨6, ![8, 2, 32, 64, 8, 128]⟩

abbrev nBuf : Space → Nat
  | .hbm => 115
  | .vmem => 0
  | .smem => 0
  | _ => 0

abbrev bufTy : (tb : Table) → Fin (tcTables nBuf tb) → BufTy
  | .hbm, ⟨0, _⟩ => ⟨S8x4096x1280, .bf16⟩
  | .hbm, ⟨1, _⟩ => ⟨S16, .f32⟩
  | .hbm, ⟨2, _⟩ => ⟨S8x4096x1280, .f32⟩
  | .hbm, ⟨3, _⟩ => ⟨S8x4096x1024, .f32⟩
  | .hbm, ⟨4, _⟩ => ⟨S8x4096x128, .f32⟩
  | .hbm, ⟨5, _⟩ => ⟨S8x4096x128, .f32⟩
  | .hbm, ⟨6, _⟩ => ⟨S8x32x128x2x8x64, .f32⟩
  | .hbm, ⟨7, _⟩ => ⟨S8x2x8x32x128x64, .f32⟩
  | .hbm, ⟨8, _⟩ => ⟨S8x32x128x2x64, .f32⟩
  | .hbm, ⟨9, _⟩ => ⟨S8x2x32x128x64, .f32⟩
  | .hbm, ⟨10, _⟩ => ⟨S8x2x31x128x64, .f32⟩
  | .hbm, ⟨11, _⟩ => ⟨S_, .i32⟩
  | .hbm, ⟨12, _⟩ => ⟨S_, .f32⟩
  | .hbm, ⟨13, _⟩ => ⟨S8x2x32x128x64, .f32⟩
  | .hbm, ⟨14, _⟩ => ⟨S8x2x32x256x64, .f32⟩
  | .hbm, ⟨15, _⟩ => ⟨S8x32x128x2x64, .f32⟩
  | .hbm, ⟨16, _⟩ => ⟨S8x2x32x128x64, .f32⟩
  | .hbm, ⟨17, _⟩ => ⟨S8x2x31x128x64, .f32⟩
  | .hbm, ⟨18, _⟩ => ⟨S_, .i32⟩
  | .hbm, ⟨19, _⟩ => ⟨S_, .f32⟩
  | .hbm, ⟨20, _⟩ => ⟨S8x2x32x128x64, .f32⟩
  | .hbm, ⟨21, _⟩ => ⟨S8x2x32x256x64, .f32⟩
  | .hbm, ⟨22, _⟩ => ⟨S8x2x32x256x8x128, .f32⟩
  | .hbm, ⟨23, _⟩ => ⟨S8x2x8x32x128x256, .f32⟩
  | .hbm, ⟨24, _⟩ => ⟨S_, .f32⟩
  | .hbm, ⟨25, _⟩ => ⟨S_, .f32⟩
  | .hbm, ⟨26, _⟩ => ⟨S8x2x8x32x128x256, .f32⟩
  | .hbm, ⟨27, _⟩ => ⟨S8x2x8x32x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S32, .i32⟩
  | .hbm, ⟨39, _⟩ => ⟨S32x1x1, .i32⟩
  | .hbm, ⟨40, _⟩ => ⟨S_, .i32⟩
  | .hbm, ⟨41, _⟩ => ⟨S32x1x1, .i32⟩
  | .hbm, ⟨42, _⟩ => ⟨S32x1x1, .i32⟩
  | .hbm, ⟨43, _⟩ => ⟨S_, .i32⟩
  | .hbm, ⟨44, _⟩ => ⟨S32x1x1, .i32⟩
  | .hbm, ⟨45, _⟩ => ⟨S32x1x1, .i32⟩
  | .hbm, ⟨46, _⟩ => ⟨S1x1x256, .i32⟩
  | .hbm, ⟨47, _⟩ => ⟨S32x1x256, .i32⟩
  | .hbm, ⟨48, _⟩ => ⟨S32x1x256, .i32⟩
  | .hbm, ⟨49, _⟩ => ⟨S32x1x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S128x256, .i1⟩
  | .hbm, ⟨57, _⟩ => ⟨S_, .i32⟩
  | .hbm, ⟨58, _⟩ => ⟨S32x1x256, .i32⟩
  | .hbm, ⟨59, _⟩ => ⟨S32x1x256, .i1⟩
  | .hbm, ⟨60, _⟩ => ⟨S1x128x256, .i1⟩
  | .hbm, ⟨61, _⟩ => ⟨S32x128x256, .i1⟩
  | .hbm, ⟨62, _⟩ => ⟨S32x128x256, .i1⟩
  | .hbm, ⟨63, _⟩ => ⟨S32x128x256, .i1⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S2x8, .f32⟩
  | .hbm, ⟨78, _⟩ => ⟨S2x8x1x1x1, .f32⟩
  | .hbm, ⟨79, _⟩ => ⟨S128x256, .f32⟩
  | .hbm, ⟨80, _⟩ => ⟨S1x1x1x128x256, .f32⟩
  | .hbm, ⟨81, _⟩ => ⟨S2x8x1x128x256, .f32⟩
  | .hbm, ⟨82, _⟩ => ⟨S2x8x1x128x256, .f32⟩
  | .hbm, ⟨83, _⟩ => ⟨S2x8x1x128x256, .f32⟩
  | .hbm, ⟨84, _⟩ => ⟨S1x2x8x1x128x256, .f32⟩
  | .hbm, ⟨85, _⟩ => ⟨S8x2x8x32x128x256, .f32⟩
  | .hbm, ⟨86, _⟩ => ⟨S8x2x8x32x128x256, .f32⟩
  | .hbm, ⟨87, _⟩ => ⟨S_, .f32⟩
  | .hbm, ⟨88, _⟩ => ⟨S_, .f32⟩
  | .hbm, ⟨89, _⟩ => ⟨S8x2x8x32x128x256, .i1⟩
  | .hbm, ⟨90, _⟩ => ⟨S8x2x8x32x128x256, .f32⟩
  | .hbm, ⟨91, _⟩ => ⟨S8x2x8x32x128x256, .f32⟩
  | .hbm, ⟨92, _⟩ => ⟨S2x8x1x1x1, .f32⟩
  | .hbm, ⟨93, _⟩ => ⟨S8x2x8x32x128x1, .f32⟩
  | .hbm, ⟨94, _⟩ => ⟨S8x2x8x32x128x257, .f32⟩
  | .hbm, ⟨95, _⟩ => ⟨S_, .f32⟩
  | .hbm, ⟨96, _⟩ => ⟨S8x2x8x32x128, .f32⟩
  | .hbm, ⟨97, _⟩ => ⟨S_, .f32⟩
  | .hbm, ⟨98, _⟩ => ⟨S8x2x8x32x128, .f32⟩
  | .hbm, ⟨99, _⟩ => ⟨S8x2x8x32x128, .f32⟩
  | .hbm, ⟨100, _⟩ => ⟨S8x2x8x32x128x1, .f32⟩
  | .hbm, ⟨101, _⟩ => ⟨S8x2x8x32x128x257, .f32⟩
  | .hbm, ⟨102, _⟩ => ⟨S8x2x8x32x128x257, .f32⟩
  | .hbm, ⟨103, _⟩ => ⟨S8x2x8x32x128x257, .f32⟩
  | .hbm, ⟨104, _⟩ => ⟨S_, .f32⟩
  | .hbm, ⟨105, _⟩ => ⟨S8x2x8x32x128, .f32⟩
  | .hbm, ⟨106, _⟩ => ⟨S8x2x8x32x128x1, .f32⟩
  | .hbm, ⟨107, _⟩ => ⟨S8x2x8x32x128x257, .f32⟩
  | .hbm, ⟨108, _⟩ => ⟨S8x2x8x32x128x257, .f32⟩
  | .hbm, ⟨109, _⟩ => ⟨S8x2x8x32x128x256, .f32⟩
  | .hbm, ⟨110, _⟩ => ⟨S8x2x32x64x8x128, .f32⟩
  | .hbm, ⟨111, _⟩ => ⟨S8x2x8x32x128x64, .f32⟩
  | .hbm, ⟨112, _⟩ => ⟨S8x32x128x2x8x64, .f32⟩
  | .hbm, ⟨113, _⟩ => ⟨S8x4096x1024, .f32⟩
  | .hbm, ⟨114, _⟩ => ⟨S8x4096x1024, .bf16⟩
  | _, _ => ⟨S8x4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_14 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩

abbrev nD : Nat := 1
abbrev τ : Topo := Topo.v7x

variable {F : FTy → Type} [FloatOps F]
-- ==== PostFinal.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefPostFinalIdeal.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x4096, .f32⟩
  | .hbm, ⟨27, _⟩ => ⟨S_, .f32⟩
  | .hbm, ⟨28, _⟩ => ⟨S32768x4096, .f32⟩
  | .hbm, ⟨29, _⟩ => ⟨S32768x4096, .f32⟩
  | .hbm, ⟨30, _⟩ => ⟨S32768x4096, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Post.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefPostIdeal.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x4096, .f32⟩
  | .hbm, ⟨26, _⟩ => ⟨S_, .f32⟩
  | .hbm, ⟨27, _⟩ => ⟨S32768x4096, .f32⟩
  | .hbm, ⟨28, _⟩ => ⟨S32768x4096, .f32⟩
  | .hbm, ⟨29, _⟩ => ⟨S32768x4096, .f32⟩
  | .hbm, ⟨30, _⟩ => ⟨S32768x1024, .f32⟩
  | .hbm, ⟨31, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Qkv0.lean ====
abbrev S32768x1024 : Shape := ⟨2, ![32768, 1024]⟩
abbrev S1024 : Shape := ⟨1, ![1024]⟩
abbrev S1024x3072 : Shape := ⟨2, ![1024, 3072]⟩
abbrev S1x1024 : Shape := ⟨2, ![1, 1024]⟩
abbrev S32768x3072 : Shape := ⟨2, ![32768, 3072]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S1024x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Qkv0Ideal.lean ====
variable {F : FTy → Type} [FloatOps F] [Named F]
def κ : String → Option EReal := fun
  | "q_scale" => some (((1 / 8) * (Real.log 2)⁻¹ : ℝ) : EReal)
  | _ => none
-- ==== RefQkv0Ideal.lean ====
abbrev S32768x1024 : Shape := ⟨2, ![32768, 1024]⟩
abbrev S1024 : Shape := ⟨1, ![1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩
abbrev S32768x2048 : Shape := ⟨2, ![32768, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3072, .f32⟩
  | .hbm, ⟨20, _⟩ => ⟨S32768x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x2048, .f32⟩
  | .hbm, ⟨28, _⟩ => ⟨S32768x3072, .f32⟩
  | .hbm, ⟨29, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Qkv3.lean ====
abbrev S32768x1024 : Shape := ⟨2, ![32768, 1024]⟩
abbrev S1024 : Shape := ⟨1, ![1024]⟩
abbrev S1024x1280 : Shape := ⟨2, ![1024, 1280]⟩
abbrev S1x1024 : Shape := ⟨2, ![1, 1024]⟩
abbrev S32768x1280 : Shape := ⟨2, ![32768, 1280]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1280, .f32⟩
  | .hbm, ⟨3, _⟩ => ⟨S1024x1280, .bf16⟩
  | .hbm, ⟨4, _⟩ => ⟨S1x1024, .f32⟩
  | .hbm, ⟨5, _⟩ => ⟨S32768x1280, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Qkv3Ideal.lean ====
variable {F : FTy → Type} [FloatOps F] [Named F]
def κ : String → Option EReal := fun
  | "q_scale" => some (((1 / 8) * (Real.log 2)⁻¹ : ℝ) : EReal)
  | _ => none
-- ==== RefQkv3Ideal.lean ====
abbrev S32768x1024 : Shape := ⟨2, ![32768, 1024]⟩
abbrev S1024 : Shape := ⟨1, ![1024]⟩
abbrev S1024x1280 : Shape := ⟨2, ![1024, 1280]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1280 : Shape := ⟨2, ![32768, 1280]⟩
abbrev S32768x256 : Shape := ⟨2, ![32768, 256]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1280, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x1280, .f32⟩
  | .hbm, ⟨20, _⟩ => ⟨S32768x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x256, .f32⟩
  | .hbm, ⟨28, _⟩ => ⟨S32768x1280, .f32⟩
  | .hbm, ⟨29, _⟩ => ⟨S32768x1280, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== PostMerge.lean ====
abbrev S32768x1024 : Shape := ⟨2, ![32768, 1024]⟩
abbrev S32768x512 : Shape := ⟨2, ![32768, 512]⟩
abbrev S8192x2048 : Shape := ⟨2, ![8192, 2048]⟩
abbrev S2048x8192 : Shape := ⟨2, ![2048, 8192]⟩
abbrev S512x1024 : Shape := ⟨2, ![512, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x512 : Shape := ⟨2, ![512, 512]⟩
abbrev S128x2048 : Shape := ⟨2, ![128, 2048]⟩
abbrev S32x8192 : Shape := ⟨2, ![32, 8192]⟩
abbrev S6x4x512x128 : Shape := ⟨4, ![6, 4, 512, 128]⟩
abbrev S128x128 : Shape := ⟨2, ![128, 128]⟩
abbrev S1x1x128x128 : Shape := ⟨4, ![1, 1, 128, 128]⟩
abbrev S1x1x512x128 : Shape := ⟨4, ![1, 1, 512, 128]⟩
abbrev S512x128 : Shape := ⟨2, ![512, 128]⟩
abbrev S32x128 : Shape := ⟨2, ![32, 128]⟩
abbrev S1x1x32x128 : Shape := ⟨4, ![1, 1, 32, 128]⟩
abbrev S512 : Shape := ⟨1, ![512]⟩
abbrev S512x1 : Shape := ⟨2, ![512, 1]⟩
abbrev S1024x512 : Shape := ⟨2, ![1024, 512]⟩

abbrev nBuf : Space → Nat
  | .hbm => 16
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S8192x2048, .f32⟩
  | .hbm, ⟨3, _⟩ => ⟨S2048x8192, .f32⟩
  | .hbm, ⟨4, _⟩ => ⟨S32768x512, .f32⟩
  | .hbm, ⟨5, _⟩ => ⟨S8192x2048, .f32⟩
  | .hbm, ⟨6, _⟩ => ⟨S2048x8192, .f32⟩
  | .hbm, ⟨7, _⟩ => ⟨S512x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S512x1024, .bf16⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S128x2048, .f32⟩
  | .local _ .vmem, ⟨5, _⟩ => ⟨S128x2048, .f32⟩
  | .local _ .vmem, ⟨6, _⟩ => ⟨S32x8192, .f32⟩
  | .local _ .vmem, ⟨7, _⟩ => ⟨S32x8192, .f32⟩
  | .local _ .vmem, ⟨8, _⟩ => ⟨S512x512, .f32⟩
  | .local _ .vmem, ⟨9, _⟩ => ⟨S512x512, .f32⟩
  | .local _ .vmem, ⟨10, _⟩ => ⟨S128x2048, .f32⟩
  | .local _ .vmem, ⟨11, _⟩ => ⟨S128x2048, .f32⟩
  | .local _ .vmem, ⟨12, _⟩ => ⟨S32x8192, .f32⟩
  | .local _ .vmem, ⟨13, _⟩ => ⟨S32x8192, .f32⟩
  | .local _ .vmem, ⟨14, _⟩ => ⟨S512x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S512x1024, .f32⟩
  | .local _ .vmem, ⟨19, _⟩ => ⟨S512x1024, .f32⟩
  | .local _ .vmem, ⟨20, _⟩ => ⟨S6x4x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefPostMergeIdeal.lean ====
abbrev S32768x1024 : Shape := ⟨2, ![32768, 1024]⟩
abbrev S32768x512 : Shape := ⟨2, ![32768, 512]⟩
abbrev S8192x2048 : Shape := ⟨2, ![8192, 2048]⟩
abbrev S2048x8192 : Shape := ⟨2, ![2048, 8192]⟩
abbrev S512x1024 : Shape := ⟨2, ![512, 1024]⟩
abbrev S1024 : Shape := ⟨1, ![1024]⟩
abbrev S1024x4096 : Shape := ⟨2, ![1024, 4096]⟩
abbrev S4096x1024 : Shape := ⟨2, ![4096, 1024]⟩
abbrev S1x32768x512 : Shape := ⟨3, ![1, 32768, 512]⟩
abbrev S3x32768x512 : Shape := ⟨3, ![3, 32768, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S8192x2048, .f32⟩
  | .hbm, ⟨3, _⟩ => ⟨S2048x8192, .f32⟩
  | .hbm, ⟨4, _⟩ => ⟨S32768x512, .f32⟩
  | .hbm, ⟨5, _⟩ => ⟨S8192x2048, .f32⟩
  | .hbm, ⟨6, _⟩ => ⟨S2048x8192, .f32⟩
  | .hbm, ⟨7, _⟩ => ⟨S512x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S32768x512, .f32⟩
  | .hbm, ⟨12, _⟩ => ⟨S32768x512, .f32⟩
  | .hbm, ⟨13, _⟩ => ⟨S1x32768x512, .f32⟩
  | .hbm, ⟨14, _⟩ => ⟨S1x32768x512, .f32⟩
  | .hbm, ⟨15, _⟩ => ⟨S1x32768x512, .f32⟩
  | .hbm, ⟨16, _⟩ => ⟨S3x32768x512, .f32⟩
  | .hbm, ⟨17, _⟩ => ⟨S_, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S1x32768x512, .f32⟩
  | .hbm, ⟨23, _⟩ => ⟨S3x32768x512, .f32⟩
  | .hbm, ⟨24, _⟩ => ⟨S3x32768x512, .f32⟩
  | .hbm, ⟨25, _⟩ => ⟨S3x32768x512, .f32⟩
  | .hbm, ⟨26, _⟩ => ⟨S_, .f32⟩
  | .hbm, ⟨27, _⟩ => ⟨S32768x512, .f32⟩
  | .hbm, ⟨28, _⟩ => ⟨S1x32768x512, .f32⟩
  | .hbm, ⟨29, _⟩ => ⟨S3x32768x512, .f32⟩
  | .hbm, ⟨30, _⟩ => ⟨S3x32768x512, .f32⟩
  | .hbm, ⟨31, _⟩ => ⟨S1x32768x512, .f32⟩
  | .hbm, ⟨32, _⟩ => ⟨S32768x512, .f32⟩
  | .hbm, ⟨33, _⟩ => ⟨S32768x512, .f32⟩
  | .hbm, ⟨34, _⟩ => ⟨S1x32768x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S1x32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S32768x4096, .f32⟩
  | .hbm, ⟨63, _⟩ => ⟨S_, .f32⟩
  | .hbm, ⟨64, _⟩ => ⟨S32768x4096, .f32⟩
  | .hbm, ⟨65, _⟩ => ⟨S32768x4096, .f32⟩
  | .hbm, ⟨66, _⟩ => ⟨S32768x4096, .f32⟩
  | .hbm, ⟨67, _⟩ => ⟨S32768x1024, .f32⟩
  | .hbm, ⟨68, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.SwaTile.lean ====
/- The kernel's attention of one band of queries, as functions of what the band loads: the scores of a key tile, the
   weights under the running maximum and the sink, the pair of heads stored together; and the list of the stores of a
   grid point in terms of them. -/
module

public import proofs.«01_k».proof.Proof.Gen.KernelIdeal.Value

@[expose] public section

set_option maxRecDepth 16384

noncomputable section

namespace Cert.Swa

open Cert.KernelIdeal Cert.KernelIdeal.Gen
open Idealize.ShloMosaic Idealize.ShloMosaic.TcCoe

variable {F : FTy → Type} [FloatOps F] [Named F]

/-- The two key rows' halves: a band's 256 rows of one kv head, that head's 64 lanes twice. -/
def both0 (x : FVec F S256x128 .bf16) : FVec F S256x128 .bf16 :=
  concatenate S256x128 1 [⟨S256x64, extractStridedSlice S256x64 ![0, 0] x slices_S256x128_o0_0_S256x64⟩,
    ⟨S256x64, extractStridedSlice S256x64 ![0, 0] x slices_S256x128_o0_0_S256x64⟩] concatenates_S256x64_S256x64_S256x128_d1

def both1 (x : FVec F S256x128 .bf16) : FVec F S256x128 .bf16 :=
  concatenate S256x128 1 [⟨S256x64, extractStridedSlice S256x64 ![0, 64] x slices_S256x128_o0_64_S256x64⟩,
    ⟨S256x64, extractStridedSlice S256x64 ![0, 64] x slices_S256x128_o0_64_S256x64⟩] concatenates_S256x64_S256x64_S256x128_d1

/-- The lanes of a kv head (0 or 1), twice. -/
def both (kv : Fin 2) (x : FVec F S256x128 .bf16) : FVec F S256x128 .bf16 :=
  match kv with
  | 0 => both0 x
  | 1 => both1 x

/-- The first band's rows: the block before, then the block's first rows. -/
def rows0 (p x : Vec F S1x128x128 .bf16) : FVec F S256x128 .bf16 :=
  concatenate S256x128 0 [⟨S128x128, shapeCast S128x128 p shapeCasts_S1x128x128_S128x128⟩,
    ⟨S128x128, shapeCast S128x128 x shapeCasts_S1x128x128_S128x128⟩] concatenates_S128x128_S128x128_S256x128_d0

/-- A later band's rows. -/
def rowsN (x : Vec F S1x256x128 .bf16) : FVec F S256x128 .bf16 :=
  shapeCast S256x128 x shapeCasts_S1x256x128_S256x128

/-- The queries of an even head: the first 64 lanes of the pair's 128. -/
def half0 (q : Vec F S1x128x128 .bf16) : FVec F S128x128 .bf16 :=
  select (cmpi .slt (iota .tc S128x128 32 [1] iota_S128x128_d1_w32) (broadcast S128x128 64#32))
    (shapeCast S128x128 q shapeCasts_S1x128x128_S128x128) (broadcast S128x128 (Scalar.ofBits (F := F) .bf16 0x0000#16))

/-- The queries of an odd head. -/
def half1 (q : Vec F S1x128x128 .bf16) : FVec F S128x128 .bf16 :=
  select (cmpi .sge (iota .tc S128x128 32 [1] iota_S128x128_d1_w32) (broadcast S128x128 64#32))
    (shapeCast S128x128 q shapeCasts_S1x128x128_S128x128) (broadcast S128x128 (Scalar.ofBits (F := F) .bf16 0x0000#16))

def half (e : Fin 2) (q : Vec F S1x128x128 .bf16) : FVec F S128x128 .bf16 :=
  match e with
  | 0 => half0 q
  | 1 => half1 q

/-- The scores of 256 keys against 128 queries. -/
def scoreT (k : FVec F S256x128 .bf16) (q : FVec F S128x128 .bf16) : FVec F S1x256x128 .f32 :=
  shapeCast S1x256x128 (matmul dot_S256x128_S128x128_S256x128_1_1_0_0_n_n none k q (constant S256x128 .f32 0x00000000#32))
    shapeCasts_S256x128_S1x256x128

/-- The logits: scores less the bias. -/
def logitT (s : Vec F S1x256x128 .f32) (b : Vec F S1x1x256x128 .f32) : FVec F S256x128 .f32 :=
  subf (shapeCast S256x128 s shapeCasts_S1x256x128_S256x128) (shapeCast S256x128 b shapeCasts_S1x1x256x128_S256x128)

/-- The sink's logit. -/
def sinkT (w : Elt F .f32) : F .f32 := Scalar.mulf w (Named.named κ "log2_e" 0x3FB8AA3B#32)

/-- The maximum of a query's logits and its sink. -/
def maxT (x : FVec F S256x128 .f32) (w : Elt F .f32) : FVec F S1x128 .f32 :=
  maximumf (shapeCast S1x128 (multiReduction .maximumf [0] S128 x 0xFF800000#32 reduces_S256x128_S128 (.inl rfl) rfl) shapeCasts_S128_S1x128)
    (broadcast S1x128 (sinkT w))

/-- The weights. -/
def weightT (x : FVec F S256x128 .f32) (w : Elt F .f32) : FVec F S256x128 .f32 :=
  exp2 (subf x (broadcastTo S256x128 (maxT x w) broadcasts_S1x128_S256x128))

/-- Their sum, with the sink's. -/
def denT (x : FVec F S256x128 .f32) (w : Elt F .f32) : FVec F S1x128 .f32 :=
  addf (shapeCast S1x128 (multiReduction .add [0] S128 (weightT x w) 0x00000000#32 reduces_S256x128_S128 (.inl rfl) rfl) shapeCasts_S128_S1x128)
    (exp2 (subf (broadcast S1x128 (sinkT w)) (maxT x w)))

/-- The weighted values, lanes first. -/
def numT (v : FVec F S256x128 .bf16) (x : FVec F S256x128 .f32) (w : Elt F .f32) : FVec F S128x128 .f32 :=
  matmul dot_S256x128_S256x128_S128x128_0_0_1_1_n_n none v (truncf .bf16 (weightT x w) bitsLt_bf16_f32) (constant S128x128 .f32 0x00000000#32)

/-- An even head's result, and an odd one's. -/
def evenT (v : FVec F S256x128 .bf16) (x : FVec F S256x128 .f32) (w : Elt F .f32) : FVec F S64x128 .f32 :=
  divf (extractStridedSlice S64x128 ![0, 0] (numT v x w) slices_S128x128_o0_0_S64x128)
    (broadcastTo S64x128 (denT x w) broadcasts_S1x128_S64x128)

def oddT (v : FVec F S256x128 .bf16) (x : FVec F S256x128 .f32) (w : Elt F .f32) : FVec F S64x128 .f32 :=
  divf (extractStridedSlice S64x128 ![64, 0] (numT v x w) slices_S128x128_o64_0_S64x128)
    (broadcastTo S64x128 (denT x w) broadcasts_S1x128_S64x128)

/-- The pair as it is stored. -/
def pairT (v : FVec F S256x128 .bf16) (x0 : FVec F S256x128 .f32) (w0 : Elt F .f32) (x1 : FVec F S256x128 .f32) (w1 : Elt F .f32) :
    FVec F S1x128x128 .bf16 :=
  shapeCast S1x128x128 (truncf .bf16 (transpose S128x128 [1, 0]
    (concatenate S128x128 0 [⟨S64x128, evenT v x0 w0⟩, ⟨S64x128, oddT v x1 w1⟩] concatenates_S64x128_S64x128_S128x128_d0)
    transposes_S128x128_p1_0_S128x128) bitsLt_bf16_f32) shapeCasts_S128x128_S1x128x128

theorem inbO (b p : Fin 8) : ∀ a, (![0, 128 * b.val, 128 * p.val] : Fin 3 → ℕ) a + S1x128x128.size a ≤ S1x1024x1024.size a := by
  revert b p; decide +kernel

theorem inbS (j : Fin 128) : ∀ a, (![j.val, 0, 0] : Fin 3 → ℕ) a + S1x256x128.size a ≤ S128x256x128.size a := by
  revert j; decide +kernel

theorem inbX (o : Fin 7) : ∀ a, (![0, 128 * o.val, 0] : Fin 3 → ℕ) a + S1x256x128.size a ≤ S1x1024x128.size a := by
  revert o; decide +kernel

theorem inbB (h : Fin 16) : ∀ a, (![h.val, 0, 0, 0] : Fin 4 → ℕ) a + S1x1x256x128.size a ≤ S16x2x256x128.size a := by
  revert h; decide +kernel

theorem inbK (h : Fin 16) : ∀ a, (![h.val] : Fin 1 → ℕ) a + S1.size a ≤ S16.size a := by
  revert h; decide +kernel

/-- The place of chain (band `b`, head `h`) in the scores' scratch. -/
def slot (b : Fin 8) (h : Fin 16) : Fin 128 := ⟨16 * b.val + h.val, by omega⟩
def head (p : Fin 8) (e : Fin 2) : Fin 16 := ⟨2 * p.val + e.val, by omega⟩
def kvOf (p : Fin 8) : Fin 2 := ⟨p.val / 4, by omega⟩

/-- A pair's store. -/
def piece (v : Fin 8 → Fin 2 → FVec F S256x128 .bf16) (s : Fin 128 → Vec F S1x256x128 .f32)
    (bias : Fin 8 → Fin 16 → Vec F S1x1x256x128 .f32) (w : Fin 16 → Elt F .f32) (b p : Fin 8) :
    View.Piece (Elt F) S1x1024x1024 .bf16 :=
  ⟨Rect.unit (s := S1x1024x1024) ![0, 128 * b.val, 128 * p.val] S1x128x128.size (inbO b p),
    pairT (v b (kvOf p)) (logitT (s (slot b (head p 0))) (bias b (head p 0))) (w (head p 0))
      (logitT (s (slot b (head p 1))) (bias b (head p 1))) (w (head p 1))⟩

/-- A grid point's stores, the last first. -/
def pieces (v : Fin 8 → Fin 2 → FVec F S256x128 .bf16) (s : Fin 128 → Vec F S1x256x128 .f32)
    (bias : Fin 8 → Fin 16 → Vec F S1x1x256x128 .f32) (w : Fin 16 → Elt F .f32) : List (View.Piece (Elt F) S1x1024x1024 .bf16) :=
  [piece v s bias w ⟨7, by decide⟩ ⟨7, by decide⟩,
    piece v s bias w ⟨7, by decide⟩ ⟨6, by decide⟩,
    piece v s bias w ⟨7, by decide⟩ ⟨5, by decide⟩,
    piece v s bias w ⟨7, by decide⟩ ⟨4, by decide⟩,
    piece v s bias w ⟨7, by decide⟩ ⟨3, by decide⟩,
    piece v s bias w ⟨7, by decide⟩ ⟨2, by decide⟩,
    piece v s bias w ⟨7, by decide⟩ ⟨1, by decide⟩,
    piece v s bias w ⟨7, by decide⟩ ⟨0, by decide⟩,
    piece v s bias w ⟨6, by decide⟩ ⟨7, by decide⟩,
    piece v s bias w ⟨6, by decide⟩ ⟨6, by decide⟩,
    piece v s bias w ⟨6, by decide⟩ ⟨5, by decide⟩,
    piece v s bias w ⟨6, by decide⟩ ⟨4, by decide⟩,
    piece v s bias w ⟨6, by decide⟩ ⟨3, by decide⟩,
    piece v s bias w ⟨6, by decide⟩ ⟨2, by decide⟩,
    piece v s bias w ⟨6, by decide⟩ ⟨1, by decide⟩,
    piece v s bias w ⟨6, by decide⟩ ⟨0, by decide⟩,
    piece v s bias w ⟨5, by decide⟩ ⟨7, by decide⟩,
    piece v s bias w ⟨5, by decide⟩ ⟨6, by decide⟩,
    piece v s bias w ⟨5, by decide⟩ ⟨5, by decide⟩,
    piece v s bias w ⟨5, by decide⟩ ⟨4, by decide⟩,
    piece v s bias w ⟨5, by decide⟩ ⟨3, by decide⟩,
    piece v s bias w ⟨5, by decide⟩ ⟨2, by decide⟩,
    piece v s bias w ⟨5, by decide⟩ ⟨1, by decide⟩,
    piece v s bias w ⟨5, by decide⟩ ⟨0, by decide⟩,
    piece v s bias w ⟨4, by decide⟩ ⟨7, by decide⟩,
    piece v s bias w ⟨4, by decide⟩ ⟨6, by decide⟩,
    piece v s bias w ⟨4, by decide⟩ ⟨5, by decide⟩,
    piece v s bias w ⟨4, by decide⟩ ⟨4, by decide⟩,
    piece v s bias w ⟨4, by decide⟩ ⟨3, by decide⟩,
    piece v s bias w ⟨4, by decide⟩ ⟨2, by decide⟩,
    piece v s bias w ⟨4, by decide⟩ ⟨1, by decide⟩,
    piece v s bias w ⟨4, by decide⟩ ⟨0, by decide⟩,
    piece v s bias w ⟨3, by decide⟩ ⟨7, by decide⟩,
    piece v s bias w ⟨3, by decide⟩ ⟨6, by decide⟩,
    piece v s bias w ⟨3, by decide⟩ ⟨5, by decide⟩,
    piece v s bias w ⟨3, by decide⟩ ⟨4, by decide⟩,
    piece v s bias w ⟨3, by decide⟩ ⟨3, by decide⟩,
    piece v s bias w ⟨3, by decide⟩ ⟨2, by decide⟩,
    piece v s bias w ⟨3, by decide⟩ ⟨1, by decide⟩,
    piece v s bias w ⟨3, by decide⟩ ⟨0, by decide⟩,
    piece v s bias w ⟨2, by decide⟩ ⟨7, by decide⟩,
    piece v s bias w ⟨2, by decide⟩ ⟨6, by decide⟩,
    piece v s bias w ⟨2, by decide⟩ ⟨5, by decide⟩,
    piece v s bias w ⟨2, by decide⟩ ⟨4, by decide⟩,
    piece v s bias w ⟨2, by decide⟩ ⟨3, by decide⟩,
    piece v s bias w ⟨2, by decide⟩ ⟨2, by decide⟩,
    piece v s bias w ⟨2, by decide⟩ ⟨1, by decide⟩,
    piece v s bias w ⟨2, by decide⟩ ⟨0, by decide⟩,
    piece v s bias w ⟨1, by decide⟩ ⟨7, by decide⟩,
    piece v s bias w ⟨1, by decide⟩ ⟨6, by decide⟩,
    piece v s bias w ⟨1, by decide⟩ ⟨5, by decide⟩,
    piece v s bias w ⟨1, by decide⟩ ⟨4, by decide⟩,
    piece v s bias w ⟨1, by decide⟩ ⟨3, by decide⟩,
    piece v s bias w ⟨1, by decide⟩ ⟨2, by decide⟩,
    piece v s bias w ⟨1, by decide⟩ ⟨1, by decide⟩,
    piece v s bias w ⟨1, by decide⟩ ⟨0, by decide⟩,
    piece v s bias w ⟨0, by decide⟩ ⟨7, by decide⟩,
    piece v s bias w ⟨0, by decide⟩ ⟨6, by decide⟩,
    piece v s bias w ⟨0, by decide⟩ ⟨5, by decide⟩,
    piece v s bias w ⟨0, by decide⟩ ⟨4, by decide⟩,
    piece v s bias w ⟨0, by decide⟩ ⟨3, by decide⟩,
    piece v s bias w ⟨0, by decide⟩ ⟨2, by decide⟩,
    piece v s bias w ⟨0, by decide⟩ ⟨1, by decide⟩,
    piece v s bias w ⟨0, by decide⟩ ⟨0, by decide⟩]

/-- A chain's scores as they are stored, and the scores stored before chain `n`, the last first. -/
def scorePiece (k : Fin 8 → Fin 2 → FVec F S256x128 .bf16) (q : Fin 8 → Fin 8 → Vec F S1x128x128 .bf16) (b p : Fin 8) (e : Fin 2) :
    View.Piece (Elt F) S128x256x128 .f32 :=
  ⟨Rect.unit (s := S128x256x128) ![(slot b (head p e)).val, 0, 0] S1x256x128.size (inbS (slot b (head p e))),
    scoreT (k b (kvOf p)) (half e (q b p))⟩

/-- The scratch's stores, as far as place `n`. -/
def scores (k : Fin 8 → Fin 2 → FVec F S256x128 .bf16) (q : Fin 8 → Fin 8 → Vec F S1x128x128 .bf16) :
    ℕ → List (View.Piece (Elt F) S128x256x128 .f32)
  | 0 => []
  | n + 1 => if h : n < 128 then
      scorePiece k q ⟨n / 16, by omega⟩ ⟨n % 16 / 2, by omega⟩ ⟨n % 2, by omega⟩ :: scores k q n
    else scores k q n

/-- What a band loads of the point's block: the queries of a pair, the keys or values of the rows. -/
def qLd (arg4 : Memref sig .tc .vmem S1x1024x1280 .bf16) (harg4 : arg4.IsWhole) (x2 : Vec F S1x1024x1280 .bf16) (b p : Fin 8) :
    Vec F S1x128x128 .bf16 :=
  View.readAt (Elt F) arg4.view ((Rect.unit (s := S1x1024x1280) ![0, 0, 0] S1x1024x1024.size inb_S1x1024x1280_S1x1024x1024_0_0_0).withinL
    (Rect.unit (s := S1x1024x1024) ![0, 128 * b.val, 128 * p.val] S1x128x128.size (inbO b p)).toLoadRect (fun _ => rfl)) (harg4.unread x2)

def kLd (arg4 : Memref sig .tc .vmem S1x1024x1280 .bf16) (harg4 : arg4.IsWhole) (x2 : Vec F S1x1024x1280 .bf16) (o : Fin 7) :
    Vec F S1x256x128 .bf16 :=
  View.readAt (Elt F) arg4.view ((Rect.unit (s := S1x1024x1280) ![0, 0, 1024] S1x1024x128.size inb_S1x1024x1280_S1x1024x128_0_0_1024).withinL
    (Rect.unit (s := S1x1024x128) ![0, 128 * o.val, 0] S1x256x128.size (inbX o)).toLoadRect (fun _ => rfl)) (harg4.unread x2)

def vLd (arg4 : Memref sig .tc .vmem S1x1024x1280 .bf16) (harg4 : arg4.IsWhole) (x2 : Vec F S1x1024x1280 .bf16) (o : Fin 7) :
    Vec F S1x256x128 .bf16 :=
  View.readAt (Elt F) arg4.view ((Rect.unit (s := S1x1024x1280) ![0, 0, 1152] S1x1024x128.size inb_S1x1024x1280_S1x1024x128_0_0_1152).withinL
    (Rect.unit (s := S1x1024x128) ![0, 128 * o.val, 0] S1x256x128.size (inbX o)).toLoadRect (fun _ => rfl)) (harg4.unread x2)

def kLd0 (arg4 : Memref sig .tc .vmem S1x1024x1280 .bf16) (harg4 : arg4.IsWhole) (x2 : Vec F S1x1024x1280 .bf16) :
    Vec F S1x128x128 .bf16 :=
  View.readAt (Elt F) arg4.view ((Rect.unit (s := S1x1024x1280) ![0, 0, 1024] S1x1024x128.size inb_S1x1024x1280_S1x1024x128_0_0_1024).withinL
    (Rect.unit (s := S1x1024x128) ![0, 0, 0] S1x128x128.size inb_S1x1024x128_S1x128x128_0_0_0).toLoadRect (fun _ => rfl)) (harg4.unread x2)

def vLd0 (arg4 : Memref sig .tc .vmem S1x1024x1280 .bf16) (harg4 : arg4.IsWhole) (x2 : Vec F S1x1024x1280 .bf16) :
    Vec F S1x128x128 .bf16 :=
  View.readAt (Elt F) arg4.view ((Rect.unit (s := S1x1024x1280) ![0, 0, 1152] S1x1024x128.size inb_S1x1024x1280_S1x1024x128_0_0_1152).withinL
    (Rect.unit (s := S1x1024x128) ![0, 0, 0] S1x128x128.size inb_S1x1024x128_S1x128x128_0_0_0).toLoadRect (fun _ => rfl)) (harg4.unread x2)

/-- The tiles of every band: the first takes the block before. -/
def tiles (p x : Vec F S1x128x128 .bf16) (y : Fin 7 → Vec F S1x256x128 .bf16) (b : Fin 8) (kv : Fin 2) : FVec F S256x128 .bf16 :=
  match b with
  | ⟨0, _⟩ => both kv (rows0 p x)
  | ⟨o + 1, h⟩ => both kv (rowsN (y ⟨o, by omega⟩))

/-- The biases of every band: the first takes the variant that hides the block before. -/
def biases (y0 : Fin 16 → Vec F S1x1x256x128 .f32) (y : Fin 16 → Vec F S1x1x256x128 .f32) (b : Fin 8) (h : Fin 16) :
    Vec F S1x1x256x128 .f32 :=
  match b with
  | ⟨0, _⟩ => y0 h
  | ⟨_ + 1, _⟩ => y h

def sinkLd (arg3 : Memref sig .tc .smem S16 .f32) (harg3 : arg3.IsWhole) (x1 : Vec F S16 .f32) (h : Fin 16) : Elt F .f32 :=
  View.readAt (Elt F) arg3.view (Rect.unit (s := S16) ![h.val] S1.size (inbK h)).toLoadRect (harg3.unread x1) (Shape.Idx.first (show 0 < S1.numel by decide))

def prevLd (arg : Memref sig .tc .vmem S1x128x128 .bf16) (harg : arg.IsWhole) (xs : Vec F S1x128x128 .bf16) : Vec F S1x128x128 .bf16 :=
  View.readAt (Elt F) arg.view (Rect.unit (s := S1x128x128) ![0, 0, 0] S1x128x128.size inb_S1x128x128_S1x128x128_0_0_0).toLoadRect (harg.unread xs)

def biasLd (arg9 : Memref sig .tc .vmem S16x2x256x128 .f32) (f : arg9.view.ty.Contents (Elt F)) (h : Fin 16) : Vec F S1x1x256x128 .f32 :=
  View.readAt (Elt F) arg9.view (Rect.unit (s := S16x2x256x128) ![h.val, 0, 0, 0] S1x1x256x128.size (inbB h)).toLoadRect f

def biasLd0 (i : grid0.Coords) (arg9 : Memref sig .tc .vmem S16x2x256x128 .f32) (f : arg9.view.ty.Contents (Elt F)) (h : Fin 16) : Vec F S1x1x256x128 .f32 :=
  (![View.readAt (Elt F) arg9.view (Rect.unit (s := S16x2x256x128) (k0_off1 i) S1x1x256x128.size (k0_off1_inb i)).toLoadRect f,
    View.readAt (Elt F) arg9.view (Rect.unit (s := S16x2x256x128) (k0_off2 i) S1x1x256x128.size (k0_off2_inb i)).toLoadRect f,
    View.readAt (Elt F) arg9.view (Rect.unit (s := S16x2x256x128) (k0_off3 i) S1x1x256x128.size (k0_off3_inb i)).toLoadRect f,
    View.readAt (Elt F) arg9.view (Rect.unit (s := S16x2x256x128) (k0_off4 i) S1x1x256x128.size (k0_off4_inb i)).toLoadRect f,
    View.readAt (Elt F) arg9.view (Rect.unit (s := S16x2x256x128) (k0_off5 i) S1x1x256x128.size (k0_off5_inb i)).toLoadRect f,
    View.readAt (Elt F) arg9.view (Rect.unit (s := S16x2x256x128) (k0_off6 i) S1x1x256x128.size (k0_off6_inb i)).toLoadRect f,
    View.readAt (Elt F) arg9.view (Rect.unit (s := S16x2x256x128) (k0_off7 i) S1x1x256x128.size (k0_off7_inb i)).toLoadRect f,
    View.readAt (Elt F) arg9.view (Rect.unit (s := S16x2x256x128) (k0_off8 i) S1x1x256x128.size (k0_off8_inb i)).toLoadRect f,
    View.readAt (Elt F) arg9.view (Rect.unit (s := S16x2x256x128) (k0_off9 i) S1x1x256x128.size (k0_off9_inb i)).toLoadRect f,
    View.readAt (Elt F) arg9.view (Rect.unit (s := S16x2x256x128) (k0_off10 i) S1x1x256x128.size (k0_off10_inb i)).toLoadRect f,
    View.readAt (Elt F) arg9.view (Rect.unit (s := S16x2x256x128) (k0_off11 i) S1x1x256x128.size (k0_off11_inb i)).toLoadRect f,
    View.readAt (Elt F) arg9.view (Rect.unit (s := S16x2x256x128) (k0_off12 i) S1x1x256x128.size (k0_off12_inb i)).toLoadRect f,
    View.readAt (Elt F) arg9.view (Rect.unit (s := S16x2x256x128) (k0_off13 i) S1x1x256x128.size (k0_off13_inb i)).toLoadRect f,
    View.readAt (Elt F) arg9.view (Rect.unit (s := S16x2x256x128) (k0_off14 i) S1x1x256x128.size (k0_off14_inb i)).toLoadRect f,
    View.readAt (Elt F) arg9.view (Rect.unit (s := S16x2x256x128) (k0_off15 i) S1x1x256x128.size (k0_off15_inb i)).toLoadRect f,
    View.readAt (Elt F) arg9.view (Rect.unit (s := S16x2x256x128) (k0_off16 i) S1x1x256x128.size (k0_off16_inb i)).toLoadRect f] : Fin 16 → Vec F S1x1x256x128 .f32) h

/-- A band's bias read back from the stores of the same grid point. -/
def biasCov (arg9 : Memref sig .tc .vmem S16x2x256x128 .f32) (L : List (View.Piece (Elt F) S16x2x256x128 .f32)) (h : Fin 16) :
    Vec F S1x1x256x128 .f32 :=
  arg9.view.readCov L (Rect.unit (s := S16x2x256x128) ![h.val, 0, 0, 0] S1x1x256x128.size (inbB h)).toLoadRect

/-- The block before, where a sequence begins: the zeros just stored. -/
def zeroK (arg7 : Memref sig .tc .vmem S1x128x128 .bf16) : Vec F S1x128x128 .bf16 :=
  arg7.view.readCov [⟨Rect.unit (s := S1x128x128) ![0, 0, 0] S1x128x128.size inb_S1x128x128_S1x128x128_0_0_0, k0_pay59⟩]
    (Rect.unit (s := S1x128x128) ![0, 0, 0] S1x128x128.size inb_S1x128x128_S1x128x128_0_0_0).toLoadRect

def zeroV (arg8 : Memref sig .tc .vmem S1x128x128 .bf16) : Vec F S1x128x128 .bf16 :=
  arg8.view.readCov [⟨Rect.unit (s := S1x128x128) ![0, 0, 0] S1x128x128.size inb_S1x128x128_S1x128x128_0_0_0, k0_pay60⟩]
    (Rect.unit (s := S1x128x128) ![0, 0, 0] S1x128x128.size inb_S1x128x128_S1x128x128_0_0_0).toLoadRect

/-- A bias store of case A: the slopes' products inside the window, the mask outside. -/
def biasV (first : Bool) (w : Elt F .f32) : FVec F S1x1x256x128 .f32 :=
  shapeCast S1x1x256x128 (select (if first then andi k0_pay4 (cmpi .sge (iota .tc S256x128 32 [0] iota_S256x128_d0_w32) (broadcast S256x128 128#32)) else k0_pay4)
    (mulf (broadcast S256x128 (Scalar.mulf w (Named.named κ "log2_e" 0x3FB8AA3B#32))) (sitofp .f32 k0_pay3))
    (broadcast S256x128 (Named.named κ "bias_mask" 0x7149F2CA#32))) shapeCasts_S256x128_S1x1x256x128

theorem inbT (h : Fin 16) (n : Fin 2) : ∀ a, (![h.val, n.val, 0, 0] : Fin 4 → ℕ) a + S1x1x256x128.size a ≤ S16x2x256x128.size a := by
  revert h n; decide +kernel

def biasPiece (w : Fin 16 → Elt F .f32) (h : Fin 16) (n : Fin 2) : View.Piece (Elt F) S16x2x256x128 .f32 :=
  ⟨Rect.unit (s := S16x2x256x128) ![h.val, n.val, 0, 0] S1x1x256x128.size (inbT h n), biasV (n.val == 1) (w h)⟩

def slopeLd (arg2 : Memref sig .tc .smem S16 .f32) (harg2 : arg2.IsWhole) (x0 : Vec F S16 .f32) (h : Fin 16) : Elt F .f32 :=
  View.readAt (Elt F) arg2.view (Rect.unit (s := S16) ![h.val] S1.size (inbK h)).toLoadRect (harg2.unread x0) (Shape.Idx.first (show 0 < S1.numel by decide))

/-- The bias table's stores, the last first. -/
def biasPieces (w : Fin 16 → Elt F .f32) : List (View.Piece (Elt F) S16x2x256x128 .f32) :=
  [biasPiece w ⟨15, by decide⟩ ⟨1, by decide⟩,
    biasPiece w ⟨15, by decide⟩ ⟨0, by decide⟩,
    biasPiece w ⟨14, by decide⟩ ⟨1, by decide⟩,
    biasPiece w ⟨14, by decide⟩ ⟨0, by decide⟩,
    biasPiece w ⟨13, by decide⟩ ⟨1, by decide⟩,
    biasPiece w ⟨13, by decide⟩ ⟨0, by decide⟩,
    biasPiece w ⟨12, by decide⟩ ⟨1, by decide⟩,
    biasPiece w ⟨12, by decide⟩ ⟨0, by decide⟩,
    biasPiece w ⟨11, by decide⟩ ⟨1, by decide⟩,
    biasPiece w ⟨11, by decide⟩ ⟨0, by decide⟩,
    biasPiece w ⟨10, by decide⟩ ⟨1, by decide⟩,
    biasPiece w ⟨10, by decide⟩ ⟨0, by decide⟩,
    biasPiece w ⟨9, by decide⟩ ⟨1, by decide⟩,
    biasPiece w ⟨9, by decide⟩ ⟨0, by decide⟩,
    biasPiece w ⟨8, by decide⟩ ⟨1, by decide⟩,
    biasPiece w ⟨8, by decide⟩ ⟨0, by decide⟩,
    biasPiece w ⟨7, by decide⟩ ⟨1, by decide⟩,
    biasPiece w ⟨7, by decide⟩ ⟨0, by decide⟩,
    biasPiece w ⟨6, by decide⟩ ⟨1, by decide⟩,
    biasPiece w ⟨6, by decide⟩ ⟨0, by decide⟩,
    biasPiece w ⟨5, by decide⟩ ⟨1, by decide⟩,
    biasPiece w ⟨5, by decide⟩ ⟨0, by decide⟩,
    biasPiece w ⟨4, by decide⟩ ⟨1, by decide⟩,
    biasPiece w ⟨4, by decide⟩ ⟨0, by decide⟩,
    biasPiece w ⟨3, by decide⟩ ⟨1, by decide⟩,
    biasPiece w ⟨3, by decide⟩ ⟨0, by decide⟩,
    biasPiece w ⟨2, by decide⟩ ⟨1, by decide⟩,
    biasPiece w ⟨2, by decide⟩ ⟨0, by decide⟩,
    biasPiece w ⟨1, by decide⟩ ⟨1, by decide⟩,
    biasPiece w ⟨1, by decide⟩ ⟨0, by decide⟩,
    biasPiece w ⟨0, by decide⟩ ⟨1, by decide⟩,
    biasPiece w ⟨0, by decide⟩ ⟨0, by decide⟩]

/-- What a grid point keeps of its block for the next: the last 128 rows of the keys and of the values. -/
def keepK (arg4 : Memref sig .tc .vmem S1x1024x1280 .bf16) (harg4 : arg4.IsWhole) (x2 : Vec F S1x1024x1280 .bf16) : View.Piece (Elt F) S1x128x128 .bf16 :=
  ⟨Rect.unit (s := S1x128x128) ![0, 0, 0] S1x128x128.size inb_S1x128x128_S1x128x128_0_0_0,
    shapeCast S1x128x128 (shapeCast S128x128 (View.readAt (Elt F) arg4.view ((Rect.unit (s := S1x1024x1280) ![0, 0, 1024] S1x1024x128.size inb_S1x1024x1280_S1x1024x128_0_0_1024).withinL
      (Rect.unit (s := S1x1024x128) ![0, 896, 0] S1x128x128.size inb_S1x1024x128_S1x128x128_0_896_0).toLoadRect (fun _ => rfl)) (harg4.unread x2)) shapeCasts_S1x128x128_S128x128) shapeCasts_S128x128_S1x128x128⟩

def keepV (arg4 : Memref sig .tc .vmem S1x1024x1280 .bf16) (harg4 : arg4.IsWhole) (x2 : Vec F S1x1024x1280 .bf16) : View.Piece (Elt F) S1x128x128 .bf16 :=
  ⟨Rect.unit (s := S1x128x128) ![0, 0, 0] S1x128x128.size inb_S1x128x128_S1x128x128_0_0_0,
    shapeCast S1x128x128 (shapeCast S128x128 (View.readAt (Elt F) arg4.view ((Rect.unit (s := S1x1024x1280) ![0, 0, 1152] S1x1024x128.size inb_S1x1024x1280_S1x1024x128_0_0_1152).withinL
      (Rect.unit (s := S1x1024x128) ![0, 896, 0] S1x128x128.size inb_S1x1024x128_S1x128x128_0_896_0).toLoadRect (fun _ => rfl)) (harg4.unread x2)) shapeCasts_S1x128x128_S128x128) shapeCasts_S128x128_S1x128x128⟩

end Cert.Swa

end
-- ==== Proof.SwaRead.lean ====
/- The kernel's attention of one band read entry by entry: the scores as sums over a head's 64 lanes, the weights, the
   stored pair; what the loads and the stores of a grid point hold. -/
module

public import proofs.«01_k».proof.Proof.SwaTile
public import Idealize.ShloMosaic.Lib.Pointwise

@[expose] public section

noncomputable section

namespace Cert.Swa

open Cert.KernelIdeal Cert.KernelIdeal.Gen
open Idealize.ShloMosaic Idealize.ShloMosaic.TcCoe

/-- The factor from natural to binary logits. -/
abbrev cE : Ideal .f32 := Named.named (F := Ideal) (φ := .f32) κ "log2_e" 0x3FB8AA3B#32

/-- A query's largest logit, the sink's among them. -/
def top (x : Fin 256 → EReal) (w : EReal) : EReal := max (Finset.fold max (Ideal.ofBits FTy.f32 0xFF800000#32) x Finset.univ) w

/-- A query's attention in powers of two: logits `x`, the sink's logit `w`, one lane of the values. -/
def att (x : Fin 256 → EReal) (w : EReal) (v : Fin 256 → EReal) : EReal :=
  Ideal.div (∑ a, v a * FloatOps.exp2 (F := Ideal) (φ := .f32) (x a - top x w))
    (∑ a, FloatOps.exp2 (F := Ideal) (φ := .f32) (x a - top x w) + FloatOps.exp2 (F := Ideal) (φ := .f32) (w - top x w))

variable (v : FVec Ideal S256x128 .bf16) (x x0 x1 : FVec Ideal S256x128 .f32) (w w0 w1 : Elt Ideal .f32)

theorem maxT_apply (r : Fin 128) : maxT x w (ix2 0 r) = top (fun a => x (ix2 a r)) (w * cE) := by
  pointwise [maxT, sinkT, top]

theorem weightT_apply (a : Fin 256) (r : Fin 128) :
    weightT x w (ix2 a r) = FloatOps.exp2 (F := Ideal) (φ := .f32) (x (ix2 a r) - top (fun a => x (ix2 a r)) (w * cE)) := by
  rw [← maxT_apply]
  unfold weightT
  generalize maxT x w = p
  pointwise

theorem denT_apply (r : Fin 128) :
    denT x w (ix2 0 r) = ∑ a, FloatOps.exp2 (F := Ideal) (φ := .f32) (x (ix2 a r) - top (fun a => x (ix2 a r)) (w * cE))
      + FloatOps.exp2 (F := Ideal) (φ := .f32) (w * cE - top (fun a => x (ix2 a r)) (w * cE)) := by
  rw [Finset.sum_congr rfl fun a _ => (weightT_apply x w a r).symm, ← maxT_apply]
  unfold denT
  generalize weightT x w = p
  generalize maxT x w = p'
  pointwise [sinkT]

theorem numT_apply (l r : Fin 128) :
    numT v x w (ix2 l r) = ∑ a, v (ix2 a l) * FloatOps.exp2 (F := Ideal) (φ := .f32) (x (ix2 a r) - top (fun a => x (ix2 a r)) (w * cE)) := by
  rw [Finset.sum_congr rfl fun a _ => congrArg (v (ix2 a l) * ·) (weightT_apply x w a r).symm]
  unfold numT
  generalize weightT x w = p
  pointwise

theorem evenT_apply (l : Fin 64) (r : Fin 128) :
    evenT v x w (ix2 l r) = att (fun a => x (ix2 a r)) (w * cE) (fun a => v (ix2 a ⟨l.val, by omega⟩)) := by
  unfold att
  rw [← denT_apply, ← numT_apply]
  unfold evenT
  generalize numT v x w = p
  generalize denT x w = p'
  pointwise

theorem oddT_apply (l : Fin 64) (r : Fin 128) :
    oddT v x w (ix2 l r) = att (fun a => x (ix2 a r)) (w * cE) (fun a => v (ix2 a ⟨64 + l.val, by omega⟩)) := by
  unfold att
  rw [← denT_apply, ← numT_apply]
  unfold oddT
  generalize numT v x w = p
  generalize denT x w = p'
  pointwise

/-- A pair's entry: its head by the lane. -/
theorem pairT_apply (r l : Fin 128) :
    pairT v x0 w0 x1 w1 (ix3 0 r l) = if l.val < 64 then att (fun a => x0 (ix2 a r)) (w0 * cE) (fun a => v (ix2 a l))
      else att (fun a => x1 (ix2 a r)) (w1 * cE) (fun a => v (ix2 a l)) := by
  have e0 := evenT_apply v x0 w0
  have e1 := oddT_apply v x1 w1
  unfold pairT
  generalize evenT v x0 w0 = p at e0
  generalize oddT v x1 w1 = p' at e1
  have h : shapeCast S1x128x128 (truncf .bf16 (transpose S128x128 [1, 0]
      (concatenate S128x128 0 [⟨S64x128, p⟩, ⟨S64x128, p'⟩] concatenates_S64x128_S64x128_S128x128_d0)
      transposes_S128x128_p1_0_S128x128) bitsLt_bf16_f32) shapeCasts_S128x128_S1x128x128 (ix3 0 r l)
      = if h : l.val < 64 then p (ix2 ⟨l.val, h⟩ r) else p' (ix2 ⟨l.val - 64, by omega⟩ r) := by
    pointwise
  rw [h]
  by_cases hl : l.val < 64
  · rw [dif_pos hl, if_pos hl, e0]
  · rw [dif_neg hl, if_neg hl, e1]
    congr 1; funext a; congr 2; apply Fin.ext; show 64 + (l.val - 64) = l.val; omega

theorem logitT_apply (s : Vec Ideal S1x256x128 .f32) (b : Vec Ideal S1x1x256x128 .f32) (a : Fin 256) (r : Fin 128) :
    logitT s b (ix2 a r) = s (ix3 0 a r) - b (ix4 0 0 a r) := by
  pointwise [logitT]

/-- Lane `l` of a head's 64, among the 128 of kv head `kv`. -/
def lane (e : Fin 2) (d : Fin 64) : Fin 128 := ⟨64 * e.val + d.val, by omega⟩

theorem both_apply (kv : Fin 2) (t : FVec Ideal S256x128 .bf16) (a : Fin 256) (x : Fin 128) :
    both kv t (ix2 a x) = t (ix2 a (lane kv ⟨x.val % 64, by omega⟩)) := by
  have h0 : both0 t (ix2 a x) = if h : x.val < 64 then t (ix2 a ⟨x.val, by omega⟩) else t (ix2 a ⟨x.val - 64, by omega⟩) := by
    pointwise [both0]
  have h1 : both1 t (ix2 a x) = if h : x.val < 64 then t (ix2 a ⟨64 + x.val, by omega⟩) else t (ix2 a ⟨64 + (x.val - 64), by omega⟩) := by
    pointwise [both1]
  match kv with
  | 0 =>
    show both0 t (ix2 a x) = _
    rw [h0]; split
    · congr 2; apply Fin.ext; show x.val = 64 * 0 + x.val % 64; omega
    · congr 2; apply Fin.ext; show x.val - 64 = 64 * 0 + x.val % 64; omega
  | 1 =>
    show both1 t (ix2 a x) = _
    rw [h1]; split
    · congr 2; apply Fin.ext; show 64 + x.val = 64 * 1 + x.val % 64; omega
    · congr 2; apply Fin.ext; show 64 + (x.val - 64) = 64 * 1 + x.val % 64; omega

theorem slt64 : ∀ x : Fin 128, IntOp.cmpi CmpIPredicate.slt (BitVec.ofNat 32 x.val) 64#32 = if x.val < 64 then 1#1 else 0#1 := by decide +kernel
theorem sge64 : ∀ x : Fin 128, IntOp.cmpi CmpIPredicate.sge (BitVec.ofNat 32 x.val) 64#32 = if x.val < 64 then 0#1 else 1#1 := by decide +kernel

theorem half_apply (e : Fin 2) (q : Vec Ideal S1x128x128 .bf16) (r x : Fin 128) :
    half e q (ix2 r x) = if x.val / 64 = e.val then q (ix3 0 r x) else 0 := by
  have h0 : half0 q (ix2 r x) = Scalar.select (IntOp.cmpi CmpIPredicate.slt (BitVec.ofNat 32 x.val) 64#32) (q (ix3 0 r x)) 0 := by
    pointwise [half0]
  have h1 : half1 q (ix2 r x) = Scalar.select (IntOp.cmpi CmpIPredicate.sge (BitVec.ofNat 32 x.val) 64#32) (q (ix3 0 r x)) 0 := by
    pointwise [half1]
  match e with
  | 0 =>
    show half0 q (ix2 r x) = if x.val / 64 = 0 then _ else _
    rw [h0, slt64]
    by_cases h : x.val < 64
    · rw [if_pos h, if_pos (by omega)]; rfl
    · rw [if_neg h, if_neg (by omega)]; rfl
  | 1 =>
    show half1 q (ix2 r x) = if x.val / 64 = 1 then _ else _
    rw [h1, sge64]
    by_cases h : x.val < 64
    · rw [if_pos h, if_neg (by omega)]; rfl
    · rw [if_neg h, if_pos (by omega)]; rfl

/-- A sum over 128 lanes of which the other half is zero. -/
theorem sum_half (f : Fin 128 → EReal) (e : Fin 2) (h : ∀ x : Fin 128, x.val / 64 ≠ e.val → f x = 0) :
    ∑ x, f x = ∑ d : Fin 64, f (lane e d) := by
  have hs : ∑ x, f x = ∑ d : Fin 64, f (lane 0 d) + ∑ d : Fin 64, f (lane 1 d) := by
    rw [← Fin.sum_congr' f (show 64 + 64 = 128 by norm_num), Fin.sum_univ_add]
    refine congrArg₂ (· + ·) (Finset.sum_congr rfl fun d _ => congrArg f (Fin.ext ?_)) (Finset.sum_congr rfl fun d _ => congrArg f (Fin.ext ?_))
    · show d.val = 64 * 0 + d.val; omega
    · show 64 + d.val = 64 * 1 + d.val; omega
  rw [hs]
  match e with
  | 0 =>
    rw [Finset.sum_eq_zero (s := Finset.univ) (f := fun d : Fin 64 => f (lane 1 d)), add_zero]
    intro d _; apply h; show (64 * 1 + d.val) / 64 ≠ 0; omega
  | 1 =>
    rw [Finset.sum_eq_zero (s := Finset.univ) (f := fun d : Fin 64 => f (lane 0 d)), zero_add]
    intro d _; apply h; show (64 * 0 + d.val) / 64 ≠ 1; omega

/-- A key's score against a query: the sum over the head's 64 lanes. -/
theorem scoreT_apply (kv e : Fin 2) (t : FVec Ideal S256x128 .bf16) (q : Vec Ideal S1x128x128 .bf16) (a : Fin 256) (r : Fin 128) :
    scoreT (both kv t) (half e q) (ix3 0 a r) = ∑ d : Fin 64, t (ix2 a (lane kv d)) * q (ix3 0 r (lane e d)) := by
  have h : ∀ (k : FVec Ideal S256x128 .bf16) (q : FVec Ideal S128x128 .bf16),
      scoreT k q (ix3 0 a r) = ∑ x, k (ix2 a x) * q (ix2 r x) := by
    intro k q; pointwise [scoreT]
  rw [h, sum_half _ e]
  · refine Finset.sum_congr rfl fun d _ => ?_
    rw [both_apply, half_apply, if_pos (by show (64 * e.val + d.val) / 64 = e.val; omega)]
    congr 3; apply Fin.ext; show 64 * kv.val + (64 * e.val + d.val) % 64 = 64 * kv.val + d.val; omega
  · intro x hx
    rw [half_apply, if_neg hx, mul_zero]

theorem rows0_apply (p x : Vec Ideal S1x128x128 .bf16) (a : Fin 256) (l : Fin 128) :
    rows0 p x (ix2 a l) = if h : a.val < 128 then p (ix3 0 ⟨a.val, h⟩ l) else x (ix3 0 ⟨a.val - 128, by omega⟩ l) := by
  pointwise [rows0]

theorem rowsN_apply (x : Vec Ideal S1x256x128 .bf16) (a : Fin 256) (l : Fin 128) : rowsN x (ix2 a l) = x (ix3 0 a l) := by
  pointwise [rowsN]

/-! ## The scores read back -/

section Any
variable {F : FTy → Type} [FloatOps F] [Named F]

/-- The scores of place `j`, wherever later places were stored. -/
theorem scores_read (arg6 : Memref sig .tc .vmem S128x256x128 .f32) (k : Fin 8 → Fin 2 → FVec F S256x128 .bf16)
    (q : Fin 8 → Fin 8 → Vec F S1x128x128 .bf16) (b p : Fin 8) (e : Fin 2) :
    ∀ n : ℕ, (slot b (head p e)).val < n →
      arg6.view.readCov (scores k q n) (Rect.unit (s := S128x256x128) ![(slot b (head p e)).val, 0, 0] S1x256x128.size (inbS (slot b (head p e)))).toLoadRect
        = scoreT (k b (kvOf p)) (half e (q b p))
  | 0, h => absurd h (Nat.not_lt_zero _)
  | n + 1, h => by
    by_cases hn : n < 128
    · rw [scores, dif_pos hn]
      by_cases he : (slot b (head p e)).val = n
      · have hv : 16 * b.val + (2 * p.val + e.val) = n := he
        have hb : (⟨n / 16, by omega⟩ : Fin 8) = b := Fin.ext (by show n / 16 = b.val; omega)
        have hp : (⟨n % 16 / 2, by omega⟩ : Fin 8) = p := Fin.ext (by show n % 16 / 2 = p.val; omega)
        have h2 : (⟨n % 2, by omega⟩ : Fin 2) = e := Fin.ext (by show n % 2 = e.val; omega)
        rw [hb, hp, h2]
        exact View.readCov_cons_toLoadRect _ _ _ _
      · rw [View.readCov_cons_of_disjoint]
        · exact scores_read arg6 k q b p e n (by omega)
        · rw [Finset.disjoint_left]
          intro y hy hy'
          have h1 := (Rect.mem_set_unit (inb := inbS _)).mp hy (0 : Fin 3)
          have h2 := (Rect.mem_set_unit (inb := inbS _)).mp hy' (0 : Fin 3)
          have h1' : 16 * (n / 16) + (2 * (n % 16 / 2) + n % 2) ≤ (y 0).val ∧ (y 0).val < 16 * (n / 16) + (2 * (n % 16 / 2) + n % 2) + 1 := h1
          have h2' : (slot b (head p e)).val ≤ (y 0).val ∧ (y 0).val < (slot b (head p e)).val + 1 := h2
          omega
    · rw [scores, dif_neg hn]
      exact scores_read arg6 k q b p e n (by have := (slot b (head p e)).isLt; omega)

end Any

end Cert.Swa

end
-- ==== Proof.SwaPoint.lean ====
/- One grid point of the attention: what its loads hold, and its stores as one function of the block, the rows kept from
   the block before, the bias table and the sinks. -/
module

public import proofs.«01_k».proof.Proof.SwaRead
public import Idealize.ShloMosaic.Lib.Pipeline.ValueKit.Basic

@[expose] public section

noncomputable section

namespace Cert.Swa

open Cert.KernelIdeal Cert.KernelIdeal.Gen
open Idealize.ShloMosaic Idealize.ShloMosaic.TcCoe

/-- Row `a` of band `b`'s keys (`o = 0`) or values (`o = 1`): of the rows kept, then of the block. -/
def rowsOf (P : Vec Ideal S1x128x128 .bf16) (X : Vec Ideal S1x1024x1280 .bf16) (o : Fin 2) (b : Fin 8) (a : Fin 256) (l : Fin 128) : EReal :=
  if h : 128 * b.val + a.val < 128 then P (ix3 0 ⟨128 * b.val + a.val, h⟩ l)
  else X (ix3 0 ⟨128 * b.val + a.val - 128, by omega⟩ ⟨1024 + 128 * o.val + l.val, by omega⟩)

/-- The row and the columns of the block a band's query and a pair's lanes are. -/
def qrow (b : Fin 8) (r : Fin 128) : Fin 1024 := ⟨128 * b.val + r.val, by omega⟩
def qcol (p : Fin 8) (l : Fin 128) : Fin 1280 := ⟨128 * p.val + l.val, by omega⟩

/-- Which of the two bias variants a band takes, `n0` the first's. -/
def vari (n0 : Fin 2) (b : Fin 8) : Fin 2 := if b.val = 0 then n0 else 0

/-- The scores of a head of a band. -/
def scoreE (KP : Vec Ideal S1x128x128 .bf16) (X : Vec Ideal S1x1024x1280 .bf16) (b p : Fin 8) (e : Fin 2) (r : Fin 128) (a : Fin 256) : EReal :=
  ∑ d : Fin 64, rowsOf KP X 0 b a (lane (kvOf p) d) * X (ix3 0 (qrow b r) (qcol p (lane e d)))

/-- An entry of a grid point's result: band `b`, pair `p`, query `r`, lane `l`. -/
def entry (KP VP : Vec Ideal S1x128x128 .bf16) (X : Vec Ideal S1x1024x1280 .bf16) (T : Vec Ideal S16x2x256x128 .f32) (W : Vec Ideal S16 .f32)
    (n0 : Fin 2) (b p : Fin 8) (r l : Fin 128) : EReal :=
  att (fun a => scoreE KP X b p ⟨l.val / 64, by omega⟩ r a - T (ix4 (head p ⟨l.val / 64, by omega⟩) (vari n0 b) a r))
    (W (ix1 (head p ⟨l.val / 64, by omega⟩)) * cE) (fun a => rowsOf VP X 1 b a (lane (kvOf p) ⟨l.val % 64, by omega⟩))

/-- A grid point's result. -/
def point (KP VP : Vec Ideal S1x128x128 .bf16) (X : Vec Ideal S1x1024x1280 .bf16) (T : Vec Ideal S16x2x256x128 .f32) (W : Vec Ideal S16 .f32)
    (n0 : Fin 2) : Vec Ideal S1x1024x1024 .bf16 := fun y =>
  entry KP VP X T W n0 ⟨(y 1).val / 128, by have h : (y 1).val < 1024 := (y 1).isLt; omega⟩ ⟨(y 2).val / 128, by have h : (y 2).val < 1024 := (y 2).isLt; omega⟩
    ⟨(y 1).val % 128, by omega⟩ ⟨(y 2).val % 128, by omega⟩

theorem point_apply (KP VP X T W n0) (b p : Fin 8) (r l : Fin 128) :
    point KP VP X T W n0 (ix3 0 (qrow b r) ⟨128 * p.val + l.val, by omega⟩) = entry KP VP X T W n0 b p r l := by
  have hb : (⟨(128 * b.val + r.val) / 128, by omega⟩ : Fin 8) = b := Fin.ext (by show (128 * b.val + r.val) / 128 = b.val; omega)
  have hp : (⟨(128 * p.val + l.val) / 128, by omega⟩ : Fin 8) = p := Fin.ext (by show (128 * p.val + l.val) / 128 = p.val; omega)
  have hr : (⟨(128 * b.val + r.val) % 128, by omega⟩ : Fin 128) = r := Fin.ext (by show (128 * b.val + r.val) % 128 = r.val; omega)
  have hl : (⟨(128 * p.val + l.val) % 128, by omega⟩ : Fin 128) = l := Fin.ext (by show (128 * p.val + l.val) % 128 = l.val; omega)
  show entry KP VP X T W n0 ⟨(128 * b.val + r.val) / 128, _⟩ ⟨(128 * p.val + l.val) / 128, _⟩ ⟨(128 * b.val + r.val) % 128, _⟩ ⟨(128 * p.val + l.val) % 128, _⟩ = _
  rw [hb, hp, hr, hl]

/-! ## The stores -/

section Stores

variable (v : Fin 8 → Fin 2 → FVec Ideal S256x128 .bf16) (s : Fin 128 → Vec Ideal S1x256x128 .f32)
    (bias : Fin 8 → Fin 16 → Vec Ideal S1x1x256x128 .f32) (w : Fin 16 → Elt Ideal .f32)
    (KP VP : Vec Ideal S1x128x128 .bf16) (X : Vec Ideal S1x1024x1280 .bf16) (T : Vec Ideal S16x2x256x128 .f32) (W : Vec Ideal S16 .f32) (n0 : Fin 2)

theorem piece_apply (hv : ∀ b kv a x, v b kv (ix2 a x) = rowsOf VP X 1 b a (lane kv ⟨x.val % 64, by omega⟩))
    (hs : ∀ b p e a r, s (slot b (head p e)) (ix3 0 a r) = scoreE KP X b p e r a)
    (hb : ∀ b h a r, bias b h (ix4 0 0 a r) = T (ix4 h (vari n0 b) a r))
    (hw : ∀ h, w h = W (ix1 h)) (b p : Fin 8) (x : (piece v s bias w b p).1.shape.Idx) :
    (piece v s bias w b p).2 x = point KP VP X T W n0 ((piece v s bias w b p).1.emb x) := by
  obtain ⟨r, l, rfl⟩ : ∃ r l : Fin 128, x = (ix3 0 r l : S1x128x128.Idx) :=
    ⟨x 1, x 2, by funext a; match a with | ⟨0, _⟩ => exact Subsingleton.elim (α := Fin 1) _ _ | ⟨1, _⟩ => rfl | ⟨2, _⟩ => rfl⟩
  have he : (piece v s bias w b p).1.emb (ix3 0 r l : S1x128x128.Idx) = (ix3 0 (qrow b r) ⟨128 * p.val + l.val, by omega⟩ : S1x1024x1024.Idx) := by
    funext a; apply Fin.ext
    match a with
    | ⟨0, _⟩ => show 0 + 1 * 0 = 0; rfl
    | ⟨1, _⟩ => show 128 * b.val + 1 * r.val = 128 * b.val + r.val; omega
    | ⟨2, _⟩ => show 128 * p.val + 1 * l.val = 128 * p.val + l.val; omega
  rw [he, point_apply]
  show pairT _ _ _ _ _ (ix3 0 r l) = _
  rw [pairT_apply]
  unfold entry
  by_cases hl : l.val < 64
  · rw [if_pos hl]
    have h0 : (⟨l.val / 64, by omega⟩ : Fin 2) = 0 := Fin.ext (by show l.val / 64 = 0; omega)
    simp only [h0, logitT_apply, hs, hb, hw, hv]
  · rw [if_neg hl]
    have h0 : (⟨l.val / 64, by omega⟩ : Fin 2) = 1 := Fin.ext (by show l.val / 64 = 1; omega)
    simp only [h0, logitT_apply, hs, hb, hw, hv]

theorem pieces_apply (hv : ∀ b kv a x, v b kv (ix2 a x) = rowsOf VP X 1 b a (lane kv ⟨x.val % 64, by omega⟩))
    (hs : ∀ b p e a r, s (slot b (head p e)) (ix3 0 a r) = scoreE KP X b p e r a)
    (hb : ∀ b h a r, bias b h (ix4 0 0 a r) = T (ix4 h (vari n0 b) a r))
    (hw : ∀ h, w h = W (ix1 h)) :
    ∀ q ∈ pieces v s bias w, ∀ x : q.1.shape.Idx, q.2 x = point KP VP X T W n0 (q.1.emb x) := by
  have key := piece_apply v s bias w KP VP X T W n0 hv hs hb hw
  unfold pieces
  repeat refine List.forall_mem_cons.mpr ⟨key _ _, ?_⟩
  exact fun q hq => absurd hq List.not_mem_nil

/-- The contents the stores leave. -/
theorem canon_pieces (hv : ∀ b kv a x, v b kv (ix2 a x) = rowsOf VP X 1 b a (lane kv ⟨x.val % 64, by omega⟩))
    (hs : ∀ b p e a r, s (slot b (head p e)) (ix3 0 a r) = scoreE KP X b p e r a)
    (hb : ∀ b h a r, bias b h (ix4 0 0 a r) = T (ix4 h (vari n0 b) a r))
    (hw : ∀ h, w h = W (ix1 h)) (y : S1x1024x1024.Idx) (hc : ∃ q ∈ pieces v s bias w, y ∈ q.1.set) :
    View.canon (pieces v s bias w) y = point KP VP X T W n0 y :=
  View.canon_apply_of_pieces _ _ (pieces_apply v s bias w KP VP X T W n0 hv hs hb hw) y hc

end Stores

/-! ## The loads -/

section Loads

variable (arg4 : Memref sig .tc .vmem S1x1024x1280 .bf16) (harg4 : arg4.IsWhole) (X : Vec Ideal S1x1024x1280 .bf16)

theorem qLd_apply (b p : Fin 8) (r l : Fin 128) : qLd arg4 harg4 X b p (ix3 0 r l) = X (ix3 0 (qrow b r) (qcol p l)) := by
  refine (congrFun (harg4.read_unread X) _).trans (congrArg X (funext fun a => Fin.ext ?_))
  match a with
  | ⟨0, _⟩ => show 0 + 0 + 1 * 0 = 0; rfl
  | ⟨1, _⟩ => show 0 + 128 * b.val + 1 * r.val = 128 * b.val + r.val; omega
  | ⟨2, _⟩ => show 0 + 128 * p.val + 1 * l.val = 128 * p.val + l.val; omega

theorem kLd_apply (o : Fin 7) (a : Fin 256) (l : Fin 128) :
    kLd arg4 harg4 X o (ix3 0 a l) = X (ix3 0 ⟨128 * o.val + a.val, by omega⟩ ⟨1024 + l.val, by omega⟩) := by
  refine (congrFun (harg4.read_unread X) _).trans (congrArg X (funext fun x => Fin.ext ?_))
  match x with
  | ⟨0, _⟩ => show 0 + 0 + 1 * 0 = 0; rfl
  | ⟨1, _⟩ => show 0 + 128 * o.val + 1 * a.val = 128 * o.val + a.val; omega
  | ⟨2, _⟩ => show 1024 + 0 + 1 * l.val = 1024 + l.val; omega

theorem vLd_apply (o : Fin 7) (a : Fin 256) (l : Fin 128) :
    vLd arg4 harg4 X o (ix3 0 a l) = X (ix3 0 ⟨128 * o.val + a.val, by omega⟩ ⟨1152 + l.val, by omega⟩) := by
  refine (congrFun (harg4.read_unread X) _).trans (congrArg X (funext fun x => Fin.ext ?_))
  match x with
  | ⟨0, _⟩ => show 0 + 0 + 1 * 0 = 0; rfl
  | ⟨1, _⟩ => show 0 + 128 * o.val + 1 * a.val = 128 * o.val + a.val; omega
  | ⟨2, _⟩ => show 1152 + 0 + 1 * l.val = 1152 + l.val; omega

theorem kLd0_apply (a l : Fin 128) : kLd0 arg4 harg4 X (ix3 0 a l) = X (ix3 0 ⟨a.val, by omega⟩ ⟨1024 + l.val, by omega⟩) := by
  refine (congrFun (harg4.read_unread X) _).trans (congrArg X (funext fun x => Fin.ext ?_))
  match x with
  | ⟨0, _⟩ => show 0 + 0 + 1 * 0 = 0; rfl
  | ⟨1, _⟩ => show 0 + 0 + 1 * a.val = a.val; omega
  | ⟨2, _⟩ => show 1024 + 0 + 1 * l.val = 1024 + l.val; omega

theorem vLd0_apply (a l : Fin 128) : vLd0 arg4 harg4 X (ix3 0 a l) = X (ix3 0 ⟨a.val, by omega⟩ ⟨1152 + l.val, by omega⟩) := by
  refine (congrFun (harg4.read_unread X) _).trans (congrArg X (funext fun x => Fin.ext ?_))
  match x with
  | ⟨0, _⟩ => show 0 + 0 + 1 * 0 = 0; rfl
  | ⟨1, _⟩ => show 0 + 0 + 1 * a.val = a.val; omega
  | ⟨2, _⟩ => show 1152 + 0 + 1 * l.val = 1152 + l.val; omega

/-- The bands' tiles before the kv head's lanes are taken. -/
def rowsT (p x : Vec Ideal S1x128x128 .bf16) (y : Fin 7 → Vec Ideal S1x256x128 .bf16) (b : Fin 8) : FVec Ideal S256x128 .bf16 :=
  match b with
  | ⟨0, _⟩ => rows0 p x
  | ⟨o + 1, h⟩ => rowsN (y ⟨o, by omega⟩)

theorem tiles_eq (p x : Vec Ideal S1x128x128 .bf16) (y : Fin 7 → Vec Ideal S1x256x128 .bf16) (b : Fin 8) (kv : Fin 2) :
    tiles p x y b kv = both kv (rowsT p x y b) := by
  match b with
  | ⟨0, _⟩ => rfl
  | ⟨o + 1, h⟩ => rfl

theorem rowsT_k (P : Vec Ideal S1x128x128 .bf16) (b : Fin 8) (a : Fin 256) (l : Fin 128) :
    rowsT P (kLd0 arg4 harg4 X) (kLd arg4 harg4 X) b (ix2 a l) = rowsOf P X 0 b a l := by
  match b with
  | ⟨0, _⟩ =>
    show rows0 P _ (ix2 a l) = _
    rw [rows0_apply]; unfold rowsOf
    by_cases h : a.val < 128
    · rw [dif_pos h, dif_pos (by show 128 * 0 + a.val < 128; omega)]
      congr 2; apply Fin.ext; show a.val = 128 * 0 + a.val; omega
    · rw [dif_neg h, dif_neg (by show ¬ 128 * 0 + a.val < 128; omega), kLd0_apply]
      congr 2
      · apply Fin.ext; show a.val - 128 = 128 * 0 + a.val - 128; omega
  | ⟨o + 1, h⟩ =>
    show rowsN _ (ix2 a l) = _
    rw [rowsN_apply, kLd_apply]; unfold rowsOf
    rw [dif_neg (by show ¬ 128 * (o + 1) + a.val < 128; omega)]
    congr 2
    · apply Fin.ext; show 128 * o + a.val = 128 * (o + 1) + a.val - 128; omega

theorem rowsT_v (P : Vec Ideal S1x128x128 .bf16) (b : Fin 8) (a : Fin 256) (l : Fin 128) :
    rowsT P (vLd0 arg4 harg4 X) (vLd arg4 harg4 X) b (ix2 a l) = rowsOf P X 1 b a l := by
  match b with
  | ⟨0, _⟩ =>
    show rows0 P _ (ix2 a l) = _
    rw [rows0_apply]; unfold rowsOf
    by_cases h : a.val < 128
    · rw [dif_pos h, dif_pos (by show 128 * 0 + a.val < 128; omega)]
      congr 2; apply Fin.ext; show a.val = 128 * 0 + a.val; omega
    · rw [dif_neg h, dif_neg (by show ¬ 128 * 0 + a.val < 128; omega), vLd0_apply]
      congr 2
      · apply Fin.ext; show a.val - 128 = 128 * 0 + a.val - 128; omega
  | ⟨o + 1, h⟩ =>
    show rowsN _ (ix2 a l) = _
    rw [rowsN_apply, vLd_apply]; unfold rowsOf
    rw [dif_neg (by show ¬ 128 * (o + 1) + a.val < 128; omega)]
    congr 2
    · apply Fin.ext; show 128 * o + a.val = 128 * (o + 1) + a.val - 128; omega

theorem tiles_v (P : Vec Ideal S1x128x128 .bf16) (b : Fin 8) (kv : Fin 2) (a : Fin 256) (x : Fin 128) :
    tiles P (vLd0 arg4 harg4 X) (vLd arg4 harg4 X) b kv (ix2 a x) = rowsOf P X 1 b a (lane kv ⟨x.val % 64, by omega⟩) := by
  rw [tiles_eq, both_apply, rowsT_v]

/-- The scores read back are the heads' scores. -/
theorem scores_apply (arg6 : Memref sig .tc .vmem S128x256x128 .f32) (P : Vec Ideal S1x128x128 .bf16) (b p : Fin 8) (e : Fin 2) (a : Fin 256) (r : Fin 128) :
    arg6.view.readCov (scores (tiles P (kLd0 arg4 harg4 X) (kLd arg4 harg4 X)) (qLd arg4 harg4 X) (min ((slot b (head p e)).val + 3) 128))
      (Rect.unit (s := S128x256x128) ![(slot b (head p e)).val, 0, 0] S1x256x128.size (inbS (slot b (head p e)))).toLoadRect (ix3 0 a r)
      = scoreE P X b p e r a := by
  rw [scores_read arg6 _ _ b p e _ (by have := (slot b (head p e)).isLt; omega), tiles_eq, scoreT_apply]
  unfold scoreE
  refine Finset.sum_congr rfl fun d _ => ?_
  rw [rowsT_k, qLd_apply]

theorem prevLd_eq (arg : Memref sig .tc .vmem S1x128x128 .bf16) (harg : arg.IsWhole) (xs : Vec Ideal S1x128x128 .bf16) : prevLd arg harg xs = xs := by
  funext x
  refine (congrFun (harg.read_unread xs) _).trans (congrArg xs (funext fun a => Fin.ext ?_))
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

theorem sinkLd_apply (arg3 : Memref sig .tc .smem S16 .f32) (harg3 : arg3.IsWhole) (W : Vec Ideal S16 .f32) (h : Fin 16) :
    sinkLd arg3 harg3 W h = W (ix1 h) := by
  refine (congrFun (harg3.read_unread W) _).trans (congrArg W (funext fun a => Fin.ext ?_))
  match a with
  | ⟨0, _⟩ => show h.val + 1 * 0 = h.val; omega

theorem slopeLd_apply (arg2 : Memref sig .tc .smem S16 .f32) (harg2 : arg2.IsWhole) (W : Vec Ideal S16 .f32) (h : Fin 16) :
    slopeLd arg2 harg2 W h = W (ix1 h) := by
  refine (congrFun (harg2.read_unread W) _).trans (congrArg W (funext fun a => Fin.ext ?_))
  match a with
  | ⟨0, _⟩ => show h.val + 1 * 0 = h.val; omega

/-- A load of the bias table at head `h`, variant `n`. -/
theorem biasAt (arg9 : Memref sig .tc .vmem S16x2x256x128 .f32) (f : arg9.view.ty.Contents (Elt Ideal)) (h : Fin 16) (n : Fin 2)
    (off : Fin 4 → ℕ) (inb) (e : off = ![h.val, n.val, 0, 0]) (a : Fin 256) (r : Fin 128) :
    View.readAt (Elt Ideal) arg9.view (Rect.unit (s := S16x2x256x128) off S1x1x256x128.size inb).toLoadRect f (ix4 0 0 a r)
      = arg9.view.read (Elt Ideal) f (ix4 h n a r) := by
  subst e
  refine congrArg (arg9.view.read (Elt Ideal) f) (funext fun x => Fin.ext ?_)
  match x with
  | ⟨0, _⟩ => show h.val + 1 * 0 = h.val; omega
  | ⟨1, _⟩ => show n.val + 1 * 0 = n.val; omega
  | ⟨2, _⟩ => show 0 + 1 * a.val = a.val; omega
  | ⟨3, _⟩ => show 0 + 1 * r.val = r.val; omega

theorem biasLd_apply (arg9 : Memref sig .tc .vmem S16x2x256x128 .f32) (f : arg9.view.ty.Contents (Elt Ideal)) (h : Fin 16) (a : Fin 256) (r : Fin 128) :
    biasLd arg9 f h (ix4 0 0 a r) = arg9.view.read (Elt Ideal) f (ix4 h 0 a r) := biasAt arg9 f h 0 _ _ rfl a r

theorem biasCov_apply (arg9 : Memref sig .tc .vmem S16x2x256x128 .f32) (L : List (View.Piece (Elt Ideal) S16x2x256x128 .f32)) (h : Fin 16) (a : Fin 256) (r : Fin 128) :
    biasCov arg9 L h (ix4 0 0 a r) = View.canon L (ix4 h 0 a r) := by
  unfold biasCov
  rw [← View.read_writes_junk_eq_canon arg9.view L]
  exact biasAt arg9 _ h 0 _ _ rfl a r

/-- The variant of a grid point's first band. -/
def first (i : grid0.Coords) : Fin 2 := if (i 1).val = 0 then 1 else 0

theorem first_val (i : grid0.Coords) : (first i).val = if (i 1).val = 0 then 1 else 0 := by
  unfold first; split <;> rfl

set_option maxHeartbeats 1000000 in
theorem biasLd0_apply (i : grid0.Coords) (arg9 : Memref sig .tc .vmem S16x2x256x128 .f32) (f : arg9.view.ty.Contents (Elt Ideal)) (h : Fin 16)
    (a : Fin 256) (r : Fin 128) : biasLd0 i arg9 f h (ix4 0 0 a r) = arg9.view.read (Elt Ideal) f (ix4 h (first i) a r) := by
  match h with
  | ⟨0, _⟩ => exact biasAt arg9 f 0 (first i) _ _ ((k0_off1_eq i).trans (congrArg (fun k => (![0, k, 0, 0] : Fin 4 → ℕ)) (first_val i).symm)) a r
  | ⟨1, _⟩ => exact biasAt arg9 f 1 (first i) _ _ ((k0_off2_eq i).trans (congrArg (fun k => (![1, k, 0, 0] : Fin 4 → ℕ)) (first_val i).symm)) a r
  | ⟨2, _⟩ => exact biasAt arg9 f 2 (first i) _ _ ((k0_off3_eq i).trans (congrArg (fun k => (![2, k, 0, 0] : Fin 4 → ℕ)) (first_val i).symm)) a r
  | ⟨3, _⟩ => exact biasAt arg9 f 3 (first i) _ _ ((k0_off4_eq i).trans (congrArg (fun k => (![3, k, 0, 0] : Fin 4 → ℕ)) (first_val i).symm)) a r
  | ⟨4, _⟩ => exact biasAt arg9 f 4 (first i) _ _ ((k0_off5_eq i).trans (congrArg (fun k => (![4, k, 0, 0] : Fin 4 → ℕ)) (first_val i).symm)) a r
  | ⟨5, _⟩ => exact biasAt arg9 f 5 (first i) _ _ ((k0_off6_eq i).trans (congrArg (fun k => (![5, k, 0, 0] : Fin 4 → ℕ)) (first_val i).symm)) a r
  | ⟨6, _⟩ => exact biasAt arg9 f 6 (first i) _ _ ((k0_off7_eq i).trans (congrArg (fun k => (![6, k, 0, 0] : Fin 4 → ℕ)) (first_val i).symm)) a r
  | ⟨7, _⟩ => exact biasAt arg9 f 7 (first i) _ _ ((k0_off8_eq i).trans (congrArg (fun k => (![7, k, 0, 0] : Fin 4 → ℕ)) (first_val i).symm)) a r
  | ⟨8, _⟩ => exact biasAt arg9 f 8 (first i) _ _ ((k0_off9_eq i).trans (congrArg (fun k => (![8, k, 0, 0] : Fin 4 → ℕ)) (first_val i).symm)) a r
  | ⟨9, _⟩ => exact biasAt arg9 f 9 (first i) _ _ ((k0_off10_eq i).trans (congrArg (fun k => (![9, k, 0, 0] : Fin 4 → ℕ)) (first_val i).symm)) a r
  | ⟨10, _⟩ => exact biasAt arg9 f 10 (first i) _ _ ((k0_off11_eq i).trans (congrArg (fun k => (![10, k, 0, 0] : Fin 4 → ℕ)) (first_val i).symm)) a r
  | ⟨11, _⟩ => exact biasAt arg9 f 11 (first i) _ _ ((k0_off12_eq i).trans (congrArg (fun k => (![11, k, 0, 0] : Fin 4 → ℕ)) (first_val i).symm)) a r
  | ⟨12, _⟩ => exact biasAt arg9 f 12 (first i) _ _ ((k0_off13_eq i).trans (congrArg (fun k => (![12, k, 0, 0] : Fin 4 → ℕ)) (first_val i).symm)) a r
  | ⟨13, _⟩ => exact biasAt arg9 f 13 (first i) _ _ ((k0_off14_eq i).trans (congrArg (fun k => (![13, k, 0, 0] : Fin 4 → ℕ)) (first_val i).symm)) a r
  | ⟨14, _⟩ => exact biasAt arg9 f 14 (first i) _ _ ((k0_off15_eq i).trans (congrArg (fun k => (![14, k, 0, 0] : Fin 4 → ℕ)) (first_val i).symm)) a r
  | ⟨15, _⟩ => exact biasAt arg9 f 15 (first i) _ _ ((k0_off16_eq i).trans (congrArg (fun k => (![15, k, 0, 0] : Fin 4 → ℕ)) (first_val i).symm)) a r
  | ⟨n + 16, h⟩ => exact absurd h (by omega)

theorem biases_apply (y0 y : Fin 16 → Vec Ideal S1x1x256x128 .f32) (T : Vec Ideal S16x2x256x128 .f32) (n0 : Fin 2)
    (h0 : ∀ h a r, y0 h (ix4 0 0 a r) = T (ix4 h n0 a r)) (h1 : ∀ h a r, y h (ix4 0 0 a r) = T (ix4 h 0 a r))
    (b : Fin 8) (h : Fin 16) (a : Fin 256) (r : Fin 128) : biases y0 y b h (ix4 0 0 a r) = T (ix4 h (vari n0 b) a r) := by
  match b with
  | ⟨0, _⟩ => exact h0 h a r
  | ⟨o + 1, _⟩ => exact h1 h a r

/-- Where a sequence begins the rows kept are zeros. -/
theorem zeroK_eq (arg7 : Memref sig .tc .vmem S1x128x128 .bf16) : zeroK (F := Ideal) arg7 = fun _ => 0 := by
  unfold zeroK
  refine (View.readCov_cons_toLoadRect _ _ _ _).trans (funext fun x => ?_)
  obtain ⟨r, l, rfl⟩ : ∃ r l : Fin 128, x = (ix3 0 r l : S1x128x128.Idx) :=
    ⟨x 1, x 2, by funext a; match a with | ⟨0, _⟩ => exact Subsingleton.elim (α := Fin 1) _ _ | ⟨1, _⟩ => rfl | ⟨2, _⟩ => rfl⟩
  pointwise [k0_pay59]

theorem zeroV_eq (arg8 : Memref sig .tc .vmem S1x128x128 .bf16) : zeroV (F := Ideal) arg8 = fun _ => 0 := by
  unfold zeroV
  refine (View.readCov_cons_toLoadRect _ _ _ _).trans (funext fun x => ?_)
  obtain ⟨r, l, rfl⟩ : ∃ r l : Fin 128, x = (ix3 0 r l : S1x128x128.Idx) :=
    ⟨x 1, x 2, by funext a; match a with | ⟨0, _⟩ => exact Subsingleton.elim (α := Fin 1) _ _ | ⟨1, _⟩ => rfl | ⟨2, _⟩ => rfl⟩
  pointwise [k0_pay60]

/-- The last 128 rows of a block's keys (`o = 0`) or values (`o = 1`). -/
def lastRows (X : Vec Ideal S1x1024x1280 .bf16) (o : Fin 2) : Vec Ideal S1x128x128 .bf16 := fun x =>
  X (ix3 0 ⟨896 + (x 1).val, by have h : (x 1).val < 128 := (x 1).isLt; omega⟩ ⟨1024 + 128 * o.val + (x 2).val, by have h : (x 2).val < 128 := (x 2).isLt; omega⟩)

theorem canon_keepK (L) : View.canon (keepK arg4 harg4 X :: L) = lastRows X 0 := by
  refine (View.canon_cons_unit_lit (S := S1x128x128) _ _ L (fun a => by match a with | ⟨0, _⟩ => rfl | ⟨1, _⟩ => rfl | ⟨2, _⟩ => rfl)).trans (funext fun x => ?_)
  obtain ⟨r, l, rfl⟩ : ∃ r l : Fin 128, x = (ix3 0 r l : S1x128x128.Idx) :=
    ⟨x 1, x 2, by funext a; match a with | ⟨0, _⟩ => exact Subsingleton.elim (α := Fin 1) _ _ | ⟨1, _⟩ => rfl | ⟨2, _⟩ => rfl⟩
  have h : ∀ y : Vec Ideal S1x128x128 .bf16, shapeCast S1x128x128 (shapeCast S128x128 y shapeCasts_S1x128x128_S128x128) shapeCasts_S128x128_S1x128x128 (ix3 0 r l) = y (ix3 0 r l) := by
    intro y; pointwise
  refine (h _).trans ((congrFun (harg4.read_unread X) _).trans (congrArg X (funext fun a => Fin.ext ?_)))
  match a with
  | ⟨0, _⟩ => show 0 + 0 + 1 * 0 = 0; rfl
  | ⟨1, _⟩ => show 0 + 896 + 1 * r.val = 896 + r.val; omega
  | ⟨2, _⟩ => show 1024 + 0 + 1 * l.val = 1024 + 128 * 0 + l.val; omega

theorem canon_keepV (L) : View.canon (keepV arg4 harg4 X :: L) = lastRows X 1 := by
  refine (View.canon_cons_unit_lit (S := S1x128x128) _ _ L (fun a => by match a with | ⟨0, _⟩ => rfl | ⟨1, _⟩ => rfl | ⟨2, _⟩ => rfl)).trans (funext fun x => ?_)
  obtain ⟨r, l, rfl⟩ : ∃ r l : Fin 128, x = (ix3 0 r l : S1x128x128.Idx) :=
    ⟨x 1, x 2, by funext a; match a with | ⟨0, _⟩ => exact Subsingleton.elim (α := Fin 1) _ _ | ⟨1, _⟩ => rfl | ⟨2, _⟩ => rfl⟩
  have h : ∀ y : Vec Ideal S1x128x128 .bf16, shapeCast S1x128x128 (shapeCast S128x128 y shapeCasts_S1x128x128_S128x128) shapeCasts_S128x128_S1x128x128 (ix3 0 r l) = y (ix3 0 r l) := by
    intro y; pointwise
  refine (h _).trans ((congrFun (harg4.read_unread X) _).trans (congrArg X (funext fun a => Fin.ext ?_)))
  match a with
  | ⟨0, _⟩ => show 0 + 0 + 1 * 0 = 0; rfl
  | ⟨1, _⟩ => show 0 + 896 + 1 * r.val = 896 + r.val; omega
  | ⟨2, _⟩ => show 1152 + 0 + 1 * l.val = 1024 + 128 * 1 + l.val; omega

end Loads

end Cert.Swa

end
-- ==== Proof.SwaBias.lean ====
/- The bias table: what its stores leave, entry by entry. -/
module

public import proofs.«01_k».proof.Proof.SwaPoint

@[expose] public section

noncomputable section

namespace Cert.Swa

open Cert.KernelIdeal Cert.KernelIdeal.Gen
open Idealize.ShloMosaic Idealize.ShloMosaic.TcCoe

/-! ## The bias table -/

/-- An entry of the bias table: the slope's product where the key is within the window, the mask elsewhere; variant 1 hides the rows kept. -/
def biasE (S : EReal) (n : Fin 2) (a : Fin 256) (r : Fin 128) : EReal :=
  if a.val ≤ r.val + 128 ∧ r.val < a.val ∧ (n = 1 → 128 ≤ a.val) then S * cE * (((r.val + 128 - a.val : ℕ) : ℝ) : EReal)
  else Named.named (F := Ideal) (φ := .f32) κ "bias_mask" 0x7149F2CA#32

/-- The bias table of the slopes. -/
def table (S : Vec Ideal S16 .f32) : Vec Ideal S16x2x256x128 .f32 := fun y => biasE (S (ix1 (y 0))) (y 1) (y 2) (y 3)

/-- The distance of a key from a query, as the kernel counts it in 32 bits. -/
theorem dist_eq (a : Fin 256) (r : Fin 128) : IntOp.subi (IntOp.addi (BitVec.ofNat 32 r.val) 128#32) (BitVec.ofNat 32 a.val)
    = BitVec.ofNat 32 (r.val + 255 - a.val) - 127#32 := by
  show BitVec.ofNat 32 r.val + 128#32 - BitVec.ofNat 32 a.val = _
  apply BitVec.eq_of_toNat_eq
  simp only [BitVec.toNat_sub, BitVec.toNat_add, BitVec.toNat_ofNat]
  omega

theorem mask0' : ∀ k : Fin 383, IntOp.andi (IntOp.cmpi CmpIPredicate.sge (BitVec.ofNat 32 k.val - 127#32) 0#32)
      (IntOp.cmpi CmpIPredicate.slt (BitVec.ofNat 32 k.val - 127#32) 128#32)
    = if 127 ≤ k.val ∧ k.val < 255 then 1#1 else 0#1 := by decide +kernel

theorem dist' : ∀ k : Fin 383, 127 ≤ k.val → (BitVec.ofNat 32 k.val - 127#32).toInt = ((k.val - 127 : ℕ) : ℤ) := by decide +kernel

theorem mask0 (a : Fin 256) (r : Fin 128) : IntOp.andi
      (IntOp.cmpi CmpIPredicate.sge (IntOp.subi (IntOp.addi (BitVec.ofNat 32 r.val) 128#32) (BitVec.ofNat 32 a.val)) 0#32)
      (IntOp.cmpi CmpIPredicate.slt (IntOp.subi (IntOp.addi (BitVec.ofNat 32 r.val) 128#32) (BitVec.ofNat 32 a.val)) 128#32)
    = if a.val ≤ r.val + 128 ∧ r.val < a.val then 1#1 else 0#1 := by
  rw [dist_eq]
  refine (mask0' ⟨r.val + 255 - a.val, by omega⟩).trans (if_congr ?_ rfl rfl)
  show 127 ≤ r.val + 255 - a.val ∧ r.val + 255 - a.val < 255 ↔ _
  omega

theorem mask1 : ∀ a : Fin 256, IntOp.cmpi CmpIPredicate.sge (BitVec.ofNat 32 a.val) 128#32 = if 128 ≤ a.val then 1#1 else 0#1 := by decide +kernel

theorem dist (a : Fin 256) (r : Fin 128) (h : a.val ≤ r.val + 128) :
    (IntOp.subi (IntOp.addi (BitVec.ofNat 32 r.val) 128#32) (BitVec.ofNat 32 a.val)).toInt = ((r.val + 128 - a.val : ℕ) : ℤ) := by
  rw [dist_eq]
  refine (dist' ⟨r.val + 255 - a.val, by omega⟩ (by show 127 ≤ r.val + 255 - a.val; omega)).trans (congrArg _ ?_)
  show r.val + 255 - a.val - 127 = r.val + 128 - a.val
  omega

theorem biasV_apply (w : Elt Ideal .f32) (n : Fin 2) (a : Fin 256) (r : Fin 128) :
    biasV (n.val == 1) w (ix4 0 0 a r) = biasE w n a r := by
  have h0 : biasV false w (ix4 0 0 a r) = Scalar.select (IntOp.andi
      (IntOp.cmpi CmpIPredicate.sge (IntOp.subi (IntOp.addi (BitVec.ofNat 32 r.val) 128#32) (BitVec.ofNat 32 a.val)) 0#32)
      (IntOp.cmpi CmpIPredicate.slt (IntOp.subi (IntOp.addi (BitVec.ofNat 32 r.val) 128#32) (BitVec.ofNat 32 a.val)) 128#32))
      (w * cE * FloatOps.sitofp (F := Ideal) .f32 (IntOp.subi (IntOp.addi (BitVec.ofNat 32 r.val) 128#32) (BitVec.ofNat 32 a.val)))
      (Named.named (F := Ideal) (φ := .f32) κ "bias_mask" 0x7149F2CA#32) := by
    unfold biasV
    rw [if_neg (by decide)]
    pointwise [k0_pay3, k0_pay4]
  have h1 : biasV true w (ix4 0 0 a r) = Scalar.select (IntOp.andi (IntOp.andi
      (IntOp.cmpi CmpIPredicate.sge (IntOp.subi (IntOp.addi (BitVec.ofNat 32 r.val) 128#32) (BitVec.ofNat 32 a.val)) 0#32)
      (IntOp.cmpi CmpIPredicate.slt (IntOp.subi (IntOp.addi (BitVec.ofNat 32 r.val) 128#32) (BitVec.ofNat 32 a.val)) 128#32))
      (IntOp.cmpi CmpIPredicate.sge (BitVec.ofNat 32 a.val) 128#32))
      (w * cE * FloatOps.sitofp (F := Ideal) .f32 (IntOp.subi (IntOp.addi (BitVec.ofNat 32 r.val) 128#32) (BitVec.ofNat 32 a.val)))
      (Named.named (F := Ideal) (φ := .f32) κ "bias_mask" 0x7149F2CA#32) := by
    pointwise [biasV, k0_pay3, k0_pay4]
  have hd : a.val ≤ r.val + 128 → FloatOps.sitofp (F := Ideal) .f32 (IntOp.subi (IntOp.addi (BitVec.ofNat 32 r.val) 128#32) (BitVec.ofNat 32 a.val))
      = (((r.val + 128 - a.val : ℕ) : ℝ) : EReal) := by
    intro h
    show (((BitVec.toInt _ : ℤ) : ℝ) : EReal) = _
    rw [dist a r h]
    norm_cast
  unfold biasE
  match n with
  | 0 =>
    show biasV false w (ix4 0 0 a r) = _
    rw [h0, mask0]
    by_cases h : a.val ≤ r.val + 128 ∧ r.val < a.val
    · rw [if_pos h, if_pos ⟨h.1, h.2, fun h => absurd h (by decide)⟩, hd h.1]; rfl
    · rw [if_neg h, if_neg (fun h' => h ⟨h'.1, h'.2.1⟩)]; rfl
  | 1 =>
    show biasV true w (ix4 0 0 a r) = _
    rw [h1, mask0, mask1]
    have hn (h : ¬(a.val ≤ r.val + 128 ∧ r.val < a.val ∧ 128 ≤ a.val)) : ¬(a.val ≤ r.val + 128 ∧ r.val < a.val ∧ ((1 : Fin 2) = 1 → 128 ≤ a.val)) :=
      fun h' => h ⟨h'.1, h'.2.1, h'.2.2 rfl⟩
    by_cases h : a.val ≤ r.val + 128 ∧ r.val < a.val
    · by_cases h2 : 128 ≤ a.val
      · rw [if_pos h, if_pos h2, if_pos ⟨h.1, h.2, fun _ => h2⟩, hd h.1]; rfl
      · rw [if_pos h, if_neg h2, if_neg (hn fun h' => h2 h'.2.2)]; rfl
    · rw [if_neg h, if_neg (hn fun h' => h ⟨h'.1, h'.2.1⟩)]
      by_cases h2 : 128 ≤ a.val
      · rw [if_pos h2]; rfl
      · rw [if_neg h2]; rfl

theorem biasPiece_mem (w : Fin 16 → Elt Ideal .f32) (h : Fin 16) (n : Fin 2) : biasPiece w h n ∈ biasPieces w := by
  match h, n with
  | ⟨15, _⟩, ⟨1, _⟩ => exact .head _
  | ⟨15, _⟩, ⟨0, _⟩ => exact .tail _ (.head _)
  | ⟨14, _⟩, ⟨1, _⟩ => exact .tail _ (.tail _ (.head _))
  | ⟨14, _⟩, ⟨0, _⟩ => exact .tail _ (.tail _ (.tail _ (.head _)))
  | ⟨13, _⟩, ⟨1, _⟩ => exact .tail _ (.tail _ (.tail _ (.tail _ (.head _))))
  | ⟨13, _⟩, ⟨0, _⟩ => exact .tail _ (.tail _ (.tail _ (.tail _ (.tail _ (.head _)))))
  | ⟨12, _⟩, ⟨1, _⟩ => exact .tail _ (.tail _ (.tail _ (.tail _ (.tail _ (.tail _ (.head _))))))
  | ⟨12, _⟩, ⟨0, _⟩ => exact .tail _ (.tail _ (.tail _ (.tail _ (.tail _ (.tail _ (.tail _ (.head _)))))))
  | ⟨11, _⟩, ⟨1, _⟩ => exact .tail _ (.tail _ (.tail _ (.tail _ (.tail _ (.tail _ (.tail _ (.tail _ (.head _))))))))
  | ⟨11, _⟩, ⟨0, _⟩ => exact .tail _ (.tail _ (.tail _ (.tail _ (.tail _ (.tail _ (.tail _ (.tail _ (.tail _ (.head _)))))))))
  | ⟨10, _⟩, ⟨1, _⟩ => exact .tail _ (.tail _ (.tail _ (.tail _ (.tail _ (.tail _ (.tail _ (.tail _ (.tail _ (.tail _ (.head _))))))))))
  | ⟨10, _⟩, ⟨0, _⟩ => exact .tail _ (.tail _ (.tail _ (.tail _ (.tail _ (.tail _ (.tail _ (.tail _ (.tail _ (.tail _ (.tail _ (.head _)))))))))))
  | ⟨9, _⟩, ⟨1, _⟩ => exact .tail _ (.tail _ (.tail _ (.tail _ (.tail _ (.tail _ (.tail _ (.tail _ (.tail _ (.tail _ (.tail _ (.tail _ (.head _))))))))))))
  | ⟨9, _⟩, ⟨0, _⟩ => exact .tail _ (.tail _ (.tail _ (.tail _ (.tail _ (.tail _ (.tail _ (.tail _ (.tail _ (.tail _ (.tail _ (.tail _ (.tail _ (.head _)))))))))))))
  | ⟨8, _⟩, ⟨1, _⟩ => exact .tail _ (.tail _ (.tail _ (.tail _ (.tail _ (.tail _ (.tail _ (.tail _ (.tail _ (.tail _ (.tail _ (.tail _ (.tail _ (.tail _ (.head _))))))))))))))
  | ⟨8, _⟩, ⟨0, _⟩ => exact .tail _ (.tail _ (.tail _ (.tail _ (.tail _ (.tail _ (.tail _ (.tail _ (.tail _ (.tail _ (.tail _ (.tail _ (.tail _ (.tail _ (.tail _ (.head _)))))))))))))))
  | ⟨7, _⟩, ⟨1, _⟩ => exact .tail _ (.tail _ (.tail _ (.tail _ (.tail _ (.tail _ (.tail _ (.tail _ (.tail _ (.tail _ (.tail _ (.tail _ (.tail _ (.tail _ (.tail _ (.tail _ (.head _))))))))))))))))
  | ⟨7, _⟩, ⟨0, _⟩ => exact .tail _ (.tail _ (.tail _ (.tail _ (.tail _ (.tail _ (.tail _ (.tail _ (.tail _ (.tail _ (.tail _ (.tail _ (.tail _ (.tail _ (.tail _ (.tail _ (.tail _ (.head _)))))))))))))))))
  | ⟨6, _⟩, ⟨1, _⟩ => exact .tail _ (.tail _ (.tail _ (.tail _ (.tail _ (.tail _ (.tail _ (.tail _ (.tail _ (.tail _ (.tail _ (.tail _ (.tail _ (.tail _ (.tail _ (.tail _ (.tail _ (.tail _ (.head _))))))))))))))))))
  | ⟨6, _⟩, ⟨0, _⟩ => exact .tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))
  | ⟨5, _⟩, ⟨1, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
  | ⟨5, _⟩, ⟨0, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
  | ⟨4, _⟩, ⟨1, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
  | ⟨4, _⟩, ⟨0, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
  | ⟨3, _⟩, ⟨1, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
  | ⟨3, _⟩, ⟨0, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
  | ⟨2, _⟩, ⟨1, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
  | ⟨2, _⟩, ⟨0, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
  | ⟨1, _⟩, ⟨1, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
  | ⟨1, _⟩, ⟨0, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
  | ⟨0, _⟩, ⟨1, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
  | ⟨0, _⟩, ⟨0, _⟩ => exact .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
  | ⟨h + 16, hh⟩, _ => exact absurd hh (by omega)
  | _, ⟨n + 2, hn⟩ => exact absurd hn (by omega)

/-- What the stores of the bias table leave. -/
theorem canon_bias (S : Vec Ideal S16 .f32) (w : Fin 16 → Elt Ideal .f32) (hw : ∀ h, w h = S (ix1 h)) : View.canon (biasPieces w) = table S := by
  funext y
  refine View.canon_apply_of_pieces (table S) _ ?_ y ⟨biasPiece w (y 0) (y 1), biasPiece_mem w _ _, ?_⟩
  · have key : ∀ h n, ∀ x : (biasPiece w h n).1.shape.Idx, (biasPiece w h n).2 x = table S ((biasPiece w h n).1.emb x) := by
      intro h n x
      obtain ⟨a, r, rfl⟩ : ∃ (a : Fin 256) (r : Fin 128), x = (ix4 0 0 a r : S1x1x256x128.Idx) :=
        ⟨x 2, x 3, by funext a; match a with | ⟨0, _⟩ => exact Subsingleton.elim (α := Fin 1) _ _ | ⟨1, _⟩ => exact Subsingleton.elim (α := Fin 1) _ _ | ⟨2, _⟩ => rfl | ⟨3, _⟩ => rfl⟩
      have he : (biasPiece w h n).1.emb (ix4 0 0 a r : S1x1x256x128.Idx) = (ix4 h n a r : S16x2x256x128.Idx) := by
        funext x; apply Fin.ext
        match x with
        | ⟨0, _⟩ => show h.val + 1 * 0 = h.val; omega
        | ⟨1, _⟩ => show n.val + 1 * 0 = n.val; omega
        | ⟨2, _⟩ => show 0 + 1 * a.val = a.val; omega
        | ⟨3, _⟩ => show 0 + 1 * r.val = r.val; omega
      rw [he]
      show biasV (n.val == 1) (w h) (ix4 0 0 a r) = biasE (S (ix1 h)) n a r
      rw [biasV_apply, hw]
    unfold biasPieces
    repeat refine List.forall_mem_cons.mpr ⟨key _ _, ?_⟩
    exact fun q hq => absurd hq List.not_mem_nil
  · refine (Rect.mem_set_unit (inb := inbT _ _)).mpr fun x => ?_
    match x with
    | ⟨0, _⟩ => show (y 0).val ≤ (y 0).val ∧ (y 0).val < (y 0).val + 1; omega
    | ⟨1, _⟩ => show (y 1).val ≤ (y 1).val ∧ (y 1).val < (y 1).val + 1; omega
    | ⟨2, _⟩ => show 0 ≤ (y 2).val ∧ (y 2).val < 0 + 256; exact ⟨Nat.zero_le _, by have h : (y 2).val < 256 := (y 2).isLt; omega⟩
    | ⟨3, _⟩ => show 0 ≤ (y 3).val ∧ (y 3).val < 0 + 128; exact ⟨Nat.zero_le _, by have h : (y 3).val < 128 := (y 3).isLt; omega⟩

end Cert.Swa

end
-- ==== Proof.SwaA.lean ====
/- The stores of the first point of all as the list of `Cert.Swa.pieces`. -/
module

public import proofs.«01_k».proof.Proof.SwaTile

@[expose] public section

set_option maxRecDepth 16384

noncomputable section

namespace Cert.Swa.CaseA

open Cert.KernelIdeal Cert.KernelIdeal.Gen
open Idealize.ShloMosaic Idealize.ShloMosaic.TcCoe

variable {F : FTy → Type} [FloatOps F] [Named F]

/-- What the scratch of scores holds when a chain's place is read back. -/
def held (c : Dev nD) (arg4 : Memref sig .tc .vmem S1x1024x1280 .bf16) (harg4 : arg4.IsWhole) (arg7 : Memref sig .tc .vmem S1x128x128 .bf16) (x2 : Vec F S1x1024x1280 .bf16) : Fin 128 → List (View.Piece (Elt F) S128x256x128 .f32) :=
  ![kernelRun0_A.sl.HS0_3 c arg4 harg4 arg7 x2,
    kernelRun0_A.sl.HS0_4 c arg4 harg4 arg7 x2,
    kernelRun0_A.sl.HS0_5 c arg4 harg4 arg7 x2,
    kernelRun0_A.sl.HS0_6 c arg4 harg4 arg7 x2,
    kernelRun0_A.sl.HS0_7 c arg4 harg4 arg7 x2,
    kernelRun0_A.sl.HS0_8 c arg4 harg4 arg7 x2,
    kernelRun0_A.sl.HS0_9 c arg4 harg4 arg7 x2,
    kernelRun0_A.sl.HS0_10 c arg4 harg4 arg7 x2,
    kernelRun0_A.sl.HS0_11 c arg4 harg4 arg7 x2,
    kernelRun0_A.sl.HS0_12 c arg4 harg4 arg7 x2,
    kernelRun0_A.sl.HS0_13 c arg4 harg4 arg7 x2,
    kernelRun0_A.sl.HS0_14 c arg4 harg4 arg7 x2,
    kernelRun0_A.sl.HS0_15 c arg4 harg4 arg7 x2,
    kernelRun0_A.sl.HS0_16 c arg4 harg4 arg7 x2,
    kernelRun0_A.sl.HS0_17 c arg4 harg4 arg7 x2,
    kernelRun0_A.sl.HS0_18 c arg4 harg4 arg7 x2,
    kernelRun0_A.sl.HS0_19 c arg4 harg4 arg7 x2,
    kernelRun0_A.sl.HS0_20 c arg4 harg4 arg7 x2,
    kernelRun0_A.sl.HS0_21 c arg4 harg4 arg7 x2,
    kernelRun0_A.sl.HS0_22 c arg4 harg4 arg7 x2,
    kernelRun0_A.sl.HS0_23 c arg4 harg4 arg7 x2,
    kernelRun0_A.sl.HS0_24 c arg4 harg4 arg7 x2,
    kernelRun0_A.sl.HS0_25 c arg4 harg4 arg7 x2,
    kernelRun0_A.sl.HS0_26 c arg4 harg4 arg7 x2,
    kernelRun0_A.sl.HS0_27 c arg4 harg4 arg7 x2,
    kernelRun0_A.sl.HS0_28 c arg4 harg4 arg7 x2,
    kernelRun0_A.sl.HS0_29 c arg4 harg4 arg7 x2,
    kernelRun0_A.sl.HS0_30 c arg4 harg4 arg7 x2,
    kernelRun0_A.sl.HS0_31 c arg4 harg4 arg7 x2,
    kernelRun0_A.sl.HS0_32 c arg4 harg4 arg7 x2,
    kernelRun0_A.sl.HS0_33 c arg4 harg4 arg7 x2,
    kernelRun0_A.sl.HS0_34 c arg4 harg4 arg7 x2,
    kernelRun0_A.sl.HS0_35 c arg4 harg4 arg7 x2,
    kernelRun0_A.sl.HS0_36 c arg4 harg4 arg7 x2,
    kernelRun0_A.sl.HS0_37 c arg4 harg4 arg7 x2,
    kernelRun0_A.sl.HS0_38 c arg4 harg4 arg7 x2,
    kernelRun0_A.sl.HS0_39 c arg4 harg4 arg7 x2,
    kernelRun0_A.sl.HS0_40 c arg4 harg4 arg7 x2,
    kernelRun0_A.sl.HS0_41 c arg4 harg4 arg7 x2,
    kernelRun0_A.sl.HS0_42 c arg4 harg4 arg7 x2,
    kernelRun0_A.sl.HS0_43 c arg4 harg4 arg7 x2,
    kernelRun0_A.sl.HS0_44 c arg4 harg4 arg7 x2,
    kernelRun0_A.sl.HS0_45 c arg4 harg4 arg7 x2,
    kernelRun0_A.sl.HS0_46 c arg4 harg4 arg7 x2,
    kernelRun0_A.sl.HS0_47 c arg4 harg4 arg7 x2,
    kernelRun0_A.sl.HS0_48 c arg4 harg4 arg7 x2,
    kernelRun0_A.sl.HS0_49 c arg4 harg4 arg7 x2,
    kernelRun0_A.sl.HS0_50 c arg4 harg4 arg7 x2,
    kernelRun0_A.sl.HS0_51 c arg4 harg4 arg7 x2,
    kernelRun0_A.sl.HS0_52 c arg4 harg4 arg7 x2,
    kernelRun0_A.sl.HS0_53 c arg4 harg4 arg7 x2,
    kernelRun0_A.sl.HS0_54 c arg4 harg4 arg7 x2,
    kernelRun0_A.sl.HS0_55 c arg4 harg4 arg7 x2,
    kernelRun0_A.sl.HS0_56 c arg4 harg4 arg7 x2,
    kernelRun0_A.sl.HS0_57 c arg4 harg4 arg7 x2,
    kernelRun0_A.sl.HS0_58 c arg4 harg4 arg7 x2,
    kernelRun0_A.sl.HS0_59 c arg4 harg4 arg7 x2,
    kernelRun0_A.sl.HS0_60 c arg4 harg4 arg7 x2,
    kernelRun0_A.sl.HS0_61 c arg4 harg4 arg7 x2,
    kernelRun0_A.sl.HS0_62 c arg4 harg4 arg7 x2,
    kernelRun0_A.sl.HS0_63 c arg4 harg4 arg7 x2,
    kernelRun0_A.sl.HS0_64 c arg4 harg4 arg7 x2,
    kernelRun0_A.sl.HS0_65 c arg4 harg4 arg7 x2,
    kernelRun0_A.sl.HS0_66 c arg4 harg4 arg7 x2,
    kernelRun0_A.sl.HS0_67 c arg4 harg4 arg7 x2,
    kernelRun0_A.sl.HS0_68 c arg4 harg4 arg7 x2,
    kernelRun0_A.sl.HS0_69 c arg4 harg4 arg7 x2,
    kernelRun0_A.sl.HS0_70 c arg4 harg4 arg7 x2,
    kernelRun0_A.sl.HS0_71 c arg4 harg4 arg7 x2,
    kernelRun0_A.sl.HS0_72 c arg4 harg4 arg7 x2,
    kernelRun0_A.sl.HS0_73 c arg4 harg4 arg7 x2,
    kernelRun0_A.sl.HS0_74 c arg4 harg4 arg7 x2,
    kernelRun0_A.sl.HS0_75 c arg4 harg4 arg7 x2,
    kernelRun0_A.sl.HS0_76 c arg4 harg4 arg7 x2,
    kernelRun0_A.sl.HS0_77 c arg4 harg4 arg7 x2,
    kernelRun0_A.sl.HS0_78 c arg4 harg4 arg7 x2,
    kernelRun0_A.sl.HS0_79 c arg4 harg4 arg7 x2,
    kernelRun0_A.sl.HS0_80 c arg4 harg4 arg7 x2,
    kernelRun0_A.sl.HS0_81 c arg4 harg4 arg7 x2,
    kernelRun0_A.sl.HS0_82 c arg4 harg4 arg7 x2,
    kernelRun0_A.sl.HS0_83 c arg4 harg4 arg7 x2,
    kernelRun0_A.sl.HS0_84 c arg4 harg4 arg7 x2,
    kernelRun0_A.sl.HS0_85 c arg4 harg4 arg7 x2,
    kernelRun0_A.sl.HS0_86 c arg4 harg4 arg7 x2,
    kernelRun0_A.sl.HS0_87 c arg4 harg4 arg7 x2,
    kernelRun0_A.sl.HS0_88 c arg4 harg4 arg7 x2,
    kernelRun0_A.sl.HS0_89 c arg4 harg4 arg7 x2,
    kernelRun0_A.sl.HS0_90 c arg4 harg4 arg7 x2,
    kernelRun0_A.sl.HS0_91 c arg4 harg4 arg7 x2,
    kernelRun0_A.sl.HS0_92 c arg4 harg4 arg7 x2,
    kernelRun0_A.sl.HS0_93 c arg4 harg4 arg7 x2,
    kernelRun0_A.sl.HS0_94 c arg4 harg4 arg7 x2,
    kernelRun0_A.sl.HS0_95 c arg4 harg4 arg7 x2,
    kernelRun0_A.sl.HS0_96 c arg4 harg4 arg7 x2,
    kernelRun0_A.sl.HS0_97 c arg4 harg4 arg7 x2,
    kernelRun0_A.sl.HS0_98 c arg4 harg4 arg7 x2,
    kernelRun0_A.sl.HS0_99 c arg4 harg4 arg7 x2,
    kernelRun0_A.sl.HS0_100 c arg4 harg4 arg7 x2,
    kernelRun0_A.sl.HS0_101 c arg4 harg4 arg7 x2,
    kernelRun0_A.sl.HS0_102 c arg4 harg4 arg7 x2,
    kernelRun0_A.sl.HS0_103 c arg4 harg4 arg7 x2,
    kernelRun0_A.sl.HS0_104 c arg4 harg4 arg7 x2,
    kernelRun0_A.sl.HS0_105 c arg4 harg4 arg7 x2,
    kernelRun0_A.sl.HS0_106 c arg4 harg4 arg7 x2,
    kernelRun0_A.sl.HS0_107 c arg4 harg4 arg7 x2,
    kernelRun0_A.sl.HS0_108 c arg4 harg4 arg7 x2,
    kernelRun0_A.sl.HS0_109 c arg4 harg4 arg7 x2,
    kernelRun0_A.sl.HS0_110 c arg4 harg4 arg7 x2,
    kernelRun0_A.sl.HS0_111 c arg4 harg4 arg7 x2,
    kernelRun0_A.sl.HS0_112 c arg4 harg4 arg7 x2,
    kernelRun0_A.sl.HS0_113 c arg4 harg4 arg7 x2,
    kernelRun0_A.sl.HS0_114 c arg4 harg4 arg7 x2,
    kernelRun0_A.sl.HS0_115 c arg4 harg4 arg7 x2,
    kernelRun0_A.sl.HS0_116 c arg4 harg4 arg7 x2,
    kernelRun0_A.sl.HS0_117 c arg4 harg4 arg7 x2,
    kernelRun0_A.sl.HS0_118 c arg4 harg4 arg7 x2,
    kernelRun0_A.sl.HS0_119 c arg4 harg4 arg7 x2,
    kernelRun0_A.sl.HS0_120 c arg4 harg4 arg7 x2,
    kernelRun0_A.sl.HS0_121 c arg4 harg4 arg7 x2,
    kernelRun0_A.sl.HS0_122 c arg4 harg4 arg7 x2,
    kernelRun0_A.sl.HS0_123 c arg4 harg4 arg7 x2,
    kernelRun0_A.sl.HS0_124 c arg4 harg4 arg7 x2,
    kernelRun0_A.sl.HS0_125 c arg4 harg4 arg7 x2,
    kernelRun0_A.sl.HS0_126 c arg4 harg4 arg7 x2,
    kernelRun0_A.sl.HS0_127 c arg4 harg4 arg7 x2,
    kernelRun0_A.sl.HS0_128 c arg4 harg4 arg7 x2,
    kernelRun0_A.sl.HS0_128 c arg4 harg4 arg7 x2,
    kernelRun0_A.sl.HS0_128 c arg4 harg4 arg7 x2]

set_option maxHeartbeats 4000000 in
theorem out_eq (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : cond0_1 i)
    (x0 : Vec F S16 .f32) (x1 : Vec F S16 .f32) (x2 : Vec F S1x1024x1280 .bf16) :
    (kernelRun0_A c i arg2 harg2 arg3 harg3 arg4 harg4 arg5 harg5 arg6 harg6 arg7 harg7 arg8 harg8 arg9 harg9 hc0 hc1 x0 x1 x2).1
      = pieces (tiles (zeroV arg8) (vLd0 arg4 harg4 x2) (vLd arg4 harg4 x2))
        (fun j => arg6.view.readCov (held c arg4 harg4 arg7 x2 j) (Rect.unit (s := S128x256x128) ![j.val, 0, 0] S1x256x128.size (inbS j)).toLoadRect)
        (biases (biasLd0 i arg9 (arg9.view.writes (Elt F) arg9.view.junk (kernelRun0_A.sl.HS3_32 c arg2 harg2 x0))) (biasCov arg9 (kernelRun0_A.sl.HS3_32 c arg2 harg2 x0))) (sinkLd arg3 harg3 x1) := by
  rfl

theorem hs3 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_3 c arg4 harg4 arg7 x2 = scores (tiles (zeroK arg7) (kLd0 arg4 harg4 x2) (kLd arg4 harg4 x2)) (qLd arg4 harg4 x2) 3 := rfl
theorem hs4 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_4 c arg4 harg4 arg7 x2 = scores (tiles (zeroK arg7) (kLd0 arg4 harg4 x2) (kLd arg4 harg4 x2)) (qLd arg4 harg4 x2) 4 :=
  congrArg (List.cons _) (hs3 c arg4 harg4 arg7 x2)
theorem hs5 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_5 c arg4 harg4 arg7 x2 = scores (tiles (zeroK arg7) (kLd0 arg4 harg4 x2) (kLd arg4 harg4 x2)) (qLd arg4 harg4 x2) 5 :=
  congrArg (List.cons _) (hs4 c arg4 harg4 arg7 x2)
theorem hs6 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_6 c arg4 harg4 arg7 x2 = scores (tiles (zeroK arg7) (kLd0 arg4 harg4 x2) (kLd arg4 harg4 x2)) (qLd arg4 harg4 x2) 6 :=
  congrArg (List.cons _) (hs5 c arg4 harg4 arg7 x2)
theorem hs7 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_7 c arg4 harg4 arg7 x2 = scores (tiles (zeroK arg7) (kLd0 arg4 harg4 x2) (kLd arg4 harg4 x2)) (qLd arg4 harg4 x2) 7 :=
  congrArg (List.cons _) (hs6 c arg4 harg4 arg7 x2)
theorem hs8 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_8 c arg4 harg4 arg7 x2 = scores (tiles (zeroK arg7) (kLd0 arg4 harg4 x2) (kLd arg4 harg4 x2)) (qLd arg4 harg4 x2) 8 :=
  congrArg (List.cons _) (hs7 c arg4 harg4 arg7 x2)
theorem hs9 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_9 c arg4 harg4 arg7 x2 = scores (tiles (zeroK arg7) (kLd0 arg4 harg4 x2) (kLd arg4 harg4 x2)) (qLd arg4 harg4 x2) 9 :=
  congrArg (List.cons _) (hs8 c arg4 harg4 arg7 x2)
theorem hs10 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_10 c arg4 harg4 arg7 x2 = scores (tiles (zeroK arg7) (kLd0 arg4 harg4 x2) (kLd arg4 harg4 x2)) (qLd arg4 harg4 x2) 10 :=
  congrArg (List.cons _) (hs9 c arg4 harg4 arg7 x2)
theorem hs11 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_11 c arg4 harg4 arg7 x2 = scores (tiles (zeroK arg7) (kLd0 arg4 harg4 x2) (kLd arg4 harg4 x2)) (qLd arg4 harg4 x2) 11 :=
  congrArg (List.cons _) (hs10 c arg4 harg4 arg7 x2)
theorem hs12 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_12 c arg4 harg4 arg7 x2 = scores (tiles (zeroK arg7) (kLd0 arg4 harg4 x2) (kLd arg4 harg4 x2)) (qLd arg4 harg4 x2) 12 :=
  congrArg (List.cons _) (hs11 c arg4 harg4 arg7 x2)
theorem hs13 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_13 c arg4 harg4 arg7 x2 = scores (tiles (zeroK arg7) (kLd0 arg4 harg4 x2) (kLd arg4 harg4 x2)) (qLd arg4 harg4 x2) 13 :=
  congrArg (List.cons _) (hs12 c arg4 harg4 arg7 x2)
theorem hs14 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_14 c arg4 harg4 arg7 x2 = scores (tiles (zeroK arg7) (kLd0 arg4 harg4 x2) (kLd arg4 harg4 x2)) (qLd arg4 harg4 x2) 14 :=
  congrArg (List.cons _) (hs13 c arg4 harg4 arg7 x2)
theorem hs15 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_15 c arg4 harg4 arg7 x2 = scores (tiles (zeroK arg7) (kLd0 arg4 harg4 x2) (kLd arg4 harg4 x2)) (qLd arg4 harg4 x2) 15 :=
  congrArg (List.cons _) (hs14 c arg4 harg4 arg7 x2)
theorem hs16 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_16 c arg4 harg4 arg7 x2 = scores (tiles (zeroK arg7) (kLd0 arg4 harg4 x2) (kLd arg4 harg4 x2)) (qLd arg4 harg4 x2) 16 :=
  congrArg (List.cons _) (hs15 c arg4 harg4 arg7 x2)
theorem hs17 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_17 c arg4 harg4 arg7 x2 = scores (tiles (zeroK arg7) (kLd0 arg4 harg4 x2) (kLd arg4 harg4 x2)) (qLd arg4 harg4 x2) 17 :=
  congrArg (List.cons _) (hs16 c arg4 harg4 arg7 x2)
theorem hs18 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_18 c arg4 harg4 arg7 x2 = scores (tiles (zeroK arg7) (kLd0 arg4 harg4 x2) (kLd arg4 harg4 x2)) (qLd arg4 harg4 x2) 18 :=
  congrArg (List.cons _) (hs17 c arg4 harg4 arg7 x2)
theorem hs19 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_19 c arg4 harg4 arg7 x2 = scores (tiles (zeroK arg7) (kLd0 arg4 harg4 x2) (kLd arg4 harg4 x2)) (qLd arg4 harg4 x2) 19 :=
  congrArg (List.cons _) (hs18 c arg4 harg4 arg7 x2)
theorem hs20 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_20 c arg4 harg4 arg7 x2 = scores (tiles (zeroK arg7) (kLd0 arg4 harg4 x2) (kLd arg4 harg4 x2)) (qLd arg4 harg4 x2) 20 :=
  congrArg (List.cons _) (hs19 c arg4 harg4 arg7 x2)
theorem hs21 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_21 c arg4 harg4 arg7 x2 = scores (tiles (zeroK arg7) (kLd0 arg4 harg4 x2) (kLd arg4 harg4 x2)) (qLd arg4 harg4 x2) 21 :=
  congrArg (List.cons _) (hs20 c arg4 harg4 arg7 x2)
theorem hs22 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_22 c arg4 harg4 arg7 x2 = scores (tiles (zeroK arg7) (kLd0 arg4 harg4 x2) (kLd arg4 harg4 x2)) (qLd arg4 harg4 x2) 22 :=
  congrArg (List.cons _) (hs21 c arg4 harg4 arg7 x2)
theorem hs23 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_23 c arg4 harg4 arg7 x2 = scores (tiles (zeroK arg7) (kLd0 arg4 harg4 x2) (kLd arg4 harg4 x2)) (qLd arg4 harg4 x2) 23 :=
  congrArg (List.cons _) (hs22 c arg4 harg4 arg7 x2)
theorem hs24 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_24 c arg4 harg4 arg7 x2 = scores (tiles (zeroK arg7) (kLd0 arg4 harg4 x2) (kLd arg4 harg4 x2)) (qLd arg4 harg4 x2) 24 :=
  congrArg (List.cons _) (hs23 c arg4 harg4 arg7 x2)
theorem hs25 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_25 c arg4 harg4 arg7 x2 = scores (tiles (zeroK arg7) (kLd0 arg4 harg4 x2) (kLd arg4 harg4 x2)) (qLd arg4 harg4 x2) 25 :=
  congrArg (List.cons _) (hs24 c arg4 harg4 arg7 x2)
theorem hs26 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_26 c arg4 harg4 arg7 x2 = scores (tiles (zeroK arg7) (kLd0 arg4 harg4 x2) (kLd arg4 harg4 x2)) (qLd arg4 harg4 x2) 26 :=
  congrArg (List.cons _) (hs25 c arg4 harg4 arg7 x2)
theorem hs27 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_27 c arg4 harg4 arg7 x2 = scores (tiles (zeroK arg7) (kLd0 arg4 harg4 x2) (kLd arg4 harg4 x2)) (qLd arg4 harg4 x2) 27 :=
  congrArg (List.cons _) (hs26 c arg4 harg4 arg7 x2)
theorem hs28 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_28 c arg4 harg4 arg7 x2 = scores (tiles (zeroK arg7) (kLd0 arg4 harg4 x2) (kLd arg4 harg4 x2)) (qLd arg4 harg4 x2) 28 :=
  congrArg (List.cons _) (hs27 c arg4 harg4 arg7 x2)
theorem hs29 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_29 c arg4 harg4 arg7 x2 = scores (tiles (zeroK arg7) (kLd0 arg4 harg4 x2) (kLd arg4 harg4 x2)) (qLd arg4 harg4 x2) 29 :=
  congrArg (List.cons _) (hs28 c arg4 harg4 arg7 x2)
theorem hs30 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_30 c arg4 harg4 arg7 x2 = scores (tiles (zeroK arg7) (kLd0 arg4 harg4 x2) (kLd arg4 harg4 x2)) (qLd arg4 harg4 x2) 30 :=
  congrArg (List.cons _) (hs29 c arg4 harg4 arg7 x2)
theorem hs31 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_31 c arg4 harg4 arg7 x2 = scores (tiles (zeroK arg7) (kLd0 arg4 harg4 x2) (kLd arg4 harg4 x2)) (qLd arg4 harg4 x2) 31 :=
  congrArg (List.cons _) (hs30 c arg4 harg4 arg7 x2)
theorem hs32 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_32 c arg4 harg4 arg7 x2 = scores (tiles (zeroK arg7) (kLd0 arg4 harg4 x2) (kLd arg4 harg4 x2)) (qLd arg4 harg4 x2) 32 :=
  congrArg (List.cons _) (hs31 c arg4 harg4 arg7 x2)
theorem hs33 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_33 c arg4 harg4 arg7 x2 = scores (tiles (zeroK arg7) (kLd0 arg4 harg4 x2) (kLd arg4 harg4 x2)) (qLd arg4 harg4 x2) 33 :=
  congrArg (List.cons _) (hs32 c arg4 harg4 arg7 x2)
theorem hs34 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_34 c arg4 harg4 arg7 x2 = scores (tiles (zeroK arg7) (kLd0 arg4 harg4 x2) (kLd arg4 harg4 x2)) (qLd arg4 harg4 x2) 34 :=
  congrArg (List.cons _) (hs33 c arg4 harg4 arg7 x2)
theorem hs35 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_35 c arg4 harg4 arg7 x2 = scores (tiles (zeroK arg7) (kLd0 arg4 harg4 x2) (kLd arg4 harg4 x2)) (qLd arg4 harg4 x2) 35 :=
  congrArg (List.cons _) (hs34 c arg4 harg4 arg7 x2)
theorem hs36 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_36 c arg4 harg4 arg7 x2 = scores (tiles (zeroK arg7) (kLd0 arg4 harg4 x2) (kLd arg4 harg4 x2)) (qLd arg4 harg4 x2) 36 :=
  congrArg (List.cons _) (hs35 c arg4 harg4 arg7 x2)
theorem hs37 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_37 c arg4 harg4 arg7 x2 = scores (tiles (zeroK arg7) (kLd0 arg4 harg4 x2) (kLd arg4 harg4 x2)) (qLd arg4 harg4 x2) 37 :=
  congrArg (List.cons _) (hs36 c arg4 harg4 arg7 x2)
theorem hs38 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_38 c arg4 harg4 arg7 x2 = scores (tiles (zeroK arg7) (kLd0 arg4 harg4 x2) (kLd arg4 harg4 x2)) (qLd arg4 harg4 x2) 38 :=
  congrArg (List.cons _) (hs37 c arg4 harg4 arg7 x2)
theorem hs39 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_39 c arg4 harg4 arg7 x2 = scores (tiles (zeroK arg7) (kLd0 arg4 harg4 x2) (kLd arg4 harg4 x2)) (qLd arg4 harg4 x2) 39 :=
  congrArg (List.cons _) (hs38 c arg4 harg4 arg7 x2)
theorem hs40 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_40 c arg4 harg4 arg7 x2 = scores (tiles (zeroK arg7) (kLd0 arg4 harg4 x2) (kLd arg4 harg4 x2)) (qLd arg4 harg4 x2) 40 :=
  congrArg (List.cons _) (hs39 c arg4 harg4 arg7 x2)
theorem hs41 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_41 c arg4 harg4 arg7 x2 = scores (tiles (zeroK arg7) (kLd0 arg4 harg4 x2) (kLd arg4 harg4 x2)) (qLd arg4 harg4 x2) 41 :=
  congrArg (List.cons _) (hs40 c arg4 harg4 arg7 x2)
theorem hs42 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_42 c arg4 harg4 arg7 x2 = scores (tiles (zeroK arg7) (kLd0 arg4 harg4 x2) (kLd arg4 harg4 x2)) (qLd arg4 harg4 x2) 42 :=
  congrArg (List.cons _) (hs41 c arg4 harg4 arg7 x2)
theorem hs43 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_43 c arg4 harg4 arg7 x2 = scores (tiles (zeroK arg7) (kLd0 arg4 harg4 x2) (kLd arg4 harg4 x2)) (qLd arg4 harg4 x2) 43 :=
  congrArg (List.cons _) (hs42 c arg4 harg4 arg7 x2)
theorem hs44 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_44 c arg4 harg4 arg7 x2 = scores (tiles (zeroK arg7) (kLd0 arg4 harg4 x2) (kLd arg4 harg4 x2)) (qLd arg4 harg4 x2) 44 :=
  congrArg (List.cons _) (hs43 c arg4 harg4 arg7 x2)
theorem hs45 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_45 c arg4 harg4 arg7 x2 = scores (tiles (zeroK arg7) (kLd0 arg4 harg4 x2) (kLd arg4 harg4 x2)) (qLd arg4 harg4 x2) 45 :=
  congrArg (List.cons _) (hs44 c arg4 harg4 arg7 x2)
theorem hs46 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_46 c arg4 harg4 arg7 x2 = scores (tiles (zeroK arg7) (kLd0 arg4 harg4 x2) (kLd arg4 harg4 x2)) (qLd arg4 harg4 x2) 46 :=
  congrArg (List.cons _) (hs45 c arg4 harg4 arg7 x2)
theorem hs47 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_47 c arg4 harg4 arg7 x2 = scores (tiles (zeroK arg7) (kLd0 arg4 harg4 x2) (kLd arg4 harg4 x2)) (qLd arg4 harg4 x2) 47 :=
  congrArg (List.cons _) (hs46 c arg4 harg4 arg7 x2)
theorem hs48 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_48 c arg4 harg4 arg7 x2 = scores (tiles (zeroK arg7) (kLd0 arg4 harg4 x2) (kLd arg4 harg4 x2)) (qLd arg4 harg4 x2) 48 :=
  congrArg (List.cons _) (hs47 c arg4 harg4 arg7 x2)
theorem hs49 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_49 c arg4 harg4 arg7 x2 = scores (tiles (zeroK arg7) (kLd0 arg4 harg4 x2) (kLd arg4 harg4 x2)) (qLd arg4 harg4 x2) 49 :=
  congrArg (List.cons _) (hs48 c arg4 harg4 arg7 x2)
theorem hs50 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_50 c arg4 harg4 arg7 x2 = scores (tiles (zeroK arg7) (kLd0 arg4 harg4 x2) (kLd arg4 harg4 x2)) (qLd arg4 harg4 x2) 50 :=
  congrArg (List.cons _) (hs49 c arg4 harg4 arg7 x2)
theorem hs51 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_51 c arg4 harg4 arg7 x2 = scores (tiles (zeroK arg7) (kLd0 arg4 harg4 x2) (kLd arg4 harg4 x2)) (qLd arg4 harg4 x2) 51 :=
  congrArg (List.cons _) (hs50 c arg4 harg4 arg7 x2)
theorem hs52 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_52 c arg4 harg4 arg7 x2 = scores (tiles (zeroK arg7) (kLd0 arg4 harg4 x2) (kLd arg4 harg4 x2)) (qLd arg4 harg4 x2) 52 :=
  congrArg (List.cons _) (hs51 c arg4 harg4 arg7 x2)
theorem hs53 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_53 c arg4 harg4 arg7 x2 = scores (tiles (zeroK arg7) (kLd0 arg4 harg4 x2) (kLd arg4 harg4 x2)) (qLd arg4 harg4 x2) 53 :=
  congrArg (List.cons _) (hs52 c arg4 harg4 arg7 x2)
theorem hs54 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_54 c arg4 harg4 arg7 x2 = scores (tiles (zeroK arg7) (kLd0 arg4 harg4 x2) (kLd arg4 harg4 x2)) (qLd arg4 harg4 x2) 54 :=
  congrArg (List.cons _) (hs53 c arg4 harg4 arg7 x2)
theorem hs55 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_55 c arg4 harg4 arg7 x2 = scores (tiles (zeroK arg7) (kLd0 arg4 harg4 x2) (kLd arg4 harg4 x2)) (qLd arg4 harg4 x2) 55 :=
  congrArg (List.cons _) (hs54 c arg4 harg4 arg7 x2)
theorem hs56 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_56 c arg4 harg4 arg7 x2 = scores (tiles (zeroK arg7) (kLd0 arg4 harg4 x2) (kLd arg4 harg4 x2)) (qLd arg4 harg4 x2) 56 :=
  congrArg (List.cons _) (hs55 c arg4 harg4 arg7 x2)
theorem hs57 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_57 c arg4 harg4 arg7 x2 = scores (tiles (zeroK arg7) (kLd0 arg4 harg4 x2) (kLd arg4 harg4 x2)) (qLd arg4 harg4 x2) 57 :=
  congrArg (List.cons _) (hs56 c arg4 harg4 arg7 x2)
theorem hs58 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_58 c arg4 harg4 arg7 x2 = scores (tiles (zeroK arg7) (kLd0 arg4 harg4 x2) (kLd arg4 harg4 x2)) (qLd arg4 harg4 x2) 58 :=
  congrArg (List.cons _) (hs57 c arg4 harg4 arg7 x2)
theorem hs59 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_59 c arg4 harg4 arg7 x2 = scores (tiles (zeroK arg7) (kLd0 arg4 harg4 x2) (kLd arg4 harg4 x2)) (qLd arg4 harg4 x2) 59 :=
  congrArg (List.cons _) (hs58 c arg4 harg4 arg7 x2)
theorem hs60 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_60 c arg4 harg4 arg7 x2 = scores (tiles (zeroK arg7) (kLd0 arg4 harg4 x2) (kLd arg4 harg4 x2)) (qLd arg4 harg4 x2) 60 :=
  congrArg (List.cons _) (hs59 c arg4 harg4 arg7 x2)
theorem hs61 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_61 c arg4 harg4 arg7 x2 = scores (tiles (zeroK arg7) (kLd0 arg4 harg4 x2) (kLd arg4 harg4 x2)) (qLd arg4 harg4 x2) 61 :=
  congrArg (List.cons _) (hs60 c arg4 harg4 arg7 x2)
theorem hs62 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_62 c arg4 harg4 arg7 x2 = scores (tiles (zeroK arg7) (kLd0 arg4 harg4 x2) (kLd arg4 harg4 x2)) (qLd arg4 harg4 x2) 62 :=
  congrArg (List.cons _) (hs61 c arg4 harg4 arg7 x2)
theorem hs63 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_63 c arg4 harg4 arg7 x2 = scores (tiles (zeroK arg7) (kLd0 arg4 harg4 x2) (kLd arg4 harg4 x2)) (qLd arg4 harg4 x2) 63 :=
  congrArg (List.cons _) (hs62 c arg4 harg4 arg7 x2)
theorem hs64 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_64 c arg4 harg4 arg7 x2 = scores (tiles (zeroK arg7) (kLd0 arg4 harg4 x2) (kLd arg4 harg4 x2)) (qLd arg4 harg4 x2) 64 :=
  congrArg (List.cons _) (hs63 c arg4 harg4 arg7 x2)
theorem hs65 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_65 c arg4 harg4 arg7 x2 = scores (tiles (zeroK arg7) (kLd0 arg4 harg4 x2) (kLd arg4 harg4 x2)) (qLd arg4 harg4 x2) 65 :=
  congrArg (List.cons _) (hs64 c arg4 harg4 arg7 x2)
theorem hs66 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_66 c arg4 harg4 arg7 x2 = scores (tiles (zeroK arg7) (kLd0 arg4 harg4 x2) (kLd arg4 harg4 x2)) (qLd arg4 harg4 x2) 66 :=
  congrArg (List.cons _) (hs65 c arg4 harg4 arg7 x2)
theorem hs67 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_67 c arg4 harg4 arg7 x2 = scores (tiles (zeroK arg7) (kLd0 arg4 harg4 x2) (kLd arg4 harg4 x2)) (qLd arg4 harg4 x2) 67 :=
  congrArg (List.cons _) (hs66 c arg4 harg4 arg7 x2)
theorem hs68 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_68 c arg4 harg4 arg7 x2 = scores (tiles (zeroK arg7) (kLd0 arg4 harg4 x2) (kLd arg4 harg4 x2)) (qLd arg4 harg4 x2) 68 :=
  congrArg (List.cons _) (hs67 c arg4 harg4 arg7 x2)
theorem hs69 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_69 c arg4 harg4 arg7 x2 = scores (tiles (zeroK arg7) (kLd0 arg4 harg4 x2) (kLd arg4 harg4 x2)) (qLd arg4 harg4 x2) 69 :=
  congrArg (List.cons _) (hs68 c arg4 harg4 arg7 x2)
theorem hs70 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_70 c arg4 harg4 arg7 x2 = scores (tiles (zeroK arg7) (kLd0 arg4 harg4 x2) (kLd arg4 harg4 x2)) (qLd arg4 harg4 x2) 70 :=
  congrArg (List.cons _) (hs69 c arg4 harg4 arg7 x2)
theorem hs71 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_71 c arg4 harg4 arg7 x2 = scores (tiles (zeroK arg7) (kLd0 arg4 harg4 x2) (kLd arg4 harg4 x2)) (qLd arg4 harg4 x2) 71 :=
  congrArg (List.cons _) (hs70 c arg4 harg4 arg7 x2)
theorem hs72 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_72 c arg4 harg4 arg7 x2 = scores (tiles (zeroK arg7) (kLd0 arg4 harg4 x2) (kLd arg4 harg4 x2)) (qLd arg4 harg4 x2) 72 :=
  congrArg (List.cons _) (hs71 c arg4 harg4 arg7 x2)
theorem hs73 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_73 c arg4 harg4 arg7 x2 = scores (tiles (zeroK arg7) (kLd0 arg4 harg4 x2) (kLd arg4 harg4 x2)) (qLd arg4 harg4 x2) 73 :=
  congrArg (List.cons _) (hs72 c arg4 harg4 arg7 x2)
theorem hs74 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_74 c arg4 harg4 arg7 x2 = scores (tiles (zeroK arg7) (kLd0 arg4 harg4 x2) (kLd arg4 harg4 x2)) (qLd arg4 harg4 x2) 74 :=
  congrArg (List.cons _) (hs73 c arg4 harg4 arg7 x2)
theorem hs75 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_75 c arg4 harg4 arg7 x2 = scores (tiles (zeroK arg7) (kLd0 arg4 harg4 x2) (kLd arg4 harg4 x2)) (qLd arg4 harg4 x2) 75 :=
  congrArg (List.cons _) (hs74 c arg4 harg4 arg7 x2)
theorem hs76 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_76 c arg4 harg4 arg7 x2 = scores (tiles (zeroK arg7) (kLd0 arg4 harg4 x2) (kLd arg4 harg4 x2)) (qLd arg4 harg4 x2) 76 :=
  congrArg (List.cons _) (hs75 c arg4 harg4 arg7 x2)
theorem hs77 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_77 c arg4 harg4 arg7 x2 = scores (tiles (zeroK arg7) (kLd0 arg4 harg4 x2) (kLd arg4 harg4 x2)) (qLd arg4 harg4 x2) 77 :=
  congrArg (List.cons _) (hs76 c arg4 harg4 arg7 x2)
theorem hs78 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_78 c arg4 harg4 arg7 x2 = scores (tiles (zeroK arg7) (kLd0 arg4 harg4 x2) (kLd arg4 harg4 x2)) (qLd arg4 harg4 x2) 78 :=
  congrArg (List.cons _) (hs77 c arg4 harg4 arg7 x2)
theorem hs79 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_79 c arg4 harg4 arg7 x2 = scores (tiles (zeroK arg7) (kLd0 arg4 harg4 x2) (kLd arg4 harg4 x2)) (qLd arg4 harg4 x2) 79 :=
  congrArg (List.cons _) (hs78 c arg4 harg4 arg7 x2)
theorem hs80 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_80 c arg4 harg4 arg7 x2 = scores (tiles (zeroK arg7) (kLd0 arg4 harg4 x2) (kLd arg4 harg4 x2)) (qLd arg4 harg4 x2) 80 :=
  congrArg (List.cons _) (hs79 c arg4 harg4 arg7 x2)
theorem hs81 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_81 c arg4 harg4 arg7 x2 = scores (tiles (zeroK arg7) (kLd0 arg4 harg4 x2) (kLd arg4 harg4 x2)) (qLd arg4 harg4 x2) 81 :=
  congrArg (List.cons _) (hs80 c arg4 harg4 arg7 x2)
theorem hs82 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_82 c arg4 harg4 arg7 x2 = scores (tiles (zeroK arg7) (kLd0 arg4 harg4 x2) (kLd arg4 harg4 x2)) (qLd arg4 harg4 x2) 82 :=
  congrArg (List.cons _) (hs81 c arg4 harg4 arg7 x2)
theorem hs83 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_83 c arg4 harg4 arg7 x2 = scores (tiles (zeroK arg7) (kLd0 arg4 harg4 x2) (kLd arg4 harg4 x2)) (qLd arg4 harg4 x2) 83 :=
  congrArg (List.cons _) (hs82 c arg4 harg4 arg7 x2)
theorem hs84 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_84 c arg4 harg4 arg7 x2 = scores (tiles (zeroK arg7) (kLd0 arg4 harg4 x2) (kLd arg4 harg4 x2)) (qLd arg4 harg4 x2) 84 :=
  congrArg (List.cons _) (hs83 c arg4 harg4 arg7 x2)
theorem hs85 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_85 c arg4 harg4 arg7 x2 = scores (tiles (zeroK arg7) (kLd0 arg4 harg4 x2) (kLd arg4 harg4 x2)) (qLd arg4 harg4 x2) 85 :=
  congrArg (List.cons _) (hs84 c arg4 harg4 arg7 x2)
theorem hs86 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_86 c arg4 harg4 arg7 x2 = scores (tiles (zeroK arg7) (kLd0 arg4 harg4 x2) (kLd arg4 harg4 x2)) (qLd arg4 harg4 x2) 86 :=
  congrArg (List.cons _) (hs85 c arg4 harg4 arg7 x2)
theorem hs87 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_87 c arg4 harg4 arg7 x2 = scores (tiles (zeroK arg7) (kLd0 arg4 harg4 x2) (kLd arg4 harg4 x2)) (qLd arg4 harg4 x2) 87 :=
  congrArg (List.cons _) (hs86 c arg4 harg4 arg7 x2)
theorem hs88 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_88 c arg4 harg4 arg7 x2 = scores (tiles (zeroK arg7) (kLd0 arg4 harg4 x2) (kLd arg4 harg4 x2)) (qLd arg4 harg4 x2) 88 :=
  congrArg (List.cons _) (hs87 c arg4 harg4 arg7 x2)
theorem hs89 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_89 c arg4 harg4 arg7 x2 = scores (tiles (zeroK arg7) (kLd0 arg4 harg4 x2) (kLd arg4 harg4 x2)) (qLd arg4 harg4 x2) 89 :=
  congrArg (List.cons _) (hs88 c arg4 harg4 arg7 x2)
theorem hs90 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_90 c arg4 harg4 arg7 x2 = scores (tiles (zeroK arg7) (kLd0 arg4 harg4 x2) (kLd arg4 harg4 x2)) (qLd arg4 harg4 x2) 90 :=
  congrArg (List.cons _) (hs89 c arg4 harg4 arg7 x2)
theorem hs91 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_91 c arg4 harg4 arg7 x2 = scores (tiles (zeroK arg7) (kLd0 arg4 harg4 x2) (kLd arg4 harg4 x2)) (qLd arg4 harg4 x2) 91 :=
  congrArg (List.cons _) (hs90 c arg4 harg4 arg7 x2)
theorem hs92 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_92 c arg4 harg4 arg7 x2 = scores (tiles (zeroK arg7) (kLd0 arg4 harg4 x2) (kLd arg4 harg4 x2)) (qLd arg4 harg4 x2) 92 :=
  congrArg (List.cons _) (hs91 c arg4 harg4 arg7 x2)
theorem hs93 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_93 c arg4 harg4 arg7 x2 = scores (tiles (zeroK arg7) (kLd0 arg4 harg4 x2) (kLd arg4 harg4 x2)) (qLd arg4 harg4 x2) 93 :=
  congrArg (List.cons _) (hs92 c arg4 harg4 arg7 x2)
theorem hs94 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_94 c arg4 harg4 arg7 x2 = scores (tiles (zeroK arg7) (kLd0 arg4 harg4 x2) (kLd arg4 harg4 x2)) (qLd arg4 harg4 x2) 94 :=
  congrArg (List.cons _) (hs93 c arg4 harg4 arg7 x2)
theorem hs95 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_95 c arg4 harg4 arg7 x2 = scores (tiles (zeroK arg7) (kLd0 arg4 harg4 x2) (kLd arg4 harg4 x2)) (qLd arg4 harg4 x2) 95 :=
  congrArg (List.cons _) (hs94 c arg4 harg4 arg7 x2)
theorem hs96 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_96 c arg4 harg4 arg7 x2 = scores (tiles (zeroK arg7) (kLd0 arg4 harg4 x2) (kLd arg4 harg4 x2)) (qLd arg4 harg4 x2) 96 :=
  congrArg (List.cons _) (hs95 c arg4 harg4 arg7 x2)
theorem hs97 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_97 c arg4 harg4 arg7 x2 = scores (tiles (zeroK arg7) (kLd0 arg4 harg4 x2) (kLd arg4 harg4 x2)) (qLd arg4 harg4 x2) 97 :=
  congrArg (List.cons _) (hs96 c arg4 harg4 arg7 x2)
theorem hs98 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_98 c arg4 harg4 arg7 x2 = scores (tiles (zeroK arg7) (kLd0 arg4 harg4 x2) (kLd arg4 harg4 x2)) (qLd arg4 harg4 x2) 98 :=
  congrArg (List.cons _) (hs97 c arg4 harg4 arg7 x2)
theorem hs99 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_99 c arg4 harg4 arg7 x2 = scores (tiles (zeroK arg7) (kLd0 arg4 harg4 x2) (kLd arg4 harg4 x2)) (qLd arg4 harg4 x2) 99 :=
  congrArg (List.cons _) (hs98 c arg4 harg4 arg7 x2)
theorem hs100 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_100 c arg4 harg4 arg7 x2 = scores (tiles (zeroK arg7) (kLd0 arg4 harg4 x2) (kLd arg4 harg4 x2)) (qLd arg4 harg4 x2) 100 :=
  congrArg (List.cons _) (hs99 c arg4 harg4 arg7 x2)
theorem hs101 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_101 c arg4 harg4 arg7 x2 = scores (tiles (zeroK arg7) (kLd0 arg4 harg4 x2) (kLd arg4 harg4 x2)) (qLd arg4 harg4 x2) 101 :=
  congrArg (List.cons _) (hs100 c arg4 harg4 arg7 x2)
theorem hs102 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_102 c arg4 harg4 arg7 x2 = scores (tiles (zeroK arg7) (kLd0 arg4 harg4 x2) (kLd arg4 harg4 x2)) (qLd arg4 harg4 x2) 102 :=
  congrArg (List.cons _) (hs101 c arg4 harg4 arg7 x2)
theorem hs103 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_103 c arg4 harg4 arg7 x2 = scores (tiles (zeroK arg7) (kLd0 arg4 harg4 x2) (kLd arg4 harg4 x2)) (qLd arg4 harg4 x2) 103 :=
  congrArg (List.cons _) (hs102 c arg4 harg4 arg7 x2)
theorem hs104 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_104 c arg4 harg4 arg7 x2 = scores (tiles (zeroK arg7) (kLd0 arg4 harg4 x2) (kLd arg4 harg4 x2)) (qLd arg4 harg4 x2) 104 :=
  congrArg (List.cons _) (hs103 c arg4 harg4 arg7 x2)
theorem hs105 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_105 c arg4 harg4 arg7 x2 = scores (tiles (zeroK arg7) (kLd0 arg4 harg4 x2) (kLd arg4 harg4 x2)) (qLd arg4 harg4 x2) 105 :=
  congrArg (List.cons _) (hs104 c arg4 harg4 arg7 x2)
theorem hs106 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_106 c arg4 harg4 arg7 x2 = scores (tiles (zeroK arg7) (kLd0 arg4 harg4 x2) (kLd arg4 harg4 x2)) (qLd arg4 harg4 x2) 106 :=
  congrArg (List.cons _) (hs105 c arg4 harg4 arg7 x2)
theorem hs107 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_107 c arg4 harg4 arg7 x2 = scores (tiles (zeroK arg7) (kLd0 arg4 harg4 x2) (kLd arg4 harg4 x2)) (qLd arg4 harg4 x2) 107 :=
  congrArg (List.cons _) (hs106 c arg4 harg4 arg7 x2)
theorem hs108 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_108 c arg4 harg4 arg7 x2 = scores (tiles (zeroK arg7) (kLd0 arg4 harg4 x2) (kLd arg4 harg4 x2)) (qLd arg4 harg4 x2) 108 :=
  congrArg (List.cons _) (hs107 c arg4 harg4 arg7 x2)
theorem hs109 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_109 c arg4 harg4 arg7 x2 = scores (tiles (zeroK arg7) (kLd0 arg4 harg4 x2) (kLd arg4 harg4 x2)) (qLd arg4 harg4 x2) 109 :=
  congrArg (List.cons _) (hs108 c arg4 harg4 arg7 x2)
theorem hs110 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_110 c arg4 harg4 arg7 x2 = scores (tiles (zeroK arg7) (kLd0 arg4 harg4 x2) (kLd arg4 harg4 x2)) (qLd arg4 harg4 x2) 110 :=
  congrArg (List.cons _) (hs109 c arg4 harg4 arg7 x2)
theorem hs111 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_111 c arg4 harg4 arg7 x2 = scores (tiles (zeroK arg7) (kLd0 arg4 harg4 x2) (kLd arg4 harg4 x2)) (qLd arg4 harg4 x2) 111 :=
  congrArg (List.cons _) (hs110 c arg4 harg4 arg7 x2)
theorem hs112 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_112 c arg4 harg4 arg7 x2 = scores (tiles (zeroK arg7) (kLd0 arg4 harg4 x2) (kLd arg4 harg4 x2)) (qLd arg4 harg4 x2) 112 :=
  congrArg (List.cons _) (hs111 c arg4 harg4 arg7 x2)
theorem hs113 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_113 c arg4 harg4 arg7 x2 = scores (tiles (zeroK arg7) (kLd0 arg4 harg4 x2) (kLd arg4 harg4 x2)) (qLd arg4 harg4 x2) 113 :=
  congrArg (List.cons _) (hs112 c arg4 harg4 arg7 x2)
theorem hs114 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_114 c arg4 harg4 arg7 x2 = scores (tiles (zeroK arg7) (kLd0 arg4 harg4 x2) (kLd arg4 harg4 x2)) (qLd arg4 harg4 x2) 114 :=
  congrArg (List.cons _) (hs113 c arg4 harg4 arg7 x2)
theorem hs115 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_115 c arg4 harg4 arg7 x2 = scores (tiles (zeroK arg7) (kLd0 arg4 harg4 x2) (kLd arg4 harg4 x2)) (qLd arg4 harg4 x2) 115 :=
  congrArg (List.cons _) (hs114 c arg4 harg4 arg7 x2)
theorem hs116 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_116 c arg4 harg4 arg7 x2 = scores (tiles (zeroK arg7) (kLd0 arg4 harg4 x2) (kLd arg4 harg4 x2)) (qLd arg4 harg4 x2) 116 :=
  congrArg (List.cons _) (hs115 c arg4 harg4 arg7 x2)
theorem hs117 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_117 c arg4 harg4 arg7 x2 = scores (tiles (zeroK arg7) (kLd0 arg4 harg4 x2) (kLd arg4 harg4 x2)) (qLd arg4 harg4 x2) 117 :=
  congrArg (List.cons _) (hs116 c arg4 harg4 arg7 x2)
theorem hs118 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_118 c arg4 harg4 arg7 x2 = scores (tiles (zeroK arg7) (kLd0 arg4 harg4 x2) (kLd arg4 harg4 x2)) (qLd arg4 harg4 x2) 118 :=
  congrArg (List.cons _) (hs117 c arg4 harg4 arg7 x2)
theorem hs119 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_119 c arg4 harg4 arg7 x2 = scores (tiles (zeroK arg7) (kLd0 arg4 harg4 x2) (kLd arg4 harg4 x2)) (qLd arg4 harg4 x2) 119 :=
  congrArg (List.cons _) (hs118 c arg4 harg4 arg7 x2)
theorem hs120 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_120 c arg4 harg4 arg7 x2 = scores (tiles (zeroK arg7) (kLd0 arg4 harg4 x2) (kLd arg4 harg4 x2)) (qLd arg4 harg4 x2) 120 :=
  congrArg (List.cons _) (hs119 c arg4 harg4 arg7 x2)
theorem hs121 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_121 c arg4 harg4 arg7 x2 = scores (tiles (zeroK arg7) (kLd0 arg4 harg4 x2) (kLd arg4 harg4 x2)) (qLd arg4 harg4 x2) 121 :=
  congrArg (List.cons _) (hs120 c arg4 harg4 arg7 x2)
theorem hs122 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_122 c arg4 harg4 arg7 x2 = scores (tiles (zeroK arg7) (kLd0 arg4 harg4 x2) (kLd arg4 harg4 x2)) (qLd arg4 harg4 x2) 122 :=
  congrArg (List.cons _) (hs121 c arg4 harg4 arg7 x2)
theorem hs123 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_123 c arg4 harg4 arg7 x2 = scores (tiles (zeroK arg7) (kLd0 arg4 harg4 x2) (kLd arg4 harg4 x2)) (qLd arg4 harg4 x2) 123 :=
  congrArg (List.cons _) (hs122 c arg4 harg4 arg7 x2)
theorem hs124 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_124 c arg4 harg4 arg7 x2 = scores (tiles (zeroK arg7) (kLd0 arg4 harg4 x2) (kLd arg4 harg4 x2)) (qLd arg4 harg4 x2) 124 :=
  congrArg (List.cons _) (hs123 c arg4 harg4 arg7 x2)
theorem hs125 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_125 c arg4 harg4 arg7 x2 = scores (tiles (zeroK arg7) (kLd0 arg4 harg4 x2) (kLd arg4 harg4 x2)) (qLd arg4 harg4 x2) 125 :=
  congrArg (List.cons _) (hs124 c arg4 harg4 arg7 x2)
theorem hs126 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_126 c arg4 harg4 arg7 x2 = scores (tiles (zeroK arg7) (kLd0 arg4 harg4 x2) (kLd arg4 harg4 x2)) (qLd arg4 harg4 x2) 126 :=
  congrArg (List.cons _) (hs125 c arg4 harg4 arg7 x2)
theorem hs127 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_127 c arg4 harg4 arg7 x2 = scores (tiles (zeroK arg7) (kLd0 arg4 harg4 x2) (kLd arg4 harg4 x2)) (qLd arg4 harg4 x2) 127 :=
  congrArg (List.cons _) (hs126 c arg4 harg4 arg7 x2)
theorem hs128 (c : Dev nD) (arg4 : Memref sig .tc .vmem S1x1024x1280 .bf16) (harg4 : arg4.IsWhole) (arg7 : Memref sig .tc .vmem S1x128x128 .bf16) (x2 : Vec F S1x1024x1280 .bf16) : kernelRun0_A.sl.HS0_128 c arg4 harg4 arg7 x2 = scores (tiles (zeroK arg7) (kLd0 arg4 harg4 x2) (kLd arg4 harg4 x2)) (qLd arg4 harg4 x2) 128 :=
  congrArg (List.cons _) (hs127 c arg4 harg4 arg7 x2)

theorem held_eq (c : Dev nD) (arg4 : Memref sig .tc .vmem S1x1024x1280 .bf16) (harg4 : arg4.IsWhole) (arg7 : Memref sig .tc .vmem S1x128x128 .bf16) (x2 : Vec F S1x1024x1280 .bf16) (j : Fin 128) : held c arg4 harg4 arg7 x2 j = scores (tiles (zeroK arg7) (kLd0 arg4 harg4 x2) (kLd arg4 harg4 x2)) (qLd arg4 harg4 x2) (min (j.val + 3) 128) := by
  match j with
  | ⟨0, _⟩ => exact hs3 c arg4 harg4 arg7 x2
  | ⟨1, _⟩ => exact hs4 c arg4 harg4 arg7 x2
  | ⟨2, _⟩ => exact hs5 c arg4 harg4 arg7 x2
  | ⟨3, _⟩ => exact hs6 c arg4 harg4 arg7 x2
  | ⟨4, _⟩ => exact hs7 c arg4 harg4 arg7 x2
  | ⟨5, _⟩ => exact hs8 c arg4 harg4 arg7 x2
  | ⟨6, _⟩ => exact hs9 c arg4 harg4 arg7 x2
  | ⟨7, _⟩ => exact hs10 c arg4 harg4 arg7 x2
  | ⟨8, _⟩ => exact hs11 c arg4 harg4 arg7 x2
  | ⟨9, _⟩ => exact hs12 c arg4 harg4 arg7 x2
  | ⟨10, _⟩ => exact hs13 c arg4 harg4 arg7 x2
  | ⟨11, _⟩ => exact hs14 c arg4 harg4 arg7 x2
  | ⟨12, _⟩ => exact hs15 c arg4 harg4 arg7 x2
  | ⟨13, _⟩ => exact hs16 c arg4 harg4 arg7 x2
  | ⟨14, _⟩ => exact hs17 c arg4 harg4 arg7 x2
  | ⟨15, _⟩ => exact hs18 c arg4 harg4 arg7 x2
  | ⟨16, _⟩ => exact hs19 c arg4 harg4 arg7 x2
  | ⟨17, _⟩ => exact hs20 c arg4 harg4 arg7 x2
  | ⟨18, _⟩ => exact hs21 c arg4 harg4 arg7 x2
  | ⟨19, _⟩ => exact hs22 c arg4 harg4 arg7 x2
  | ⟨20, _⟩ => exact hs23 c arg4 harg4 arg7 x2
  | ⟨21, _⟩ => exact hs24 c arg4 harg4 arg7 x2
  | ⟨22, _⟩ => exact hs25 c arg4 harg4 arg7 x2
  | ⟨23, _⟩ => exact hs26 c arg4 harg4 arg7 x2
  | ⟨24, _⟩ => exact hs27 c arg4 harg4 arg7 x2
  | ⟨25, _⟩ => exact hs28 c arg4 harg4 arg7 x2
  | ⟨26, _⟩ => exact hs29 c arg4 harg4 arg7 x2
  | ⟨27, _⟩ => exact hs30 c arg4 harg4 arg7 x2
  | ⟨28, _⟩ => exact hs31 c arg4 harg4 arg7 x2
  | ⟨29, _⟩ => exact hs32 c arg4 harg4 arg7 x2
  | ⟨30, _⟩ => exact hs33 c arg4 harg4 arg7 x2
  | ⟨31, _⟩ => exact hs34 c arg4 harg4 arg7 x2
  | ⟨32, _⟩ => exact hs35 c arg4 harg4 arg7 x2
  | ⟨33, _⟩ => exact hs36 c arg4 harg4 arg7 x2
  | ⟨34, _⟩ => exact hs37 c arg4 harg4 arg7 x2
  | ⟨35, _⟩ => exact hs38 c arg4 harg4 arg7 x2
  | ⟨36, _⟩ => exact hs39 c arg4 harg4 arg7 x2
  | ⟨37, _⟩ => exact hs40 c arg4 harg4 arg7 x2
  | ⟨38, _⟩ => exact hs41 c arg4 harg4 arg7 x2
  | ⟨39, _⟩ => exact hs42 c arg4 harg4 arg7 x2
  | ⟨40, _⟩ => exact hs43 c arg4 harg4 arg7 x2
  | ⟨41, _⟩ => exact hs44 c arg4 harg4 arg7 x2
  | ⟨42, _⟩ => exact hs45 c arg4 harg4 arg7 x2
  | ⟨43, _⟩ => exact hs46 c arg4 harg4 arg7 x2
  | ⟨44, _⟩ => exact hs47 c arg4 harg4 arg7 x2
  | ⟨45, _⟩ => exact hs48 c arg4 harg4 arg7 x2
  | ⟨46, _⟩ => exact hs49 c arg4 harg4 arg7 x2
  | ⟨47, _⟩ => exact hs50 c arg4 harg4 arg7 x2
  | ⟨48, _⟩ => exact hs51 c arg4 harg4 arg7 x2
  | ⟨49, _⟩ => exact hs52 c arg4 harg4 arg7 x2
  | ⟨50, _⟩ => exact hs53 c arg4 harg4 arg7 x2
  | ⟨51, _⟩ => exact hs54 c arg4 harg4 arg7 x2
  | ⟨52, _⟩ => exact hs55 c arg4 harg4 arg7 x2
  | ⟨53, _⟩ => exact hs56 c arg4 harg4 arg7 x2
  | ⟨54, _⟩ => exact hs57 c arg4 harg4 arg7 x2
  | ⟨55, _⟩ => exact hs58 c arg4 harg4 arg7 x2
  | ⟨56, _⟩ => exact hs59 c arg4 harg4 arg7 x2
  | ⟨57, _⟩ => exact hs60 c arg4 harg4 arg7 x2
  | ⟨58, _⟩ => exact hs61 c arg4 harg4 arg7 x2
  | ⟨59, _⟩ => exact hs62 c arg4 harg4 arg7 x2
  | ⟨60, _⟩ => exact hs63 c arg4 harg4 arg7 x2
  | ⟨61, _⟩ => exact hs64 c arg4 harg4 arg7 x2
  | ⟨62, _⟩ => exact hs65 c arg4 harg4 arg7 x2
  | ⟨63, _⟩ => exact hs66 c arg4 harg4 arg7 x2
  | ⟨64, _⟩ => exact hs67 c arg4 harg4 arg7 x2
  | ⟨65, _⟩ => exact hs68 c arg4 harg4 arg7 x2
  | ⟨66, _⟩ => exact hs69 c arg4 harg4 arg7 x2
  | ⟨67, _⟩ => exact hs70 c arg4 harg4 arg7 x2
  | ⟨68, _⟩ => exact hs71 c arg4 harg4 arg7 x2
  | ⟨69, _⟩ => exact hs72 c arg4 harg4 arg7 x2
  | ⟨70, _⟩ => exact hs73 c arg4 harg4 arg7 x2
  | ⟨71, _⟩ => exact hs74 c arg4 harg4 arg7 x2
  | ⟨72, _⟩ => exact hs75 c arg4 harg4 arg7 x2
  | ⟨73, _⟩ => exact hs76 c arg4 harg4 arg7 x2
  | ⟨74, _⟩ => exact hs77 c arg4 harg4 arg7 x2
  | ⟨75, _⟩ => exact hs78 c arg4 harg4 arg7 x2
  | ⟨76, _⟩ => exact hs79 c arg4 harg4 arg7 x2
  | ⟨77, _⟩ => exact hs80 c arg4 harg4 arg7 x2
  | ⟨78, _⟩ => exact hs81 c arg4 harg4 arg7 x2
  | ⟨79, _⟩ => exact hs82 c arg4 harg4 arg7 x2
  | ⟨80, _⟩ => exact hs83 c arg4 harg4 arg7 x2
  | ⟨81, _⟩ => exact hs84 c arg4 harg4 arg7 x2
  | ⟨82, _⟩ => exact hs85 c arg4 harg4 arg7 x2
  | ⟨83, _⟩ => exact hs86 c arg4 harg4 arg7 x2
  | ⟨84, _⟩ => exact hs87 c arg4 harg4 arg7 x2
  | ⟨85, _⟩ => exact hs88 c arg4 harg4 arg7 x2
  | ⟨86, _⟩ => exact hs89 c arg4 harg4 arg7 x2
  | ⟨87, _⟩ => exact hs90 c arg4 harg4 arg7 x2
  | ⟨88, _⟩ => exact hs91 c arg4 harg4 arg7 x2
  | ⟨89, _⟩ => exact hs92 c arg4 harg4 arg7 x2
  | ⟨90, _⟩ => exact hs93 c arg4 harg4 arg7 x2
  | ⟨91, _⟩ => exact hs94 c arg4 harg4 arg7 x2
  | ⟨92, _⟩ => exact hs95 c arg4 harg4 arg7 x2
  | ⟨93, _⟩ => exact hs96 c arg4 harg4 arg7 x2
  | ⟨94, _⟩ => exact hs97 c arg4 harg4 arg7 x2
  | ⟨95, _⟩ => exact hs98 c arg4 harg4 arg7 x2
  | ⟨96, _⟩ => exact hs99 c arg4 harg4 arg7 x2
  | ⟨97, _⟩ => exact hs100 c arg4 harg4 arg7 x2
  | ⟨98, _⟩ => exact hs101 c arg4 harg4 arg7 x2
  | ⟨99, _⟩ => exact hs102 c arg4 harg4 arg7 x2
  | ⟨100, _⟩ => exact hs103 c arg4 harg4 arg7 x2
  | ⟨101, _⟩ => exact hs104 c arg4 harg4 arg7 x2
  | ⟨102, _⟩ => exact hs105 c arg4 harg4 arg7 x2
  | ⟨103, _⟩ => exact hs106 c arg4 harg4 arg7 x2
  | ⟨104, _⟩ => exact hs107 c arg4 harg4 arg7 x2
  | ⟨105, _⟩ => exact hs108 c arg4 harg4 arg7 x2
  | ⟨106, _⟩ => exact hs109 c arg4 harg4 arg7 x2
  | ⟨107, _⟩ => exact hs110 c arg4 harg4 arg7 x2
  | ⟨108, _⟩ => exact hs111 c arg4 harg4 arg7 x2
  | ⟨109, _⟩ => exact hs112 c arg4 harg4 arg7 x2
  | ⟨110, _⟩ => exact hs113 c arg4 harg4 arg7 x2
  | ⟨111, _⟩ => exact hs114 c arg4 harg4 arg7 x2
  | ⟨112, _⟩ => exact hs115 c arg4 harg4 arg7 x2
  | ⟨113, _⟩ => exact hs116 c arg4 harg4 arg7 x2
  | ⟨114, _⟩ => exact hs117 c arg4 harg4 arg7 x2
  | ⟨115, _⟩ => exact hs118 c arg4 harg4 arg7 x2
  | ⟨116, _⟩ => exact hs119 c arg4 harg4 arg7 x2
  | ⟨117, _⟩ => exact hs120 c arg4 harg4 arg7 x2
  | ⟨118, _⟩ => exact hs121 c arg4 harg4 arg7 x2
  | ⟨119, _⟩ => exact hs122 c arg4 harg4 arg7 x2
  | ⟨120, _⟩ => exact hs123 c arg4 harg4 arg7 x2
  | ⟨121, _⟩ => exact hs124 c arg4 harg4 arg7 x2
  | ⟨122, _⟩ => exact hs125 c arg4 harg4 arg7 x2
  | ⟨123, _⟩ => exact hs126 c arg4 harg4 arg7 x2
  | ⟨124, _⟩ => exact hs127 c arg4 harg4 arg7 x2
  | ⟨125, _⟩ => exact hs128 c arg4 harg4 arg7 x2
  | ⟨126, _⟩ => exact hs128 c arg4 harg4 arg7 x2
  | ⟨127, _⟩ => exact hs128 c arg4 harg4 arg7 x2
  | ⟨n + 128, h⟩ => exact absurd h (by omega)

theorem keepK_eq (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : cond0_1 i)
    (x0 : Vec F S16 .f32) (x1 : Vec F S16 .f32) (x2 : Vec F S1x1024x1280 .bf16) : ∃ L, (kernelRun0_A c i arg2 harg2 arg3 harg3 arg4 harg4 arg5 harg5 arg6 harg6 arg7 harg7 arg8 harg8 arg9 harg9 hc0 hc1 x0 x1 x2).2.1 = keepK arg4 harg4 x2 :: L := ⟨_, rfl⟩

theorem keepV_eq (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : cond0_1 i)
    (x0 : Vec F S16 .f32) (x1 : Vec F S16 .f32) (x2 : Vec F S1x1024x1280 .bf16) : ∃ L, (kernelRun0_A c i arg2 harg2 arg3 harg3 arg4 harg4 arg5 harg5 arg6 harg6 arg7 harg7 arg8 harg8 arg9 harg9 hc0 hc1 x0 x1 x2).2.2.1 = keepV arg4 harg4 x2 :: L := ⟨_, rfl⟩

set_option maxHeartbeats 4000000 in
theorem bias_held (c : Dev nD) (arg2 : Memref sig .tc .smem S16 .f32) (harg2 : arg2.IsWhole) (x0 : Vec F S16 .f32) :
    kernelRun0_A.sl.HS3_32 c arg2 harg2 x0 = biasPieces (slopeLd arg2 harg2 x0) := rfl

theorem bias_eq (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : cond0_1 i)
    (x0 : Vec F S16 .f32) (x1 : Vec F S16 .f32) (x2 : Vec F S1x1024x1280 .bf16) :
    (kernelRun0_A c i arg2 harg2 arg3 harg3 arg4 harg4 arg5 harg5 arg6 harg6 arg7 harg7 arg8 harg8 arg9 harg9 hc0 hc1 x0 x1 x2).2.2.2.1 = biasPieces (slopeLd arg2 harg2 x0) := bias_held c arg2 harg2 x0

end Cert.Swa.CaseA

end
-- ==== Proof.SwaB.lean ====
/- The stores of later points of a sequence as the list of `Cert.Swa.pieces`. -/
module

public import proofs.«01_k».proof.Proof.SwaTile

@[expose] public section

set_option maxRecDepth 16384

noncomputable section

namespace Cert.Swa.CaseB

open Cert.KernelIdeal Cert.KernelIdeal.Gen
open Idealize.ShloMosaic Idealize.ShloMosaic.TcCoe

variable {F : FTy → Type} [FloatOps F] [Named F]

/-- What the scratch of scores holds when a chain's place is read back. -/
def held (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : Fin 128 → List (View.Piece (Elt F) S128x256x128 .f32) :=
  ![kernelRun0_B.sl.HS0_3 c arg4 harg4 arg7 harg7 x2 xs1,
    kernelRun0_B.sl.HS0_4 c arg4 harg4 arg7 harg7 x2 xs1,
    kernelRun0_B.sl.HS0_5 c arg4 harg4 arg7 harg7 x2 xs1,
    kernelRun0_B.sl.HS0_6 c arg4 harg4 arg7 harg7 x2 xs1,
    kernelRun0_B.sl.HS0_7 c arg4 harg4 arg7 harg7 x2 xs1,
    kernelRun0_B.sl.HS0_8 c arg4 harg4 arg7 harg7 x2 xs1,
    kernelRun0_B.sl.HS0_9 c arg4 harg4 arg7 harg7 x2 xs1,
    kernelRun0_B.sl.HS0_10 c arg4 harg4 arg7 harg7 x2 xs1,
    kernelRun0_B.sl.HS0_11 c arg4 harg4 arg7 harg7 x2 xs1,
    kernelRun0_B.sl.HS0_12 c arg4 harg4 arg7 harg7 x2 xs1,
    kernelRun0_B.sl.HS0_13 c arg4 harg4 arg7 harg7 x2 xs1,
    kernelRun0_B.sl.HS0_14 c arg4 harg4 arg7 harg7 x2 xs1,
    kernelRun0_B.sl.HS0_15 c arg4 harg4 arg7 harg7 x2 xs1,
    kernelRun0_B.sl.HS0_16 c arg4 harg4 arg7 harg7 x2 xs1,
    kernelRun0_B.sl.HS0_17 c arg4 harg4 arg7 harg7 x2 xs1,
    kernelRun0_B.sl.HS0_18 c arg4 harg4 arg7 harg7 x2 xs1,
    kernelRun0_B.sl.HS0_19 c arg4 harg4 arg7 harg7 x2 xs1,
    kernelRun0_B.sl.HS0_20 c arg4 harg4 arg7 harg7 x2 xs1,
    kernelRun0_B.sl.HS0_21 c arg4 harg4 arg7 harg7 x2 xs1,
    kernelRun0_B.sl.HS0_22 c arg4 harg4 arg7 harg7 x2 xs1,
    kernelRun0_B.sl.HS0_23 c arg4 harg4 arg7 harg7 x2 xs1,
    kernelRun0_B.sl.HS0_24 c arg4 harg4 arg7 harg7 x2 xs1,
    kernelRun0_B.sl.HS0_25 c arg4 harg4 arg7 harg7 x2 xs1,
    kernelRun0_B.sl.HS0_26 c arg4 harg4 arg7 harg7 x2 xs1,
    kernelRun0_B.sl.HS0_27 c arg4 harg4 arg7 harg7 x2 xs1,
    kernelRun0_B.sl.HS0_28 c arg4 harg4 arg7 harg7 x2 xs1,
    kernelRun0_B.sl.HS0_29 c arg4 harg4 arg7 harg7 x2 xs1,
    kernelRun0_B.sl.HS0_30 c arg4 harg4 arg7 harg7 x2 xs1,
    kernelRun0_B.sl.HS0_31 c arg4 harg4 arg7 harg7 x2 xs1,
    kernelRun0_B.sl.HS0_32 c arg4 harg4 arg7 harg7 x2 xs1,
    kernelRun0_B.sl.HS0_33 c arg4 harg4 arg7 harg7 x2 xs1,
    kernelRun0_B.sl.HS0_34 c arg4 harg4 arg7 harg7 x2 xs1,
    kernelRun0_B.sl.HS0_35 c arg4 harg4 arg7 harg7 x2 xs1,
    kernelRun0_B.sl.HS0_36 c arg4 harg4 arg7 harg7 x2 xs1,
    kernelRun0_B.sl.HS0_37 c arg4 harg4 arg7 harg7 x2 xs1,
    kernelRun0_B.sl.HS0_38 c arg4 harg4 arg7 harg7 x2 xs1,
    kernelRun0_B.sl.HS0_39 c arg4 harg4 arg7 harg7 x2 xs1,
    kernelRun0_B.sl.HS0_40 c arg4 harg4 arg7 harg7 x2 xs1,
    kernelRun0_B.sl.HS0_41 c arg4 harg4 arg7 harg7 x2 xs1,
    kernelRun0_B.sl.HS0_42 c arg4 harg4 arg7 harg7 x2 xs1,
    kernelRun0_B.sl.HS0_43 c arg4 harg4 arg7 harg7 x2 xs1,
    kernelRun0_B.sl.HS0_44 c arg4 harg4 arg7 harg7 x2 xs1,
    kernelRun0_B.sl.HS0_45 c arg4 harg4 arg7 harg7 x2 xs1,
    kernelRun0_B.sl.HS0_46 c arg4 harg4 arg7 harg7 x2 xs1,
    kernelRun0_B.sl.HS0_47 c arg4 harg4 arg7 harg7 x2 xs1,
    kernelRun0_B.sl.HS0_48 c arg4 harg4 arg7 harg7 x2 xs1,
    kernelRun0_B.sl.HS0_49 c arg4 harg4 arg7 harg7 x2 xs1,
    kernelRun0_B.sl.HS0_50 c arg4 harg4 arg7 harg7 x2 xs1,
    kernelRun0_B.sl.HS0_51 c arg4 harg4 arg7 harg7 x2 xs1,
    kernelRun0_B.sl.HS0_52 c arg4 harg4 arg7 harg7 x2 xs1,
    kernelRun0_B.sl.HS0_53 c arg4 harg4 arg7 harg7 x2 xs1,
    kernelRun0_B.sl.HS0_54 c arg4 harg4 arg7 harg7 x2 xs1,
    kernelRun0_B.sl.HS0_55 c arg4 harg4 arg7 harg7 x2 xs1,
    kernelRun0_B.sl.HS0_56 c arg4 harg4 arg7 harg7 x2 xs1,
    kernelRun0_B.sl.HS0_57 c arg4 harg4 arg7 harg7 x2 xs1,
    kernelRun0_B.sl.HS0_58 c arg4 harg4 arg7 harg7 x2 xs1,
    kernelRun0_B.sl.HS0_59 c arg4 harg4 arg7 harg7 x2 xs1,
    kernelRun0_B.sl.HS0_60 c arg4 harg4 arg7 harg7 x2 xs1,
    kernelRun0_B.sl.HS0_61 c arg4 harg4 arg7 harg7 x2 xs1,
    kernelRun0_B.sl.HS0_62 c arg4 harg4 arg7 harg7 x2 xs1,
    kernelRun0_B.sl.HS0_63 c arg4 harg4 arg7 harg7 x2 xs1,
    kernelRun0_B.sl.HS0_64 c arg4 harg4 arg7 harg7 x2 xs1,
    kernelRun0_B.sl.HS0_65 c arg4 harg4 arg7 harg7 x2 xs1,
    kernelRun0_B.sl.HS0_66 c arg4 harg4 arg7 harg7 x2 xs1,
    kernelRun0_B.sl.HS0_67 c arg4 harg4 arg7 harg7 x2 xs1,
    kernelRun0_B.sl.HS0_68 c arg4 harg4 arg7 harg7 x2 xs1,
    kernelRun0_B.sl.HS0_69 c arg4 harg4 arg7 harg7 x2 xs1,
    kernelRun0_B.sl.HS0_70 c arg4 harg4 arg7 harg7 x2 xs1,
    kernelRun0_B.sl.HS0_71 c arg4 harg4 arg7 harg7 x2 xs1,
    kernelRun0_B.sl.HS0_72 c arg4 harg4 arg7 harg7 x2 xs1,
    kernelRun0_B.sl.HS0_73 c arg4 harg4 arg7 harg7 x2 xs1,
    kernelRun0_B.sl.HS0_74 c arg4 harg4 arg7 harg7 x2 xs1,
    kernelRun0_B.sl.HS0_75 c arg4 harg4 arg7 harg7 x2 xs1,
    kernelRun0_B.sl.HS0_76 c arg4 harg4 arg7 harg7 x2 xs1,
    kernelRun0_B.sl.HS0_77 c arg4 harg4 arg7 harg7 x2 xs1,
    kernelRun0_B.sl.HS0_78 c arg4 harg4 arg7 harg7 x2 xs1,
    kernelRun0_B.sl.HS0_79 c arg4 harg4 arg7 harg7 x2 xs1,
    kernelRun0_B.sl.HS0_80 c arg4 harg4 arg7 harg7 x2 xs1,
    kernelRun0_B.sl.HS0_81 c arg4 harg4 arg7 harg7 x2 xs1,
    kernelRun0_B.sl.HS0_82 c arg4 harg4 arg7 harg7 x2 xs1,
    kernelRun0_B.sl.HS0_83 c arg4 harg4 arg7 harg7 x2 xs1,
    kernelRun0_B.sl.HS0_84 c arg4 harg4 arg7 harg7 x2 xs1,
    kernelRun0_B.sl.HS0_85 c arg4 harg4 arg7 harg7 x2 xs1,
    kernelRun0_B.sl.HS0_86 c arg4 harg4 arg7 harg7 x2 xs1,
    kernelRun0_B.sl.HS0_87 c arg4 harg4 arg7 harg7 x2 xs1,
    kernelRun0_B.sl.HS0_88 c arg4 harg4 arg7 harg7 x2 xs1,
    kernelRun0_B.sl.HS0_89 c arg4 harg4 arg7 harg7 x2 xs1,
    kernelRun0_B.sl.HS0_90 c arg4 harg4 arg7 harg7 x2 xs1,
    kernelRun0_B.sl.HS0_91 c arg4 harg4 arg7 harg7 x2 xs1,
    kernelRun0_B.sl.HS0_92 c arg4 harg4 arg7 harg7 x2 xs1,
    kernelRun0_B.sl.HS0_93 c arg4 harg4 arg7 harg7 x2 xs1,
    kernelRun0_B.sl.HS0_94 c arg4 harg4 arg7 harg7 x2 xs1,
    kernelRun0_B.sl.HS0_95 c arg4 harg4 arg7 harg7 x2 xs1,
    kernelRun0_B.sl.HS0_96 c arg4 harg4 arg7 harg7 x2 xs1,
    kernelRun0_B.sl.HS0_97 c arg4 harg4 arg7 harg7 x2 xs1,
    kernelRun0_B.sl.HS0_98 c arg4 harg4 arg7 harg7 x2 xs1,
    kernelRun0_B.sl.HS0_99 c arg4 harg4 arg7 harg7 x2 xs1,
    kernelRun0_B.sl.HS0_100 c arg4 harg4 arg7 harg7 x2 xs1,
    kernelRun0_B.sl.HS0_101 c arg4 harg4 arg7 harg7 x2 xs1,
    kernelRun0_B.sl.HS0_102 c arg4 harg4 arg7 harg7 x2 xs1,
    kernelRun0_B.sl.HS0_103 c arg4 harg4 arg7 harg7 x2 xs1,
    kernelRun0_B.sl.HS0_104 c arg4 harg4 arg7 harg7 x2 xs1,
    kernelRun0_B.sl.HS0_105 c arg4 harg4 arg7 harg7 x2 xs1,
    kernelRun0_B.sl.HS0_106 c arg4 harg4 arg7 harg7 x2 xs1,
    kernelRun0_B.sl.HS0_107 c arg4 harg4 arg7 harg7 x2 xs1,
    kernelRun0_B.sl.HS0_108 c arg4 harg4 arg7 harg7 x2 xs1,
    kernelRun0_B.sl.HS0_109 c arg4 harg4 arg7 harg7 x2 xs1,
    kernelRun0_B.sl.HS0_110 c arg4 harg4 arg7 harg7 x2 xs1,
    kernelRun0_B.sl.HS0_111 c arg4 harg4 arg7 harg7 x2 xs1,
    kernelRun0_B.sl.HS0_112 c arg4 harg4 arg7 harg7 x2 xs1,
    kernelRun0_B.sl.HS0_113 c arg4 harg4 arg7 harg7 x2 xs1,
    kernelRun0_B.sl.HS0_114 c arg4 harg4 arg7 harg7 x2 xs1,
    kernelRun0_B.sl.HS0_115 c arg4 harg4 arg7 harg7 x2 xs1,
    kernelRun0_B.sl.HS0_116 c arg4 harg4 arg7 harg7 x2 xs1,
    kernelRun0_B.sl.HS0_117 c arg4 harg4 arg7 harg7 x2 xs1,
    kernelRun0_B.sl.HS0_118 c arg4 harg4 arg7 harg7 x2 xs1,
    kernelRun0_B.sl.HS0_119 c arg4 harg4 arg7 harg7 x2 xs1,
    kernelRun0_B.sl.HS0_120 c arg4 harg4 arg7 harg7 x2 xs1,
    kernelRun0_B.sl.HS0_121 c arg4 harg4 arg7 harg7 x2 xs1,
    kernelRun0_B.sl.HS0_122 c arg4 harg4 arg7 harg7 x2 xs1,
    kernelRun0_B.sl.HS0_123 c arg4 harg4 arg7 harg7 x2 xs1,
    kernelRun0_B.sl.HS0_124 c arg4 harg4 arg7 harg7 x2 xs1,
    kernelRun0_B.sl.HS0_125 c arg4 harg4 arg7 harg7 x2 xs1,
    kernelRun0_B.sl.HS0_126 c arg4 harg4 arg7 harg7 x2 xs1,
    kernelRun0_B.sl.HS0_127 c arg4 harg4 arg7 harg7 x2 xs1,
    kernelRun0_B.sl.HS0_128 c arg4 harg4 arg7 harg7 x2 xs1,
    kernelRun0_B.sl.HS0_128 c arg4 harg4 arg7 harg7 x2 xs1,
    kernelRun0_B.sl.HS0_128 c arg4 harg4 arg7 harg7 x2 xs1]

set_option maxHeartbeats 4000000 in
theorem out_eq (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : ¬cond0_0 i) (hc1 : ¬cond0_1 i)
    (x0 : Vec F S16 .f32) (x1 : Vec F S16 .f32) (x2 : Vec F S1x1024x1280 .bf16) (xs1 : Vec F S1x128x128 .bf16) (xs2 : Vec F S1x128x128 .bf16) (xs3 : Vec F S16x2x256x128 .f32) :
    (kernelRun0_B c i arg2 harg2 arg3 harg3 arg4 harg4 arg5 harg5 arg6 harg6 arg7 harg7 arg8 harg8 arg9 harg9 hc0 hc1 x0 x1 x2 xs1 xs2 xs3).1
      = pieces (tiles (prevLd arg8 harg8 xs2) (vLd0 arg4 harg4 x2) (vLd arg4 harg4 x2))
        (fun j => arg6.view.readCov (held c arg4 harg4 arg7 harg7 x2 xs1 j) (Rect.unit (s := S128x256x128) ![j.val, 0, 0] S1x256x128.size (inbS j)).toLoadRect)
        (biases (biasLd0 i arg9 (harg9.unread xs3)) (biasLd arg9 (harg9.unread xs3))) (sinkLd arg3 harg3 x1) := by
  rfl

theorem hs3 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_3 c arg4 harg4 arg7 harg7 x2 xs1 = scores (tiles (prevLd arg7 harg7 xs1) (kLd0 arg4 harg4 x2) (kLd arg4 harg4 x2)) (qLd arg4 harg4 x2) 3 := rfl
theorem hs4 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_4 c arg4 harg4 arg7 harg7 x2 xs1 = scores (tiles (prevLd arg7 harg7 xs1) (kLd0 arg4 harg4 x2) (kLd arg4 harg4 x2)) (qLd arg4 harg4 x2) 4 :=
  congrArg (List.cons _) (hs3 c arg4 harg4 arg7 harg7 x2 xs1)
theorem hs5 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_5 c arg4 harg4 arg7 harg7 x2 xs1 = scores (tiles (prevLd arg7 harg7 xs1) (kLd0 arg4 harg4 x2) (kLd arg4 harg4 x2)) (qLd arg4 harg4 x2) 5 :=
  congrArg (List.cons _) (hs4 c arg4 harg4 arg7 harg7 x2 xs1)
theorem hs6 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_6 c arg4 harg4 arg7 harg7 x2 xs1 = scores (tiles (prevLd arg7 harg7 xs1) (kLd0 arg4 harg4 x2) (kLd arg4 harg4 x2)) (qLd arg4 harg4 x2) 6 :=
  congrArg (List.cons _) (hs5 c arg4 harg4 arg7 harg7 x2 xs1)
theorem hs7 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_7 c arg4 harg4 arg7 harg7 x2 xs1 = scores (tiles (prevLd arg7 harg7 xs1) (kLd0 arg4 harg4 x2) (kLd arg4 harg4 x2)) (qLd arg4 harg4 x2) 7 :=
  congrArg (List.cons _) (hs6 c arg4 harg4 arg7 harg7 x2 xs1)
theorem hs8 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_8 c arg4 harg4 arg7 harg7 x2 xs1 = scores (tiles (prevLd arg7 harg7 xs1) (kLd0 arg4 harg4 x2) (kLd arg4 harg4 x2)) (qLd arg4 harg4 x2) 8 :=
  congrArg (List.cons _) (hs7 c arg4 harg4 arg7 harg7 x2 xs1)
theorem hs9 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_9 c arg4 harg4 arg7 harg7 x2 xs1 = scores (tiles (prevLd arg7 harg7 xs1) (kLd0 arg4 harg4 x2) (kLd arg4 harg4 x2)) (qLd arg4 harg4 x2) 9 :=
  congrArg (List.cons _) (hs8 c arg4 harg4 arg7 harg7 x2 xs1)
theorem hs10 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_10 c arg4 harg4 arg7 harg7 x2 xs1 = scores (tiles (prevLd arg7 harg7 xs1) (kLd0 arg4 harg4 x2) (kLd arg4 harg4 x2)) (qLd arg4 harg4 x2) 10 :=
  congrArg (List.cons _) (hs9 c arg4 harg4 arg7 harg7 x2 xs1)
theorem hs11 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_11 c arg4 harg4 arg7 harg7 x2 xs1 = scores (tiles (prevLd arg7 harg7 xs1) (kLd0 arg4 harg4 x2) (kLd arg4 harg4 x2)) (qLd arg4 harg4 x2) 11 :=
  congrArg (List.cons _) (hs10 c arg4 harg4 arg7 harg7 x2 xs1)
theorem hs12 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_12 c arg4 harg4 arg7 harg7 x2 xs1 = scores (tiles (prevLd arg7 harg7 xs1) (kLd0 arg4 harg4 x2) (kLd arg4 harg4 x2)) (qLd arg4 harg4 x2) 12 :=
  congrArg (List.cons _) (hs11 c arg4 harg4 arg7 harg7 x2 xs1)
theorem hs13 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_13 c arg4 harg4 arg7 harg7 x2 xs1 = scores (tiles (prevLd arg7 harg7 xs1) (kLd0 arg4 harg4 x2) (kLd arg4 harg4 x2)) (qLd arg4 harg4 x2) 13 :=
  congrArg (List.cons _) (hs12 c arg4 harg4 arg7 harg7 x2 xs1)
theorem hs14 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_14 c arg4 harg4 arg7 harg7 x2 xs1 = scores (tiles (prevLd arg7 harg7 xs1) (kLd0 arg4 harg4 x2) (kLd arg4 harg4 x2)) (qLd arg4 harg4 x2) 14 :=
  congrArg (List.cons _) (hs13 c arg4 harg4 arg7 harg7 x2 xs1)
theorem hs15 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_15 c arg4 harg4 arg7 harg7 x2 xs1 = scores (tiles (prevLd arg7 harg7 xs1) (kLd0 arg4 harg4 x2) (kLd arg4 harg4 x2)) (qLd arg4 harg4 x2) 15 :=
  congrArg (List.cons _) (hs14 c arg4 harg4 arg7 harg7 x2 xs1)
theorem hs16 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_16 c arg4 harg4 arg7 harg7 x2 xs1 = scores (tiles (prevLd arg7 harg7 xs1) (kLd0 arg4 harg4 x2) (kLd arg4 harg4 x2)) (qLd arg4 harg4 x2) 16 :=
  congrArg (List.cons _) (hs15 c arg4 harg4 arg7 harg7 x2 xs1)
theorem hs17 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_17 c arg4 harg4 arg7 harg7 x2 xs1 = scores (tiles (prevLd arg7 harg7 xs1) (kLd0 arg4 harg4 x2) (kLd arg4 harg4 x2)) (qLd arg4 harg4 x2) 17 :=
  congrArg (List.cons _) (hs16 c arg4 harg4 arg7 harg7 x2 xs1)
theorem hs18 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_18 c arg4 harg4 arg7 harg7 x2 xs1 = scores (tiles (prevLd arg7 harg7 xs1) (kLd0 arg4 harg4 x2) (kLd arg4 harg4 x2)) (qLd arg4 harg4 x2) 18 :=
  congrArg (List.cons _) (hs17 c arg4 harg4 arg7 harg7 x2 xs1)
theorem hs19 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_19 c arg4 harg4 arg7 harg7 x2 xs1 = scores (tiles (prevLd arg7 harg7 xs1) (kLd0 arg4 harg4 x2) (kLd arg4 harg4 x2)) (qLd arg4 harg4 x2) 19 :=
  congrArg (List.cons _) (hs18 c arg4 harg4 arg7 harg7 x2 xs1)
theorem hs20 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_20 c arg4 harg4 arg7 harg7 x2 xs1 = scores (tiles (prevLd arg7 harg7 xs1) (kLd0 arg4 harg4 x2) (kLd arg4 harg4 x2)) (qLd arg4 harg4 x2) 20 :=
  congrArg (List.cons _) (hs19 c arg4 harg4 arg7 harg7 x2 xs1)
theorem hs21 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_21 c arg4 harg4 arg7 harg7 x2 xs1 = scores (tiles (prevLd arg7 harg7 xs1) (kLd0 arg4 harg4 x2) (kLd arg4 harg4 x2)) (qLd arg4 harg4 x2) 21 :=
  congrArg (List.cons _) (hs20 c arg4 harg4 arg7 harg7 x2 xs1)
theorem hs22 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_22 c arg4 harg4 arg7 harg7 x2 xs1 = scores (tiles (prevLd arg7 harg7 xs1) (kLd0 arg4 harg4 x2) (kLd arg4 harg4 x2)) (qLd arg4 harg4 x2) 22 :=
  congrArg (List.cons _) (hs21 c arg4 harg4 arg7 harg7 x2 xs1)
theorem hs23 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_23 c arg4 harg4 arg7 harg7 x2 xs1 = scores (tiles (prevLd arg7 harg7 xs1) (kLd0 arg4 harg4 x2) (kLd arg4 harg4 x2)) (qLd arg4 harg4 x2) 23 :=
  congrArg (List.cons _) (hs22 c arg4 harg4 arg7 harg7 x2 xs1)
theorem hs24 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_24 c arg4 harg4 arg7 harg7 x2 xs1 = scores (tiles (prevLd arg7 harg7 xs1) (kLd0 arg4 harg4 x2) (kLd arg4 harg4 x2)) (qLd arg4 harg4 x2) 24 :=
  congrArg (List.cons _) (hs23 c arg4 harg4 arg7 harg7 x2 xs1)
theorem hs25 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_25 c arg4 harg4 arg7 harg7 x2 xs1 = scores (tiles (prevLd arg7 harg7 xs1) (kLd0 arg4 harg4 x2) (kLd arg4 harg4 x2)) (qLd arg4 harg4 x2) 25 :=
  congrArg (List.cons _) (hs24 c arg4 harg4 arg7 harg7 x2 xs1)
theorem hs26 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_26 c arg4 harg4 arg7 harg7 x2 xs1 = scores (tiles (prevLd arg7 harg7 xs1) (kLd0 arg4 harg4 x2) (kLd arg4 harg4 x2)) (qLd arg4 harg4 x2) 26 :=
  congrArg (List.cons _) (hs25 c arg4 harg4 arg7 harg7 x2 xs1)
theorem hs27 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_27 c arg4 harg4 arg7 harg7 x2 xs1 = scores (tiles (prevLd arg7 harg7 xs1) (kLd0 arg4 harg4 x2) (kLd arg4 harg4 x2)) (qLd arg4 harg4 x2) 27 :=
  congrArg (List.cons _) (hs26 c arg4 harg4 arg7 harg7 x2 xs1)
theorem hs28 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_28 c arg4 harg4 arg7 harg7 x2 xs1 = scores (tiles (prevLd arg7 harg7 xs1) (kLd0 arg4 harg4 x2) (kLd arg4 harg4 x2)) (qLd arg4 harg4 x2) 28 :=
  congrArg (List.cons _) (hs27 c arg4 harg4 arg7 harg7 x2 xs1)
theorem hs29 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_29 c arg4 harg4 arg7 harg7 x2 xs1 = scores (tiles (prevLd arg7 harg7 xs1) (kLd0 arg4 harg4 x2) (kLd arg4 harg4 x2)) (qLd arg4 harg4 x2) 29 :=
  congrArg (List.cons _) (hs28 c arg4 harg4 arg7 harg7 x2 xs1)
theorem hs30 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_30 c arg4 harg4 arg7 harg7 x2 xs1 = scores (tiles (prevLd arg7 harg7 xs1) (kLd0 arg4 harg4 x2) (kLd arg4 harg4 x2)) (qLd arg4 harg4 x2) 30 :=
  congrArg (List.cons _) (hs29 c arg4 harg4 arg7 harg7 x2 xs1)
theorem hs31 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_31 c arg4 harg4 arg7 harg7 x2 xs1 = scores (tiles (prevLd arg7 harg7 xs1) (kLd0 arg4 harg4 x2) (kLd arg4 harg4 x2)) (qLd arg4 harg4 x2) 31 :=
  congrArg (List.cons _) (hs30 c arg4 harg4 arg7 harg7 x2 xs1)
theorem hs32 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_32 c arg4 harg4 arg7 harg7 x2 xs1 = scores (tiles (prevLd arg7 harg7 xs1) (kLd0 arg4 harg4 x2) (kLd arg4 harg4 x2)) (qLd arg4 harg4 x2) 32 :=
  congrArg (List.cons _) (hs31 c arg4 harg4 arg7 harg7 x2 xs1)
theorem hs33 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_33 c arg4 harg4 arg7 harg7 x2 xs1 = scores (tiles (prevLd arg7 harg7 xs1) (kLd0 arg4 harg4 x2) (kLd arg4 harg4 x2)) (qLd arg4 harg4 x2) 33 :=
  congrArg (List.cons _) (hs32 c arg4 harg4 arg7 harg7 x2 xs1)
theorem hs34 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_34 c arg4 harg4 arg7 harg7 x2 xs1 = scores (tiles (prevLd arg7 harg7 xs1) (kLd0 arg4 harg4 x2) (kLd arg4 harg4 x2)) (qLd arg4 harg4 x2) 34 :=
  congrArg (List.cons _) (hs33 c arg4 harg4 arg7 harg7 x2 xs1)
theorem hs35 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_35 c arg4 harg4 arg7 harg7 x2 xs1 = scores (tiles (prevLd arg7 harg7 xs1) (kLd0 arg4 harg4 x2) (kLd arg4 harg4 x2)) (qLd arg4 harg4 x2) 35 :=
  congrArg (List.cons _) (hs34 c arg4 harg4 arg7 harg7 x2 xs1)
theorem hs36 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_36 c arg4 harg4 arg7 harg7 x2 xs1 = scores (tiles (prevLd arg7 harg7 xs1) (kLd0 arg4 harg4 x2) (kLd arg4 harg4 x2)) (qLd arg4 harg4 x2) 36 :=
  congrArg (List.cons _) (hs35 c arg4 harg4 arg7 harg7 x2 xs1)
theorem hs37 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_37 c arg4 harg4 arg7 harg7 x2 xs1 = scores (tiles (prevLd arg7 harg7 xs1) (kLd0 arg4 harg4 x2) (kLd arg4 harg4 x2)) (qLd arg4 harg4 x2) 37 :=
  congrArg (List.cons _) (hs36 c arg4 harg4 arg7 harg7 x2 xs1)
theorem hs38 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_38 c arg4 harg4 arg7 harg7 x2 xs1 = scores (tiles (prevLd arg7 harg7 xs1) (kLd0 arg4 harg4 x2) (kLd arg4 harg4 x2)) (qLd arg4 harg4 x2) 38 :=
  congrArg (List.cons _) (hs37 c arg4 harg4 arg7 harg7 x2 xs1)
theorem hs39 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_39 c arg4 harg4 arg7 harg7 x2 xs1 = scores (tiles (prevLd arg7 harg7 xs1) (kLd0 arg4 harg4 x2) (kLd arg4 harg4 x2)) (qLd arg4 harg4 x2) 39 :=
  congrArg (List.cons _) (hs38 c arg4 harg4 arg7 harg7 x2 xs1)
theorem hs40 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_40 c arg4 harg4 arg7 harg7 x2 xs1 = scores (tiles (prevLd arg7 harg7 xs1) (kLd0 arg4 harg4 x2) (kLd arg4 harg4 x2)) (qLd arg4 harg4 x2) 40 :=
  congrArg (List.cons _) (hs39 c arg4 harg4 arg7 harg7 x2 xs1)
theorem hs41 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_41 c arg4 harg4 arg7 harg7 x2 xs1 = scores (tiles (prevLd arg7 harg7 xs1) (kLd0 arg4 harg4 x2) (kLd arg4 harg4 x2)) (qLd arg4 harg4 x2) 41 :=
  congrArg (List.cons _) (hs40 c arg4 harg4 arg7 harg7 x2 xs1)
theorem hs42 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_42 c arg4 harg4 arg7 harg7 x2 xs1 = scores (tiles (prevLd arg7 harg7 xs1) (kLd0 arg4 harg4 x2) (kLd arg4 harg4 x2)) (qLd arg4 harg4 x2) 42 :=
  congrArg (List.cons _) (hs41 c arg4 harg4 arg7 harg7 x2 xs1)
theorem hs43 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_43 c arg4 harg4 arg7 harg7 x2 xs1 = scores (tiles (prevLd arg7 harg7 xs1) (kLd0 arg4 harg4 x2) (kLd arg4 harg4 x2)) (qLd arg4 harg4 x2) 43 :=
  congrArg (List.cons _) (hs42 c arg4 harg4 arg7 harg7 x2 xs1)
theorem hs44 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_44 c arg4 harg4 arg7 harg7 x2 xs1 = scores (tiles (prevLd arg7 harg7 xs1) (kLd0 arg4 harg4 x2) (kLd arg4 harg4 x2)) (qLd arg4 harg4 x2) 44 :=
  congrArg (List.cons _) (hs43 c arg4 harg4 arg7 harg7 x2 xs1)
theorem hs45 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_45 c arg4 harg4 arg7 harg7 x2 xs1 = scores (tiles (prevLd arg7 harg7 xs1) (kLd0 arg4 harg4 x2) (kLd arg4 harg4 x2)) (qLd arg4 harg4 x2) 45 :=
  congrArg (List.cons _) (hs44 c arg4 harg4 arg7 harg7 x2 xs1)
theorem hs46 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_46 c arg4 harg4 arg7 harg7 x2 xs1 = scores (tiles (prevLd arg7 harg7 xs1) (kLd0 arg4 harg4 x2) (kLd arg4 harg4 x2)) (qLd arg4 harg4 x2) 46 :=
  congrArg (List.cons _) (hs45 c arg4 harg4 arg7 harg7 x2 xs1)
theorem hs47 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_47 c arg4 harg4 arg7 harg7 x2 xs1 = scores (tiles (prevLd arg7 harg7 xs1) (kLd0 arg4 harg4 x2) (kLd arg4 harg4 x2)) (qLd arg4 harg4 x2) 47 :=
  congrArg (List.cons _) (hs46 c arg4 harg4 arg7 harg7 x2 xs1)
theorem hs48 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_48 c arg4 harg4 arg7 harg7 x2 xs1 = scores (tiles (prevLd arg7 harg7 xs1) (kLd0 arg4 harg4 x2) (kLd arg4 harg4 x2)) (qLd arg4 harg4 x2) 48 :=
  congrArg (List.cons _) (hs47 c arg4 harg4 arg7 harg7 x2 xs1)
theorem hs49 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_49 c arg4 harg4 arg7 harg7 x2 xs1 = scores (tiles (prevLd arg7 harg7 xs1) (kLd0 arg4 harg4 x2) (kLd arg4 harg4 x2)) (qLd arg4 harg4 x2) 49 :=
  congrArg (List.cons _) (hs48 c arg4 harg4 arg7 harg7 x2 xs1)
theorem hs50 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_50 c arg4 harg4 arg7 harg7 x2 xs1 = scores (tiles (prevLd arg7 harg7 xs1) (kLd0 arg4 harg4 x2) (kLd arg4 harg4 x2)) (qLd arg4 harg4 x2) 50 :=
  congrArg (List.cons _) (hs49 c arg4 harg4 arg7 harg7 x2 xs1)
theorem hs51 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_51 c arg4 harg4 arg7 harg7 x2 xs1 = scores (tiles (prevLd arg7 harg7 xs1) (kLd0 arg4 harg4 x2) (kLd arg4 harg4 x2)) (qLd arg4 harg4 x2) 51 :=
  congrArg (List.cons _) (hs50 c arg4 harg4 arg7 harg7 x2 xs1)
theorem hs52 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_52 c arg4 harg4 arg7 harg7 x2 xs1 = scores (tiles (prevLd arg7 harg7 xs1) (kLd0 arg4 harg4 x2) (kLd arg4 harg4 x2)) (qLd arg4 harg4 x2) 52 :=
  congrArg (List.cons _) (hs51 c arg4 harg4 arg7 harg7 x2 xs1)
theorem hs53 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_53 c arg4 harg4 arg7 harg7 x2 xs1 = scores (tiles (prevLd arg7 harg7 xs1) (kLd0 arg4 harg4 x2) (kLd arg4 harg4 x2)) (qLd arg4 harg4 x2) 53 :=
  congrArg (List.cons _) (hs52 c arg4 harg4 arg7 harg7 x2 xs1)
theorem hs54 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_54 c arg4 harg4 arg7 harg7 x2 xs1 = scores (tiles (prevLd arg7 harg7 xs1) (kLd0 arg4 harg4 x2) (kLd arg4 harg4 x2)) (qLd arg4 harg4 x2) 54 :=
  congrArg (List.cons _) (hs53 c arg4 harg4 arg7 harg7 x2 xs1)
theorem hs55 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_55 c arg4 harg4 arg7 harg7 x2 xs1 = scores (tiles (prevLd arg7 harg7 xs1) (kLd0 arg4 harg4 x2) (kLd arg4 harg4 x2)) (qLd arg4 harg4 x2) 55 :=
  congrArg (List.cons _) (hs54 c arg4 harg4 arg7 harg7 x2 xs1)
theorem hs56 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_56 c arg4 harg4 arg7 harg7 x2 xs1 = scores (tiles (prevLd arg7 harg7 xs1) (kLd0 arg4 harg4 x2) (kLd arg4 harg4 x2)) (qLd arg4 harg4 x2) 56 :=
  congrArg (List.cons _) (hs55 c arg4 harg4 arg7 harg7 x2 xs1)
theorem hs57 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_57 c arg4 harg4 arg7 harg7 x2 xs1 = scores (tiles (prevLd arg7 harg7 xs1) (kLd0 arg4 harg4 x2) (kLd arg4 harg4 x2)) (qLd arg4 harg4 x2) 57 :=
  congrArg (List.cons _) (hs56 c arg4 harg4 arg7 harg7 x2 xs1)
theorem hs58 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_58 c arg4 harg4 arg7 harg7 x2 xs1 = scores (tiles (prevLd arg7 harg7 xs1) (kLd0 arg4 harg4 x2) (kLd arg4 harg4 x2)) (qLd arg4 harg4 x2) 58 :=
  congrArg (List.cons _) (hs57 c arg4 harg4 arg7 harg7 x2 xs1)
theorem hs59 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_59 c arg4 harg4 arg7 harg7 x2 xs1 = scores (tiles (prevLd arg7 harg7 xs1) (kLd0 arg4 harg4 x2) (kLd arg4 harg4 x2)) (qLd arg4 harg4 x2) 59 :=
  congrArg (List.cons _) (hs58 c arg4 harg4 arg7 harg7 x2 xs1)
theorem hs60 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_60 c arg4 harg4 arg7 harg7 x2 xs1 = scores (tiles (prevLd arg7 harg7 xs1) (kLd0 arg4 harg4 x2) (kLd arg4 harg4 x2)) (qLd arg4 harg4 x2) 60 :=
  congrArg (List.cons _) (hs59 c arg4 harg4 arg7 harg7 x2 xs1)
theorem hs61 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_61 c arg4 harg4 arg7 harg7 x2 xs1 = scores (tiles (prevLd arg7 harg7 xs1) (kLd0 arg4 harg4 x2) (kLd arg4 harg4 x2)) (qLd arg4 harg4 x2) 61 :=
  congrArg (List.cons _) (hs60 c arg4 harg4 arg7 harg7 x2 xs1)
theorem hs62 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_62 c arg4 harg4 arg7 harg7 x2 xs1 = scores (tiles (prevLd arg7 harg7 xs1) (kLd0 arg4 harg4 x2) (kLd arg4 harg4 x2)) (qLd arg4 harg4 x2) 62 :=
  congrArg (List.cons _) (hs61 c arg4 harg4 arg7 harg7 x2 xs1)
theorem hs63 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_63 c arg4 harg4 arg7 harg7 x2 xs1 = scores (tiles (prevLd arg7 harg7 xs1) (kLd0 arg4 harg4 x2) (kLd arg4 harg4 x2)) (qLd arg4 harg4 x2) 63 :=
  congrArg (List.cons _) (hs62 c arg4 harg4 arg7 harg7 x2 xs1)
theorem hs64 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_64 c arg4 harg4 arg7 harg7 x2 xs1 = scores (tiles (prevLd arg7 harg7 xs1) (kLd0 arg4 harg4 x2) (kLd arg4 harg4 x2)) (qLd arg4 harg4 x2) 64 :=
  congrArg (List.cons _) (hs63 c arg4 harg4 arg7 harg7 x2 xs1)
theorem hs65 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_65 c arg4 harg4 arg7 harg7 x2 xs1 = scores (tiles (prevLd arg7 harg7 xs1) (kLd0 arg4 harg4 x2) (kLd arg4 harg4 x2)) (qLd arg4 harg4 x2) 65 :=
  congrArg (List.cons _) (hs64 c arg4 harg4 arg7 harg7 x2 xs1)
theorem hs66 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_66 c arg4 harg4 arg7 harg7 x2 xs1 = scores (tiles (prevLd arg7 harg7 xs1) (kLd0 arg4 harg4 x2) (kLd arg4 harg4 x2)) (qLd arg4 harg4 x2) 66 :=
  congrArg (List.cons _) (hs65 c arg4 harg4 arg7 harg7 x2 xs1)
theorem hs67 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_67 c arg4 harg4 arg7 harg7 x2 xs1 = scores (tiles (prevLd arg7 harg7 xs1) (kLd0 arg4 harg4 x2) (kLd arg4 harg4 x2)) (qLd arg4 harg4 x2) 67 :=
  congrArg (List.cons _) (hs66 c arg4 harg4 arg7 harg7 x2 xs1)
theorem hs68 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_68 c arg4 harg4 arg7 harg7 x2 xs1 = scores (tiles (prevLd arg7 harg7 xs1) (kLd0 arg4 harg4 x2) (kLd arg4 harg4 x2)) (qLd arg4 harg4 x2) 68 :=
  congrArg (List.cons _) (hs67 c arg4 harg4 arg7 harg7 x2 xs1)
theorem hs69 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_69 c arg4 harg4 arg7 harg7 x2 xs1 = scores (tiles (prevLd arg7 harg7 xs1) (kLd0 arg4 harg4 x2) (kLd arg4 harg4 x2)) (qLd arg4 harg4 x2) 69 :=
  congrArg (List.cons _) (hs68 c arg4 harg4 arg7 harg7 x2 xs1)
theorem hs70 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_70 c arg4 harg4 arg7 harg7 x2 xs1 = scores (tiles (prevLd arg7 harg7 xs1) (kLd0 arg4 harg4 x2) (kLd arg4 harg4 x2)) (qLd arg4 harg4 x2) 70 :=
  congrArg (List.cons _) (hs69 c arg4 harg4 arg7 harg7 x2 xs1)
theorem hs71 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_71 c arg4 harg4 arg7 harg7 x2 xs1 = scores (tiles (prevLd arg7 harg7 xs1) (kLd0 arg4 harg4 x2) (kLd arg4 harg4 x2)) (qLd arg4 harg4 x2) 71 :=
  congrArg (List.cons _) (hs70 c arg4 harg4 arg7 harg7 x2 xs1)
theorem hs72 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_72 c arg4 harg4 arg7 harg7 x2 xs1 = scores (tiles (prevLd arg7 harg7 xs1) (kLd0 arg4 harg4 x2) (kLd arg4 harg4 x2)) (qLd arg4 harg4 x2) 72 :=
  congrArg (List.cons _) (hs71 c arg4 harg4 arg7 harg7 x2 xs1)
theorem hs73 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_73 c arg4 harg4 arg7 harg7 x2 xs1 = scores (tiles (prevLd arg7 harg7 xs1) (kLd0 arg4 harg4 x2) (kLd arg4 harg4 x2)) (qLd arg4 harg4 x2) 73 :=
  congrArg (List.cons _) (hs72 c arg4 harg4 arg7 harg7 x2 xs1)
theorem hs74 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_74 c arg4 harg4 arg7 harg7 x2 xs1 = scores (tiles (prevLd arg7 harg7 xs1) (kLd0 arg4 harg4 x2) (kLd arg4 harg4 x2)) (qLd arg4 harg4 x2) 74 :=
  congrArg (List.cons _) (hs73 c arg4 harg4 arg7 harg7 x2 xs1)
theorem hs75 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_75 c arg4 harg4 arg7 harg7 x2 xs1 = scores (tiles (prevLd arg7 harg7 xs1) (kLd0 arg4 harg4 x2) (kLd arg4 harg4 x2)) (qLd arg4 harg4 x2) 75 :=
  congrArg (List.cons _) (hs74 c arg4 harg4 arg7 harg7 x2 xs1)
theorem hs76 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_76 c arg4 harg4 arg7 harg7 x2 xs1 = scores (tiles (prevLd arg7 harg7 xs1) (kLd0 arg4 harg4 x2) (kLd arg4 harg4 x2)) (qLd arg4 harg4 x2) 76 :=
  congrArg (List.cons _) (hs75 c arg4 harg4 arg7 harg7 x2 xs1)
theorem hs77 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_77 c arg4 harg4 arg7 harg7 x2 xs1 = scores (tiles (prevLd arg7 harg7 xs1) (kLd0 arg4 harg4 x2) (kLd arg4 harg4 x2)) (qLd arg4 harg4 x2) 77 :=
  congrArg (List.cons _) (hs76 c arg4 harg4 arg7 harg7 x2 xs1)
theorem hs78 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_78 c arg4 harg4 arg7 harg7 x2 xs1 = scores (tiles (prevLd arg7 harg7 xs1) (kLd0 arg4 harg4 x2) (kLd arg4 harg4 x2)) (qLd arg4 harg4 x2) 78 :=
  congrArg (List.cons _) (hs77 c arg4 harg4 arg7 harg7 x2 xs1)
theorem hs79 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_79 c arg4 harg4 arg7 harg7 x2 xs1 = scores (tiles (prevLd arg7 harg7 xs1) (kLd0 arg4 harg4 x2) (kLd arg4 harg4 x2)) (qLd arg4 harg4 x2) 79 :=
  congrArg (List.cons _) (hs78 c arg4 harg4 arg7 harg7 x2 xs1)
theorem hs80 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_80 c arg4 harg4 arg7 harg7 x2 xs1 = scores (tiles (prevLd arg7 harg7 xs1) (kLd0 arg4 harg4 x2) (kLd arg4 harg4 x2)) (qLd arg4 harg4 x2) 80 :=
  congrArg (List.cons _) (hs79 c arg4 harg4 arg7 harg7 x2 xs1)
theorem hs81 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_81 c arg4 harg4 arg7 harg7 x2 xs1 = scores (tiles (prevLd arg7 harg7 xs1) (kLd0 arg4 harg4 x2) (kLd arg4 harg4 x2)) (qLd arg4 harg4 x2) 81 :=
  congrArg (List.cons _) (hs80 c arg4 harg4 arg7 harg7 x2 xs1)
theorem hs82 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_82 c arg4 harg4 arg7 harg7 x2 xs1 = scores (tiles (prevLd arg7 harg7 xs1) (kLd0 arg4 harg4 x2) (kLd arg4 harg4 x2)) (qLd arg4 harg4 x2) 82 :=
  congrArg (List.cons _) (hs81 c arg4 harg4 arg7 harg7 x2 xs1)
theorem hs83 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_83 c arg4 harg4 arg7 harg7 x2 xs1 = scores (tiles (prevLd arg7 harg7 xs1) (kLd0 arg4 harg4 x2) (kLd arg4 harg4 x2)) (qLd arg4 harg4 x2) 83 :=
  congrArg (List.cons _) (hs82 c arg4 harg4 arg7 harg7 x2 xs1)
theorem hs84 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_84 c arg4 harg4 arg7 harg7 x2 xs1 = scores (tiles (prevLd arg7 harg7 xs1) (kLd0 arg4 harg4 x2) (kLd arg4 harg4 x2)) (qLd arg4 harg4 x2) 84 :=
  congrArg (List.cons _) (hs83 c arg4 harg4 arg7 harg7 x2 xs1)
theorem hs85 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_85 c arg4 harg4 arg7 harg7 x2 xs1 = scores (tiles (prevLd arg7 harg7 xs1) (kLd0 arg4 harg4 x2) (kLd arg4 harg4 x2)) (qLd arg4 harg4 x2) 85 :=
  congrArg (List.cons _) (hs84 c arg4 harg4 arg7 harg7 x2 xs1)
theorem hs86 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_86 c arg4 harg4 arg7 harg7 x2 xs1 = scores (tiles (prevLd arg7 harg7 xs1) (kLd0 arg4 harg4 x2) (kLd arg4 harg4 x2)) (qLd arg4 harg4 x2) 86 :=
  congrArg (List.cons _) (hs85 c arg4 harg4 arg7 harg7 x2 xs1)
theorem hs87 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_87 c arg4 harg4 arg7 harg7 x2 xs1 = scores (tiles (prevLd arg7 harg7 xs1) (kLd0 arg4 harg4 x2) (kLd arg4 harg4 x2)) (qLd arg4 harg4 x2) 87 :=
  congrArg (List.cons _) (hs86 c arg4 harg4 arg7 harg7 x2 xs1)
theorem hs88 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_88 c arg4 harg4 arg7 harg7 x2 xs1 = scores (tiles (prevLd arg7 harg7 xs1) (kLd0 arg4 harg4 x2) (kLd arg4 harg4 x2)) (qLd arg4 harg4 x2) 88 :=
  congrArg (List.cons _) (hs87 c arg4 harg4 arg7 harg7 x2 xs1)
theorem hs89 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_89 c arg4 harg4 arg7 harg7 x2 xs1 = scores (tiles (prevLd arg7 harg7 xs1) (kLd0 arg4 harg4 x2) (kLd arg4 harg4 x2)) (qLd arg4 harg4 x2) 89 :=
  congrArg (List.cons _) (hs88 c arg4 harg4 arg7 harg7 x2 xs1)
theorem hs90 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_90 c arg4 harg4 arg7 harg7 x2 xs1 = scores (tiles (prevLd arg7 harg7 xs1) (kLd0 arg4 harg4 x2) (kLd arg4 harg4 x2)) (qLd arg4 harg4 x2) 90 :=
  congrArg (List.cons _) (hs89 c arg4 harg4 arg7 harg7 x2 xs1)
theorem hs91 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_91 c arg4 harg4 arg7 harg7 x2 xs1 = scores (tiles (prevLd arg7 harg7 xs1) (kLd0 arg4 harg4 x2) (kLd arg4 harg4 x2)) (qLd arg4 harg4 x2) 91 :=
  congrArg (List.cons _) (hs90 c arg4 harg4 arg7 harg7 x2 xs1)
theorem hs92 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_92 c arg4 harg4 arg7 harg7 x2 xs1 = scores (tiles (prevLd arg7 harg7 xs1) (kLd0 arg4 harg4 x2) (kLd arg4 harg4 x2)) (qLd arg4 harg4 x2) 92 :=
  congrArg (List.cons _) (hs91 c arg4 harg4 arg7 harg7 x2 xs1)
theorem hs93 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_93 c arg4 harg4 arg7 harg7 x2 xs1 = scores (tiles (prevLd arg7 harg7 xs1) (kLd0 arg4 harg4 x2) (kLd arg4 harg4 x2)) (qLd arg4 harg4 x2) 93 :=
  congrArg (List.cons _) (hs92 c arg4 harg4 arg7 harg7 x2 xs1)
theorem hs94 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_94 c arg4 harg4 arg7 harg7 x2 xs1 = scores (tiles (prevLd arg7 harg7 xs1) (kLd0 arg4 harg4 x2) (kLd arg4 harg4 x2)) (qLd arg4 harg4 x2) 94 :=
  congrArg (List.cons _) (hs93 c arg4 harg4 arg7 harg7 x2 xs1)
theorem hs95 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_95 c arg4 harg4 arg7 harg7 x2 xs1 = scores (tiles (prevLd arg7 harg7 xs1) (kLd0 arg4 harg4 x2) (kLd arg4 harg4 x2)) (qLd arg4 harg4 x2) 95 :=
  congrArg (List.cons _) (hs94 c arg4 harg4 arg7 harg7 x2 xs1)
theorem hs96 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_96 c arg4 harg4 arg7 harg7 x2 xs1 = scores (tiles (prevLd arg7 harg7 xs1) (kLd0 arg4 harg4 x2) (kLd arg4 harg4 x2)) (qLd arg4 harg4 x2) 96 :=
  congrArg (List.cons _) (hs95 c arg4 harg4 arg7 harg7 x2 xs1)
theorem hs97 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_97 c arg4 harg4 arg7 harg7 x2 xs1 = scores (tiles (prevLd arg7 harg7 xs1) (kLd0 arg4 harg4 x2) (kLd arg4 harg4 x2)) (qLd arg4 harg4 x2) 97 :=
  congrArg (List.cons _) (hs96 c arg4 harg4 arg7 harg7 x2 xs1)
theorem hs98 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_98 c arg4 harg4 arg7 harg7 x2 xs1 = scores (tiles (prevLd arg7 harg7 xs1) (kLd0 arg4 harg4 x2) (kLd arg4 harg4 x2)) (qLd arg4 harg4 x2) 98 :=
  congrArg (List.cons _) (hs97 c arg4 harg4 arg7 harg7 x2 xs1)
theorem hs99 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_99 c arg4 harg4 arg7 harg7 x2 xs1 = scores (tiles (prevLd arg7 harg7 xs1) (kLd0 arg4 harg4 x2) (kLd arg4 harg4 x2)) (qLd arg4 harg4 x2) 99 :=
  congrArg (List.cons _) (hs98 c arg4 harg4 arg7 harg7 x2 xs1)
theorem hs100 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_100 c arg4 harg4 arg7 harg7 x2 xs1 = scores (tiles (prevLd arg7 harg7 xs1) (kLd0 arg4 harg4 x2) (kLd arg4 harg4 x2)) (qLd arg4 harg4 x2) 100 :=
  congrArg (List.cons _) (hs99 c arg4 harg4 arg7 harg7 x2 xs1)
theorem hs101 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_101 c arg4 harg4 arg7 harg7 x2 xs1 = scores (tiles (prevLd arg7 harg7 xs1) (kLd0 arg4 harg4 x2) (kLd arg4 harg4 x2)) (qLd arg4 harg4 x2) 101 :=
  congrArg (List.cons _) (hs100 c arg4 harg4 arg7 harg7 x2 xs1)
theorem hs102 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_102 c arg4 harg4 arg7 harg7 x2 xs1 = scores (tiles (prevLd arg7 harg7 xs1) (kLd0 arg4 harg4 x2) (kLd arg4 harg4 x2)) (qLd arg4 harg4 x2) 102 :=
  congrArg (List.cons _) (hs101 c arg4 harg4 arg7 harg7 x2 xs1)
theorem hs103 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_103 c arg4 harg4 arg7 harg7 x2 xs1 = scores (tiles (prevLd arg7 harg7 xs1) (kLd0 arg4 harg4 x2) (kLd arg4 harg4 x2)) (qLd arg4 harg4 x2) 103 :=
  congrArg (List.cons _) (hs102 c arg4 harg4 arg7 harg7 x2 xs1)
theorem hs104 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_104 c arg4 harg4 arg7 harg7 x2 xs1 = scores (tiles (prevLd arg7 harg7 xs1) (kLd0 arg4 harg4 x2) (kLd arg4 harg4 x2)) (qLd arg4 harg4 x2) 104 :=
  congrArg (List.cons _) (hs103 c arg4 harg4 arg7 harg7 x2 xs1)
theorem hs105 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_105 c arg4 harg4 arg7 harg7 x2 xs1 = scores (tiles (prevLd arg7 harg7 xs1) (kLd0 arg4 harg4 x2) (kLd arg4 harg4 x2)) (qLd arg4 harg4 x2) 105 :=
  congrArg (List.cons _) (hs104 c arg4 harg4 arg7 harg7 x2 xs1)
theorem hs106 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_106 c arg4 harg4 arg7 harg7 x2 xs1 = scores (tiles (prevLd arg7 harg7 xs1) (kLd0 arg4 harg4 x2) (kLd arg4 harg4 x2)) (qLd arg4 harg4 x2) 106 :=
  congrArg (List.cons _) (hs105 c arg4 harg4 arg7 harg7 x2 xs1)
theorem hs107 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_107 c arg4 harg4 arg7 harg7 x2 xs1 = scores (tiles (prevLd arg7 harg7 xs1) (kLd0 arg4 harg4 x2) (kLd arg4 harg4 x2)) (qLd arg4 harg4 x2) 107 :=
  congrArg (List.cons _) (hs106 c arg4 harg4 arg7 harg7 x2 xs1)
theorem hs108 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_108 c arg4 harg4 arg7 harg7 x2 xs1 = scores (tiles (prevLd arg7 harg7 xs1) (kLd0 arg4 harg4 x2) (kLd arg4 harg4 x2)) (qLd arg4 harg4 x2) 108 :=
  congrArg (List.cons _) (hs107 c arg4 harg4 arg7 harg7 x2 xs1)
theorem hs109 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_109 c arg4 harg4 arg7 harg7 x2 xs1 = scores (tiles (prevLd arg7 harg7 xs1) (kLd0 arg4 harg4 x2) (kLd arg4 harg4 x2)) (qLd arg4 harg4 x2) 109 :=
  congrArg (List.cons _) (hs108 c arg4 harg4 arg7 harg7 x2 xs1)
theorem hs110 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_110 c arg4 harg4 arg7 harg7 x2 xs1 = scores (tiles (prevLd arg7 harg7 xs1) (kLd0 arg4 harg4 x2) (kLd arg4 harg4 x2)) (qLd arg4 harg4 x2) 110 :=
  congrArg (List.cons _) (hs109 c arg4 harg4 arg7 harg7 x2 xs1)
theorem hs111 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_111 c arg4 harg4 arg7 harg7 x2 xs1 = scores (tiles (prevLd arg7 harg7 xs1) (kLd0 arg4 harg4 x2) (kLd arg4 harg4 x2)) (qLd arg4 harg4 x2) 111 :=
  congrArg (List.cons _) (hs110 c arg4 harg4 arg7 harg7 x2 xs1)
theorem hs112 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_112 c arg4 harg4 arg7 harg7 x2 xs1 = scores (tiles (prevLd arg7 harg7 xs1) (kLd0 arg4 harg4 x2) (kLd arg4 harg4 x2)) (qLd arg4 harg4 x2) 112 :=
  congrArg (List.cons _) (hs111 c arg4 harg4 arg7 harg7 x2 xs1)
theorem hs113 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_113 c arg4 harg4 arg7 harg7 x2 xs1 = scores (tiles (prevLd arg7 harg7 xs1) (kLd0 arg4 harg4 x2) (kLd arg4 harg4 x2)) (qLd arg4 harg4 x2) 113 :=
  congrArg (List.cons _) (hs112 c arg4 harg4 arg7 harg7 x2 xs1)
theorem hs114 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_114 c arg4 harg4 arg7 harg7 x2 xs1 = scores (tiles (prevLd arg7 harg7 xs1) (kLd0 arg4 harg4 x2) (kLd arg4 harg4 x2)) (qLd arg4 harg4 x2) 114 :=
  congrArg (List.cons _) (hs113 c arg4 harg4 arg7 harg7 x2 xs1)
theorem hs115 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_115 c arg4 harg4 arg7 harg7 x2 xs1 = scores (tiles (prevLd arg7 harg7 xs1) (kLd0 arg4 harg4 x2) (kLd arg4 harg4 x2)) (qLd arg4 harg4 x2) 115 :=
  congrArg (List.cons _) (hs114 c arg4 harg4 arg7 harg7 x2 xs1)
theorem hs116 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_116 c arg4 harg4 arg7 harg7 x2 xs1 = scores (tiles (prevLd arg7 harg7 xs1) (kLd0 arg4 harg4 x2) (kLd arg4 harg4 x2)) (qLd arg4 harg4 x2) 116 :=
  congrArg (List.cons _) (hs115 c arg4 harg4 arg7 harg7 x2 xs1)
theorem hs117 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_117 c arg4 harg4 arg7 harg7 x2 xs1 = scores (tiles (prevLd arg7 harg7 xs1) (kLd0 arg4 harg4 x2) (kLd arg4 harg4 x2)) (qLd arg4 harg4 x2) 117 :=
  congrArg (List.cons _) (hs116 c arg4 harg4 arg7 harg7 x2 xs1)
theorem hs118 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_118 c arg4 harg4 arg7 harg7 x2 xs1 = scores (tiles (prevLd arg7 harg7 xs1) (kLd0 arg4 harg4 x2) (kLd arg4 harg4 x2)) (qLd arg4 harg4 x2) 118 :=
  congrArg (List.cons _) (hs117 c arg4 harg4 arg7 harg7 x2 xs1)
theorem hs119 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_119 c arg4 harg4 arg7 harg7 x2 xs1 = scores (tiles (prevLd arg7 harg7 xs1) (kLd0 arg4 harg4 x2) (kLd arg4 harg4 x2)) (qLd arg4 harg4 x2) 119 :=
  congrArg (List.cons _) (hs118 c arg4 harg4 arg7 harg7 x2 xs1)
theorem hs120 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_120 c arg4 harg4 arg7 harg7 x2 xs1 = scores (tiles (prevLd arg7 harg7 xs1) (kLd0 arg4 harg4 x2) (kLd arg4 harg4 x2)) (qLd arg4 harg4 x2) 120 :=
  congrArg (List.cons _) (hs119 c arg4 harg4 arg7 harg7 x2 xs1)
theorem hs121 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_121 c arg4 harg4 arg7 harg7 x2 xs1 = scores (tiles (prevLd arg7 harg7 xs1) (kLd0 arg4 harg4 x2) (kLd arg4 harg4 x2)) (qLd arg4 harg4 x2) 121 :=
  congrArg (List.cons _) (hs120 c arg4 harg4 arg7 harg7 x2 xs1)
theorem hs122 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_122 c arg4 harg4 arg7 harg7 x2 xs1 = scores (tiles (prevLd arg7 harg7 xs1) (kLd0 arg4 harg4 x2) (kLd arg4 harg4 x2)) (qLd arg4 harg4 x2) 122 :=
  congrArg (List.cons _) (hs121 c arg4 harg4 arg7 harg7 x2 xs1)
theorem hs123 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_123 c arg4 harg4 arg7 harg7 x2 xs1 = scores (tiles (prevLd arg7 harg7 xs1) (kLd0 arg4 harg4 x2) (kLd arg4 harg4 x2)) (qLd arg4 harg4 x2) 123 :=
  congrArg (List.cons _) (hs122 c arg4 harg4 arg7 harg7 x2 xs1)
theorem hs124 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_124 c arg4 harg4 arg7 harg7 x2 xs1 = scores (tiles (prevLd arg7 harg7 xs1) (kLd0 arg4 harg4 x2) (kLd arg4 harg4 x2)) (qLd arg4 harg4 x2) 124 :=
  congrArg (List.cons _) (hs123 c arg4 harg4 arg7 harg7 x2 xs1)
theorem hs125 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_125 c arg4 harg4 arg7 harg7 x2 xs1 = scores (tiles (prevLd arg7 harg7 xs1) (kLd0 arg4 harg4 x2) (kLd arg4 harg4 x2)) (qLd arg4 harg4 x2) 125 :=
  congrArg (List.cons _) (hs124 c arg4 harg4 arg7 harg7 x2 xs1)
theorem hs126 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_126 c arg4 harg4 arg7 harg7 x2 xs1 = scores (tiles (prevLd arg7 harg7 xs1) (kLd0 arg4 harg4 x2) (kLd arg4 harg4 x2)) (qLd arg4 harg4 x2) 126 :=
  congrArg (List.cons _) (hs125 c arg4 harg4 arg7 harg7 x2 xs1)
theorem hs127 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_127 c arg4 harg4 arg7 harg7 x2 xs1 = scores (tiles (prevLd arg7 harg7 xs1) (kLd0 arg4 harg4 x2) (kLd arg4 harg4 x2)) (qLd arg4 harg4 x2) 127 :=
  congrArg (List.cons _) (hs126 c arg4 harg4 arg7 harg7 x2 xs1)
theorem hs128 (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) : kernelRun0_B.sl.HS0_128 c arg4 harg4 arg7 harg7 x2 xs1 = scores (tiles (prevLd arg7 harg7 xs1) (kLd0 arg4 harg4 x2) (kLd arg4 harg4 x2)) (qLd arg4 harg4 x2) 128 :=
  congrArg (List.cons _) (hs127 c arg4 harg4 arg7 harg7 x2 xs1)

theorem held_eq (c : Dev nD) (arg4 : Memref sig .tc .vmem S1x1024x1280 .bf16) (harg4 : arg4.IsWhole) (arg7 : Memref sig .tc .vmem S1x128x128 .bf16) (harg7 : arg7.IsWhole) (x2 : Vec F S1x1024x1280 .bf16) (xs1 : Vec F S1x128x128 .bf16) (j : Fin 128) : held c arg4 harg4 arg7 harg7 x2 xs1 j = scores (tiles (prevLd arg7 harg7 xs1) (kLd0 arg4 harg4 x2) (kLd arg4 harg4 x2)) (qLd arg4 harg4 x2) (min (j.val + 3) 128) := by
  match j with
  | ⟨0, _⟩ => exact hs3 c arg4 harg4 arg7 harg7 x2 xs1
  | ⟨1, _⟩ => exact hs4 c arg4 harg4 arg7 harg7 x2 xs1
  | ⟨2, _⟩ => exact hs5 c arg4 harg4 arg7 harg7 x2 xs1
  | ⟨3, _⟩ => exact hs6 c arg4 harg4 arg7 harg7 x2 xs1
  | ⟨4, _⟩ => exact hs7 c arg4 harg4 arg7 harg7 x2 xs1
  | ⟨5, _⟩ => exact hs8 c arg4 harg4 arg7 harg7 x2 xs1
  | ⟨6, _⟩ => exact hs9 c arg4 harg4 arg7 harg7 x2 xs1
  | ⟨7, _⟩ => exact hs10 c arg4 harg4 arg7 harg7 x2 xs1
  | ⟨8, _⟩ => exact hs11 c arg4 harg4 arg7 harg7 x2 xs1
  | ⟨9, _⟩ => exact hs12 c arg4 harg4 arg7 harg7 x2 xs1
  | ⟨10, _⟩ => exact hs13 c arg4 harg4 arg7 harg7 x2 xs1
  | ⟨11, _⟩ => exact hs14 c arg4 harg4 arg7 harg7 x2 xs1
  | ⟨12, _⟩ => exact hs15 c arg4 harg4 arg7 harg7 x2 xs1
  | ⟨13, _⟩ => exact hs16 c arg4 harg4 arg7 harg7 x2 xs1
  | ⟨14, _⟩ => exact hs17 c arg4 harg4 arg7 harg7 x2 xs1
  | ⟨15, _⟩ => exact hs18 c arg4 harg4 arg7 harg7 x2 xs1
  | ⟨16, _⟩ => exact hs19 c arg4 harg4 arg7 harg7 x2 xs1
  | ⟨17, _⟩ => exact hs20 c arg4 harg4 arg7 harg7 x2 xs1
  | ⟨18, _⟩ => exact hs21 c arg4 harg4 arg7 harg7 x2 xs1
  | ⟨19, _⟩ => exact hs22 c arg4 harg4 arg7 harg7 x2 xs1
  | ⟨20, _⟩ => exact hs23 c arg4 harg4 arg7 harg7 x2 xs1
  | ⟨21, _⟩ => exact hs24 c arg4 harg4 arg7 harg7 x2 xs1
  | ⟨22, _⟩ => exact hs25 c arg4 harg4 arg7 harg7 x2 xs1
  | ⟨23, _⟩ => exact hs26 c arg4 harg4 arg7 harg7 x2 xs1
  | ⟨24, _⟩ => exact hs27 c arg4 harg4 arg7 harg7 x2 xs1
  | ⟨25, _⟩ => exact hs28 c arg4 harg4 arg7 harg7 x2 xs1
  | ⟨26, _⟩ => exact hs29 c arg4 harg4 arg7 harg7 x2 xs1
  | ⟨27, _⟩ => exact hs30 c arg4 harg4 arg7 harg7 x2 xs1
  | ⟨28, _⟩ => exact hs31 c arg4 harg4 arg7 harg7 x2 xs1
  | ⟨29, _⟩ => exact hs32 c arg4 harg4 arg7 harg7 x2 xs1
  | ⟨30, _⟩ => exact hs33 c arg4 harg4 arg7 harg7 x2 xs1
  | ⟨31, _⟩ => exact hs34 c arg4 harg4 arg7 harg7 x2 xs1
  | ⟨32, _⟩ => exact hs35 c arg4 harg4 arg7 harg7 x2 xs1
  | ⟨33, _⟩ => exact hs36 c arg4 harg4 arg7 harg7 x2 xs1
  | ⟨34, _⟩ => exact hs37 c arg4 harg4 arg7 harg7 x2 xs1
  | ⟨35, _⟩ => exact hs38 c arg4 harg4 arg7 harg7 x2 xs1
  | ⟨36, _⟩ => exact hs39 c arg4 harg4 arg7 harg7 x2 xs1
  | ⟨37, _⟩ => exact hs40 c arg4 harg4 arg7 harg7 x2 xs1
  | ⟨38, _⟩ => exact hs41 c arg4 harg4 arg7 harg7 x2 xs1
  | ⟨39, _⟩ => exact hs42 c arg4 harg4 arg7 harg7 x2 xs1
  | ⟨40, _⟩ => exact hs43 c arg4 harg4 arg7 harg7 x2 xs1
  | ⟨41, _⟩ => exact hs44 c arg4 harg4 arg7 harg7 x2 xs1
  | ⟨42, _⟩ => exact hs45 c arg4 harg4 arg7 harg7 x2 xs1
  | ⟨43, _⟩ => exact hs46 c arg4 harg4 arg7 harg7 x2 xs1
  | ⟨44, _⟩ => exact hs47 c arg4 harg4 arg7 harg7 x2 xs1
  | ⟨45, _⟩ => exact hs48 c arg4 harg4 arg7 harg7 x2 xs1
  | ⟨46, _⟩ => exact hs49 c arg4 harg4 arg7 harg7 x2 xs1
  | ⟨47, _⟩ => exact hs50 c arg4 harg4 arg7 harg7 x2 xs1
  | ⟨48, _⟩ => exact hs51 c arg4 harg4 arg7 harg7 x2 xs1
  | ⟨49, _⟩ => exact hs52 c arg4 harg4 arg7 harg7 x2 xs1
  | ⟨50, _⟩ => exact hs53 c arg4 harg4 arg7 harg7 x2 xs1
  | ⟨51, _⟩ => exact hs54 c arg4 harg4 arg7 harg7 x2 xs1
  | ⟨52, _⟩ => exact hs55 c arg4 harg4 arg7 harg7 x2 xs1
  | ⟨53, _⟩ => exact hs56 c arg4 harg4 arg7 harg7 x2 xs1
  | ⟨54, _⟩ => exact hs57 c arg4 harg4 arg7 harg7 x2 xs1
  | ⟨55, _⟩ => exact hs58 c arg4 harg4 arg7 harg7 x2 xs1
  | ⟨56, _⟩ => exact hs59 c arg4 harg4 arg7 harg7 x2 xs1
  | ⟨57, _⟩ => exact hs60 c arg4 harg4 arg7 harg7 x2 xs1
  | ⟨58, _⟩ => exact hs61 c arg4 harg4 arg7 harg7 x2 xs1
  | ⟨59, _⟩ => exact hs62 c arg4 harg4 arg7 harg7 x2 xs1
  | ⟨60, _⟩ => exact hs63 c arg4 harg4 arg7 harg7 x2 xs1
  | ⟨61, _⟩ => exact hs64 c arg4 harg4 arg7 harg7 x2 xs1
  | ⟨62, _⟩ => exact hs65 c arg4 harg4 arg7 harg7 x2 xs1
  | ⟨63, _⟩ => exact hs66 c arg4 harg4 arg7 harg7 x2 xs1
  | ⟨64, _⟩ => exact hs67 c arg4 harg4 arg7 harg7 x2 xs1
  | ⟨65, _⟩ => exact hs68 c arg4 harg4 arg7 harg7 x2 xs1
  | ⟨66, _⟩ => exact hs69 c arg4 harg4 arg7 harg7 x2 xs1
  | ⟨67, _⟩ => exact hs70 c arg4 harg4 arg7 harg7 x2 xs1
  | ⟨68, _⟩ => exact hs71 c arg4 harg4 arg7 harg7 x2 xs1
  | ⟨69, _⟩ => exact hs72 c arg4 harg4 arg7 harg7 x2 xs1
  | ⟨70, _⟩ => exact hs73 c arg4 harg4 arg7 harg7 x2 xs1
  | ⟨71, _⟩ => exact hs74 c arg4 harg4 arg7 harg7 x2 xs1
  | ⟨72, _⟩ => exact hs75 c arg4 harg4 arg7 harg7 x2 xs1
  | ⟨73, _⟩ => exact hs76 c arg4 harg4 arg7 harg7 x2 xs1
  | ⟨74, _⟩ => exact hs77 c arg4 harg4 arg7 harg7 x2 xs1
  | ⟨75, _⟩ => exact hs78 c arg4 harg4 arg7 harg7 x2 xs1
  | ⟨76, _⟩ => exact hs79 c arg4 harg4 arg7 harg7 x2 xs1
  | ⟨77, _⟩ => exact hs80 c arg4 harg4 arg7 harg7 x2 xs1
  | ⟨78, _⟩ => exact hs81 c arg4 harg4 arg7 harg7 x2 xs1
  | ⟨79, _⟩ => exact hs82 c arg4 harg4 arg7 harg7 x2 xs1
  | ⟨80, _⟩ => exact hs83 c arg4 harg4 arg7 harg7 x2 xs1
  | ⟨81, _⟩ => exact hs84 c arg4 harg4 arg7 harg7 x2 xs1
  | ⟨82, _⟩ => exact hs85 c arg4 harg4 arg7 harg7 x2 xs1
  | ⟨83, _⟩ => exact hs86 c arg4 harg4 arg7 harg7 x2 xs1
  | ⟨84, _⟩ => exact hs87 c arg4 harg4 arg7 harg7 x2 xs1
  | ⟨85, _⟩ => exact hs88 c arg4 harg4 arg7 harg7 x2 xs1
  | ⟨86, _⟩ => exact hs89 c arg4 harg4 arg7 harg7 x2 xs1
  | ⟨87, _⟩ => exact hs90 c arg4 harg4 arg7 harg7 x2 xs1
  | ⟨88, _⟩ => exact hs91 c arg4 harg4 arg7 harg7 x2 xs1
  | ⟨89, _⟩ => exact hs92 c arg4 harg4 arg7 harg7 x2 xs1
  | ⟨90, _⟩ => exact hs93 c arg4 harg4 arg7 harg7 x2 xs1
  | ⟨91, _⟩ => exact hs94 c arg4 harg4 arg7 harg7 x2 xs1
  | ⟨92, _⟩ => exact hs95 c arg4 harg4 arg7 harg7 x2 xs1
  | ⟨93, _⟩ => exact hs96 c arg4 harg4 arg7 harg7 x2 xs1
  | ⟨94, _⟩ => exact hs97 c arg4 harg4 arg7 harg7 x2 xs1
  | ⟨95, _⟩ => exact hs98 c arg4 harg4 arg7 harg7 x2 xs1
  | ⟨96, _⟩ => exact hs99 c arg4 harg4 arg7 harg7 x2 xs1
  | ⟨97, _⟩ => exact hs100 c arg4 harg4 arg7 harg7 x2 xs1
  | ⟨98, _⟩ => exact hs101 c arg4 harg4 arg7 harg7 x2 xs1
  | ⟨99, _⟩ => exact hs102 c arg4 harg4 arg7 harg7 x2 xs1
  | ⟨100, _⟩ => exact hs103 c arg4 harg4 arg7 harg7 x2 xs1
  | ⟨101, _⟩ => exact hs104 c arg4 harg4 arg7 harg7 x2 xs1
  | ⟨102, _⟩ => exact hs105 c arg4 harg4 arg7 harg7 x2 xs1
  | ⟨103, _⟩ => exact hs106 c arg4 harg4 arg7 harg7 x2 xs1
  | ⟨104, _⟩ => exact hs107 c arg4 harg4 arg7 harg7 x2 xs1
  | ⟨105, _⟩ => exact hs108 c arg4 harg4 arg7 harg7 x2 xs1
  | ⟨106, _⟩ => exact hs109 c arg4 harg4 arg7 harg7 x2 xs1
  | ⟨107, _⟩ => exact hs110 c arg4 harg4 arg7 harg7 x2 xs1
  | ⟨108, _⟩ => exact hs111 c arg4 harg4 arg7 harg7 x2 xs1
  | ⟨109, _⟩ => exact hs112 c arg4 harg4 arg7 harg7 x2 xs1
  | ⟨110, _⟩ => exact hs113 c arg4 harg4 arg7 harg7 x2 xs1
  | ⟨111, _⟩ => exact hs114 c arg4 harg4 arg7 harg7 x2 xs1
  | ⟨112, _⟩ => exact hs115 c arg4 harg4 arg7 harg7 x2 xs1
  | ⟨113, _⟩ => exact hs116 c arg4 harg4 arg7 harg7 x2 xs1
  | ⟨114, _⟩ => exact hs117 c arg4 harg4 arg7 harg7 x2 xs1
  | ⟨115, _⟩ => exact hs118 c arg4 harg4 arg7 harg7 x2 xs1
  | ⟨116, _⟩ => exact hs119 c arg4 harg4 arg7 harg7 x2 xs1
  | ⟨117, _⟩ => exact hs120 c arg4 harg4 arg7 harg7 x2 xs1
  | ⟨118, _⟩ => exact hs121 c arg4 harg4 arg7 harg7 x2 xs1
  | ⟨119, _⟩ => exact hs122 c arg4 harg4 arg7 harg7 x2 xs1
  | ⟨120, _⟩ => exact hs123 c arg4 harg4 arg7 harg7 x2 xs1
  | ⟨121, _⟩ => exact hs124 c arg4 harg4 arg7 harg7 x2 xs1
  | ⟨122, _⟩ => exact hs125 c arg4 harg4 arg7 harg7 x2 xs1
  | ⟨123, _⟩ => exact hs126 c arg4 harg4 arg7 harg7 x2 xs1
  | ⟨124, _⟩ => exact hs127 c arg4 harg4 arg7 harg7 x2 xs1
  | ⟨125, _⟩ => exact hs128 c arg4 harg4 arg7 harg7 x2 xs1
  | ⟨126, _⟩ => exact hs128 c arg4 harg4 arg7 harg7 x2 xs1
  | ⟨127, _⟩ => exact hs128 c arg4 harg4 arg7 harg7 x2 xs1
  | ⟨n + 128, h⟩ => exact absurd h (by omega)

theorem keepK_eq (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : ¬cond0_0 i) (hc1 : ¬cond0_1 i)
    (x0 : Vec F S16 .f32) (x1 : Vec F S16 .f32) (x2 : Vec F S1x1024x1280 .bf16) (xs1 : Vec F S1x128x128 .bf16) (xs2 : Vec F S1x128x128 .bf16) (xs3 : Vec F S16x2x256x128 .f32) : ∃ L, (kernelRun0_B c i arg2 harg2 arg3 harg3 arg4 harg4 arg5 harg5 arg6 harg6 arg7 harg7 arg8 harg8 arg9 harg9 hc0 hc1 x0 x1 x2 xs1 xs2 xs3).2.1 = keepK arg4 harg4 x2 :: L := ⟨_, rfl⟩

theorem keepV_eq (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : ¬cond0_0 i) (hc1 : ¬cond0_1 i)
    (x0 : Vec F S16 .f32) (x1 : Vec F S16 .f32) (x2 : Vec F S1x1024x1280 .bf16) (xs1 : Vec F S1x128x128 .bf16) (xs2 : Vec F S1x128x128 .bf16) (xs3 : Vec F S16x2x256x128 .f32) : ∃ L, (kernelRun0_B c i arg2 harg2 arg3 harg3 arg4 harg4 arg5 harg5 arg6 harg6 arg7 harg7 arg8 harg8 arg9 harg9 hc0 hc1 x0 x1 x2 xs1 xs2 xs3).2.2.1 = keepV arg4 harg4 x2 :: L := ⟨_, rfl⟩

end Cert.Swa.CaseB

end
-- ==== Proof.SwaC.lean ====
/- The stores of a sequence's first point as the list of `Cert.Swa.pieces`. -/
module

public import proofs.«01_k».proof.Proof.SwaTile

@[expose] public section

set_option maxRecDepth 16384

noncomputable section

namespace Cert.Swa.CaseC

open Cert.KernelIdeal Cert.KernelIdeal.Gen
open Idealize.ShloMosaic Idealize.ShloMosaic.TcCoe

variable {F : FTy → Type} [FloatOps F] [Named F]

/-- What the scratch of scores holds when a chain's place is read back. -/
def held (c : Dev nD) (arg4 : Memref sig .tc .vmem S1x1024x1280 .bf16) (harg4 : arg4.IsWhole) (arg7 : Memref sig .tc .vmem S1x128x128 .bf16) (x2 : Vec F S1x1024x1280 .bf16) : Fin 128 → List (View.Piece (Elt F) S128x256x128 .f32) :=
  ![kernelRun0_C.sl.HS0_3 c arg4 harg4 arg7 x2,
    kernelRun0_C.sl.HS0_4 c arg4 harg4 arg7 x2,
    kernelRun0_C.sl.HS0_5 c arg4 harg4 arg7 x2,
    kernelRun0_C.sl.HS0_6 c arg4 harg4 arg7 x2,
    kernelRun0_C.sl.HS0_7 c arg4 harg4 arg7 x2,
    kernelRun0_C.sl.HS0_8 c arg4 harg4 arg7 x2,
    kernelRun0_C.sl.HS0_9 c arg4 harg4 arg7 x2,
    kernelRun0_C.sl.HS0_10 c arg4 harg4 arg7 x2,
    kernelRun0_C.sl.HS0_11 c arg4 harg4 arg7 x2,
    kernelRun0_C.sl.HS0_12 c arg4 harg4 arg7 x2,
    kernelRun0_C.sl.HS0_13 c arg4 harg4 arg7 x2,
    kernelRun0_C.sl.HS0_14 c arg4 harg4 arg7 x2,
    kernelRun0_C.sl.HS0_15 c arg4 harg4 arg7 x2,
    kernelRun0_C.sl.HS0_16 c arg4 harg4 arg7 x2,
    kernelRun0_C.sl.HS0_17 c arg4 harg4 arg7 x2,
    kernelRun0_C.sl.HS0_18 c arg4 harg4 arg7 x2,
    kernelRun0_C.sl.HS0_19 c arg4 harg4 arg7 x2,
    kernelRun0_C.sl.HS0_20 c arg4 harg4 arg7 x2,
    kernelRun0_C.sl.HS0_21 c arg4 harg4 arg7 x2,
    kernelRun0_C.sl.HS0_22 c arg4 harg4 arg7 x2,
    kernelRun0_C.sl.HS0_23 c arg4 harg4 arg7 x2,
    kernelRun0_C.sl.HS0_24 c arg4 harg4 arg7 x2,
    kernelRun0_C.sl.HS0_25 c arg4 harg4 arg7 x2,
    kernelRun0_C.sl.HS0_26 c arg4 harg4 arg7 x2,
    kernelRun0_C.sl.HS0_27 c arg4 harg4 arg7 x2,
    kernelRun0_C.sl.HS0_28 c arg4 harg4 arg7 x2,
    kernelRun0_C.sl.HS0_29 c arg4 harg4 arg7 x2,
    kernelRun0_C.sl.HS0_30 c arg4 harg4 arg7 x2,
    kernelRun0_C.sl.HS0_31 c arg4 harg4 arg7 x2,
    kernelRun0_C.sl.HS0_32 c arg4 harg4 arg7 x2,
    kernelRun0_C.sl.HS0_33 c arg4 harg4 arg7 x2,
    kernelRun0_C.sl.HS0_34 c arg4 harg4 arg7 x2,
    kernelRun0_C.sl.HS0_35 c arg4 harg4 arg7 x2,
    kernelRun0_C.sl.HS0_36 c arg4 harg4 arg7 x2,
    kernelRun0_C.sl.HS0_37 c arg4 harg4 arg7 x2,
    kernelRun0_C.sl.HS0_38 c arg4 harg4 arg7 x2,
    kernelRun0_C.sl.HS0_39 c arg4 harg4 arg7 x2,
    kernelRun0_C.sl.HS0_40 c arg4 harg4 arg7 x2,
    kernelRun0_C.sl.HS0_41 c arg4 harg4 arg7 x2,
    kernelRun0_C.sl.HS0_42 c arg4 harg4 arg7 x2,
    kernelRun0_C.sl.HS0_43 c arg4 harg4 arg7 x2,
    kernelRun0_C.sl.HS0_44 c arg4 harg4 arg7 x2,
    kernelRun0_C.sl.HS0_45 c arg4 harg4 arg7 x2,
    kernelRun0_C.sl.HS0_46 c arg4 harg4 arg7 x2,
    kernelRun0_C.sl.HS0_47 c arg4 harg4 arg7 x2,
    kernelRun0_C.sl.HS0_48 c arg4 harg4 arg7 x2,
    kernelRun0_C.sl.HS0_49 c arg4 harg4 arg7 x2,
    kernelRun0_C.sl.HS0_50 c arg4 harg4 arg7 x2,
    kernelRun0_C.sl.HS0_51 c arg4 harg4 arg7 x2,
    kernelRun0_C.sl.HS0_52 c arg4 harg4 arg7 x2,
    kernelRun0_C.sl.HS0_53 c arg4 harg4 arg7 x2,
    kernelRun0_C.sl.HS0_54 c arg4 harg4 arg7 x2,
    kernelRun0_C.sl.HS0_55 c arg4 harg4 arg7 x2,
    kernelRun0_C.sl.HS0_56 c arg4 harg4 arg7 x2,
    kernelRun0_C.sl.HS0_57 c arg4 harg4 arg7 x2,
    kernelRun0_C.sl.HS0_58 c arg4 harg4 arg7 x2,
    kernelRun0_C.sl.HS0_59 c arg4 harg4 arg7 x2,
    kernelRun0_C.sl.HS0_60 c arg4 harg4 arg7 x2,
    kernelRun0_C.sl.HS0_61 c arg4 harg4 arg7 x2,
    kernelRun0_C.sl.HS0_62 c arg4 harg4 arg7 x2,
    kernelRun0_C.sl.HS0_63 c arg4 harg4 arg7 x2,
    kernelRun0_C.sl.HS0_64 c arg4 harg4 arg7 x2,
    kernelRun0_C.sl.HS0_65 c arg4 harg4 arg7 x2,
    kernelRun0_C.sl.HS0_66 c arg4 harg4 arg7 x2,
    kernelRun0_C.sl.HS0_67 c arg4 harg4 arg7 x2,
    kernelRun0_C.sl.HS0_68 c arg4 harg4 arg7 x2,
    kernelRun0_C.sl.HS0_69 c arg4 harg4 arg7 x2,
    kernelRun0_C.sl.HS0_70 c arg4 harg4 arg7 x2,
    kernelRun0_C.sl.HS0_71 c arg4 harg4 arg7 x2,
    kernelRun0_C.sl.HS0_72 c arg4 harg4 arg7 x2,
    kernelRun0_C.sl.HS0_73 c arg4 harg4 arg7 x2,
    kernelRun0_C.sl.HS0_74 c arg4 harg4 arg7 x2,
    kernelRun0_C.sl.HS0_75 c arg4 harg4 arg7 x2,
    kernelRun0_C.sl.HS0_76 c arg4 harg4 arg7 x2,
    kernelRun0_C.sl.HS0_77 c arg4 harg4 arg7 x2,
    kernelRun0_C.sl.HS0_78 c arg4 harg4 arg7 x2,
    kernelRun0_C.sl.HS0_79 c arg4 harg4 arg7 x2,
    kernelRun0_C.sl.HS0_80 c arg4 harg4 arg7 x2,
    kernelRun0_C.sl.HS0_81 c arg4 harg4 arg7 x2,
    kernelRun0_C.sl.HS0_82 c arg4 harg4 arg7 x2,
    kernelRun0_C.sl.HS0_83 c arg4 harg4 arg7 x2,
    kernelRun0_C.sl.HS0_84 c arg4 harg4 arg7 x2,
    kernelRun0_C.sl.HS0_85 c arg4 harg4 arg7 x2,
    kernelRun0_C.sl.HS0_86 c arg4 harg4 arg7 x2,
    kernelRun0_C.sl.HS0_87 c arg4 harg4 arg7 x2,
    kernelRun0_C.sl.HS0_88 c arg4 harg4 arg7 x2,
    kernelRun0_C.sl.HS0_89 c arg4 harg4 arg7 x2,
    kernelRun0_C.sl.HS0_90 c arg4 harg4 arg7 x2,
    kernelRun0_C.sl.HS0_91 c arg4 harg4 arg7 x2,
    kernelRun0_C.sl.HS0_92 c arg4 harg4 arg7 x2,
    kernelRun0_C.sl.HS0_93 c arg4 harg4 arg7 x2,
    kernelRun0_C.sl.HS0_94 c arg4 harg4 arg7 x2,
    kernelRun0_C.sl.HS0_95 c arg4 harg4 arg7 x2,
    kernelRun0_C.sl.HS0_96 c arg4 harg4 arg7 x2,
    kernelRun0_C.sl.HS0_97 c arg4 harg4 arg7 x2,
    kernelRun0_C.sl.HS0_98 c arg4 harg4 arg7 x2,
    kernelRun0_C.sl.HS0_99 c arg4 harg4 arg7 x2,
    kernelRun0_C.sl.HS0_100 c arg4 harg4 arg7 x2,
    kernelRun0_C.sl.HS0_101 c arg4 harg4 arg7 x2,
    kernelRun0_C.sl.HS0_102 c arg4 harg4 arg7 x2,
    kernelRun0_C.sl.HS0_103 c arg4 harg4 arg7 x2,
    kernelRun0_C.sl.HS0_104 c arg4 harg4 arg7 x2,
    kernelRun0_C.sl.HS0_105 c arg4 harg4 arg7 x2,
    kernelRun0_C.sl.HS0_106 c arg4 harg4 arg7 x2,
    kernelRun0_C.sl.HS0_107 c arg4 harg4 arg7 x2,
    kernelRun0_C.sl.HS0_108 c arg4 harg4 arg7 x2,
    kernelRun0_C.sl.HS0_109 c arg4 harg4 arg7 x2,
    kernelRun0_C.sl.HS0_110 c arg4 harg4 arg7 x2,
    kernelRun0_C.sl.HS0_111 c arg4 harg4 arg7 x2,
    kernelRun0_C.sl.HS0_112 c arg4 harg4 arg7 x2,
    kernelRun0_C.sl.HS0_113 c arg4 harg4 arg7 x2,
    kernelRun0_C.sl.HS0_114 c arg4 harg4 arg7 x2,
    kernelRun0_C.sl.HS0_115 c arg4 harg4 arg7 x2,
    kernelRun0_C.sl.HS0_116 c arg4 harg4 arg7 x2,
    kernelRun0_C.sl.HS0_117 c arg4 harg4 arg7 x2,
    kernelRun0_C.sl.HS0_118 c arg4 harg4 arg7 x2,
    kernelRun0_C.sl.HS0_119 c arg4 harg4 arg7 x2,
    kernelRun0_C.sl.HS0_120 c arg4 harg4 arg7 x2,
    kernelRun0_C.sl.HS0_121 c arg4 harg4 arg7 x2,
    kernelRun0_C.sl.HS0_122 c arg4 harg4 arg7 x2,
    kernelRun0_C.sl.HS0_123 c arg4 harg4 arg7 x2,
    kernelRun0_C.sl.HS0_124 c arg4 harg4 arg7 x2,
    kernelRun0_C.sl.HS0_125 c arg4 harg4 arg7 x2,
    kernelRun0_C.sl.HS0_126 c arg4 harg4 arg7 x2,
    kernelRun0_C.sl.HS0_127 c arg4 harg4 arg7 x2,
    kernelRun0_C.sl.HS0_128 c arg4 harg4 arg7 x2,
    kernelRun0_C.sl.HS0_128 c arg4 harg4 arg7 x2,
    kernelRun0_C.sl.HS0_128 c arg4 harg4 arg7 x2]

set_option maxHeartbeats 4000000 in
theorem out_eq (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : ¬cond0_1 i)
    (x0 : Vec F S16 .f32) (x1 : Vec F S16 .f32) (x2 : Vec F S1x1024x1280 .bf16) (xs3 : Vec F S16x2x256x128 .f32) :
    (kernelRun0_C c i arg2 harg2 arg3 harg3 arg4 harg4 arg5 harg5 arg6 harg6 arg7 harg7 arg8 harg8 arg9 harg9 hc0 hc1 x0 x1 x2 xs3).1
      = pieces (tiles (zeroV arg8) (vLd0 arg4 harg4 x2) (vLd arg4 harg4 x2))
        (fun j => arg6.view.readCov (held c arg4 harg4 arg7 x2 j) (Rect.unit (s := S128x256x128) ![j.val, 0, 0] S1x256x128.size (inbS j)).toLoadRect)
        (biases (biasLd0 i arg9 (harg9.unread xs3)) (biasLd arg9 (harg9.unread xs3))) (sinkLd arg3 harg3 x1) := by
  rfl

theorem hs3 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_3 c arg4 harg4 arg7 x2 = scores (tiles (zeroK arg7) (kLd0 arg4 harg4 x2) (kLd arg4 harg4 x2)) (qLd arg4 harg4 x2) 3 := rfl
theorem hs4 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_4 c arg4 harg4 arg7 x2 = scores (tiles (zeroK arg7) (kLd0 arg4 harg4 x2) (kLd arg4 harg4 x2)) (qLd arg4 harg4 x2) 4 :=
  congrArg (List.cons _) (hs3 c arg4 harg4 arg7 x2)
theorem hs5 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_5 c arg4 harg4 arg7 x2 = scores (tiles (zeroK arg7) (kLd0 arg4 harg4 x2) (kLd arg4 harg4 x2)) (qLd arg4 harg4 x2) 5 :=
  congrArg (List.cons _) (hs4 c arg4 harg4 arg7 x2)
theorem hs6 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_6 c arg4 harg4 arg7 x2 = scores (tiles (zeroK arg7) (kLd0 arg4 harg4 x2) (kLd arg4 harg4 x2)) (qLd arg4 harg4 x2) 6 :=
  congrArg (List.cons _) (hs5 c arg4 harg4 arg7 x2)
theorem hs7 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_7 c arg4 harg4 arg7 x2 = scores (tiles (zeroK arg7) (kLd0 arg4 harg4 x2) (kLd arg4 harg4 x2)) (qLd arg4 harg4 x2) 7 :=
  congrArg (List.cons _) (hs6 c arg4 harg4 arg7 x2)
theorem hs8 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_8 c arg4 harg4 arg7 x2 = scores (tiles (zeroK arg7) (kLd0 arg4 harg4 x2) (kLd arg4 harg4 x2)) (qLd arg4 harg4 x2) 8 :=
  congrArg (List.cons _) (hs7 c arg4 harg4 arg7 x2)
theorem hs9 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_9 c arg4 harg4 arg7 x2 = scores (tiles (zeroK arg7) (kLd0 arg4 harg4 x2) (kLd arg4 harg4 x2)) (qLd arg4 harg4 x2) 9 :=
  congrArg (List.cons _) (hs8 c arg4 harg4 arg7 x2)
theorem hs10 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_10 c arg4 harg4 arg7 x2 = scores (tiles (zeroK arg7) (kLd0 arg4 harg4 x2) (kLd arg4 harg4 x2)) (qLd arg4 harg4 x2) 10 :=
  congrArg (List.cons _) (hs9 c arg4 harg4 arg7 x2)
theorem hs11 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_11 c arg4 harg4 arg7 x2 = scores (tiles (zeroK arg7) (kLd0 arg4 harg4 x2) (kLd arg4 harg4 x2)) (qLd arg4 harg4 x2) 11 :=
  congrArg (List.cons _) (hs10 c arg4 harg4 arg7 x2)
theorem hs12 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_12 c arg4 harg4 arg7 x2 = scores (tiles (zeroK arg7) (kLd0 arg4 harg4 x2) (kLd arg4 harg4 x2)) (qLd arg4 harg4 x2) 12 :=
  congrArg (List.cons _) (hs11 c arg4 harg4 arg7 x2)
theorem hs13 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_13 c arg4 harg4 arg7 x2 = scores (tiles (zeroK arg7) (kLd0 arg4 harg4 x2) (kLd arg4 harg4 x2)) (qLd arg4 harg4 x2) 13 :=
  congrArg (List.cons _) (hs12 c arg4 harg4 arg7 x2)
theorem hs14 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_14 c arg4 harg4 arg7 x2 = scores (tiles (zeroK arg7) (kLd0 arg4 harg4 x2) (kLd arg4 harg4 x2)) (qLd arg4 harg4 x2) 14 :=
  congrArg (List.cons _) (hs13 c arg4 harg4 arg7 x2)
theorem hs15 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_15 c arg4 harg4 arg7 x2 = scores (tiles (zeroK arg7) (kLd0 arg4 harg4 x2) (kLd arg4 harg4 x2)) (qLd arg4 harg4 x2) 15 :=
  congrArg (List.cons _) (hs14 c arg4 harg4 arg7 x2)
theorem hs16 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_16 c arg4 harg4 arg7 x2 = scores (tiles (zeroK arg7) (kLd0 arg4 harg4 x2) (kLd arg4 harg4 x2)) (qLd arg4 harg4 x2) 16 :=
  congrArg (List.cons _) (hs15 c arg4 harg4 arg7 x2)
theorem hs17 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_17 c arg4 harg4 arg7 x2 = scores (tiles (zeroK arg7) (kLd0 arg4 harg4 x2) (kLd arg4 harg4 x2)) (qLd arg4 harg4 x2) 17 :=
  congrArg (List.cons _) (hs16 c arg4 harg4 arg7 x2)
theorem hs18 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_18 c arg4 harg4 arg7 x2 = scores (tiles (zeroK arg7) (kLd0 arg4 harg4 x2) (kLd arg4 harg4 x2)) (qLd arg4 harg4 x2) 18 :=
  congrArg (List.cons _) (hs17 c arg4 harg4 arg7 x2)
theorem hs19 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_19 c arg4 harg4 arg7 x2 = scores (tiles (zeroK arg7) (kLd0 arg4 harg4 x2) (kLd arg4 harg4 x2)) (qLd arg4 harg4 x2) 19 :=
  congrArg (List.cons _) (hs18 c arg4 harg4 arg7 x2)
theorem hs20 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_20 c arg4 harg4 arg7 x2 = scores (tiles (zeroK arg7) (kLd0 arg4 harg4 x2) (kLd arg4 harg4 x2)) (qLd arg4 harg4 x2) 20 :=
  congrArg (List.cons _) (hs19 c arg4 harg4 arg7 x2)
theorem hs21 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_21 c arg4 harg4 arg7 x2 = scores (tiles (zeroK arg7) (kLd0 arg4 harg4 x2) (kLd arg4 harg4 x2)) (qLd arg4 harg4 x2) 21 :=
  congrArg (List.cons _) (hs20 c arg4 harg4 arg7 x2)
theorem hs22 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_22 c arg4 harg4 arg7 x2 = scores (tiles (zeroK arg7) (kLd0 arg4 harg4 x2) (kLd arg4 harg4 x2)) (qLd arg4 harg4 x2) 22 :=
  congrArg (List.cons _) (hs21 c arg4 harg4 arg7 x2)
theorem hs23 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_23 c arg4 harg4 arg7 x2 = scores (tiles (zeroK arg7) (kLd0 arg4 harg4 x2) (kLd arg4 harg4 x2)) (qLd arg4 harg4 x2) 23 :=
  congrArg (List.cons _) (hs22 c arg4 harg4 arg7 x2)
theorem hs24 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_24 c arg4 harg4 arg7 x2 = scores (tiles (zeroK arg7) (kLd0 arg4 harg4 x2) (kLd arg4 harg4 x2)) (qLd arg4 harg4 x2) 24 :=
  congrArg (List.cons _) (hs23 c arg4 harg4 arg7 x2)
theorem hs25 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_25 c arg4 harg4 arg7 x2 = scores (tiles (zeroK arg7) (kLd0 arg4 harg4 x2) (kLd arg4 harg4 x2)) (qLd arg4 harg4 x2) 25 :=
  congrArg (List.cons _) (hs24 c arg4 harg4 arg7 x2)
theorem hs26 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_26 c arg4 harg4 arg7 x2 = scores (tiles (zeroK arg7) (kLd0 arg4 harg4 x2) (kLd arg4 harg4 x2)) (qLd arg4 harg4 x2) 26 :=
  congrArg (List.cons _) (hs25 c arg4 harg4 arg7 x2)
theorem hs27 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_27 c arg4 harg4 arg7 x2 = scores (tiles (zeroK arg7) (kLd0 arg4 harg4 x2) (kLd arg4 harg4 x2)) (qLd arg4 harg4 x2) 27 :=
  congrArg (List.cons _) (hs26 c arg4 harg4 arg7 x2)
theorem hs28 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_28 c arg4 harg4 arg7 x2 = scores (tiles (zeroK arg7) (kLd0 arg4 harg4 x2) (kLd arg4 harg4 x2)) (qLd arg4 harg4 x2) 28 :=
  congrArg (List.cons _) (hs27 c arg4 harg4 arg7 x2)
theorem hs29 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_29 c arg4 harg4 arg7 x2 = scores (tiles (zeroK arg7) (kLd0 arg4 harg4 x2) (kLd arg4 harg4 x2)) (qLd arg4 harg4 x2) 29 :=
  congrArg (List.cons _) (hs28 c arg4 harg4 arg7 x2)
theorem hs30 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_30 c arg4 harg4 arg7 x2 = scores (tiles (zeroK arg7) (kLd0 arg4 harg4 x2) (kLd arg4 harg4 x2)) (qLd arg4 harg4 x2) 30 :=
  congrArg (List.cons _) (hs29 c arg4 harg4 arg7 x2)
theorem hs31 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_31 c arg4 harg4 arg7 x2 = scores (tiles (zeroK arg7) (kLd0 arg4 harg4 x2) (kLd arg4 harg4 x2)) (qLd arg4 harg4 x2) 31 :=
  congrArg (List.cons _) (hs30 c arg4 harg4 arg7 x2)
theorem hs32 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_32 c arg4 harg4 arg7 x2 = scores (tiles (zeroK arg7) (kLd0 arg4 harg4 x2) (kLd arg4 harg4 x2)) (qLd arg4 harg4 x2) 32 :=
  congrArg (List.cons _) (hs31 c arg4 harg4 arg7 x2)
theorem hs33 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_33 c arg4 harg4 arg7 x2 = scores (tiles (zeroK arg7) (kLd0 arg4 harg4 x2) (kLd arg4 harg4 x2)) (qLd arg4 harg4 x2) 33 :=
  congrArg (List.cons _) (hs32 c arg4 harg4 arg7 x2)
theorem hs34 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_34 c arg4 harg4 arg7 x2 = scores (tiles (zeroK arg7) (kLd0 arg4 harg4 x2) (kLd arg4 harg4 x2)) (qLd arg4 harg4 x2) 34 :=
  congrArg (List.cons _) (hs33 c arg4 harg4 arg7 x2)
theorem hs35 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_35 c arg4 harg4 arg7 x2 = scores (tiles (zeroK arg7) (kLd0 arg4 harg4 x2) (kLd arg4 harg4 x2)) (qLd arg4 harg4 x2) 35 :=
  congrArg (List.cons _) (hs34 c arg4 harg4 arg7 x2)
theorem hs36 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_36 c arg4 harg4 arg7 x2 = scores (tiles (zeroK arg7) (kLd0 arg4 harg4 x2) (kLd arg4 harg4 x2)) (qLd arg4 harg4 x2) 36 :=
  congrArg (List.cons _) (hs35 c arg4 harg4 arg7 x2)
theorem hs37 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_37 c arg4 harg4 arg7 x2 = scores (tiles (zeroK arg7) (kLd0 arg4 harg4 x2) (kLd arg4 harg4 x2)) (qLd arg4 harg4 x2) 37 :=
  congrArg (List.cons _) (hs36 c arg4 harg4 arg7 x2)
theorem hs38 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_38 c arg4 harg4 arg7 x2 = scores (tiles (zeroK arg7) (kLd0 arg4 harg4 x2) (kLd arg4 harg4 x2)) (qLd arg4 harg4 x2) 38 :=
  congrArg (List.cons _) (hs37 c arg4 harg4 arg7 x2)
theorem hs39 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_39 c arg4 harg4 arg7 x2 = scores (tiles (zeroK arg7) (kLd0 arg4 harg4 x2) (kLd arg4 harg4 x2)) (qLd arg4 harg4 x2) 39 :=
  congrArg (List.cons _) (hs38 c arg4 harg4 arg7 x2)
theorem hs40 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_40 c arg4 harg4 arg7 x2 = scores (tiles (zeroK arg7) (kLd0 arg4 harg4 x2) (kLd arg4 harg4 x2)) (qLd arg4 harg4 x2) 40 :=
  congrArg (List.cons _) (hs39 c arg4 harg4 arg7 x2)
theorem hs41 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_41 c arg4 harg4 arg7 x2 = scores (tiles (zeroK arg7) (kLd0 arg4 harg4 x2) (kLd arg4 harg4 x2)) (qLd arg4 harg4 x2) 41 :=
  congrArg (List.cons _) (hs40 c arg4 harg4 arg7 x2)
theorem hs42 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_42 c arg4 harg4 arg7 x2 = scores (tiles (zeroK arg7) (kLd0 arg4 harg4 x2) (kLd arg4 harg4 x2)) (qLd arg4 harg4 x2) 42 :=
  congrArg (List.cons _) (hs41 c arg4 harg4 arg7 x2)
theorem hs43 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_43 c arg4 harg4 arg7 x2 = scores (tiles (zeroK arg7) (kLd0 arg4 harg4 x2) (kLd arg4 harg4 x2)) (qLd arg4 harg4 x2) 43 :=
  congrArg (List.cons _) (hs42 c arg4 harg4 arg7 x2)
theorem hs44 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_44 c arg4 harg4 arg7 x2 = scores (tiles (zeroK arg7) (kLd0 arg4 harg4 x2) (kLd arg4 harg4 x2)) (qLd arg4 harg4 x2) 44 :=
  congrArg (List.cons _) (hs43 c arg4 harg4 arg7 x2)
theorem hs45 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_45 c arg4 harg4 arg7 x2 = scores (tiles (zeroK arg7) (kLd0 arg4 harg4 x2) (kLd arg4 harg4 x2)) (qLd arg4 harg4 x2) 45 :=
  congrArg (List.cons _) (hs44 c arg4 harg4 arg7 x2)
theorem hs46 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_46 c arg4 harg4 arg7 x2 = scores (tiles (zeroK arg7) (kLd0 arg4 harg4 x2) (kLd arg4 harg4 x2)) (qLd arg4 harg4 x2) 46 :=
  congrArg (List.cons _) (hs45 c arg4 harg4 arg7 x2)
theorem hs47 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_47 c arg4 harg4 arg7 x2 = scores (tiles (zeroK arg7) (kLd0 arg4 harg4 x2) (kLd arg4 harg4 x2)) (qLd arg4 harg4 x2) 47 :=
  congrArg (List.cons _) (hs46 c arg4 harg4 arg7 x2)
theorem hs48 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_48 c arg4 harg4 arg7 x2 = scores (tiles (zeroK arg7) (kLd0 arg4 harg4 x2) (kLd arg4 harg4 x2)) (qLd arg4 harg4 x2) 48 :=
  congrArg (List.cons _) (hs47 c arg4 harg4 arg7 x2)
theorem hs49 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_49 c arg4 harg4 arg7 x2 = scores (tiles (zeroK arg7) (kLd0 arg4 harg4 x2) (kLd arg4 harg4 x2)) (qLd arg4 harg4 x2) 49 :=
  congrArg (List.cons _) (hs48 c arg4 harg4 arg7 x2)
theorem hs50 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_50 c arg4 harg4 arg7 x2 = scores (tiles (zeroK arg7) (kLd0 arg4 harg4 x2) (kLd arg4 harg4 x2)) (qLd arg4 harg4 x2) 50 :=
  congrArg (List.cons _) (hs49 c arg4 harg4 arg7 x2)
theorem hs51 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_51 c arg4 harg4 arg7 x2 = scores (tiles (zeroK arg7) (kLd0 arg4 harg4 x2) (kLd arg4 harg4 x2)) (qLd arg4 harg4 x2) 51 :=
  congrArg (List.cons _) (hs50 c arg4 harg4 arg7 x2)
theorem hs52 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_52 c arg4 harg4 arg7 x2 = scores (tiles (zeroK arg7) (kLd0 arg4 harg4 x2) (kLd arg4 harg4 x2)) (qLd arg4 harg4 x2) 52 :=
  congrArg (List.cons _) (hs51 c arg4 harg4 arg7 x2)
theorem hs53 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_53 c arg4 harg4 arg7 x2 = scores (tiles (zeroK arg7) (kLd0 arg4 harg4 x2) (kLd arg4 harg4 x2)) (qLd arg4 harg4 x2) 53 :=
  congrArg (List.cons _) (hs52 c arg4 harg4 arg7 x2)
theorem hs54 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_54 c arg4 harg4 arg7 x2 = scores (tiles (zeroK arg7) (kLd0 arg4 harg4 x2) (kLd arg4 harg4 x2)) (qLd arg4 harg4 x2) 54 :=
  congrArg (List.cons _) (hs53 c arg4 harg4 arg7 x2)
theorem hs55 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_55 c arg4 harg4 arg7 x2 = scores (tiles (zeroK arg7) (kLd0 arg4 harg4 x2) (kLd arg4 harg4 x2)) (qLd arg4 harg4 x2) 55 :=
  congrArg (List.cons _) (hs54 c arg4 harg4 arg7 x2)
theorem hs56 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_56 c arg4 harg4 arg7 x2 = scores (tiles (zeroK arg7) (kLd0 arg4 harg4 x2) (kLd arg4 harg4 x2)) (qLd arg4 harg4 x2) 56 :=
  congrArg (List.cons _) (hs55 c arg4 harg4 arg7 x2)
theorem hs57 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_57 c arg4 harg4 arg7 x2 = scores (tiles (zeroK arg7) (kLd0 arg4 harg4 x2) (kLd arg4 harg4 x2)) (qLd arg4 harg4 x2) 57 :=
  congrArg (List.cons _) (hs56 c arg4 harg4 arg7 x2)
theorem hs58 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_58 c arg4 harg4 arg7 x2 = scores (tiles (zeroK arg7) (kLd0 arg4 harg4 x2) (kLd arg4 harg4 x2)) (qLd arg4 harg4 x2) 58 :=
  congrArg (List.cons _) (hs57 c arg4 harg4 arg7 x2)
theorem hs59 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_59 c arg4 harg4 arg7 x2 = scores (tiles (zeroK arg7) (kLd0 arg4 harg4 x2) (kLd arg4 harg4 x2)) (qLd arg4 harg4 x2) 59 :=
  congrArg (List.cons _) (hs58 c arg4 harg4 arg7 x2)
theorem hs60 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_60 c arg4 harg4 arg7 x2 = scores (tiles (zeroK arg7) (kLd0 arg4 harg4 x2) (kLd arg4 harg4 x2)) (qLd arg4 harg4 x2) 60 :=
  congrArg (List.cons _) (hs59 c arg4 harg4 arg7 x2)
theorem hs61 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_61 c arg4 harg4 arg7 x2 = scores (tiles (zeroK arg7) (kLd0 arg4 harg4 x2) (kLd arg4 harg4 x2)) (qLd arg4 harg4 x2) 61 :=
  congrArg (List.cons _) (hs60 c arg4 harg4 arg7 x2)
theorem hs62 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_62 c arg4 harg4 arg7 x2 = scores (tiles (zeroK arg7) (kLd0 arg4 harg4 x2) (kLd arg4 harg4 x2)) (qLd arg4 harg4 x2) 62 :=
  congrArg (List.cons _) (hs61 c arg4 harg4 arg7 x2)
theorem hs63 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_63 c arg4 harg4 arg7 x2 = scores (tiles (zeroK arg7) (kLd0 arg4 harg4 x2) (kLd arg4 harg4 x2)) (qLd arg4 harg4 x2) 63 :=
  congrArg (List.cons _) (hs62 c arg4 harg4 arg7 x2)
theorem hs64 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_64 c arg4 harg4 arg7 x2 = scores (tiles (zeroK arg7) (kLd0 arg4 harg4 x2) (kLd arg4 harg4 x2)) (qLd arg4 harg4 x2) 64 :=
  congrArg (List.cons _) (hs63 c arg4 harg4 arg7 x2)
theorem hs65 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_65 c arg4 harg4 arg7 x2 = scores (tiles (zeroK arg7) (kLd0 arg4 harg4 x2) (kLd arg4 harg4 x2)) (qLd arg4 harg4 x2) 65 :=
  congrArg (List.cons _) (hs64 c arg4 harg4 arg7 x2)
theorem hs66 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_66 c arg4 harg4 arg7 x2 = scores (tiles (zeroK arg7) (kLd0 arg4 harg4 x2) (kLd arg4 harg4 x2)) (qLd arg4 harg4 x2) 66 :=
  congrArg (List.cons _) (hs65 c arg4 harg4 arg7 x2)
theorem hs67 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_67 c arg4 harg4 arg7 x2 = scores (tiles (zeroK arg7) (kLd0 arg4 harg4 x2) (kLd arg4 harg4 x2)) (qLd arg4 harg4 x2) 67 :=
  congrArg (List.cons _) (hs66 c arg4 harg4 arg7 x2)
theorem hs68 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_68 c arg4 harg4 arg7 x2 = scores (tiles (zeroK arg7) (kLd0 arg4 harg4 x2) (kLd arg4 harg4 x2)) (qLd arg4 harg4 x2) 68 :=
  congrArg (List.cons _) (hs67 c arg4 harg4 arg7 x2)
theorem hs69 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_69 c arg4 harg4 arg7 x2 = scores (tiles (zeroK arg7) (kLd0 arg4 harg4 x2) (kLd arg4 harg4 x2)) (qLd arg4 harg4 x2) 69 :=
  congrArg (List.cons _) (hs68 c arg4 harg4 arg7 x2)
theorem hs70 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_70 c arg4 harg4 arg7 x2 = scores (tiles (zeroK arg7) (kLd0 arg4 harg4 x2) (kLd arg4 harg4 x2)) (qLd arg4 harg4 x2) 70 :=
  congrArg (List.cons _) (hs69 c arg4 harg4 arg7 x2)
theorem hs71 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_71 c arg4 harg4 arg7 x2 = scores (tiles (zeroK arg7) (kLd0 arg4 harg4 x2) (kLd arg4 harg4 x2)) (qLd arg4 harg4 x2) 71 :=
  congrArg (List.cons _) (hs70 c arg4 harg4 arg7 x2)
theorem hs72 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_72 c arg4 harg4 arg7 x2 = scores (tiles (zeroK arg7) (kLd0 arg4 harg4 x2) (kLd arg4 harg4 x2)) (qLd arg4 harg4 x2) 72 :=
  congrArg (List.cons _) (hs71 c arg4 harg4 arg7 x2)
theorem hs73 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_73 c arg4 harg4 arg7 x2 = scores (tiles (zeroK arg7) (kLd0 arg4 harg4 x2) (kLd arg4 harg4 x2)) (qLd arg4 harg4 x2) 73 :=
  congrArg (List.cons _) (hs72 c arg4 harg4 arg7 x2)
theorem hs74 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_74 c arg4 harg4 arg7 x2 = scores (tiles (zeroK arg7) (kLd0 arg4 harg4 x2) (kLd arg4 harg4 x2)) (qLd arg4 harg4 x2) 74 :=
  congrArg (List.cons _) (hs73 c arg4 harg4 arg7 x2)
theorem hs75 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_75 c arg4 harg4 arg7 x2 = scores (tiles (zeroK arg7) (kLd0 arg4 harg4 x2) (kLd arg4 harg4 x2)) (qLd arg4 harg4 x2) 75 :=
  congrArg (List.cons _) (hs74 c arg4 harg4 arg7 x2)
theorem hs76 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_76 c arg4 harg4 arg7 x2 = scores (tiles (zeroK arg7) (kLd0 arg4 harg4 x2) (kLd arg4 harg4 x2)) (qLd arg4 harg4 x2) 76 :=
  congrArg (List.cons _) (hs75 c arg4 harg4 arg7 x2)
theorem hs77 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_77 c arg4 harg4 arg7 x2 = scores (tiles (zeroK arg7) (kLd0 arg4 harg4 x2) (kLd arg4 harg4 x2)) (qLd arg4 harg4 x2) 77 :=
  congrArg (List.cons _) (hs76 c arg4 harg4 arg7 x2)
theorem hs78 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_78 c arg4 harg4 arg7 x2 = scores (tiles (zeroK arg7) (kLd0 arg4 harg4 x2) (kLd arg4 harg4 x2)) (qLd arg4 harg4 x2) 78 :=
  congrArg (List.cons _) (hs77 c arg4 harg4 arg7 x2)
theorem hs79 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_79 c arg4 harg4 arg7 x2 = scores (tiles (zeroK arg7) (kLd0 arg4 harg4 x2) (kLd arg4 harg4 x2)) (qLd arg4 harg4 x2) 79 :=
  congrArg (List.cons _) (hs78 c arg4 harg4 arg7 x2)
theorem hs80 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_80 c arg4 harg4 arg7 x2 = scores (tiles (zeroK arg7) (kLd0 arg4 harg4 x2) (kLd arg4 harg4 x2)) (qLd arg4 harg4 x2) 80 :=
  congrArg (List.cons _) (hs79 c arg4 harg4 arg7 x2)
theorem hs81 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_81 c arg4 harg4 arg7 x2 = scores (tiles (zeroK arg7) (kLd0 arg4 harg4 x2) (kLd arg4 harg4 x2)) (qLd arg4 harg4 x2) 81 :=
  congrArg (List.cons _) (hs80 c arg4 harg4 arg7 x2)
theorem hs82 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_82 c arg4 harg4 arg7 x2 = scores (tiles (zeroK arg7) (kLd0 arg4 harg4 x2) (kLd arg4 harg4 x2)) (qLd arg4 harg4 x2) 82 :=
  congrArg (List.cons _) (hs81 c arg4 harg4 arg7 x2)
theorem hs83 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_83 c arg4 harg4 arg7 x2 = scores (tiles (zeroK arg7) (kLd0 arg4 harg4 x2) (kLd arg4 harg4 x2)) (qLd arg4 harg4 x2) 83 :=
  congrArg (List.cons _) (hs82 c arg4 harg4 arg7 x2)
theorem hs84 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_84 c arg4 harg4 arg7 x2 = scores (tiles (zeroK arg7) (kLd0 arg4 harg4 x2) (kLd arg4 harg4 x2)) (qLd arg4 harg4 x2) 84 :=
  congrArg (List.cons _) (hs83 c arg4 harg4 arg7 x2)
theorem hs85 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_85 c arg4 harg4 arg7 x2 = scores (tiles (zeroK arg7) (kLd0 arg4 harg4 x2) (kLd arg4 harg4 x2)) (qLd arg4 harg4 x2) 85 :=
  congrArg (List.cons _) (hs84 c arg4 harg4 arg7 x2)
theorem hs86 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_86 c arg4 harg4 arg7 x2 = scores (tiles (zeroK arg7) (kLd0 arg4 harg4 x2) (kLd arg4 harg4 x2)) (qLd arg4 harg4 x2) 86 :=
  congrArg (List.cons _) (hs85 c arg4 harg4 arg7 x2)
theorem hs87 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_87 c arg4 harg4 arg7 x2 = scores (tiles (zeroK arg7) (kLd0 arg4 harg4 x2) (kLd arg4 harg4 x2)) (qLd arg4 harg4 x2) 87 :=
  congrArg (List.cons _) (hs86 c arg4 harg4 arg7 x2)
theorem hs88 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_88 c arg4 harg4 arg7 x2 = scores (tiles (zeroK arg7) (kLd0 arg4 harg4 x2) (kLd arg4 harg4 x2)) (qLd arg4 harg4 x2) 88 :=
  congrArg (List.cons _) (hs87 c arg4 harg4 arg7 x2)
theorem hs89 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_89 c arg4 harg4 arg7 x2 = scores (tiles (zeroK arg7) (kLd0 arg4 harg4 x2) (kLd arg4 harg4 x2)) (qLd arg4 harg4 x2) 89 :=
  congrArg (List.cons _) (hs88 c arg4 harg4 arg7 x2)
theorem hs90 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_90 c arg4 harg4 arg7 x2 = scores (tiles (zeroK arg7) (kLd0 arg4 harg4 x2) (kLd arg4 harg4 x2)) (qLd arg4 harg4 x2) 90 :=
  congrArg (List.cons _) (hs89 c arg4 harg4 arg7 x2)
theorem hs91 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_91 c arg4 harg4 arg7 x2 = scores (tiles (zeroK arg7) (kLd0 arg4 harg4 x2) (kLd arg4 harg4 x2)) (qLd arg4 harg4 x2) 91 :=
  congrArg (List.cons _) (hs90 c arg4 harg4 arg7 x2)
theorem hs92 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_92 c arg4 harg4 arg7 x2 = scores (tiles (zeroK arg7) (kLd0 arg4 harg4 x2) (kLd arg4 harg4 x2)) (qLd arg4 harg4 x2) 92 :=
  congrArg (List.cons _) (hs91 c arg4 harg4 arg7 x2)
theorem hs93 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_93 c arg4 harg4 arg7 x2 = scores (tiles (zeroK arg7) (kLd0 arg4 harg4 x2) (kLd arg4 harg4 x2)) (qLd arg4 harg4 x2) 93 :=
  congrArg (List.cons _) (hs92 c arg4 harg4 arg7 x2)
theorem hs94 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_94 c arg4 harg4 arg7 x2 = scores (tiles (zeroK arg7) (kLd0 arg4 harg4 x2) (kLd arg4 harg4 x2)) (qLd arg4 harg4 x2) 94 :=
  congrArg (List.cons _) (hs93 c arg4 harg4 arg7 x2)
theorem hs95 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_95 c arg4 harg4 arg7 x2 = scores (tiles (zeroK arg7) (kLd0 arg4 harg4 x2) (kLd arg4 harg4 x2)) (qLd arg4 harg4 x2) 95 :=
  congrArg (List.cons _) (hs94 c arg4 harg4 arg7 x2)
theorem hs96 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_96 c arg4 harg4 arg7 x2 = scores (tiles (zeroK arg7) (kLd0 arg4 harg4 x2) (kLd arg4 harg4 x2)) (qLd arg4 harg4 x2) 96 :=
  congrArg (List.cons _) (hs95 c arg4 harg4 arg7 x2)
theorem hs97 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_97 c arg4 harg4 arg7 x2 = scores (tiles (zeroK arg7) (kLd0 arg4 harg4 x2) (kLd arg4 harg4 x2)) (qLd arg4 harg4 x2) 97 :=
  congrArg (List.cons _) (hs96 c arg4 harg4 arg7 x2)
theorem hs98 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_98 c arg4 harg4 arg7 x2 = scores (tiles (zeroK arg7) (kLd0 arg4 harg4 x2) (kLd arg4 harg4 x2)) (qLd arg4 harg4 x2) 98 :=
  congrArg (List.cons _) (hs97 c arg4 harg4 arg7 x2)
theorem hs99 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_99 c arg4 harg4 arg7 x2 = scores (tiles (zeroK arg7) (kLd0 arg4 harg4 x2) (kLd arg4 harg4 x2)) (qLd arg4 harg4 x2) 99 :=
  congrArg (List.cons _) (hs98 c arg4 harg4 arg7 x2)
theorem hs100 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_100 c arg4 harg4 arg7 x2 = scores (tiles (zeroK arg7) (kLd0 arg4 harg4 x2) (kLd arg4 harg4 x2)) (qLd arg4 harg4 x2) 100 :=
  congrArg (List.cons _) (hs99 c arg4 harg4 arg7 x2)
theorem hs101 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_101 c arg4 harg4 arg7 x2 = scores (tiles (zeroK arg7) (kLd0 arg4 harg4 x2) (kLd arg4 harg4 x2)) (qLd arg4 harg4 x2) 101 :=
  congrArg (List.cons _) (hs100 c arg4 harg4 arg7 x2)
theorem hs102 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_102 c arg4 harg4 arg7 x2 = scores (tiles (zeroK arg7) (kLd0 arg4 harg4 x2) (kLd arg4 harg4 x2)) (qLd arg4 harg4 x2) 102 :=
  congrArg (List.cons _) (hs101 c arg4 harg4 arg7 x2)
theorem hs103 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_103 c arg4 harg4 arg7 x2 = scores (tiles (zeroK arg7) (kLd0 arg4 harg4 x2) (kLd arg4 harg4 x2)) (qLd arg4 harg4 x2) 103 :=
  congrArg (List.cons _) (hs102 c arg4 harg4 arg7 x2)
theorem hs104 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_104 c arg4 harg4 arg7 x2 = scores (tiles (zeroK arg7) (kLd0 arg4 harg4 x2) (kLd arg4 harg4 x2)) (qLd arg4 harg4 x2) 104 :=
  congrArg (List.cons _) (hs103 c arg4 harg4 arg7 x2)
theorem hs105 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_105 c arg4 harg4 arg7 x2 = scores (tiles (zeroK arg7) (kLd0 arg4 harg4 x2) (kLd arg4 harg4 x2)) (qLd arg4 harg4 x2) 105 :=
  congrArg (List.cons _) (hs104 c arg4 harg4 arg7 x2)
theorem hs106 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_106 c arg4 harg4 arg7 x2 = scores (tiles (zeroK arg7) (kLd0 arg4 harg4 x2) (kLd arg4 harg4 x2)) (qLd arg4 harg4 x2) 106 :=
  congrArg (List.cons _) (hs105 c arg4 harg4 arg7 x2)
theorem hs107 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_107 c arg4 harg4 arg7 x2 = scores (tiles (zeroK arg7) (kLd0 arg4 harg4 x2) (kLd arg4 harg4 x2)) (qLd arg4 harg4 x2) 107 :=
  congrArg (List.cons _) (hs106 c arg4 harg4 arg7 x2)
theorem hs108 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_108 c arg4 harg4 arg7 x2 = scores (tiles (zeroK arg7) (kLd0 arg4 harg4 x2) (kLd arg4 harg4 x2)) (qLd arg4 harg4 x2) 108 :=
  congrArg (List.cons _) (hs107 c arg4 harg4 arg7 x2)
theorem hs109 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_109 c arg4 harg4 arg7 x2 = scores (tiles (zeroK arg7) (kLd0 arg4 harg4 x2) (kLd arg4 harg4 x2)) (qLd arg4 harg4 x2) 109 :=
  congrArg (List.cons _) (hs108 c arg4 harg4 arg7 x2)
theorem hs110 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_110 c arg4 harg4 arg7 x2 = scores (tiles (zeroK arg7) (kLd0 arg4 harg4 x2) (kLd arg4 harg4 x2)) (qLd arg4 harg4 x2) 110 :=
  congrArg (List.cons _) (hs109 c arg4 harg4 arg7 x2)
theorem hs111 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_111 c arg4 harg4 arg7 x2 = scores (tiles (zeroK arg7) (kLd0 arg4 harg4 x2) (kLd arg4 harg4 x2)) (qLd arg4 harg4 x2) 111 :=
  congrArg (List.cons _) (hs110 c arg4 harg4 arg7 x2)
theorem hs112 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_112 c arg4 harg4 arg7 x2 = scores (tiles (zeroK arg7) (kLd0 arg4 harg4 x2) (kLd arg4 harg4 x2)) (qLd arg4 harg4 x2) 112 :=
  congrArg (List.cons _) (hs111 c arg4 harg4 arg7 x2)
theorem hs113 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_113 c arg4 harg4 arg7 x2 = scores (tiles (zeroK arg7) (kLd0 arg4 harg4 x2) (kLd arg4 harg4 x2)) (qLd arg4 harg4 x2) 113 :=
  congrArg (List.cons _) (hs112 c arg4 harg4 arg7 x2)
theorem hs114 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_114 c arg4 harg4 arg7 x2 = scores (tiles (zeroK arg7) (kLd0 arg4 harg4 x2) (kLd arg4 harg4 x2)) (qLd arg4 harg4 x2) 114 :=
  congrArg (List.cons _) (hs113 c arg4 harg4 arg7 x2)
theorem hs115 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_115 c arg4 harg4 arg7 x2 = scores (tiles (zeroK arg7) (kLd0 arg4 harg4 x2) (kLd arg4 harg4 x2)) (qLd arg4 harg4 x2) 115 :=
  congrArg (List.cons _) (hs114 c arg4 harg4 arg7 x2)
theorem hs116 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_116 c arg4 harg4 arg7 x2 = scores (tiles (zeroK arg7) (kLd0 arg4 harg4 x2) (kLd arg4 harg4 x2)) (qLd arg4 harg4 x2) 116 :=
  congrArg (List.cons _) (hs115 c arg4 harg4 arg7 x2)
theorem hs117 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_117 c arg4 harg4 arg7 x2 = scores (tiles (zeroK arg7) (kLd0 arg4 harg4 x2) (kLd arg4 harg4 x2)) (qLd arg4 harg4 x2) 117 :=
  congrArg (List.cons _) (hs116 c arg4 harg4 arg7 x2)
theorem hs118 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_118 c arg4 harg4 arg7 x2 = scores (tiles (zeroK arg7) (kLd0 arg4 harg4 x2) (kLd arg4 harg4 x2)) (qLd arg4 harg4 x2) 118 :=
  congrArg (List.cons _) (hs117 c arg4 harg4 arg7 x2)
theorem hs119 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_119 c arg4 harg4 arg7 x2 = scores (tiles (zeroK arg7) (kLd0 arg4 harg4 x2) (kLd arg4 harg4 x2)) (qLd arg4 harg4 x2) 119 :=
  congrArg (List.cons _) (hs118 c arg4 harg4 arg7 x2)
theorem hs120 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_120 c arg4 harg4 arg7 x2 = scores (tiles (zeroK arg7) (kLd0 arg4 harg4 x2) (kLd arg4 harg4 x2)) (qLd arg4 harg4 x2) 120 :=
  congrArg (List.cons _) (hs119 c arg4 harg4 arg7 x2)
theorem hs121 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_121 c arg4 harg4 arg7 x2 = scores (tiles (zeroK arg7) (kLd0 arg4 harg4 x2) (kLd arg4 harg4 x2)) (qLd arg4 harg4 x2) 121 :=
  congrArg (List.cons _) (hs120 c arg4 harg4 arg7 x2)
theorem hs122 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_122 c arg4 harg4 arg7 x2 = scores (tiles (zeroK arg7) (kLd0 arg4 harg4 x2) (kLd arg4 harg4 x2)) (qLd arg4 harg4 x2) 122 :=
  congrArg (List.cons _) (hs121 c arg4 harg4 arg7 x2)
theorem hs123 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_123 c arg4 harg4 arg7 x2 = scores (tiles (zeroK arg7) (kLd0 arg4 harg4 x2) (kLd arg4 harg4 x2)) (qLd arg4 harg4 x2) 123 :=
  congrArg (List.cons _) (hs122 c arg4 harg4 arg7 x2)
theorem hs124 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_124 c arg4 harg4 arg7 x2 = scores (tiles (zeroK arg7) (kLd0 arg4 harg4 x2) (kLd arg4 harg4 x2)) (qLd arg4 harg4 x2) 124 :=
  congrArg (List.cons _) (hs123 c arg4 harg4 arg7 x2)
theorem hs125 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_125 c arg4 harg4 arg7 x2 = scores (tiles (zeroK arg7) (kLd0 arg4 harg4 x2) (kLd arg4 harg4 x2)) (qLd arg4 harg4 x2) 125 :=
  congrArg (List.cons _) (hs124 c arg4 harg4 arg7 x2)
theorem hs126 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_126 c arg4 harg4 arg7 x2 = scores (tiles (zeroK arg7) (kLd0 arg4 harg4 x2) (kLd arg4 harg4 x2)) (qLd arg4 harg4 x2) 126 :=
  congrArg (List.cons _) (hs125 c arg4 harg4 arg7 x2)
theorem hs127 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_127 c arg4 harg4 arg7 x2 = scores (tiles (zeroK arg7) (kLd0 arg4 harg4 x2) (kLd arg4 harg4 x2)) (qLd arg4 harg4 x2) 127 :=
  congrArg (List.cons _) (hs126 c arg4 harg4 arg7 x2)
theorem hs128 (c : Dev nD) (arg4 : Memref sig .tc .vmem S1x1024x1280 .bf16) (harg4 : arg4.IsWhole) (arg7 : Memref sig .tc .vmem S1x128x128 .bf16) (x2 : Vec F S1x1024x1280 .bf16) : kernelRun0_C.sl.HS0_128 c arg4 harg4 arg7 x2 = scores (tiles (zeroK arg7) (kLd0 arg4 harg4 x2) (kLd arg4 harg4 x2)) (qLd arg4 harg4 x2) 128 :=
  congrArg (List.cons _) (hs127 c arg4 harg4 arg7 x2)

theorem held_eq (c : Dev nD) (arg4 : Memref sig .tc .vmem S1x1024x1280 .bf16) (harg4 : arg4.IsWhole) (arg7 : Memref sig .tc .vmem S1x128x128 .bf16) (x2 : Vec F S1x1024x1280 .bf16) (j : Fin 128) : held c arg4 harg4 arg7 x2 j = scores (tiles (zeroK arg7) (kLd0 arg4 harg4 x2) (kLd arg4 harg4 x2)) (qLd arg4 harg4 x2) (min (j.val + 3) 128) := by
  match j with
  | ⟨0, _⟩ => exact hs3 c arg4 harg4 arg7 x2
  | ⟨1, _⟩ => exact hs4 c arg4 harg4 arg7 x2
  | ⟨2, _⟩ => exact hs5 c arg4 harg4 arg7 x2
  | ⟨3, _⟩ => exact hs6 c arg4 harg4 arg7 x2
  | ⟨4, _⟩ => exact hs7 c arg4 harg4 arg7 x2
  | ⟨5, _⟩ => exact hs8 c arg4 harg4 arg7 x2
  | ⟨6, _⟩ => exact hs9 c arg4 harg4 arg7 x2
  | ⟨7, _⟩ => exact hs10 c arg4 harg4 arg7 x2
  | ⟨8, _⟩ => exact hs11 c arg4 harg4 arg7 x2
  | ⟨9, _⟩ => exact hs12 c arg4 harg4 arg7 x2
  | ⟨10, _⟩ => exact hs13 c arg4 harg4 arg7 x2
  | ⟨11, _⟩ => exact hs14 c arg4 harg4 arg7 x2
  | ⟨12, _⟩ => exact hs15 c arg4 harg4 arg7 x2
  | ⟨13, _⟩ => exact hs16 c arg4 harg4 arg7 x2
  | ⟨14, _⟩ => exact hs17 c arg4 harg4 arg7 x2
  | ⟨15, _⟩ => exact hs18 c arg4 harg4 arg7 x2
  | ⟨16, _⟩ => exact hs19 c arg4 harg4 arg7 x2
  | ⟨17, _⟩ => exact hs20 c arg4 harg4 arg7 x2
  | ⟨18, _⟩ => exact hs21 c arg4 harg4 arg7 x2
  | ⟨19, _⟩ => exact hs22 c arg4 harg4 arg7 x2
  | ⟨20, _⟩ => exact hs23 c arg4 harg4 arg7 x2
  | ⟨21, _⟩ => exact hs24 c arg4 harg4 arg7 x2
  | ⟨22, _⟩ => exact hs25 c arg4 harg4 arg7 x2
  | ⟨23, _⟩ => exact hs26 c arg4 harg4 arg7 x2
  | ⟨24, _⟩ => exact hs27 c arg4 harg4 arg7 x2
  | ⟨25, _⟩ => exact hs28 c arg4 harg4 arg7 x2
  | ⟨26, _⟩ => exact hs29 c arg4 harg4 arg7 x2
  | ⟨27, _⟩ => exact hs30 c arg4 harg4 arg7 x2
  | ⟨28, _⟩ => exact hs31 c arg4 harg4 arg7 x2
  | ⟨29, _⟩ => exact hs32 c arg4 harg4 arg7 x2
  | ⟨30, _⟩ => exact hs33 c arg4 harg4 arg7 x2
  | ⟨31, _⟩ => exact hs34 c arg4 harg4 arg7 x2
  | ⟨32, _⟩ => exact hs35 c arg4 harg4 arg7 x2
  | ⟨33, _⟩ => exact hs36 c arg4 harg4 arg7 x2
  | ⟨34, _⟩ => exact hs37 c arg4 harg4 arg7 x2
  | ⟨35, _⟩ => exact hs38 c arg4 harg4 arg7 x2
  | ⟨36, _⟩ => exact hs39 c arg4 harg4 arg7 x2
  | ⟨37, _⟩ => exact hs40 c arg4 harg4 arg7 x2
  | ⟨38, _⟩ => exact hs41 c arg4 harg4 arg7 x2
  | ⟨39, _⟩ => exact hs42 c arg4 harg4 arg7 x2
  | ⟨40, _⟩ => exact hs43 c arg4 harg4 arg7 x2
  | ⟨41, _⟩ => exact hs44 c arg4 harg4 arg7 x2
  | ⟨42, _⟩ => exact hs45 c arg4 harg4 arg7 x2
  | ⟨43, _⟩ => exact hs46 c arg4 harg4 arg7 x2
  | ⟨44, _⟩ => exact hs47 c arg4 harg4 arg7 x2
  | ⟨45, _⟩ => exact hs48 c arg4 harg4 arg7 x2
  | ⟨46, _⟩ => exact hs49 c arg4 harg4 arg7 x2
  | ⟨47, _⟩ => exact hs50 c arg4 harg4 arg7 x2
  | ⟨48, _⟩ => exact hs51 c arg4 harg4 arg7 x2
  | ⟨49, _⟩ => exact hs52 c arg4 harg4 arg7 x2
  | ⟨50, _⟩ => exact hs53 c arg4 harg4 arg7 x2
  | ⟨51, _⟩ => exact hs54 c arg4 harg4 arg7 x2
  | ⟨52, _⟩ => exact hs55 c arg4 harg4 arg7 x2
  | ⟨53, _⟩ => exact hs56 c arg4 harg4 arg7 x2
  | ⟨54, _⟩ => exact hs57 c arg4 harg4 arg7 x2
  | ⟨55, _⟩ => exact hs58 c arg4 harg4 arg7 x2
  | ⟨56, _⟩ => exact hs59 c arg4 harg4 arg7 x2
  | ⟨57, _⟩ => exact hs60 c arg4 harg4 arg7 x2
  | ⟨58, _⟩ => exact hs61 c arg4 harg4 arg7 x2
  | ⟨59, _⟩ => exact hs62 c arg4 harg4 arg7 x2
  | ⟨60, _⟩ => exact hs63 c arg4 harg4 arg7 x2
  | ⟨61, _⟩ => exact hs64 c arg4 harg4 arg7 x2
  | ⟨62, _⟩ => exact hs65 c arg4 harg4 arg7 x2
  | ⟨63, _⟩ => exact hs66 c arg4 harg4 arg7 x2
  | ⟨64, _⟩ => exact hs67 c arg4 harg4 arg7 x2
  | ⟨65, _⟩ => exact hs68 c arg4 harg4 arg7 x2
  | ⟨66, _⟩ => exact hs69 c arg4 harg4 arg7 x2
  | ⟨67, _⟩ => exact hs70 c arg4 harg4 arg7 x2
  | ⟨68, _⟩ => exact hs71 c arg4 harg4 arg7 x2
  | ⟨69, _⟩ => exact hs72 c arg4 harg4 arg7 x2
  | ⟨70, _⟩ => exact hs73 c arg4 harg4 arg7 x2
  | ⟨71, _⟩ => exact hs74 c arg4 harg4 arg7 x2
  | ⟨72, _⟩ => exact hs75 c arg4 harg4 arg7 x2
  | ⟨73, _⟩ => exact hs76 c arg4 harg4 arg7 x2
  | ⟨74, _⟩ => exact hs77 c arg4 harg4 arg7 x2
  | ⟨75, _⟩ => exact hs78 c arg4 harg4 arg7 x2
  | ⟨76, _⟩ => exact hs79 c arg4 harg4 arg7 x2
  | ⟨77, _⟩ => exact hs80 c arg4 harg4 arg7 x2
  | ⟨78, _⟩ => exact hs81 c arg4 harg4 arg7 x2
  | ⟨79, _⟩ => exact hs82 c arg4 harg4 arg7 x2
  | ⟨80, _⟩ => exact hs83 c arg4 harg4 arg7 x2
  | ⟨81, _⟩ => exact hs84 c arg4 harg4 arg7 x2
  | ⟨82, _⟩ => exact hs85 c arg4 harg4 arg7 x2
  | ⟨83, _⟩ => exact hs86 c arg4 harg4 arg7 x2
  | ⟨84, _⟩ => exact hs87 c arg4 harg4 arg7 x2
  | ⟨85, _⟩ => exact hs88 c arg4 harg4 arg7 x2
  | ⟨86, _⟩ => exact hs89 c arg4 harg4 arg7 x2
  | ⟨87, _⟩ => exact hs90 c arg4 harg4 arg7 x2
  | ⟨88, _⟩ => exact hs91 c arg4 harg4 arg7 x2
  | ⟨89, _⟩ => exact hs92 c arg4 harg4 arg7 x2
  | ⟨90, _⟩ => exact hs93 c arg4 harg4 arg7 x2
  | ⟨91, _⟩ => exact hs94 c arg4 harg4 arg7 x2
  | ⟨92, _⟩ => exact hs95 c arg4 harg4 arg7 x2
  | ⟨93, _⟩ => exact hs96 c arg4 harg4 arg7 x2
  | ⟨94, _⟩ => exact hs97 c arg4 harg4 arg7 x2
  | ⟨95, _⟩ => exact hs98 c arg4 harg4 arg7 x2
  | ⟨96, _⟩ => exact hs99 c arg4 harg4 arg7 x2
  | ⟨97, _⟩ => exact hs100 c arg4 harg4 arg7 x2
  | ⟨98, _⟩ => exact hs101 c arg4 harg4 arg7 x2
  | ⟨99, _⟩ => exact hs102 c arg4 harg4 arg7 x2
  | ⟨100, _⟩ => exact hs103 c arg4 harg4 arg7 x2
  | ⟨101, _⟩ => exact hs104 c arg4 harg4 arg7 x2
  | ⟨102, _⟩ => exact hs105 c arg4 harg4 arg7 x2
  | ⟨103, _⟩ => exact hs106 c arg4 harg4 arg7 x2
  | ⟨104, _⟩ => exact hs107 c arg4 harg4 arg7 x2
  | ⟨105, _⟩ => exact hs108 c arg4 harg4 arg7 x2
  | ⟨106, _⟩ => exact hs109 c arg4 harg4 arg7 x2
  | ⟨107, _⟩ => exact hs110 c arg4 harg4 arg7 x2
  | ⟨108, _⟩ => exact hs111 c arg4 harg4 arg7 x2
  | ⟨109, _⟩ => exact hs112 c arg4 harg4 arg7 x2
  | ⟨110, _⟩ => exact hs113 c arg4 harg4 arg7 x2
  | ⟨111, _⟩ => exact hs114 c arg4 harg4 arg7 x2
  | ⟨112, _⟩ => exact hs115 c arg4 harg4 arg7 x2
  | ⟨113, _⟩ => exact hs116 c arg4 harg4 arg7 x2
  | ⟨114, _⟩ => exact hs117 c arg4 harg4 arg7 x2
  | ⟨115, _⟩ => exact hs118 c arg4 harg4 arg7 x2
  | ⟨116, _⟩ => exact hs119 c arg4 harg4 arg7 x2
  | ⟨117, _⟩ => exact hs120 c arg4 harg4 arg7 x2
  | ⟨118, _⟩ => exact hs121 c arg4 harg4 arg7 x2
  | ⟨119, _⟩ => exact hs122 c arg4 harg4 arg7 x2
  | ⟨120, _⟩ => exact hs123 c arg4 harg4 arg7 x2
  | ⟨121, _⟩ => exact hs124 c arg4 harg4 arg7 x2
  | ⟨122, _⟩ => exact hs125 c arg4 harg4 arg7 x2
  | ⟨123, _⟩ => exact hs126 c arg4 harg4 arg7 x2
  | ⟨124, _⟩ => exact hs127 c arg4 harg4 arg7 x2
  | ⟨125, _⟩ => exact hs128 c arg4 harg4 arg7 x2
  | ⟨126, _⟩ => exact hs128 c arg4 harg4 arg7 x2
  | ⟨127, _⟩ => exact hs128 c arg4 harg4 arg7 x2
  | ⟨n + 128, h⟩ => exact absurd h (by omega)

theorem keepK_eq (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : ¬cond0_1 i)
    (x0 : Vec F S16 .f32) (x1 : Vec F S16 .f32) (x2 : Vec F S1x1024x1280 .bf16) (xs3 : Vec F S16x2x256x128 .f32) : ∃ L, (kernelRun0_C c i arg2 harg2 arg3 harg3 arg4 harg4 arg5 harg5 arg6 harg6 arg7 harg7 arg8 harg8 arg9 harg9 hc0 hc1 x0 x1 x2 xs3).2.1 = keepK arg4 harg4 x2 :: L := ⟨_, rfl⟩

theorem keepV_eq (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : ¬cond0_1 i)
    (x0 : Vec F S16 .f32) (x1 : Vec F S16 .f32) (x2 : Vec F S1x1024x1280 .bf16) (xs3 : Vec F S16x2x256x128 .f32) : ∃ L, (kernelRun0_C c i arg2 harg2 arg3 harg3 arg4 harg4 arg5 harg5 arg6 harg6 arg7 harg7 arg8 harg8 arg9 harg9 hc0 hc1 x0 x1 x2 xs3).2.2.1 = keepV arg4 harg4 x2 :: L := ⟨_, rfl⟩

end Cert.Swa.CaseC

end
-- ==== Proof.SwaCases.lean ====
/- What one grid point stores, case by case: the attention of its bands, and what it keeps for the next point. -/
module

public import proofs.«01_k».proof.Proof.SwaBias
public import proofs.«01_k».proof.Proof.SwaA
public import proofs.«01_k».proof.Proof.SwaB
public import proofs.«01_k».proof.Proof.SwaC

@[expose] public section

noncomputable section

namespace Cert.Swa

open Cert.KernelIdeal Cert.KernelIdeal.Gen
open Idealize.ShloMosaic Idealize.ShloMosaic.TcCoe

theorem out_A (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : cond0_1 i)
    (x0 : Vec Ideal S16 .f32) (x1 : Vec Ideal S16 .f32) (x2 : Vec Ideal S1x1024x1280 .bf16) :
    out0_A_3 c i arg2 harg2 arg3 harg3 arg4 harg4 arg5 harg5 arg6 harg6 arg7 harg7 arg8 harg8 arg9 harg9 hc0 hc1 x0 x1 x2 = point (fun _ => 0) (fun _ => 0) x2 (table x0) x1 (first i) := by
  funext y
  have hc := cover0_A_3 c i arg2 harg2 arg3 harg3 arg4 harg4 arg5 harg5 arg6 harg6 arg7 harg7 arg8 harg8 arg9 harg9 hc0 hc1 x0 x1 x2 y
  unfold out0_A_3
  rw [View.read_writes_junk_eq_canon]
  rw [CaseA.out_eq] at hc ⊢
  have ek := zeroK_eq arg7
  have ev := zeroV_eq arg8
  refine canon_pieces _ _ _ _ _ _ x2 _ x1 (first i) ?_ ?_ ?_ ?_ y hc
  · intro b kv a x
    exact (tiles_v arg4 harg4 x2 _ b kv a x).trans (by rw [ev])
  · intro b p e a r
    show arg6.view.readCov (CaseA.held c arg4 harg4 arg7 x2 (slot b (head p e))) (Rect.unit (s := S128x256x128) ![(slot b (head p e)).val, 0, 0] S1x256x128.size (inbS (slot b (head p e)))).toLoadRect (ix3 0 a r) = _
    rw [CaseA.held_eq]
    exact (scores_apply arg4 harg4 x2 arg6 _ b p e a r).trans (by rw [ek])
  · skip
    have eT : arg9.view.read (Elt Ideal) (arg9.view.writes (Elt Ideal) arg9.view.junk (kernelRun0_A.sl.HS3_32 c arg2 harg2 x0)) = table x0 := by
      rw [View.read_writes_junk_eq_canon, CaseA.bias_held, canon_bias x0 _ (slopeLd_apply arg2 harg2 x0)]
    have eC : View.canon (kernelRun0_A.sl.HS3_32 c arg2 harg2 x0) = table x0 := by
      rw [CaseA.bias_held, canon_bias x0 _ (slopeLd_apply arg2 harg2 x0)]
    exact biases_apply _ _ _ (first i) (fun h a r => (biasLd0_apply i arg9 _ h a r).trans (congrFun eT _))
      (fun h a r => (biasCov_apply arg9 _ h a r).trans (congrFun eC _))
  · exact sinkLd_apply arg3 harg3 x1

theorem keptK_A (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : cond0_1 i)
    (x0 : Vec Ideal S16 .f32) (x1 : Vec Ideal S16 .f32) (x2 : Vec Ideal S1x1024x1280 .bf16) :
    sout0_A_1 c i arg2 harg2 arg3 harg3 arg4 harg4 arg5 harg5 arg6 harg6 arg7 harg7 arg8 harg8 arg9 harg9 hc0 hc1 x0 x1 x2 = lastRows x2 0 := by
  unfold sout0_A_1
  rw [View.read_writes_junk_eq_canon]
  obtain ⟨L, e⟩ := CaseA.keepK_eq c i arg2 harg2 arg3 harg3 arg4 harg4 arg5 harg5 arg6 harg6 arg7 harg7 arg8 harg8 arg9 harg9 hc0 hc1 x0 x1 x2
  rw [e, canon_keepK]

theorem keptV_A (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : cond0_1 i)
    (x0 : Vec Ideal S16 .f32) (x1 : Vec Ideal S16 .f32) (x2 : Vec Ideal S1x1024x1280 .bf16) :
    sout0_A_2 c i arg2 harg2 arg3 harg3 arg4 harg4 arg5 harg5 arg6 harg6 arg7 harg7 arg8 harg8 arg9 harg9 hc0 hc1 x0 x1 x2 = lastRows x2 1 := by
  unfold sout0_A_2
  rw [View.read_writes_junk_eq_canon]
  obtain ⟨L, e⟩ := CaseA.keepV_eq c i arg2 harg2 arg3 harg3 arg4 harg4 arg5 harg5 arg6 harg6 arg7 harg7 arg8 harg8 arg9 harg9 hc0 hc1 x0 x1 x2
  rw [e, canon_keepV]

theorem bias_A (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : cond0_1 i)
    (x0 : Vec Ideal S16 .f32) (x1 : Vec Ideal S16 .f32) (x2 : Vec Ideal S1x1024x1280 .bf16) :
    sout0_A_3 c i arg2 harg2 arg3 harg3 arg4 harg4 arg5 harg5 arg6 harg6 arg7 harg7 arg8 harg8 arg9 harg9 hc0 hc1 x0 x1 x2 = table x0 := by
  unfold sout0_A_3
  rw [View.read_writes_junk_eq_canon, CaseA.bias_eq, canon_bias x0 _ (slopeLd_apply arg2 harg2 x0)]

theorem out_B (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : ¬cond0_0 i) (hc1 : ¬cond0_1 i)
    (x0 : Vec Ideal S16 .f32) (x1 : Vec Ideal S16 .f32) (x2 : Vec Ideal S1x1024x1280 .bf16) (xs1 : Vec Ideal S1x128x128 .bf16) (xs2 : Vec Ideal S1x128x128 .bf16) (xs3 : Vec Ideal S16x2x256x128 .f32) :
    out0_B_3 c i arg2 harg2 arg3 harg3 arg4 harg4 arg5 harg5 arg6 harg6 arg7 harg7 arg8 harg8 arg9 harg9 hc0 hc1 x0 x1 x2 xs1 xs2 xs3 = point xs1 xs2 x2 xs3 x1 (first i) := by
  funext y
  have hc := cover0_B_3 c i arg2 harg2 arg3 harg3 arg4 harg4 arg5 harg5 arg6 harg6 arg7 harg7 arg8 harg8 arg9 harg9 hc0 hc1 x0 x1 x2 xs1 xs2 xs3 y
  unfold out0_B_3
  rw [View.read_writes_junk_eq_canon]
  rw [CaseB.out_eq] at hc ⊢
  have ek := prevLd_eq arg7 harg7 xs1
  have ev := prevLd_eq arg8 harg8 xs2
  refine canon_pieces _ _ _ _ _ _ x2 _ x1 (first i) ?_ ?_ ?_ ?_ y hc
  · intro b kv a x
    exact (tiles_v arg4 harg4 x2 _ b kv a x).trans (by rw [ev])
  · intro b p e a r
    show arg6.view.readCov (CaseB.held c arg4 harg4 arg7 harg7 x2 xs1 (slot b (head p e))) (Rect.unit (s := S128x256x128) ![(slot b (head p e)).val, 0, 0] S1x256x128.size (inbS (slot b (head p e)))).toLoadRect (ix3 0 a r) = _
    rw [CaseB.held_eq]
    exact (scores_apply arg4 harg4 x2 arg6 _ b p e a r).trans (by rw [ek])
  · skip
    exact biases_apply _ _ _ (first i) (fun h a r => (biasLd0_apply i arg9 _ h a r).trans (congrFun (harg9.read_unread xs3) _))
      (fun h a r => (biasLd_apply arg9 _ h a r).trans (congrFun (harg9.read_unread xs3) _))
  · exact sinkLd_apply arg3 harg3 x1

theorem keptK_B (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : ¬cond0_0 i) (hc1 : ¬cond0_1 i)
    (x0 : Vec Ideal S16 .f32) (x1 : Vec Ideal S16 .f32) (x2 : Vec Ideal S1x1024x1280 .bf16) (xs1 : Vec Ideal S1x128x128 .bf16) (xs2 : Vec Ideal S1x128x128 .bf16) (xs3 : Vec Ideal S16x2x256x128 .f32) :
    sout0_B_1 c i arg2 harg2 arg3 harg3 arg4 harg4 arg5 harg5 arg6 harg6 arg7 harg7 arg8 harg8 arg9 harg9 hc0 hc1 x0 x1 x2 xs1 xs2 xs3 = lastRows x2 0 := by
  unfold sout0_B_1
  rw [View.read_writes_junk_eq_canon]
  obtain ⟨L, e⟩ := CaseB.keepK_eq c i arg2 harg2 arg3 harg3 arg4 harg4 arg5 harg5 arg6 harg6 arg7 harg7 arg8 harg8 arg9 harg9 hc0 hc1 x0 x1 x2 xs1 xs2 xs3
  rw [e, canon_keepK]

theorem keptV_B (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : ¬cond0_0 i) (hc1 : ¬cond0_1 i)
    (x0 : Vec Ideal S16 .f32) (x1 : Vec Ideal S16 .f32) (x2 : Vec Ideal S1x1024x1280 .bf16) (xs1 : Vec Ideal S1x128x128 .bf16) (xs2 : Vec Ideal S1x128x128 .bf16) (xs3 : Vec Ideal S16x2x256x128 .f32) :
    sout0_B_2 c i arg2 harg2 arg3 harg3 arg4 harg4 arg5 harg5 arg6 harg6 arg7 harg7 arg8 harg8 arg9 harg9 hc0 hc1 x0 x1 x2 xs1 xs2 xs3 = lastRows x2 1 := by
  unfold sout0_B_2
  rw [View.read_writes_junk_eq_canon]
  obtain ⟨L, e⟩ := CaseB.keepV_eq c i arg2 harg2 arg3 harg3 arg4 harg4 arg5 harg5 arg6 harg6 arg7 harg7 arg8 harg8 arg9 harg9 hc0 hc1 x0 x1 x2 xs1 xs2 xs3
  rw [e, canon_keepV]

theorem out_C (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : ¬cond0_1 i)
    (x0 : Vec Ideal S16 .f32) (x1 : Vec Ideal S16 .f32) (x2 : Vec Ideal S1x1024x1280 .bf16) (xs3 : Vec Ideal S16x2x256x128 .f32) :
    out0_C_3 c i arg2 harg2 arg3 harg3 arg4 harg4 arg5 harg5 arg6 harg6 arg7 harg7 arg8 harg8 arg9 harg9 hc0 hc1 x0 x1 x2 xs3 = point (fun _ => 0) (fun _ => 0) x2 xs3 x1 (first i) := by
  funext y
  have hc := cover0_C_3 c i arg2 harg2 arg3 harg3 arg4 harg4 arg5 harg5 arg6 harg6 arg7 harg7 arg8 harg8 arg9 harg9 hc0 hc1 x0 x1 x2 xs3 y
  unfold out0_C_3
  rw [View.read_writes_junk_eq_canon]
  rw [CaseC.out_eq] at hc ⊢
  have ek := zeroK_eq arg7
  have ev := zeroV_eq arg8
  refine canon_pieces _ _ _ _ _ _ x2 _ x1 (first i) ?_ ?_ ?_ ?_ y hc
  · intro b kv a x
    exact (tiles_v arg4 harg4 x2 _ b kv a x).trans (by rw [ev])
  · intro b p e a r
    show arg6.view.readCov (CaseC.held c arg4 harg4 arg7 x2 (slot b (head p e))) (Rect.unit (s := S128x256x128) ![(slot b (head p e)).val, 0, 0] S1x256x128.size (inbS (slot b (head p e)))).toLoadRect (ix3 0 a r) = _
    rw [CaseC.held_eq]
    exact (scores_apply arg4 harg4 x2 arg6 _ b p e a r).trans (by rw [ek])
  · skip
    exact biases_apply _ _ _ (first i) (fun h a r => (biasLd0_apply i arg9 _ h a r).trans (congrFun (harg9.read_unread xs3) _))
      (fun h a r => (biasLd_apply arg9 _ h a r).trans (congrFun (harg9.read_unread xs3) _))
  · exact sinkLd_apply arg3 harg3 x1

theorem keptK_C (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : ¬cond0_1 i)
    (x0 : Vec Ideal S16 .f32) (x1 : Vec Ideal S16 .f32) (x2 : Vec Ideal S1x1024x1280 .bf16) (xs3 : Vec Ideal S16x2x256x128 .f32) :
    sout0_C_1 c i arg2 harg2 arg3 harg3 arg4 harg4 arg5 harg5 arg6 harg6 arg7 harg7 arg8 harg8 arg9 harg9 hc0 hc1 x0 x1 x2 xs3 = lastRows x2 0 := by
  unfold sout0_C_1
  rw [View.read_writes_junk_eq_canon]
  obtain ⟨L, e⟩ := CaseC.keepK_eq c i arg2 harg2 arg3 harg3 arg4 harg4 arg5 harg5 arg6 harg6 arg7 harg7 arg8 harg8 arg9 harg9 hc0 hc1 x0 x1 x2 xs3
  rw [e, canon_keepK]

theorem keptV_C (c : Dev nD) (i : grid0.Coords) (arg2 : Memref sig .tc .smem S16 .f32) (harg2 : arg2.IsWhole) (arg3 : Memref sig .tc .smem S16 .f32) (harg3 : arg3.IsWhole) (arg4 : Memref sig .tc .vmem S1x1024x1280 .bf16) (harg4 : arg4.IsWhole) (arg5 : Memref sig .tc .vmem S1x1024x1024 .bf16) (harg5 : arg5.IsWhole) (arg6 : Memref sig .tc .vmem S128x256x128 .f32) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S16x2x256x128 .f32) (harg9 : arg9.IsWhole) (hc0 : cond0_0 i) (hc1 : ¬cond0_1 i)
    (x0 : Vec Ideal S16 .f32) (x1 : Vec Ideal S16 .f32) (x2 : Vec Ideal S1x1024x1280 .bf16) (xs3 : Vec Ideal S16x2x256x128 .f32) :
    sout0_C_2 c i arg2 harg2 arg3 harg3 arg4 harg4 arg5 harg5 arg6 harg6 arg7 harg7 arg8 harg8 arg9 harg9 hc0 hc1 x0 x1 x2 xs3 = lastRows x2 1 := by
  unfold sout0_C_2
  rw [View.read_writes_junk_eq_canon]
  obtain ⟨L, e⟩ := CaseC.keepV_eq c i arg2 harg2 arg3 harg3 arg4 harg4 arg5 harg5 arg6 harg6 arg7 harg7 arg8 harg8 arg9 harg9 hc0 hc1 x0 x1 x2 xs3
  rw [e, canon_keepV]

end Cert.Swa

end
-- ==== Proof.SwaValue.lean ====
/- What the grid points leave, in the order they run: the keys and values kept for the next point, the bias table, and the
   result array as one function of the argument arrays. -/
module

public import proofs.«01_k».proof.Proof.SwaCases
public import Idealize.ShloMosaic.Lib.StableHlo.ReadAt

@[expose] public section

noncomputable section

namespace Cert.Swa

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-! ## The blocks -/

theorem idx0 : ∀ t : Fin cfg0.N, win0_0.index t (0 : Fin 1) = 0 := (by decide +kernel : ∀ t : Fin grid0.N, _)
theorem idx1 : ∀ t : Fin cfg0.N, win0_1.index t (0 : Fin 1) = 0 := (by decide +kernel : ∀ t : Fin grid0.N, _)
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem coord1 : ∀ t : Fin cfg0.N, ((grid0.coords t) 1).val = t.val % 4 := (by decide +kernel : ∀ t : Fin grid0.N, _)

/-- The sequence of a grid point, and its rows in it. -/
def seqOf (t : Fin cfg0.N) : Fin 8 := ⟨t.val / 4, by have h : t.val < 32 := t.isLt; omega⟩
def rowAt (t : Fin cfg0.N) (r : Fin 1024) : Fin 4096 := ⟨1024 * (t.val % 4) + r.val, by omega⟩

theorem ib0 (c : Dev nD) (t : Fin cfg0.N) : (iblk m c 0 t : Vec Ideal S16 .f32) = V m c main_v8 := by
  funext x
  show V m c main_v8 (((cfg0.win 0).blk t).view.emb x) = _
  congr 1; funext a; apply Fin.ext
  have h := idx0 t
  match a with
  | ⟨0, _⟩ => show win0_0.index t (0 : Fin 1) * 16 + 1 * (x 0).val = (x 0).val; omega

theorem ib1 (c : Dev nD) (t : Fin cfg0.N) : (iblk m c 1 t : Vec Ideal S16 .f32) = m ((c : Thread nD τ).loc main_arg1) := by
  funext x
  show V m c main_arg1 (((cfg0.win 1).blk t).view.emb x) = _
  rw [V_main_arg1]
  congr 1; funext a; apply Fin.ext
  have h := idx1 t
  match a with
  | ⟨0, _⟩ => show win0_1.index t (0 : Fin 1) * 16 + 1 * (x 0).val = (x 0).val; omega

theorem ib2 (c : Dev nD) (t : Fin cfg0.N) (r : Fin 1024) (l : Fin 1280) :
    iblk m c 2 t (ix3 0 r l) = m ((c : Thread nD τ).loc main_arg0) (ix3 (seqOf t) (rowAt t r) l) := by
  show V m c main_arg0 (((cfg0.win 2).blk t).view.emb (ix3 0 r l)) = _
  rw [V_main_arg0]; congr 1; funext a; apply Fin.ext
  obtain ⟨h0, h1, h2⟩ := idx2 t
  match a with
  | ⟨0, _⟩ => show win0_2.index t (0 : Fin 3) * 1 + 1 * 0 = t.val / 4; omega
  | ⟨1, _⟩ => show win0_2.index t (1 : Fin 3) * 1024 + 1 * r.val = 1024 * (t.val % 4) + r.val; omega
  | ⟨2, _⟩ => show win0_2.index t (2 : Fin 3) * 1280 + 1 * l.val = l.val; omega

/-! ## What is carried -/

theorem table_A (c : Dev nD) (t : Fin cfg0.N) (h0 : t.val % 4 = 0) (h1 : t.val % 32 = 0) :
    (outsAt0 m c t.val t.isLt).2.2.2 = table (V m c main_v8) := by
  rw [outsAt0_A m c t h0 h1]
  dsimp only
  rw [bias_A, ib0]

theorem table_at (c : Dev nD) : ∀ (n : ℕ) (hn : n < cfg0.N), (outsAt0 m c n hn).2.2.2 = table (V m c main_v8)
  | 0, hn => table_A m c ⟨0, hn⟩ rfl rfl
  | n + 1, hn => by
    have h1 : ¬ (n + 1) % 32 = 0 := by have h : n + 1 < 32 := hn; omega
    have ih := table_at c n (Nat.lt_of_succ_lt hn)
    by_cases h0 : (n + 1) % 4 = 0
    · rw [outsAt0_C m c ⟨n + 1, hn⟩ h0 h1]
      exact ih
    · rw [outsAt0_B m c ⟨n + 1, hn⟩ h0 h1]
      exact ih

theorem keys_at (c : Dev nD) (t : Fin cfg0.N) : (outsAt0 m c t.val t.isLt).2.1 = lastRows (iblk m c 2 t) 0 := by
  by_cases h0 : t.val % 4 = 0
  · by_cases h1 : t.val % 32 = 0
    · rw [outsAt0_A m c t h0 h1]
      dsimp only
      rw [keptK_A]
    · rw [outsAt0_C m c t h0 h1]
      dsimp only
      rw [keptK_C]
  · have h1 : ¬ t.val % 32 = 0 := by omega
    rw [outsAt0_B m c t h0 h1]
    dsimp only
    rw [keptK_B]

theorem values_at (c : Dev nD) (t : Fin cfg0.N) : (outsAt0 m c t.val t.isLt).2.2.1 = lastRows (iblk m c 2 t) 1 := by
  by_cases h0 : t.val % 4 = 0
  · by_cases h1 : t.val % 32 = 0
    · rw [outsAt0_A m c t h0 h1]
      dsimp only
      rw [keptV_A]
    · rw [outsAt0_C m c t h0 h1]
      dsimp only
      rw [keptV_C]
  · have h1 : ¬ t.val % 32 = 0 := by omega
    rw [outsAt0_B m c t h0 h1]
    dsimp only
    rw [keptV_B]

/-- The rows a point finds kept: zeros where a sequence begins. -/
def prevRows (c : Dev nD) (t : Fin cfg0.N) (o : Fin 2) : Vec Ideal S1x128x128 .bf16 :=
  if t.val % 4 = 0 then fun _ => 0 else lastRows (iblk m c 2 ⟨t.val - 1, Nat.lt_of_le_of_lt (Nat.sub_le _ _) t.isLt⟩) o

theorem out_at (c : Dev nD) (t : Fin cfg0.N) :
    (outsAt0 m c t.val t.isLt).1 = point (prevRows m c t 0) (prevRows m c t 1) (iblk m c 2 t) (table (V m c main_v8))
      (m ((c : Thread nD τ).loc main_arg1)) (first (grid0.coords t)) := by
  by_cases h0 : t.val % 4 = 0
  · have p0 : prevRows m c t 0 = fun _ => 0 := if_pos h0
    have p1 : prevRows m c t 1 = fun _ => 0 := if_pos h0
    rw [p0, p1]
    by_cases h1 : t.val % 32 = 0
    · rw [outsAt0_A m c t h0 h1]
      dsimp only
      rw [out_A, ib0, ib1]
    · rw [outsAt0_C m c t h0 h1]
      dsimp only
      rw [out_C, ib1, table_at]
  · have h1 : ¬ t.val % 32 = 0 := by omega
    have p0 : prevRows m c t 0 = _ := if_neg h0
    have p1 : prevRows m c t 1 = _ := if_neg h0
    have ek := keys_at m c ⟨t.val - 1, Nat.lt_of_le_of_lt (Nat.sub_le _ _) t.isLt⟩
    have ev := values_at m c ⟨t.val - 1, Nat.lt_of_le_of_lt (Nat.sub_le _ _) t.isLt⟩
    dsimp only at ek ev
    rw [p0, p1, ← ek, ← ev, outsAt0_B m c t h0 h1]
    dsimp only
    rw [out_B, ib1, table_at]

/-! ## The result array -/

/-- Row `a` of the keys (`o = 0`) or values (`o = 1`) block `j` of a sequence attends to: the block before, then itself; zeros before the first. -/
def band (A : Vec Ideal S8x4096x1280 .bf16) (bi : Fin 8) (j : Fin 32) (o : Fin 2) (a : Fin 256) (l : Fin 128) : EReal :=
  if h : 128 * j.val + a.val < 128 then 0
  else A (ix3 bi ⟨128 * j.val + a.val - 128, by omega⟩ ⟨1024 + 128 * o.val + l.val, by omega⟩)

/-- Query head `h` of row `r` of block `j`, component `d`. -/
def query (A : Vec Ideal S8x4096x1280 .bf16) (bi : Fin 8) (j : Fin 32) (r : Fin 128) (h : Fin 16) (d : Fin 64) : EReal :=
  A (ix3 bi ⟨128 * j.val + r.val, by omega⟩ ⟨64 * h.val + d.val, by omega⟩)

/-- The key head of a query head. -/
def kvHead (h : Fin 16) : Fin 2 := ⟨h.val / 8, by omega⟩

/-- A score. -/
def score (A : Vec Ideal S8x4096x1280 .bf16) (bi : Fin 8) (j : Fin 32) (r : Fin 128) (h : Fin 16) (a : Fin 256) : EReal :=
  ∑ d : Fin 64, band A bi j 0 a (lane (kvHead h) d) * query A bi j r h d

/-- An entry of the result: base-two weights of the scores less the bias, the sink among them. -/
def attend (A : Vec Ideal S8x4096x1280 .bf16) (S W : Vec Ideal S16 .f32) (bi : Fin 8) (j : Fin 32) (r : Fin 128) (h : Fin 16) (d : Fin 64) : EReal :=
  att (fun a => score A bi j r h a - biasE (S (ix1 h)) (if j.val = 0 then 1 else 0) a r) (W (ix1 h) * cE)
    (fun a => band A bi j 1 a (lane (kvHead h) d))

/-- The result array. -/
def G (A : Vec Ideal S8x4096x1280 .bf16) (S W : Vec Ideal S16 .f32) : Vec Ideal S8x4096x1024 .bf16 := fun i =>
  attend A S W (i 0) ⟨(i 1).val / 128, by have h : (i 1).val < 4096 := (i 1).isLt; omega⟩ ⟨(i 1).val % 128, by omega⟩
    ⟨(i 2).val / 64, by have h : (i 2).val < 1024 := (i 2).isLt; omega⟩ ⟨(i 2).val % 64, by omega⟩

theorem G_apply (A S W) (bi : Fin 8) (j : Fin 32) (r : Fin 128) (h : Fin 16) (d : Fin 64) :
    G A S W (ix3 bi ⟨128 * j.val + r.val, by omega⟩ ⟨64 * h.val + d.val, by omega⟩) = attend A S W bi j r h d := by
  have e1 : (⟨(128 * j.val + r.val) / 128, by omega⟩ : Fin 32) = j := Fin.ext (by show (128 * j.val + r.val) / 128 = j.val; omega)
  have e2 : (⟨(128 * j.val + r.val) % 128, by omega⟩ : Fin 128) = r := Fin.ext (by show (128 * j.val + r.val) % 128 = r.val; omega)
  have e3 : (⟨(64 * h.val + d.val) / 64, by omega⟩ : Fin 16) = h := Fin.ext (by show (64 * h.val + d.val) / 64 = h.val; omega)
  have e4 : (⟨(64 * h.val + d.val) % 64, by omega⟩ : Fin 64) = d := Fin.ext (by show (64 * h.val + d.val) % 64 = d.val; omega)
  show attend A S W bi ⟨(128 * j.val + r.val) / 128, _⟩ ⟨(128 * j.val + r.val) % 128, _⟩ ⟨(64 * h.val + d.val) / 64, _⟩ ⟨(64 * h.val + d.val) % 64, _⟩ = _
  rw [e1, e2, e3, e4]

/-- The result array of the arguments as launched. -/
abbrev Gm (c : Dev nD) : Vec Ideal S8x4096x1024 .bf16 :=
  G (m ((c : Thread nD τ).loc main_arg0)) (V m c main_v8) (m ((c : Thread nD τ).loc main_arg1))

/-- Block `b` of a point, in its sequence. -/
def blockOf (t : Fin cfg0.N) (b : Fin 8) : Fin 32 := ⟨8 * (t.val % 4) + b.val, by omega⟩

theorem rows_at (c : Dev nD) (t : Fin cfg0.N) (o : Fin 2) (b : Fin 8) (a : Fin 256) (l : Fin 128) :
    rowsOf (prevRows m c t o) (iblk m c 2 t) o b a l = band (m ((c : Thread nD τ).loc main_arg0)) (seqOf t) (blockOf t b) o a l := by
  unfold rowsOf band blockOf
  by_cases h : 128 * b.val + a.val < 128
  · rw [dif_pos h]
    unfold prevRows
    by_cases h0 : t.val % 4 = 0
    · rw [if_pos h0, dif_pos (by show 128 * (8 * (t.val % 4) + b.val) + a.val < 128; omega)]
    · rw [if_neg h0, dif_neg (by show ¬ 128 * (8 * (t.val % 4) + b.val) + a.val < 128; omega)]
      unfold lastRows
      refine (ib2 m c _ _ _).trans (congrArg (m ((c : Thread nD τ).loc main_arg0)) (funext fun x => Fin.ext ?_))
      match x with
      | ⟨0, _⟩ => show (t.val - 1) / 4 = t.val / 4; omega
      | ⟨1, _⟩ => show 1024 * ((t.val - 1) % 4) + (896 + (128 * b.val + a.val)) = 128 * (8 * (t.val % 4) + b.val) + a.val - 128; omega
      | ⟨2, _⟩ => rfl
  · rw [dif_neg h, dif_neg (by show ¬ 128 * (8 * (t.val % 4) + b.val) + a.val < 128; omega)]
    refine (ib2 m c _ _ _).trans (congrArg (m ((c : Thread nD τ).loc main_arg0)) (funext fun x => Fin.ext ?_))
    match x with
    | ⟨0, _⟩ => rfl
    | ⟨1, _⟩ => show 1024 * (t.val % 4) + (128 * b.val + a.val - 128) = 128 * (8 * (t.val % 4) + b.val) + a.val - 128; omega
    | ⟨2, _⟩ => rfl

theorem vari_eq (t : Fin cfg0.N) (b : Fin 8) : vari (first (grid0.coords t)) b = if (blockOf t b).val = 0 then 1 else 0 := by
  unfold vari first
  rw [coord1]
  by_cases hb : b.val = 0
  · rw [if_pos hb]
    by_cases h0 : t.val % 4 = 0
    · rw [if_pos h0, if_pos (by show 8 * (t.val % 4) + b.val = 0; omega)]
    · rw [if_neg h0, if_neg (by show ¬ 8 * (t.val % 4) + b.val = 0; omega)]
  · rw [if_neg hb, if_neg (by show ¬ 8 * (t.val % 4) + b.val = 0; omega)]

theorem entry_at (c : Dev nD) (t : Fin cfg0.N) (b p : Fin 8) (r : Fin 128) (l : Fin 128) :
    entry (prevRows m c t 0) (prevRows m c t 1) (iblk m c 2 t) (table (V m c main_v8)) (m ((c : Thread nD τ).loc main_arg1)) (first (grid0.coords t)) b p r l
      = attend (m ((c : Thread nD τ).loc main_arg0)) (V m c main_v8) (m ((c : Thread nD τ).loc main_arg1)) (seqOf t) (blockOf t b) r
          (head p ⟨l.val / 64, by omega⟩) ⟨l.val % 64, by omega⟩ := by
  have hk : kvHead (head p ⟨l.val / 64, by omega⟩) = kvOf p := Fin.ext (by show (2 * p.val + l.val / 64) / 8 = p.val / 4; omega)
  have hs : ∀ a, scoreE (prevRows m c t 0) (iblk m c 2 t) b p ⟨l.val / 64, by omega⟩ r a
      = score (m ((c : Thread nD τ).loc main_arg0)) (seqOf t) (blockOf t b) r (head p ⟨l.val / 64, by omega⟩) a := by
    intro a
    unfold scoreE score
    refine Finset.sum_congr rfl fun d _ => ?_
    rw [rows_at, hk, ib2]
    unfold query
    congr 2
    funext x; apply Fin.ext
    match x with
    | ⟨0, _⟩ => rfl
    | ⟨1, _⟩ => show 1024 * (t.val % 4) + (128 * b.val + r.val) = 128 * (8 * (t.val % 4) + b.val) + r.val; omega
    | ⟨2, _⟩ => show 128 * p.val + (64 * (l.val / 64) + d.val) = 64 * (2 * p.val + l.val / 64) + d.val; omega
  unfold entry attend
  simp only [hs, rows_at, hk, vari_eq]
  rfl

theorem emb3 (t : Fin cfg0.N) (b p : Fin 8) (r l : Fin 128) :
    ((cfg0.win 3).blk t).view.emb (ix3 0 (qrow b r) ⟨128 * p.val + l.val, by omega⟩ : S1x1024x1024.Idx)
      = (ix3 (seqOf t) ⟨128 * (blockOf t b).val + r.val, by omega⟩
          ⟨64 * (head p ⟨l.val / 64, by omega⟩).val + l.val % 64, by have := (head p ⟨l.val / 64, by omega⟩).isLt; omega⟩ : S8x4096x1024.Idx) := by
  funext a; apply Fin.ext
  obtain ⟨h0, h1, h2⟩ := idx3 t
  match a with
  | ⟨0, _⟩ => show win0_3.index t (0 : Fin 3) * 1 + 1 * 0 = t.val / 4; omega
  | ⟨1, _⟩ => show win0_3.index t (1 : Fin 3) * 1024 + 1 * (128 * b.val + r.val) = 128 * (8 * (t.val % 4) + b.val) + r.val; omega
  | ⟨2, _⟩ => show win0_3.index t (2 : Fin 3) * 1024 + 1 * (128 * p.val + l.val) = 64 * (2 * p.val + l.val / 64) + l.val % 64; omega

theorem flushed_at (c : Dev nD) (t : Fin cfg0.N) : (dats m 0 c).flushed 3 t = ((cfg0.win 3).blk t).view.read (Elt Ideal) (Gm m c) := by
  rw [flushed3, out_at]
  funext y
  obtain ⟨b, p, r, l, rfl⟩ : ∃ (b p : Fin 8) (r l : Fin 128), y = (ix3 0 (qrow b r) ⟨128 * p.val + l.val, by omega⟩ : S1x1024x1024.Idx) := by
    have h1 : (y 1).val < 1024 := (y 1).isLt
    have h2 : (y 2).val < 1024 := (y 2).isLt
    refine ⟨⟨(y 1).val / 128, by omega⟩, ⟨(y 2).val / 128, by omega⟩, ⟨(y 1).val % 128, by omega⟩, ⟨(y 2).val % 128, by omega⟩, ?_⟩
    funext a; apply Fin.ext
    match a with
    | ⟨0, _⟩ => show (y 0).val = 0; have h0 : (y 0).val < 1 := (y 0).isLt; omega
    | ⟨1, _⟩ => show (y 1).val = 128 * ((y 1).val / 128) + (y 1).val % 128; omega
    | ⟨2, _⟩ => show (y 2).val = 128 * ((y 2).val / 128) + (y 2).val % 128; omega
  show point _ _ _ _ _ _ (ix3 0 (qrow b r) ⟨128 * p.val + l.val, _⟩) = Gm m c (((cfg0.win 3).blk t).view.emb (ix3 0 (qrow b r) ⟨128 * p.val + l.val, _⟩ : S1x1024x1024.Idx))
  rw [emb3, point_apply, entry_at]
  exact (G_apply _ _ _ (seqOf t) (blockOf t b) r (head p ⟨l.val / 64, by omega⟩) ⟨l.val % 64, by omega⟩).symm

theorem covered (i : S8x4096x1024.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 1024 := (i 2).isLt
  have ht : 4 * (i 0).val + (i 1).val / 1024 < 32 := by omega
  let t : Fin cfg0.N := ⟨4 * (i 0).val + (i 1).val / 1024, ht⟩
  refine ⟨t, flush0_3 t, ?_⟩
  have h := ((cfg0.win 3).blk t).view.emb_mem_set (ix3 0 ⟨(i 1).val % 1024, by omega⟩ ⟨(i 2).val, h2⟩ : S1x1024x1024.Idx)
  have e : ((cfg0.win 3).blk t).view.emb (ix3 0 ⟨(i 1).val % 1024, by omega⟩ ⟨(i 2).val, h2⟩ : S1x1024x1024.Idx) = i := by
    funext a; apply Fin.ext
    obtain ⟨g0, g1, g2⟩ := idx3 t
    have gt : t.val = 4 * (i 0).val + (i 1).val / 1024 := rfl
    match a with
    | ⟨0, _⟩ => show win0_3.index t (0 : Fin 3) * 1 + 1 * 0 = (i 0).val; omega
    | ⟨1, _⟩ => show win0_3.index t (1 : Fin 3) * 1024 + 1 * ((i 1).val % 1024) = (i 1).val; omega
    | ⟨2, _⟩ => show win0_3.index t (2 : Fin 3) * 1024 + 1 * (i 2).val = (i 2).val; omega
  exact e ▸ h

theorem final (c : Dev nD) : (dats m 0 c).arrAt 3 cfg0.N = Gm m c :=
  (dats m 0 c).arrAt_eq_of_cover 3 (Gm m c) (fun t _ => flushed_at m c t) covered

end Cert.Swa

end
-- ==== Proof.SwaBand.lean ====
/- The sliding-window reference read at an index: the band a block attends to, the scores, the mask, the softmax. -/
module

public import proofs.«01_k».proof.Proof.SwaValue
public import proofs.«01_k».proof.Proof.Gen.ReferenceIdeal.Read
public import Idealize.ShloMosaic.Lib.Pointwise
public import Idealize.ShloMosaic.Lib.KernelVsHost
public import Idealize.ShloMosaic.Lib.ValueIdxRank6

@[expose] public section

noncomputable section

namespace Cert.SwaRef

open Cert.ReferenceIdeal Cert.ReferenceIdeal.Gen Cert.ReferenceIdeal.Read Idealize.ShloMosaic Idealize.ShloMosaic.TcCoe Idealize.SL.Sem
open Cert.Swa

variable (x0 : Vec Ideal S8x4096x1280 .bf16) (x1 : Vec Ideal S16 .f32)

theorem cat (y z : Vec Ideal S8x2x32x128x64 .f32) (bi : Fin 8) (kv : Fin 2) (j : Fin 32) (a : Fin 256) (d : Fin 64) :
    concatenate S8x2x32x256x64 3 [⟨S8x2x32x128x64, y⟩, ⟨S8x2x32x128x64, z⟩] concatenates_S8x2x32x128x64_S8x2x32x128x64_S8x2x32x256x64_d3 (ix5 bi kv j a d)
      = if h : a.val < 128 then y (ix5 bi kv j ⟨a.val, h⟩ d) else z (ix5 bi kv j ⟨a.val - 128, by omega⟩ d) := by
  refine (concatenate_apply _ _ _ _ _).trans ((concatenateAt_cons _ _ _ _ _ _ _ _).trans ?_)
  by_cases ha : a.val < 128
  · rw [dif_pos ha]
    refine (dif_pos ha).trans (congrArg y (funext fun x => ?_))
    match x with | ⟨0, _⟩ => rfl | ⟨1, _⟩ => rfl | ⟨2, _⟩ => rfl | ⟨3, _⟩ => rfl | ⟨4, _⟩ => rfl
  · rw [dif_neg ha]
    refine (dif_neg ha).trans ((concatenateAt_singleton _ _ _ _ _ _).trans (congrArg z (funext fun x => ?_)))
    match x with | ⟨0, _⟩ => rfl | ⟨1, _⟩ => rfl | ⟨2, _⟩ => rfl | ⟨3, _⟩ => rfl | ⟨4, _⟩ => rfl

theorem rows0 (bi : Fin 8) (kv : Fin 2) (j : Fin 32) (r : Fin 128) (d : Fin 64) :
    val_main_v7 (F := Ideal) x0 (ix5 bi kv j r d) = x0 (ix3 bi ⟨128 * j.val + r.val, by omega⟩ ⟨1024 + (64 * kv.val + d.val), by omega⟩) := by
  rw [val_main_v7_apply, val_main_v6_apply, val_main_v2_apply]
  show x0 _ = _
  congr 1; funext x; apply Fin.ext
  match x with
  | ⟨0, _⟩ => show ((((bi.val * 32 + j.val) * 128 + r.val) * 2 + kv.val) * 64 + d.val) / 524288 = bi.val; omega
  | ⟨1, _⟩ => show ((((bi.val * 32 + j.val) * 128 + r.val) * 2 + kv.val) * 64 + d.val) / 128 % 4096 = 128 * j.val + r.val; omega
  | ⟨2, _⟩ => show 1024 + ((((bi.val * 32 + j.val) * 128 + r.val) * 2 + kv.val) * 64 + d.val) % 128 = 1024 + (64 * kv.val + d.val); omega

theorem prev0 (bi : Fin 8) (kv : Fin 2) (j : Fin 32) (r : Fin 128) (d : Fin 64) :
    val_main_v9 (F := Ideal) x0 (ix5 bi kv j r d)
      = if h : j.val = 0 then 0 else val_main_v7 (F := Ideal) x0 (ix5 bi kv ⟨j.val - 1, by omega⟩ r d) := by
  unfold val_main_v9
  by_cases h : j.val = 0
  · rw [dif_pos h]
    refine (pad_apply_of_not_inside _ _ _ _ _ _ _ _ (2 : Fin 5) ?_).trans ?_
    · intro hin
      have h1 : 1 ≤ j.val := hin.1
      omega
    · show (((0#32 : BitVec 32).toInt : ℝ) : EReal) = 0
      simp
  · rw [dif_neg h]
    refine (pad_apply_of_inside _ _ _ _ _ _ _ _ (ix5 bi kv ⟨j.val - 1, by omega⟩ r d : S8x2x31x128x64.Idx) ?_).trans ?_
    · intro x
      match x with
      | ⟨0, _⟩ => show bi.val = 0 + bi.val * 1; omega
      | ⟨1, _⟩ => show kv.val = 0 + kv.val * 1; omega
      | ⟨2, _⟩ => show j.val = 1 + (j.val - 1) * 1; omega
      | ⟨3, _⟩ => show r.val = 0 + r.val * 1; omega
      | ⟨4, _⟩ => show d.val = 0 + d.val * 1; omega
    · rw [val_main_v8_apply]
      congr 1; funext x
      match x with | ⟨0, _⟩ => rfl | ⟨1, _⟩ => rfl | ⟨2, _⟩ => rfl | ⟨3, _⟩ => rfl | ⟨4, _⟩ => rfl

theorem band0 (bi : Fin 8) (kv : Fin 2) (j : Fin 32) (a : Fin 256) (d : Fin 64) :
    val_main_v10 (F := Ideal) x0 (ix5 bi kv j a d) = band x0 bi j 0 a (lane kv d) := by
  refine (cat (val_main_v9 (F := Ideal) x0) (val_main_v7 (F := Ideal) x0) bi kv j a d).trans ?_
  by_cases ha : a.val < 128
  · rw [dif_pos ha, prev0]
    unfold band lane
    by_cases h : j.val = 0
    · rw [dif_pos h, dif_pos (by omega)]
    · rw [dif_neg h, dif_neg (by omega), rows0]
      congr 1; funext x; apply Fin.ext
      match x with
      | ⟨0, _⟩ => rfl
      | ⟨1, _⟩ => show 128 * (j.val - 1) + a.val = 128 * j.val + a.val - 128; omega
      | ⟨2, _⟩ => show 1024 + (64 * kv.val + d.val) = 1024 + 128 * 0 + (64 * kv.val + d.val); omega
  · rw [dif_neg ha, rows0]
    unfold band lane
    rw [dif_neg (by omega)]
    congr 1; funext x; apply Fin.ext
    match x with
    | ⟨0, _⟩ => rfl
    | ⟨1, _⟩ => show 128 * j.val + (a.val - 128) = 128 * j.val + a.val - 128; omega
    | ⟨2, _⟩ => show 1024 + (64 * kv.val + d.val) = 1024 + 128 * 0 + (64 * kv.val + d.val); omega

theorem rows1 (bi : Fin 8) (kv : Fin 2) (j : Fin 32) (r : Fin 128) (d : Fin 64) :
    val_main_v12 (F := Ideal) x0 (ix5 bi kv j r d) = x0 (ix3 bi ⟨128 * j.val + r.val, by omega⟩ ⟨1152 + (64 * kv.val + d.val), by omega⟩) := by
  rw [val_main_v12_apply, val_main_v11_apply, val_main_v3_apply]
  show x0 _ = _
  congr 1; funext x; apply Fin.ext
  match x with
  | ⟨0, _⟩ => show ((((bi.val * 32 + j.val) * 128 + r.val) * 2 + kv.val) * 64 + d.val) / 524288 = bi.val; omega
  | ⟨1, _⟩ => show ((((bi.val * 32 + j.val) * 128 + r.val) * 2 + kv.val) * 64 + d.val) / 128 % 4096 = 128 * j.val + r.val; omega
  | ⟨2, _⟩ => show 1152 + ((((bi.val * 32 + j.val) * 128 + r.val) * 2 + kv.val) * 64 + d.val) % 128 = 1152 + (64 * kv.val + d.val); omega

theorem prev1 (bi : Fin 8) (kv : Fin 2) (j : Fin 32) (r : Fin 128) (d : Fin 64) :
    val_main_v14 (F := Ideal) x0 (ix5 bi kv j r d)
      = if h : j.val = 0 then 0 else val_main_v12 (F := Ideal) x0 (ix5 bi kv ⟨j.val - 1, by omega⟩ r d) := by
  unfold val_main_v14
  by_cases h : j.val = 0
  · rw [dif_pos h]
    refine (pad_apply_of_not_inside _ _ _ _ _ _ _ _ (2 : Fin 5) ?_).trans ?_
    · intro hin
      have h1 : 1 ≤ j.val := hin.1
      omega
    · show (((0#32 : BitVec 32).toInt : ℝ) : EReal) = 0
      simp
  · rw [dif_neg h]
    refine (pad_apply_of_inside _ _ _ _ _ _ _ _ (ix5 bi kv ⟨j.val - 1, by omega⟩ r d : S8x2x31x128x64.Idx) ?_).trans ?_
    · intro x
      match x with
      | ⟨0, _⟩ => show bi.val = 0 + bi.val * 1; omega
      | ⟨1, _⟩ => show kv.val = 0 + kv.val * 1; omega
      | ⟨2, _⟩ => show j.val = 1 + (j.val - 1) * 1; omega
      | ⟨3, _⟩ => show r.val = 0 + r.val * 1; omega
      | ⟨4, _⟩ => show d.val = 0 + d.val * 1; omega
    · rw [val_main_v13_apply]
      congr 1; funext x
      match x with | ⟨0, _⟩ => rfl | ⟨1, _⟩ => rfl | ⟨2, _⟩ => rfl | ⟨3, _⟩ => rfl | ⟨4, _⟩ => rfl

theorem band1 (bi : Fin 8) (kv : Fin 2) (j : Fin 32) (a : Fin 256) (d : Fin 64) :
    val_main_v15 (F := Ideal) x0 (ix5 bi kv j a d) = band x0 bi j 1 a (lane kv d) := by
  refine (cat (val_main_v14 (F := Ideal) x0) (val_main_v12 (F := Ideal) x0) bi kv j a d).trans ?_
  by_cases ha : a.val < 128
  · rw [dif_pos ha, prev1]
    unfold band lane
    by_cases h : j.val = 0
    · rw [dif_pos h, dif_pos (by omega)]
    · rw [dif_neg h, dif_neg (by omega), rows1]
      congr 1; funext x; apply Fin.ext
      match x with
      | ⟨0, _⟩ => rfl
      | ⟨1, _⟩ => show 128 * (j.val - 1) + a.val = 128 * j.val + a.val - 128; omega
      | ⟨2, _⟩ => show 1152 + (64 * kv.val + d.val) = 1024 + 128 * 1 + (64 * kv.val + d.val); omega
  · rw [dif_neg ha, rows1]
    unfold band lane
    rw [dif_neg (by omega)]
    congr 1; funext x; apply Fin.ext
    match x with
    | ⟨0, _⟩ => rfl
    | ⟨1, _⟩ => show 128 * j.val + (a.val - 128) = 128 * j.val + a.val - 128; omega
    | ⟨2, _⟩ => show 1152 + (64 * kv.val + d.val) = 1024 + 128 * 1 + (64 * kv.val + d.val); omega

/-- Head `g` of group `kv`. -/
def headOf (kv : Fin 2) (g : Fin 8) : Fin 16 := ⟨8 * kv.val + g.val, by omega⟩

theorem queries (bi : Fin 8) (kv : Fin 2) (g : Fin 8) (j : Fin 32) (r : Fin 128) (d : Fin 64) :
    val_main_v5 (F := Ideal) x0 (ix6 bi kv g j r d) = query x0 bi j r (headOf kv g) d := by
  rw [val_main_v5_apply]
  unfold val_main_v4
  refine (shapeCast_apply _ shapeCasts_S8x4096x1024_S8x32x128x2x8x64 _
    (ix3 bi ⟨128 * j.val + r.val, by omega⟩ ⟨64 * (8 * kv.val + g.val) + d.val, by omega⟩ : S8x4096x1024.Idx) ?_).trans ?_
  · rewrite [Shape.rowMajor_val_three, Shape.rowMajor_val_six]
    show (bi.val * 4096 + (128 * j.val + r.val)) * 1024 + (64 * (8 * kv.val + g.val) + d.val)
      = ((((bi.val * 32 + j.val) * 128 + r.val) * 2 + kv.val) * 8 + g.val) * 64 + d.val
    omega
  · rw [val_main_v1_apply]
    show x0 _ = x0 _
    congr 1; funext x; apply Fin.ext
    match x with
    | ⟨0, _⟩ => rfl
    | ⟨1, _⟩ => rfl
    | ⟨2, _⟩ => rfl

theorem scores (bi : Fin 8) (kv : Fin 2) (g : Fin 8) (j : Fin 32) (r : Fin 128) (a : Fin 256) :
    val_main_v17 (F := Ideal) x0 (ix6 bi kv g j r a) = score x0 bi j r (headOf kv g) a := by
  rw [val_main_v17_apply, val_main_v16_apply]
  unfold score
  refine Finset.sum_congr rfl fun d _ => ?_
  have hk : kvHead (headOf kv g) = kv := Fin.ext (by show (8 * kv.val + g.val) / 8 = kv.val; omega)
  rw [hk]
  refine congrArg₂ (· * ·) ((congrArg (val_main_v10 (F := Ideal) x0) ?_).trans (band0 x0 bi kv j a d))
    ((congrArg (val_main_v5 (F := Ideal) x0) ?_).trans (queries x0 bi kv g j r d))
  · funext x
    match x with | ⟨0, _⟩ => rfl | ⟨1, _⟩ => rfl | ⟨2, _⟩ => rfl | ⟨3, _⟩ => rfl | ⟨4, _⟩ => rfl
  · funext x
    match x with | ⟨0, _⟩ => rfl | ⟨1, _⟩ => rfl | ⟨2, _⟩ => rfl | ⟨3, _⟩ => rfl | ⟨4, _⟩ => rfl | ⟨5, _⟩ => rfl

end Cert.SwaRef

end
-- ==== Proof.SwaRef.lean ====
/- The sliding-window reference's result at an index: the mask, the logits, the softmax with the sink, the sum of the values. -/
module

public import proofs.«01_k».proof.Proof.SwaBand

@[expose] public section

noncomputable section

namespace Cert.SwaRef

open Cert.ReferenceIdeal Cert.ReferenceIdeal.Gen Cert.ReferenceIdeal.Read Idealize.ShloMosaic Idealize.ShloMosaic.TcCoe Idealize.SL.Sem
open Cert.Swa

variable (x0 : Vec Ideal S8x4096x1280 .bf16) (x1 : Vec Ideal S16 .f32)

/-- Whether row `r` of block `j` attends to row `a` of its band. -/
abbrev seen (j : Fin 32) (r : Fin 128) (a : Fin 256) : Prop := a.val ≤ r.val + 128 ∧ r.val < a.val ∧ (j.val = 0 → 128 ≤ a.val)

theorem key_first : ∀ a : Fin 256, IntOp.cmpi CmpIPredicate.sge (IntOp.addi (IntOp.subi (IntOp.muli (BitVec.ofNat 32 0) 128#32) 128#32) (BitVec.ofNat 32 a.val)) 0#32
    = if 128 ≤ a.val then 1#1 else 0#1 := by decide +kernel

theorem key_later (j : Fin 32) (a : Fin 256) (h : j.val ≠ 0) :
    IntOp.cmpi CmpIPredicate.sge (IntOp.addi (IntOp.subi (IntOp.muli (BitVec.ofNat 32 j.val) 128#32) 128#32) (BitVec.ofNat 32 a.val)) 0#32 = 1#1 := by
  have e : IntOp.addi (IntOp.subi (IntOp.muli (BitVec.ofNat 32 j.val) 128#32) 128#32) (BitVec.ofNat 32 a.val) = BitVec.ofNat 32 (128 * (j.val - 1) + a.val) := by
    show BitVec.ofNat 32 j.val * 128#32 - 128#32 + BitVec.ofNat 32 a.val = _
    apply BitVec.eq_of_toNat_eq
    simp only [BitVec.toNat_sub, BitVec.toNat_add, BitVec.toNat_mul, BitVec.toNat_ofNat]
    omega
  rw [e]
  show BitVec.ofBool (BitVec.sle 0#32 (BitVec.ofNat 32 (128 * (j.val - 1) + a.val))) = 1#1
  have h2 : BitVec.sle 0#32 (BitVec.ofNat 32 (128 * (j.val - 1) + a.val)) = true := by
    have hn : (BitVec.ofNat 32 (128 * (j.val - 1) + a.val)).toNat = 128 * (j.val - 1) + a.val := by
      rw [BitVec.toNat_ofNat]; omega
    have hi : (BitVec.ofNat 32 (128 * (j.val - 1) + a.val)).toInt = ((128 * (j.val - 1) + a.val : ℕ) : ℤ) := by
      rw [BitVec.toInt_eq_toNat_of_lt (by rw [hn]; omega), hn]
    rw [BitVec.sle_eq_decide, decide_eq_true_eq, hi]
    exact Int.natCast_nonneg _
  rw [h2]; rfl

theorem mask_apply (j : Fin 32) (r : Fin 128) (a : Fin 256) :
    val_main_v50 (F := Ideal) (ix3 j r a) = if seen j r a then 1#1 else 0#1 := by
  have e : val_main_v50 (F := Ideal) (ix3 j r a) = IntOp.andi (IntOp.andi
      (IntOp.cmpi CmpIPredicate.sge (IntOp.subi (IntOp.addi (BitVec.ofNat 32 r.val) 128#32) (BitVec.ofNat 32 a.val)) 0#32)
      (IntOp.cmpi CmpIPredicate.slt (IntOp.subi (IntOp.addi (BitVec.ofNat 32 r.val) 128#32) (BitVec.ofNat 32 a.val)) 128#32))
      (IntOp.cmpi CmpIPredicate.sge (IntOp.addi (IntOp.subi (IntOp.muli (BitVec.ofNat 32 j.val) 128#32) 128#32) (BitVec.ofNat 32 a.val)) 0#32) := by
    rw [val_main_v50_apply, val_main_v48_apply, val_main_v47_apply, val_main_v44_apply, val_main_v41_apply, val_main_v43_apply,
      val_main_v29_apply, val_main_v27_apply, val_main_v26_apply, val_main_v22_apply, val_main_v25_apply, val_main_v28_apply,
      val_main_v24_apply, val_main_v49_apply, val_main_v46_apply, val_main_v39_apply, val_main_v37_apply, val_main_v35_apply,
      val_main_v33_apply, val_main_v31_apply, val_main_v32_apply, val_main_v34_apply, val_main_v38_apply, val_main_v36_apply,
      val_main_v24_apply]
    rfl
  rw [e, mask0]
  by_cases hj : j.val = 0
  · have kf : IntOp.cmpi CmpIPredicate.sge (IntOp.addi (IntOp.subi (IntOp.muli (BitVec.ofNat 32 j.val) 128#32) 128#32) (BitVec.ofNat 32 a.val)) 0#32
        = if 128 ≤ a.val then 1#1 else 0#1 := by rw [hj]; exact key_first a
    rw [kf]
    by_cases h1 : a.val ≤ r.val + 128 ∧ r.val < a.val
    · rw [if_pos h1]
      by_cases h2 : 128 ≤ a.val
      · rw [if_pos h2, if_pos ⟨h1.1, h1.2, fun _ => h2⟩]; rfl
      · rw [if_neg h2, if_neg (fun h => h2 (h.2.2 hj))]; rfl
    · have h3 : ¬seen j r a := fun h => h1 ⟨h.1, h.2.1⟩
      rw [if_neg h1, if_neg h3]
      by_cases h2 : 128 ≤ a.val
      · rw [if_pos h2]; rfl
      · rw [if_neg h2]; rfl
  · rw [key_later j a hj]
    by_cases h1 : a.val ≤ r.val + 128 ∧ r.val < a.val
    · rw [if_pos h1, if_pos ⟨h1.1, h1.2, fun h => absurd h hj⟩]; rfl
    · have h3 : ¬seen j r a := fun h => h1 ⟨h.1, h.2.1⟩
      rw [if_neg h1, if_neg h3]; rfl

/-- A logit. -/
def logit (A : Vec Ideal S8x4096x1280 .bf16) (S : Vec Ideal S16 .f32) (bi : Fin 8) (j : Fin 32) (r : Fin 128) (h : Fin 16) (a : Fin 256) : EReal :=
  if seen j r a then score A bi j r h a * ((Real.log 2 : ℝ) : EReal) - S (ix1 h) * (((r.val + 128 - a.val : ℕ) : ℝ) : EReal) else ⊥

theorem two_bits : Ideal.ofBits FTy.f32 0x40000000#32 = ((2 : ℝ) : EReal) := by
  simp [Ideal.ofBits, Ideal.ieee, -EReal.coe_mul]; norm_num

theorem log_two : val_main_v18 (F := Ideal) (Shape.Idx.first h_S_) = ((Real.log 2 : ℝ) : EReal) := by
  show Ideal.log (Ideal.ofBits FTy.f32 0x40000000#32) = _
  rw [two_bits]
  exact if_neg (by norm_num)

theorem neg_inf : Ideal.ofBits FTy.f32 0xFF800000#32 = (⊥ : EReal) := by
  simp [Ideal.ofBits, Ideal.ieee]

theorem logit_apply (bi : Fin 8) (kv : Fin 2) (g : Fin 8) (j : Fin 32) (r : Fin 128) (a : Fin 256) :
    val_main_v70 (F := Ideal) x0 (ix6 bi kv g j r a) = logit x0 (val_main_v59 (F := Ideal)) bi j r (headOf kv g) a := by
  rw [val_main_v70_apply, val_main_call2_v1_apply, val_main_call2_v2_apply]
  have em : val_main_v50 (F := Ideal) (idx_main_call2_v1 (ix6 bi kv g j r a)) = if seen j r a then 1#1 else 0#1 :=
    (congrArg (val_main_v50 (F := Ideal)) (funext fun x => by match x with | ⟨0, _⟩ => rfl | ⟨1, _⟩ => rfl | ⟨2, _⟩ => rfl)).trans (mask_apply j r a)
  rw [em]
  unfold logit
  by_cases h : seen j r a
  · rw [if_pos h, if_pos h]
    show val_main_v69 (F := Ideal) x0 (ix6 bi kv g j r a) = _
    rw [val_main_v69_apply, val_main_v20_apply, scores, val_main_v19_apply, val_main_v68_apply, val_main_v67_apply, val_main_v66_apply,
      val_main_v64_apply, val_main_v61_apply, val_main_v60_apply, val_main_v65_apply, val_main_v63_apply, val_main_v62_apply]
    have e1 : val_main_v18 (F := Ideal) (idx_main_v19 (ix6 bi kv g j r a)) = ((Real.log 2 : ℝ) : EReal) :=
      (congrArg (val_main_v18 (F := Ideal)) (funext fun x => x.elim0)).trans log_two
    rw [e1]
    have e2 : val_main_v29 (F := Ideal) (ix2 r a) = IntOp.subi (IntOp.addi (BitVec.ofNat 32 r.val) 128#32) (BitVec.ofNat 32 a.val) := by
      rw [val_main_v29_apply, val_main_v27_apply, val_main_v26_apply, val_main_v22_apply, val_main_v25_apply, val_main_v28_apply, val_main_v24_apply]
      rfl
    refine congrArg₂ (fun u v : EReal => score x0 bi j r (headOf kv g) a * ((Real.log 2 : ℝ) : EReal) - u * v)
      (congrArg (val_main_v59 (F := Ideal)) ?_) ?_
    · funext x; apply Fin.ext
      match x with | ⟨0, _⟩ => show kv.val * 8 + g.val = 8 * kv.val + g.val; omega
    · refine (congrArg (fun b : BitVec 32 => ((b.toInt : ℝ) : EReal)) (((congrArg (val_main_v29 (F := Ideal)) ?_).trans e2))).trans ?_
      · funext x
        match x with | ⟨0, _⟩ => rfl | ⟨1, _⟩ => rfl
      · rw [dist a r h.1]
        rfl
  · rw [if_neg h, if_neg h]
    exact neg_inf

/-- The logits and the sink, in the row the softmax is taken over. -/
def row (L : Fin 256 → EReal) (W : EReal) (k : Fin 257) : EReal := if h : k.val < 256 then L ⟨k.val, h⟩ else W

theorem row_apply (bi : Fin 8) (kv : Fin 2) (g : Fin 8) (j : Fin 32) (r : Fin 128) (k : Fin 257) :
    val_main_v73 (F := Ideal) x0 x1 (ix6 bi kv g j r k)
      = row (logit x0 (val_main_v59 (F := Ideal)) bi j r (headOf kv g)) (x1 (ix1 (headOf kv g))) k := by
  unfold val_main_v73 row
  refine (concatenate_apply _ _ _ _ _).trans ((concatenateAt_cons _ _ _ _ _ _ _ _).trans ?_)
  by_cases h : k.val < 256
  · rw [dif_pos h, ← logit_apply]
    refine (dif_pos h).trans (congrArg (val_main_v70 (F := Ideal) x0) (funext fun x => ?_))
    match x with | ⟨0, _⟩ => rfl | ⟨1, _⟩ => rfl | ⟨2, _⟩ => rfl | ⟨3, _⟩ => rfl | ⟨4, _⟩ => rfl | ⟨5, _⟩ => rfl
  · rw [dif_neg h]
    refine (dif_neg h).trans ((concatenateAt_singleton _ _ _ _ _ _).trans ?_)
    rw [val_main_v72_apply, val_main_v71_apply]
    refine congrArg x1 (funext fun x => Fin.ext ?_)
    match x with | ⟨0, _⟩ => show ((((kv.val * 8 + g.val) * 1 + 0) * 1 + 0) * 1 + 0) = 8 * kv.val + g.val; omega

/-- The largest entry of a row. -/
def rowMax (f : Fin 257 → EReal) : EReal := Finset.fold max ⊥ f Finset.univ

theorem max_apply (bi : Fin 8) (kv : Fin 2) (g : Fin 8) (j : Fin 32) (r : Fin 128) :
    val_main_v76 (F := Ideal) x0 x1 (ix5 bi kv g j r) = rowMax fun k => val_main_v73 (F := Ideal) x0 x1 (ix6 bi kv g j r k) := by
  have e : val_main_v74 (F := Ideal) x0 x1 (ix5 bi kv g j r) = rowMax fun k => val_main_v73 (F := Ideal) x0 x1 (ix6 bi kv g j r k) := by
    unfold val_main_v74 rowMax
    generalize val_main_v73 (F := Ideal) x0 x1 = y
    refine (Host.reduce_eq_fold_single _ _ _ _ (by decide) _ _).trans ?_
    show Finset.fold max (Ideal.ofBits FTy.f32 0xFF800000#32) _ _ = _
    rw [neg_inf]
    refine congrArg (fun f => Finset.fold max ⊥ f Finset.univ) (funext fun k => congrArg y (funext fun x => ?_))
    match x with | ⟨0, _⟩ => rfl | ⟨1, _⟩ => rfl | ⟨2, _⟩ => rfl | ⟨3, _⟩ => rfl | ⟨4, _⟩ => rfl | ⟨5, _⟩ => rfl
  rw [val_main_v76_apply, e, val_main_v75_apply]
  show max (Ideal.ofBits FTy.f32 0xFF800000#32) _ = _
  rw [neg_inf]
  exact max_eq_right bot_le

/-- Softmax weights. -/
def weight (f : Fin 257 → EReal) (k : Fin 257) : EReal :=
  Ideal.div (Ideal.exp (f k - rowMax f)) (∑ k, Ideal.exp (f k - rowMax f))

theorem exp_apply (bi : Fin 8) (kv : Fin 2) (g : Fin 8) (j : Fin 32) (r : Fin 128) (k : Fin 257) :
    val_main_v80 (F := Ideal) x0 x1 (ix6 bi kv g j r k)
      = Ideal.exp (val_main_v73 (F := Ideal) x0 x1 (ix6 bi kv g j r k) - rowMax fun k => val_main_v73 (F := Ideal) x0 x1 (ix6 bi kv g j r k)) := by
  rw [val_main_v80_apply, val_main_v79_apply, val_main_v78_apply, val_main_v77_apply, ← max_apply]
  refine congrArg (fun u => Ideal.exp (val_main_v73 (F := Ideal) x0 x1 (ix6 bi kv g j r k) - u)) (congrArg (val_main_v76 (F := Ideal) x0 x1) ?_)
  funext x
  match x with | ⟨0, _⟩ => rfl | ⟨1, _⟩ => rfl | ⟨2, _⟩ => rfl | ⟨3, _⟩ => rfl | ⟨4, _⟩ => rfl

theorem weight_apply (bi : Fin 8) (kv : Fin 2) (g : Fin 8) (j : Fin 32) (r : Fin 128) (k : Fin 257) :
    val_main_v84 (F := Ideal) x0 x1 (ix6 bi kv g j r k) = weight (fun k => val_main_v73 (F := Ideal) x0 x1 (ix6 bi kv g j r k)) k := by
  rw [val_main_v84_apply, val_main_v83_apply, val_main_v82_apply, val_main_v81_apply, exp_apply]
  unfold weight
  refine congrArg (Ideal.div _) ?_
  show Ideal.ofBits FTy.f32 0#32 + _ = _
  rw [show Ideal.ofBits FTy.f32 0#32 = (0 : EReal) from Ideal.ofBits_zero_f32, zero_add]
  refine Finset.sum_congr rfl fun k _ => ?_
  rw [← exp_apply]
  refine congrArg (val_main_v80 (F := Ideal) x0 x1) (funext fun x => ?_)
  match x with | ⟨0, _⟩ => rfl | ⟨1, _⟩ => rfl | ⟨2, _⟩ => rfl | ⟨3, _⟩ => rfl | ⟨4, _⟩ => rfl | ⟨5, _⟩ => rfl

theorem result_apply (bi : Fin 8) (kv : Fin 2) (g : Fin 8) (j : Fin 32) (r : Fin 128) (d : Fin 64) :
    val_main_v90 (F := Ideal) x0 x1 (ix3 bi ⟨128 * j.val + r.val, by omega⟩ ⟨64 * (headOf kv g).val + d.val, by have := (headOf kv g).isLt; omega⟩)
      = ∑ a : Fin 256, band x0 bi j 1 a (lane kv d)
          * weight (row (logit x0 (val_main_v59 (F := Ideal)) bi j r (headOf kv g)) (x1 (ix1 (headOf kv g)))) ⟨a.val, by omega⟩ := by
  rw [val_main_v90_apply]
  show val_main_v89 (F := Ideal) x0 x1 _ = _
  unfold val_main_v89
  refine (shapeCast_apply _ shapeCasts_S8x32x128x2x8x64_S8x4096x1024 _ (ix6 bi j r kv g d : S8x32x128x2x8x64.Idx) ?_).trans ?_
  · rewrite [Shape.rowMajor_val_three, Shape.rowMajor_val_six]
    show ((((bi.val * 32 + j.val) * 128 + r.val) * 2 + kv.val) * 8 + g.val) * 64 + d.val
      = (bi.val * 4096 + (128 * j.val + r.val)) * 1024 + (64 * (8 * kv.val + g.val) + d.val)
    omega
  · rw [val_main_v88_apply, val_main_v87_apply, val_main_v86_apply]
    refine Finset.sum_congr rfl fun a _ => ?_
    rw [val_main_v85_apply]
    refine congrArg₂ (· * ·) ((congrArg (val_main_v15 (F := Ideal) x0) ?_).trans (band1 x0 bi kv j a d))
      ((congrArg (val_main_v84 (F := Ideal) x0 x1) ?_).trans ((weight_apply x0 x1 bi kv g j r ⟨a.val, by omega⟩).trans ?_))
    · funext x
      match x with | ⟨0, _⟩ => rfl | ⟨1, _⟩ => rfl | ⟨2, _⟩ => rfl | ⟨3, _⟩ => rfl | ⟨4, _⟩ => rfl
    · funext x
      match x with | ⟨0, _⟩ => rfl | ⟨1, _⟩ => rfl | ⟨2, _⟩ => rfl | ⟨3, _⟩ => rfl | ⟨4, _⟩ => rfl | ⟨5, _⟩ => rfl
    · exact congrArg (fun f => weight f ⟨a.val, by omega⟩) (funext fun k => row_apply x0 x1 bi kv g j r k)

end Cert.SwaRef

end
-- ==== Proof.SwaEq.lean ====
/- Base-two weights of logits scaled by log₂ e against exponential weights of the logits: the two softmaxes agree. -/
module

public import proofs.«01_k».proof.Proof.SwaValue
public import proofs.«01_k».proof.Proof.SwaRef

@[expose] public section

noncomputable section

namespace Cert.SwaEq

open Idealize.ShloMosaic Idealize.ShloMosaic.TcCoe Idealize.SL.Sem
open Cert.Swa Cert.SwaRef

/-! ## The softmax over reals, masked entries at minus infinity -/

/-- log₂ e. -/
abbrev k2 : ℝ := (Real.log 2)⁻¹

theorem log2_pos : 0 < Real.log 2 := Real.log_pos (by norm_num)

theorem k2_pos : 0 < k2 := inv_pos.mpr log2_pos

theorem sum_real {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem pow_two (y : ℝ) : Real.rpow 2 (y * k2) = Real.exp y := by
  show (2 : ℝ) ^ (y * k2) = _
  rw [Real.rpow_def_of_pos (by norm_num)]
  congr 1
  have h := log2_pos.ne'
  show Real.log 2 * (y * (Real.log 2)⁻¹) = y
  field_simp

section Soft

variable (s : Fin 256 → Prop) [DecidablePred s] (l v : Fin 256 → ℝ) (w : ℝ)

/-- The logits, a masked one minus infinity. -/
abbrev lg (a : Fin 256) : EReal := if s a then ((l a : ℝ) : EReal) else ⊥

/-- The logits in units of powers of two. -/
abbrev lg2 (a : Fin 256) : EReal := if s a then ((l a * k2 : ℝ) : EReal) else ⊥

theorem row_lt (a : Fin 256) : row (lg s l) (w : EReal) ⟨a.val, by omega⟩ = lg s l a := dif_pos a.isLt

theorem row_last : row (lg s l) (w : EReal) ⟨256, by omega⟩ = (w : EReal) := dif_neg (lt_irrefl 256)

theorem row_cases (k : Fin 257) : (∃ a : Fin 256, k = ⟨a.val, by omega⟩) ∨ k = ⟨256, by omega⟩ := by
  by_cases h : k.val < 256
  · exact .inl ⟨⟨k.val, h⟩, rfl⟩
  · exact .inr (Fin.ext (by show k.val = 256; omega))

theorem rowMax_real : ∃ M : ℝ, rowMax (row (lg s l) (w : EReal)) = (M : EReal) := by
  have h1 : rowMax (row (lg s l) (w : EReal)) < ⊤ := by
    unfold rowMax
    rw [Finset.fold_max_lt]
    refine ⟨bot_lt_top, fun k _ => ?_⟩
    rcases row_cases k with ⟨a, rfl⟩ | rfl
    · rw [row_lt]
      by_cases h : s a
      · rw [lg, if_pos h]; exact EReal.coe_lt_top _
      · rw [lg, if_neg h]; exact bot_lt_top
    · rw [row_last]; exact EReal.coe_lt_top _
  have h2 : (w : EReal) ≤ rowMax (row (lg s l) (w : EReal)) := by
    unfold rowMax
    rw [Finset.le_fold_max]
    exact .inr ⟨⟨256, by omega⟩, Finset.mem_univ _, (row_last s l w).ge⟩
  refine ⟨(rowMax (row (lg s l) (w : EReal))).toReal, (EReal.coe_toReal h1.ne ?_).symm⟩
  intro h
  rw [h] at h2
  exact absurd h2 (not_le.mpr (EReal.bot_lt_coe w))

theorem top_eq (M : ℝ) (hM : rowMax (row (lg s l) (w : EReal)) = (M : EReal)) :
    top (lg2 s l) ((w * k2 : ℝ) : EReal) = ((M * k2 : ℝ) : EReal) := by
  have hk := k2_pos
  unfold top
  rw [neg_inf]
  apply le_antisymm
  · have hle : ∀ k, row (lg s l) (w : EReal) k ≤ (M : EReal) := by
      intro k
      rw [← hM]
      unfold rowMax
      rw [Finset.le_fold_max]
      exact .inr ⟨k, Finset.mem_univ _, le_rfl⟩
    refine max_le ?_ ?_
    · rw [Finset.fold_max_le]
      refine ⟨bot_le, fun a _ => ?_⟩
      by_cases h : s a
      · have h3 := hle ⟨a.val, by omega⟩
        rw [row_lt, lg, if_pos h, EReal.coe_le_coe_iff] at h3
        rw [lg2, if_pos h, EReal.coe_le_coe_iff]
        exact mul_le_mul_of_nonneg_right h3 hk.le
      · rw [lg2, if_neg h]; exact bot_le
    · have h3 := hle ⟨256, by omega⟩
      rw [row_last, EReal.coe_le_coe_iff] at h3
      rw [EReal.coe_le_coe_iff]
      exact mul_le_mul_of_nonneg_right h3 hk.le
  · have h4 : (M : EReal) ≤ rowMax (row (lg s l) (w : EReal)) := hM.ge
    unfold rowMax at h4
    rw [Finset.le_fold_max] at h4
    rcases h4 with h4 | ⟨k, _, h4⟩
    · exact absurd h4 (not_le.mpr (EReal.bot_lt_coe M))
    · rcases row_cases k with ⟨a, rfl⟩ | rfl
      · rw [row_lt] at h4
        by_cases h : s a
        · rw [lg, if_pos h, EReal.coe_le_coe_iff] at h4
          refine le_max_of_le_left ?_
          rw [Finset.le_fold_max]
          refine .inr ⟨a, Finset.mem_univ _, ?_⟩
          rw [lg2, if_pos h, EReal.coe_le_coe_iff]
          exact mul_le_mul_of_nonneg_right h4 hk.le
        · rw [lg, if_neg h] at h4
          exact absurd h4 (not_le.mpr (EReal.bot_lt_coe M))
      · rw [row_last, EReal.coe_le_coe_iff] at h4
        refine le_max_of_le_right ?_
        rw [EReal.coe_le_coe_iff]
        exact mul_le_mul_of_nonneg_right h4 hk.le

/-- A weight before it is divided by the sum. -/
def raw (M : ℝ) (a : Fin 256) : ℝ := if s a then Real.exp (l a - M) else 0

theorem exp2_raw (M : ℝ) (a : Fin 256) :
    FloatOps.exp2 (F := Ideal) (φ := .f32) (lg2 s l a - ((M * k2 : ℝ) : EReal)) = ((raw s l M a : ℝ) : EReal) := by
  show Ideal.exp2 _ = _
  unfold raw
  by_cases h : s a
  · rw [lg2, if_pos h, if_pos h, ← EReal.coe_sub, Ideal.exp2_coe, ← sub_mul, pow_two]
  · rw [lg2, if_neg h, if_neg h, EReal.bot_sub]; rfl

theorem exp_raw (M : ℝ) (a : Fin 256) : Ideal.exp (lg s l a - (M : EReal)) = ((raw s l M a : ℝ) : EReal) := by
  unfold raw
  by_cases h : s a
  · rw [lg, if_pos h, if_pos h, ← EReal.coe_sub, Ideal.exp_coe]
  · rw [lg, if_neg h, if_neg h, EReal.bot_sub]; rfl

theorem soft : att (lg2 s l) ((w * k2 : ℝ) : EReal) (fun a => ((v a : ℝ) : EReal))
    = ∑ a : Fin 256, ((v a : ℝ) : EReal) * weight (row (lg s l) (w : EReal)) ⟨a.val, by omega⟩ := by
  obtain ⟨M, hM⟩ := rowMax_real s l w
  have hD : (∑ a, raw s l M a) + Real.exp (w - M) ≠ 0 := by
    have h0 : 0 ≤ ∑ a, raw s l M a := Finset.sum_nonneg fun a _ => by
      unfold raw
      by_cases h : s a
      · rw [if_pos h]; exact (Real.exp_pos _).le
      · rw [if_neg h]
    have h1 := Real.exp_pos (w - M)
    positivity
  have e0 : FloatOps.exp2 (F := Ideal) (φ := .f32) (((w * k2 : ℝ) : EReal) - ((M * k2 : ℝ) : EReal)) = ((Real.exp (w - M) : ℝ) : EReal) := by
    show Ideal.exp2 _ = _
    rw [← EReal.coe_sub, Ideal.exp2_coe, ← sub_mul, pow_two]
  have e1 : (∑ k, Ideal.exp (row (lg s l) (w : EReal) k - (M : EReal))) = (((∑ a, raw s l M a) + Real.exp (w - M) : ℝ) : EReal) := by
    rw [Fin.sum_univ_castSucc, EReal.coe_add, ← sum_real]
    refine congrArg₂ (· + ·) (Finset.sum_congr rfl fun a _ => ?_) ?_
    · exact (congrArg (fun u => Ideal.exp (u - (M : EReal))) (row_lt s l w a)).trans (exp_raw s l M a)
    · refine (congrArg (fun u => Ideal.exp (u - (M : EReal))) (row_last s l w)).trans ?_
      rw [← EReal.coe_sub, Ideal.exp_coe]
  have e2 : ∀ a : Fin 256, weight (row (lg s l) (w : EReal)) ⟨a.val, by omega⟩
      = ((raw s l M a * (1 / ((∑ a, raw s l M a) + Real.exp (w - M))) : ℝ) : EReal) := by
    intro a
    unfold weight
    rw [hM, e1, Ideal.div_coe hD, row_lt, exp_raw, EReal.coe_mul]
  unfold att
  rw [top_eq s l w M hM, e0]
  simp only [exp2_raw, e2]
  rw [sum_real, ← EReal.coe_add, Ideal.div_coe hD]
  simp only [← EReal.coe_mul]
  rw [sum_real, sum_real, ← EReal.coe_mul, Finset.sum_mul]
  exact congrArg _ (Finset.sum_congr rfl fun a _ => mul_assoc _ _ _)

end Soft

end Cert.SwaEq

end
-- ==== Proof.SwaClaim.lean ====
/- The sliding-window attention: the slopes, the arguments' reals, the two result arrays, and the claims. -/
module

public import proofs.«01_k».proof.Proof.SwaEq
public import proofs.«01_k».proof.Proof.Gen.Pre_finite
public import proofs.«01_k».proof.Defs

@[expose] public section

noncomputable section

namespace Cert.SwaEq

open Idealize.ShloMosaic Idealize.ShloMosaic.TcCoe Idealize.SL.Sem
open Cert.Swa Cert.SwaRef

/-! ## The slopes -/

/-- A head's slope, as both programs compute it. -/
def slope (h : Fin 16) : EReal :=
  Ideal.pow (Ideal.ofBits FTy.f32 0x40000000#32)
    (Ideal.div (Ideal.ofBits FTy.f32 0xC1000000#32 * (Ideal.ofBits FTy.f32 0x3F800000#32 + (((BitVec.ofNat 32 h.val).toInt : ℝ) : EReal)))
      (Ideal.ofBits FTy.f32 0x41800000#32))

theorem eight_bits : Ideal.ofBits FTy.f32 0xC1000000#32 = ((-8 : ℝ) : EReal) := by
  simp [Ideal.ofBits, Ideal.ieee, -EReal.coe_mul]; norm_num

theorem one_bits : Ideal.ofBits FTy.f32 0x3F800000#32 = ((1 : ℝ) : EReal) := by
  simp [Ideal.ofBits, Ideal.ieee, -EReal.coe_mul]; norm_num

theorem sixteen_bits : Ideal.ofBits FTy.f32 0x41800000#32 = ((16 : ℝ) : EReal) := by
  simp [Ideal.ofBits, Ideal.ieee, -EReal.coe_mul]; norm_num

theorem slope_real (h : Fin 16) : ∃ σ : ℝ, slope h = (σ : EReal) := by
  unfold slope
  rw [two_bits, eight_bits, one_bits, sixteen_bits, Ideal.div_coe (by norm_num), ← EReal.coe_add, ← EReal.coe_mul, ← EReal.coe_mul,
    Ideal.pow_coe_coe]
  exact ⟨_, rfl⟩

theorem slope_ref (h : Fin 16) : Cert.ReferenceIdeal.Read.val_main_v59 (F := Ideal) (ix1 h) = slope h := by
  rw [Cert.ReferenceIdeal.Read.val_main_v59_apply, Cert.ReferenceIdeal.Read.val_main_v58_apply, Cert.ReferenceIdeal.Read.val_main_v57_apply,
    Cert.ReferenceIdeal.Read.val_main_v56_apply, Cert.ReferenceIdeal.Read.val_main_v55_apply, Cert.ReferenceIdeal.Read.val_main_v54_apply,
    Cert.ReferenceIdeal.Read.val_main_v53_apply, Cert.ReferenceIdeal.Read.val_main_v52_apply]
  rfl

open Cert.KernelIdeal Cert.KernelIdeal.Gen in
theorem slope_kernel (m : (ℓ : Loc nD τ sig) → Buf (Elt Ideal) ℓ) (c : Dev nD) (h : Fin 16) :
    (V m c main_v8 : Vec Ideal S16 .f32) (ix1 h) = slope h := by
  unfold V slope
  rw [one_bits]
  after_reads_at
  rfl

/-! ## The arguments' entries are reals -/

theorem real_of_abs {x : EReal} (h : Ideal.cmp .olt (max x (-x)) (Ideal.ofBits FTy.f32 0x7F800000#32) = 1#1) : ∃ r : ℝ, x = (r : EReal) := by
  have hb : Ideal.ofBits FTy.f32 0x7F800000#32 = (⊤ : EReal) := by simp [Ideal.ofBits, Ideal.ieee]
  rw [hb] at h
  induction x using EReal.rec with
  | bot => exact absurd h (by simp [Ideal.cmp])
  | top => exact absurd h (by simp [Ideal.cmp])
  | coe r => exact ⟨r, rfl⟩

open Cert.KernelIdeal in
theorem args_real (A : Vec Ideal S8x4096x1280 .bf16) (W : Vec Ideal S16 .f32)
    (h : (Cert.Pre_finite.fn (F := Ideal) A W).1 = (fun _ => 1#1) ∧ (Cert.Pre_finite.fn (F := Ideal) A W).2 = (fun _ => 1#1)) :
    (∀ i, ∃ r : ℝ, A i = (r : EReal)) ∧ ∀ i, ∃ r : ℝ, W i = (r : EReal) :=
  ⟨fun i => real_of_abs (congrFun h.1 i), fun i => real_of_abs (congrFun h.2 i)⟩

/-! ## The two result arrays -/

section Arrays

open Cert.KernelIdeal

variable (A : Vec Ideal S8x4096x1280 .bf16) (S W : Vec Ideal S16 .f32)

theorem band_real (hA : ∀ i, ∃ r : ℝ, A i = (r : EReal)) (bi : Fin 8) (j : Fin 32) (o : Fin 2) (a : Fin 256) (x : Fin 128) :
    ∃ r : ℝ, band A bi j o a x = (r : EReal) := by
  unfold band
  by_cases h : 128 * j.val + a.val < 128
  · rw [dif_pos h]; exact ⟨0, rfl⟩
  · rw [dif_neg h]; exact hA _

theorem score_real (hA : ∀ i, ∃ r : ℝ, A i = (r : EReal)) (bi : Fin 8) (j : Fin 32) (r : Fin 128) (h : Fin 16) (a : Fin 256) :
    ∃ q : ℝ, score A bi j r h a = (q : EReal) := by
  choose f hf using fun d : Fin 64 => band_real A hA bi j 0 a (lane (kvHead h) d)
  choose g hg using fun d : Fin 64 => hA (ix3 bi ⟨128 * j.val + r.val, by omega⟩ ⟨64 * h.val + d.val, by omega⟩)
  refine ⟨∑ d, f d * g d, ?_⟩
  unfold score query
  rw [← sum_real]
  exact Finset.sum_congr rfl fun d _ => by rw [hf, hg, EReal.coe_mul]

theorem cE_eq : cE = ((k2 : ℝ) : EReal) := rfl

theorem mask_eq : Named.named (F := Ideal) (φ := .f32) κ "bias_mask" 0x7149F2CA#32 = (⊤ : EReal) := rfl

theorem attend_eq (hA : ∀ i, ∃ r : ℝ, A i = (r : EReal)) (hS : ∀ h : Fin 16, ∃ r : ℝ, S (ix1 h) = (r : EReal))
    (hW : ∀ i, ∃ r : ℝ, W i = (r : EReal)) (bi : Fin 8) (j : Fin 32) (r : Fin 128) (h : Fin 16) (d : Fin 64) :
    attend A S W bi j r h d
      = ∑ a : Fin 256, band A bi j 1 a (lane (kvHead h) d) * weight (row (logit A S bi j r h) (W (ix1 h))) ⟨a.val, by omega⟩ := by
  choose q hq using score_real A hA bi j r h
  choose v hv using fun a => band_real A hA bi j 1 a (lane (kvHead h) d)
  obtain ⟨σ, hσ⟩ := hS h
  obtain ⟨w, hw⟩ := hW (ix1 h)
  have hl : logit A S bi j r h = lg (fun a => seen j r a) (fun a => q a * Real.log 2 - σ * ((r.val + 128 - a.val : ℕ) : ℝ)) := by
    funext a
    unfold logit
    by_cases hs : seen j r a
    · rw [if_pos hs, lg, if_pos hs, hq, hσ, ← EReal.coe_mul, ← EReal.coe_mul, ← EReal.coe_sub]
    · rw [if_neg hs, lg, if_neg hs]
  have hx : (fun a => score A bi j r h a - biasE (S (ix1 h)) (if j.val = 0 then 1 else 0) a r)
      = lg2 (fun a => seen j r a) (fun a => q a * Real.log 2 - σ * ((r.val + 128 - a.val : ℕ) : ℝ)) := by
    funext a
    have hn : (if j.val = 0 then (1 : Fin 2) else 0) = 1 ↔ j.val = 0 := by
      by_cases hj : j.val = 0
      · rw [if_pos hj]; simp [hj]
      · rw [if_neg hj]; simp [hj]
    unfold biasE
    by_cases hs : seen j r a
    · rw [if_pos ⟨hs.1, hs.2.1, fun e => hs.2.2 (hn.mp e)⟩, lg2, if_pos hs, hq, hσ, cE_eq, ← EReal.coe_mul, ← EReal.coe_mul, ← EReal.coe_sub]
      congr 1
      have h2 := log2_pos.ne'
      show q a - σ * (Real.log 2)⁻¹ * _ = (q a * Real.log 2 - σ * _) * (Real.log 2)⁻¹
      field_simp
    · rw [if_neg (fun e => hs ⟨e.1, e.2.1, fun hj => e.2.2 (hn.mpr hj)⟩), lg2, if_neg hs, mask_eq, EReal.sub_top]
  unfold attend
  simp only [hv]
  rw [hx, hl, hw, cE_eq, ← EReal.coe_mul, soft]

/-- An index of the result: sequence, block of 128 rows, row, key-value head, query head of it, lane. -/
theorem split (i : S8x4096x1024.Idx) : ∃ (bi : Fin 8) (j : Fin 32) (r : Fin 128) (kv : Fin 2) (g : Fin 8) (d : Fin 64),
    i = (ix3 bi ⟨128 * j.val + r.val, by omega⟩ ⟨64 * (headOf kv g).val + d.val, by have := (headOf kv g).isLt; omega⟩ : S8x4096x1024.Idx) := by
  have h1 : (i 1).val < 4096 := (i 1).isLt
  have h2 : (i 2).val < 1024 := (i 2).isLt
  refine ⟨i 0, ⟨(i 1).val / 128, by omega⟩, ⟨(i 1).val % 128, by omega⟩, ⟨(i 2).val / 512, by omega⟩, ⟨(i 2).val / 64 % 8, by omega⟩,
    ⟨(i 2).val % 64, by omega⟩, ?_⟩
  funext x; apply Fin.ext
  match x with
  | ⟨0, _⟩ => rfl
  | ⟨1, _⟩ => show (i 1).val = 128 * ((i 1).val / 128) + (i 1).val % 128; omega
  | ⟨2, _⟩ => show (i 2).val = 64 * (8 * ((i 2).val / 512) + (i 2).val / 64 % 8) + (i 2).val % 64; omega

theorem result_eq (hA : ∀ i, ∃ r : ℝ, A i = (r : EReal)) (hS : ∀ h : Fin 16, S (ix1 h) = slope h)
    (hW : ∀ i, ∃ r : ℝ, W i = (r : EReal)) : Cert.ReferenceIdeal.Read.val_main_v90 (F := Ideal) A W = G A S W := by
  have hR : (S : Vec Ideal S16 .f32) = Cert.ReferenceIdeal.Read.val_main_v59 (F := Ideal) := by
    funext i
    obtain ⟨h, rfl⟩ : ∃ h : Fin 16, i = (ix1 h : S16.Idx) := ⟨i 0, by funext x; match x with | ⟨0, _⟩ => rfl⟩
    rw [hS, slope_ref]
  funext i
  obtain ⟨bi, j, r, kv, g, d, rfl⟩ := split i
  have hk : kvHead (headOf kv g) = kv := Fin.ext (by show (8 * kv.val + g.val) / 8 = kv.val; omega)
  refine (result_apply A W bi kv g j r d).trans ((G_apply A S W bi j r (headOf kv g) d).trans ?_).symm
  rw [attend_eq A S W hA (fun h => by rw [hS]; exact slope_real h) hW, hk, hR]

end Arrays

/-! ## The claims -/

/-- The reference runs, leaves its arguments as they were, and uses no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constants named are the values printed. -/
theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "bias_mask" .f32 0x7149F2CA#32 ⊤ rfl⟩

/-- Kernel and reference end with the same result array, when every entry of the arguments is finite. -/
theorem algebraic : Cert.algebraic_KernelIdeal_ReferenceIdeal_pre_finite := by
  intro m g m' g' hpre hm
  refine ⟨Gm m, ?_, ?_⟩
  · refine (θ_run Cert.KernelIdeal.defs _ _).mono (fun r h c => ⟨(h c).1.trans (final m c), (h c).2⟩)
      (Cert.KernelIdeal.Value.run_blocks m g)
  · refine (θ_run Cert.ReferenceIdeal.defs _ _).mono (fun r h c => ⟨(h c).1.trans ?_, (h c).2⟩) (Cert.ReferenceIdeal.Value.run m' g')
    refine (Cert.ReferenceIdeal.Read.val_main_v90_eq _ _).trans ?_
    obtain ⟨h0, h1⟩ := hm c
    rw [h0, h1]
    obtain ⟨hA, hW⟩ := args_real _ _ (hpre c)
    exact result_eq _ _ _ hA (slope_kernel m c) hW

end Cert.SwaEq

end
-- ==== Proof.Rows.lean ====
/- The mathematics of one token row: normalisation by the mean square, and the squared-ReLU perceptron. -/
module

public import Idealize.ShloMosaic.PureOps.Ideal
public import Idealize.ShloMosaic.Lib.Pointwise

@[expose] public section

noncomputable section

namespace Cert.Rows

open Idealize.ShloMosaic

/-- The normalisation factor of a row: one over the root of its mean square plus the small constant. -/
def scale (x : Fin 1024 → EReal) : EReal :=
  Ideal.rsqrt (Ideal.div (∑ k, x k * x k) (Ideal.ofBits .f32 0x44800000#32) + Ideal.ofBits .f32 0x358637BD#32)

/-- A row normalised and multiplied by its gains. -/
def rms (x g : Fin 1024 → EReal) (j : Fin 1024) : EReal := x j * scale x * g j

/-- The hidden unit `f` of the perceptron over the row `x`: the square of the positive part. -/
def unit {N : ℕ} (x : Fin 1024 → EReal) (u : Fin 1024 → Fin N → EReal) (f : Fin N) : EReal :=
  max (∑ k, x k * u k f) 0 * max (∑ k, x k * u k f) 0

/-- The perceptron's output at feature `j`. -/
def mlp {N : ℕ} (x : Fin 1024 → EReal) (u : Fin 1024 → Fin N → EReal) (d : Fin N → Fin 1024 → EReal) (j : Fin 1024) : EReal :=
  ∑ f, unit x u f * d f j

/-- The residual row after the attention's output projection. -/
def resid (h a : Fin 1024 → EReal) (w : Fin 1024 → Fin 1024 → EReal) (j : Fin 1024) : EReal := h j + ∑ k, a k * w k j

/-- The row a layer leaves: the residual row plus the perceptron of the normalised residual row. -/
def layer (h a : Fin 1024 → EReal) (w : Fin 1024 → Fin 1024 → EReal) (g : Fin 1024 → EReal)
    (u : Fin 1024 → Fin 4096 → EReal) (d : Fin 4096 → Fin 1024 → EReal) (j : Fin 1024) : EReal :=
  resid h a w j + mlp (rms (resid h a w) g) u d j

/-- The perceptron over 4096 hidden units, in eight runs of 512 added one after another. -/
theorem mlp_chunks (x : Fin 1024 → EReal) (u : Fin 1024 → Fin 4096 → EReal) (d : Fin 4096 → Fin 1024 → EReal) (j : Fin 1024) :
    mlp x u d j
      = ∑ c : Fin 8, mlp x (fun k (f : Fin 512) => u k ⟨c.val * 512 + f.val, by omega⟩) (fun f => d ⟨c.val * 512 + f.val, by omega⟩) j := by
  unfold mlp
  rw [Fin.sum_univ_tiles 8 512 (by norm_num)]
  rfl

end Cert.Rows

end
-- ==== Proof.PostFinalBody.lean ====
/- What the post kernel with the final normalisation computes at one grid point, row by row. -/
module

public import proofs.«01_k».proof.Proof.Gen.PostFinalIdeal.Value
public import proofs.«01_k».proof.Proof.Rows

@[expose] public section

noncomputable section

namespace Cert.PostFinalBody

open Cert.PostFinalIdeal Cert.PostFinalIdeal.Gen Idealize.ShloMosaic Cert.Rows

theorem pay2_apply (v0 : Vec Ideal S1024x1024 .f32) (v1 v2 : Vec Ideal S1024x1024 .bf16) (r l : Fin 1024) :
    k0_pay2 v0 v1 v2 (ix2 r l) = resid (fun k => v0 (ix2 r k)) (fun k => v1 (ix2 r k)) (fun k j => v2 (ix2 k j)) l := by
  pointwise [k0_pay2, resid]

theorem pay3_apply (v0 : Vec Ideal S1024x1024 .f32) (v1 v2 : Vec Ideal S1024x1024 .bf16) (v6 : Vec Ideal S1x1024 .f32) (r l : Fin 1024) :
    k0_pay3 v0 v1 v2 v6 (ix2 r l)
      = rms (resid (fun k => v0 (ix2 r k)) (fun k => v1 (ix2 r k)) (fun k j => v2 (ix2 k j))) (fun j => v6 (ix2 0 j)) l := by
  pointwise [k0_pay3, pay2_apply, rms, scale]

theorem pay4_apply (v0 : Vec Ideal S1024x1024 .f32) (v1 v2 : Vec Ideal S1024x1024 .bf16) (v6 : Vec Ideal S1x1024 .f32)
    (u : Vec Ideal S1024x512 .bf16) (d : Vec Ideal S512x1024 .bf16) (r l : Fin 1024) :
    k0_pay4 v0 v1 v2 v6 u d (ix2 r l)
      = mlp (fun k => k0_pay3 v0 v1 v2 v6 (ix2 r k)) (fun k f => u (ix2 k f)) (fun f j => d (ix2 f j)) l := by
  unfold k0_pay4
  generalize k0_pay3 v0 v1 v2 v6 = n
  pointwise [mlp, unit]

theorem pay6_apply (n : FVec Ideal S1024x1024 .bf16) (acc : FVec Ideal S1024x1024 .f32) (v35 : FVec Ideal S1024x512 .f32)
    (d1 : Vec Ideal S512x1024 .bf16) (u2 : Vec Ideal S1024x512 .bf16) (d2 : Vec Ideal S512x1024 .bf16)
    (u3 : Vec Ideal S1024x512 .bf16) (d3 : Vec Ideal S512x1024 .bf16) (r l : Fin 1024) :
    k0_pay6 n acc v35 d1 u2 d2 u3 d3 (ix2 r l)
      = acc (ix2 r l) + (∑ f : Fin 512, max (v35 (ix2 r f)) 0 * max (v35 (ix2 r f)) 0 * d1 (ix2 f l))
        + mlp (fun k => n (ix2 r k)) (fun k f => u2 (ix2 k f)) (fun f j => d2 (ix2 f j)) l
        + mlp (fun k => n (ix2 r k)) (fun k f => u3 (ix2 k f)) (fun f j => d3 (ix2 f j)) l := by
  pointwise [k0_pay6, mlp, unit]

theorem pay8_apply (n : FVec Ideal S1024x1024 .bf16) (acc : FVec Ideal S1024x1024 .f32) (v72 : FVec Ideal S1024x512 .bf16)
    (d1 : Vec Ideal S512x1024 .bf16) (u2 : Vec Ideal S1024x512 .bf16) (d2 : Vec Ideal S512x1024 .bf16)
    (u3 : Vec Ideal S1024x512 .bf16) (d3 : Vec Ideal S512x1024 .bf16)
    (u4 : Vec Ideal S1024x512 .bf16) (d4 : Vec Ideal S512x1024 .bf16) (r l : Fin 1024) :
    k0_pay8 n acc v72 d1 u2 d2 u3 d3 u4 d4 (ix2 r l)
      = acc (ix2 r l) + (∑ f : Fin 512, v72 (ix2 r f) * d1 (ix2 f l))
        + mlp (fun k => n (ix2 r k)) (fun k f => u2 (ix2 k f)) (fun f j => d2 (ix2 f j)) l
        + mlp (fun k => n (ix2 r k)) (fun k f => u3 (ix2 k f)) (fun f j => d3 (ix2 f j)) l
        + mlp (fun k => n (ix2 r k)) (fun k f => u4 (ix2 k f)) (fun f j => d4 (ix2 f j)) l := by
  pointwise [k0_pay8, mlp, unit]

theorem pay5_apply (v0 : Vec Ideal S1024x1024 .f32) (v1 v2 : Vec Ideal S1024x1024 .bf16) (v6 : Vec Ideal S1x1024 .f32)
    (u : Vec Ideal S1024x512 .bf16) (r : Fin 1024) (f : Fin 512) :
    k0_pay5 v0 v1 v2 v6 u (ix2 r f) = ∑ k, k0_pay3 v0 v1 v2 v6 (ix2 r k) * u (ix2 k f) := by
  unfold k0_pay5
  generalize k0_pay3 v0 v1 v2 v6 = n
  pointwise

theorem pay7_apply (n : FVec Ideal S1024x1024 .bf16) (u : Vec Ideal S1024x512 .bf16) (r : Fin 1024) (f : Fin 512) :
    k0_pay7 n u (ix2 r f) = unit (fun k => n (ix2 r k)) (fun k f => u (ix2 k f)) f := by
  pointwise [k0_pay7, unit]

theorem pay1_apply (x y : FVec Ideal S1024x1024 .f32) (g : Vec Ideal S1x1024 .f32) (r l : Fin 1024) :
    k0_pay1 x y g (ix2 r l) = rms (fun j => x (ix2 r j) + y (ix2 r j)) (fun j => g (ix2 0 j)) l := by
  pointwise [k0_pay1, rms, scale]

/-- A load of 512 columns from column `o` on. -/
theorem ld_cols (X : Vec Ideal S1024x4096 .bf16) (o : ℕ) (h) (ho : o + 512 ≤ 4096) (k : Fin 1024) (f : Fin 512) :
    View.ld X (Rect.unit (s := S1024x4096) ![0, o] S1024x512.size h) (ix2 k f) = X (ix2 k ⟨o + f.val, by omega⟩) := by
  unfold View.ld
  congr 1
  funext a
  apply Fin.ext
  fin_cases a
  · show 0 + 1 * k.val = k.val; omega
  · show o + 1 * f.val = o + f.val; omega

/-- A load of 512 rows from row `o` on. -/
theorem ld_rows (X : Vec Ideal S4096x1024 .bf16) (o : ℕ) (h) (ho : o + 512 ≤ 4096) (f : Fin 512) (j : Fin 1024) :
    View.ld X (Rect.unit (s := S4096x1024) ![o, 0] S512x1024.size h) (ix2 f j) = X (ix2 ⟨o + f.val, by omega⟩ j) := by
  unfold View.ld
  congr 1
  funext a
  apply Fin.ext
  fin_cases a
  · show o + 1 * f.val = o + f.val; omega
  · show 0 + 1 * j.val = j.val; omega

/-- THE BODY'S RESULT at row `r`, feature `l` of its block. -/
theorem out_apply (x0 : Vec Ideal S1024x1024 .f32) (x1 x2 : Vec Ideal S1024x1024 .bf16) (x3 : Vec Ideal S1x1024 .f32)
    (x4 : Vec Ideal S1024x4096 .bf16) (x5 : Vec Ideal S4096x1024 .bf16) (x6 : Vec Ideal S1x1024 .f32) (r l : Fin 1024) :
    out0_7 x0 x1 x2 x3 x4 x5 x6 (ix2 r l)
      = rms (layer (fun k => x0 (ix2 r k)) (fun k => x1 (ix2 r k)) (fun k j => x2 (ix2 k j)) (fun j => x3 (ix2 0 j))
          (fun k f => x4 (ix2 k f)) (fun f j => x5 (ix2 f j))) (fun j => x6 (ix2 0 j)) l := by
  unfold out0_7 k0_pay9
  have e0 (X : Vec Ideal S1024x1024 .f32) : View.ld X r0_0 = X := View.ld_unit_zero (by funext a; fin_cases a <;> rfl) _ X
  have e0' (X : Vec Ideal S1024x1024 .bf16) : View.ld X r0_0 = X := View.ld_unit_zero (by funext a; fin_cases a <;> rfl) _ X
  have e1 (X : Vec Ideal S1x1024 .f32) : View.ld X r0_1 = X := View.ld_unit_zero (by funext a; fin_cases a <;> rfl) _ X
  obtain ⟨u0, hu0⟩ : ∃ u : Vec Ideal S1024x512 .bf16, View.ld x4 r0_2 = u := ⟨_, rfl⟩
  obtain ⟨d0, hd0⟩ : ∃ d : Vec Ideal S512x1024 .bf16, View.ld x5 r0_3 = d := ⟨_, rfl⟩
  have hu0' (k : Fin 1024) (f : Fin 512) : u0 (ix2 k f) = x4 (ix2 k ⟨0 + f.val, by omega⟩) := by
    rw [← hu0]; exact ld_cols x4 0 _ (by norm_num) k f
  have hd0' (f : Fin 512) (j : Fin 1024) : d0 (ix2 f j) = x5 (ix2 ⟨0 + f.val, by omega⟩ j) := by
    rw [← hd0]; exact ld_rows x5 0 _ (by norm_num) f j
  obtain ⟨u1, hu1⟩ : ∃ u : Vec Ideal S1024x512 .bf16, View.ld x4 r0_4 = u := ⟨_, rfl⟩
  obtain ⟨d1, hd1⟩ : ∃ d : Vec Ideal S512x1024 .bf16, View.ld x5 r0_5 = d := ⟨_, rfl⟩
  have hu1' (k : Fin 1024) (f : Fin 512) : u1 (ix2 k f) = x4 (ix2 k ⟨512 + f.val, by omega⟩) := by
    rw [← hu1]; exact ld_cols x4 512 _ (by norm_num) k f
  have hd1' (f : Fin 512) (j : Fin 1024) : d1 (ix2 f j) = x5 (ix2 ⟨512 + f.val, by omega⟩ j) := by
    rw [← hd1]; exact ld_rows x5 512 _ (by norm_num) f j
  obtain ⟨u2, hu2⟩ : ∃ u : Vec Ideal S1024x512 .bf16, View.ld x4 r0_6 = u := ⟨_, rfl⟩
  obtain ⟨d2, hd2⟩ : ∃ d : Vec Ideal S512x1024 .bf16, View.ld x5 r0_7 = d := ⟨_, rfl⟩
  have hu2' (k : Fin 1024) (f : Fin 512) : u2 (ix2 k f) = x4 (ix2 k ⟨1024 + f.val, by omega⟩) := by
    rw [← hu2]; exact ld_cols x4 1024 _ (by norm_num) k f
  have hd2' (f : Fin 512) (j : Fin 1024) : d2 (ix2 f j) = x5 (ix2 ⟨1024 + f.val, by omega⟩ j) := by
    rw [← hd2]; exact ld_rows x5 1024 _ (by norm_num) f j
  obtain ⟨u3, hu3⟩ : ∃ u : Vec Ideal S1024x512 .bf16, View.ld x4 r0_8 = u := ⟨_, rfl⟩
  obtain ⟨d3, hd3⟩ : ∃ d : Vec Ideal S512x1024 .bf16, View.ld x5 r0_9 = d := ⟨_, rfl⟩
  have hu3' (k : Fin 1024) (f : Fin 512) : u3 (ix2 k f) = x4 (ix2 k ⟨1536 + f.val, by omega⟩) := by
    rw [← hu3]; exact ld_cols x4 1536 _ (by norm_num) k f
  have hd3' (f : Fin 512) (j : Fin 1024) : d3 (ix2 f j) = x5 (ix2 ⟨1536 + f.val, by omega⟩ j) := by
    rw [← hd3]; exact ld_rows x5 1536 _ (by norm_num) f j
  obtain ⟨u4, hu4⟩ : ∃ u : Vec Ideal S1024x512 .bf16, View.ld x4 r0_10 = u := ⟨_, rfl⟩
  obtain ⟨d4, hd4⟩ : ∃ d : Vec Ideal S512x1024 .bf16, View.ld x5 r0_11 = d := ⟨_, rfl⟩
  have hu4' (k : Fin 1024) (f : Fin 512) : u4 (ix2 k f) = x4 (ix2 k ⟨2048 + f.val, by omega⟩) := by
    rw [← hu4]; exact ld_cols x4 2048 _ (by norm_num) k f
  have hd4' (f : Fin 512) (j : Fin 1024) : d4 (ix2 f j) = x5 (ix2 ⟨2048 + f.val, by omega⟩ j) := by
    rw [← hd4]; exact ld_rows x5 2048 _ (by norm_num) f j
  obtain ⟨u5, hu5⟩ : ∃ u : Vec Ideal S1024x512 .bf16, View.ld x4 r0_12 = u := ⟨_, rfl⟩
  obtain ⟨d5, hd5⟩ : ∃ d : Vec Ideal S512x1024 .bf16, View.ld x5 r0_13 = d := ⟨_, rfl⟩
  have hu5' (k : Fin 1024) (f : Fin 512) : u5 (ix2 k f) = x4 (ix2 k ⟨2560 + f.val, by omega⟩) := by
    rw [← hu5]; exact ld_cols x4 2560 _ (by norm_num) k f
  have hd5' (f : Fin 512) (j : Fin 1024) : d5 (ix2 f j) = x5 (ix2 ⟨2560 + f.val, by omega⟩ j) := by
    rw [← hd5]; exact ld_rows x5 2560 _ (by norm_num) f j
  obtain ⟨u6, hu6⟩ : ∃ u : Vec Ideal S1024x512 .bf16, View.ld x4 r0_14 = u := ⟨_, rfl⟩
  obtain ⟨d6, hd6⟩ : ∃ d : Vec Ideal S512x1024 .bf16, View.ld x5 r0_15 = d := ⟨_, rfl⟩
  have hu6' (k : Fin 1024) (f : Fin 512) : u6 (ix2 k f) = x4 (ix2 k ⟨3072 + f.val, by omega⟩) := by
    rw [← hu6]; exact ld_cols x4 3072 _ (by norm_num) k f
  have hd6' (f : Fin 512) (j : Fin 1024) : d6 (ix2 f j) = x5 (ix2 ⟨3072 + f.val, by omega⟩ j) := by
    rw [← hd6]; exact ld_rows x5 3072 _ (by norm_num) f j
  obtain ⟨u7, hu7⟩ : ∃ u : Vec Ideal S1024x512 .bf16, View.ld x4 r0_16 = u := ⟨_, rfl⟩
  obtain ⟨d7, hd7⟩ : ∃ d : Vec Ideal S512x1024 .bf16, View.ld x5 r0_17 = d := ⟨_, rfl⟩
  have hu7' (k : Fin 1024) (f : Fin 512) : u7 (ix2 k f) = x4 (ix2 k ⟨3584 + f.val, by omega⟩) := by
    rw [← hu7]; exact ld_cols x4 3584 _ (by norm_num) k f
  have hd7' (f : Fin 512) (j : Fin 1024) : d7 (ix2 f j) = x5 (ix2 ⟨3584 + f.val, by omega⟩ j) := by
    rw [← hd7]; exact ld_rows x5 3584 _ (by norm_num) f j
  rw [View.canon_unit_zero (by funext a; fin_cases a <;> rfl), e0, e0', e0', e1, e1, hu0, hd0, hu1, hd1, hu2, hd2, hu3, hd3, hu4, hd4, hu5, hd5, hu6, hd6, hu7, hd7, pay1_apply]
  unfold layer
  simp only [mlp_chunks, Fin.sum_univ_eight, pay8_apply, pay7_apply, pay6_apply, pay5_apply, pay4_apply, pay3_apply, pay2_apply]
  simp only [hu0', hd0', hu1', hd1', hu2', hd2', hu3', hd3', hu4', hd4', hu5', hd5', hu6', hd6', hu7', hd7']
  rfl

end Cert.PostFinalBody

end
-- ==== Proof.PostFinalValue.lean ====
/- The result array of the post kernel with the final normalisation, as one function of the argument arrays. -/
module

public import proofs.«01_k».proof.Proof.PostFinalBody
public import Idealize.ShloMosaic.Lib.StableHlo.ReadAt

@[expose] public section

noncomputable section

namespace Cert.PostFinalValue

open Cert.PostFinalIdeal Cert.PostFinalIdeal.Gen Cert.PostFinalIdeal.Value Idealize.ShloMosaic Idealize.ShloMosaic.TcCoe Idealize.SL.Sem Cert.Rows

variable (m : (ℓ : Loc nD τ sig) → Buf (Elt Ideal) ℓ) (ρ : Dev nD → PrngReg)

theorem V_v0 (c : Dev nD) (j : S1024x1024.Idx) : V m c main_v0 j = m ((c : Thread nD τ).loc main_arg2) j := by
  unfold V; after_reads_at
theorem V_v1 (c : Dev nD) (j : S1024x4096.Idx) : V m c main_v1 j = m ((c : Thread nD τ).loc main_arg4) j := by
  unfold V; after_reads_at
theorem V_v2 (c : Dev nD) (j : S4096x1024.Idx) : V m c main_v2 j = m ((c : Thread nD τ).loc main_arg5) j := by
  unfold V; after_reads_at
theorem V_v3 (c : Dev nD) (l : Fin 1024) : V m c main_v3 (ix2 0 l) = m ((c : Thread nD τ).loc main_arg3) (ix1 l) := by
  unfold V; after_reads_at
theorem V_v4 (c : Dev nD) (l : Fin 1024) : V m c main_v4 (ix2 0 l) = m ((c : Thread nD τ).loc main_arg6) (ix1 l) := by
  unfold V; after_reads_at

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)

/-- Row `r` of block `t` is this row of the array. -/
def row (t : Fin cfg0.N) (r : Fin 1024) : Fin 32768 := ⟨1024 * t.val + r.val, by have h : t.val < 32 := t.isLt; omega⟩

theorem ib0 (c : Dev nD) (t : Fin cfg0.N) (r k : Fin 1024) :
    iblk m c 0 t (ix2 r k) = m ((c : Thread nD τ).loc main_arg0) (ix2 (row t r) k) := by
  show V m c main_arg0 (((cfg0.win 0).blk t).view.emb (ix2 r k)) = _
  rw [V_main_arg0]; congr 1; funext a; apply Fin.ext
  obtain ⟨h0, h1⟩ := idx0 t
  match a with
  | ⟨0, _⟩ => show win0_0.index t (0 : Fin 2) * 1024 + 1 * r.val = 1024 * t.val + r.val; omega
  | ⟨1, _⟩ => show win0_0.index t (1 : Fin 2) * 1024 + 1 * k.val = k.val; omega

theorem ib1 (c : Dev nD) (t : Fin cfg0.N) (r k : Fin 1024) :
    iblk m c 1 t (ix2 r k) = m ((c : Thread nD τ).loc main_arg1) (ix2 (row t r) k) := by
  show V m c main_arg1 (((cfg0.win 1).blk t).view.emb (ix2 r k)) = _
  rw [V_main_arg1]; congr 1; funext a; apply Fin.ext
  obtain ⟨h0, h1⟩ := idx1 t
  match a with
  | ⟨0, _⟩ => show win0_1.index t (0 : Fin 2) * 1024 + 1 * r.val = 1024 * t.val + r.val; omega
  | ⟨1, _⟩ => show win0_1.index t (1 : Fin 2) * 1024 + 1 * k.val = k.val; omega

theorem ib2 (c : Dev nD) (t : Fin cfg0.N) (k j : Fin 1024) :
    iblk m c 2 t (ix2 k j) = m ((c : Thread nD τ).loc main_arg2) (ix2 k j) := by
  show V m c main_v0 (((cfg0.win 2).blk t).view.emb (ix2 k j)) = _
  rw [V_v0]; congr 1; funext a; apply Fin.ext
  obtain ⟨h0, h1⟩ := idx2 t
  match a with
  | ⟨0, _⟩ => show win0_2.index t (0 : Fin 2) * 1024 + 1 * k.val = k.val; omega
  | ⟨1, _⟩ => show win0_2.index t (1 : Fin 2) * 1024 + 1 * j.val = j.val; omega

theorem ib3 (c : Dev nD) (t : Fin cfg0.N) (j : Fin 1024) :
    iblk m c 3 t (ix2 0 j) = m ((c : Thread nD τ).loc main_arg3) (ix1 j) := by
  refine Eq.trans ?_ (V_v3 m c j)
  show V m c main_v3 (((cfg0.win 3).blk t).view.emb (ix2 0 j)) = _
  congr 1; funext a; apply Fin.ext
  obtain ⟨h0, h1⟩ := idx3 t
  match a with
  | ⟨0, _⟩ => show win0_3.index t (0 : Fin 2) * 1 + 1 * 0 = 0; omega
  | ⟨1, _⟩ => show win0_3.index t (1 : Fin 2) * 1024 + 1 * j.val = j.val; omega

theorem ib4 (c : Dev nD) (t : Fin cfg0.N) (k : Fin 1024) (f : Fin 4096) :
    iblk m c 4 t (ix2 k f) = m ((c : Thread nD τ).loc main_arg4) (ix2 k f) := by
  show V m c main_v1 (((cfg0.win 4).blk t).view.emb (ix2 k f)) = _
  rw [V_v1]; congr 1; funext a; apply Fin.ext
  obtain ⟨h0, h1⟩ := idx4 t
  match a with
  | ⟨0, _⟩ => show win0_4.index t (0 : Fin 2) * 1024 + 1 * k.val = k.val; omega
  | ⟨1, _⟩ => show win0_4.index t (1 : Fin 2) * 4096 + 1 * f.val = f.val; omega

theorem ib5 (c : Dev nD) (t : Fin cfg0.N) (f : Fin 4096) (j : Fin 1024) :
    iblk m c 5 t (ix2 f j) = m ((c : Thread nD τ).loc main_arg5) (ix2 f j) := by
  show V m c main_v2 (((cfg0.win 5).blk t).view.emb (ix2 f j)) = _
  rw [V_v2]; congr 1; funext a; apply Fin.ext
  obtain ⟨h0, h1⟩ := idx5 t
  match a with
  | ⟨0, _⟩ => show win0_5.index t (0 : Fin 2) * 4096 + 1 * f.val = f.val; omega
  | ⟨1, _⟩ => show win0_5.index t (1 : Fin 2) * 1024 + 1 * j.val = j.val; omega

theorem ib6 (c : Dev nD) (t : Fin cfg0.N) (j : Fin 1024) :
    iblk m c 6 t (ix2 0 j) = m ((c : Thread nD τ).loc main_arg6) (ix1 j) := by
  refine Eq.trans ?_ (V_v4 m c j)
  show V m c main_v4 (((cfg0.win 6).blk t).view.emb (ix2 0 j)) = _
  congr 1; funext a; apply Fin.ext
  obtain ⟨h0, h1⟩ := idx6 t
  match a with
  | ⟨0, _⟩ => show win0_6.index t (0 : Fin 2) * 1 + 1 * 0 = 0; omega
  | ⟨1, _⟩ => show win0_6.index t (1 : Fin 2) * 1024 + 1 * j.val = j.val; omega

/-- The result array: every row through the layer and the final normalisation. -/
def G (a0 : Vec Ideal S32768x1024 .f32) (a1 : Vec Ideal S32768x1024 .bf16) (a2 : Vec Ideal S1024x1024 .f32) (a3 : Vec Ideal S1024 .f32)
    (a4 : Vec Ideal S1024x4096 .f32) (a5 : Vec Ideal S4096x1024 .f32) (a6 : Vec Ideal S1024 .f32) : Vec Ideal S32768x1024 .f32 :=
  fun i => rms (layer (fun k => a0 (ix2 (i 0) k)) (fun k => a1 (ix2 (i 0) k)) (fun k j => a2 (ix2 k j)) (fun j => a3 (ix1 j))
    (fun k f => a4 (ix2 k f)) (fun f j => a5 (ix2 f j))) (fun j => a6 (ix1 j)) (i 1)

/-- The result array of the arguments as launched. -/
abbrev Gm (c : Dev nD) : Vec Ideal S32768x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem emb7 (t : Fin cfg0.N) (r l : Fin 1024) : ((cfg0.win 7).blk t).view.emb (ix2 r l) = (ix2 (row t r) l : S32768x1024.Idx) := by
  funext a; apply Fin.ext
  obtain ⟨h0, h1⟩ := idx7 t
  match a with
  | ⟨0, _⟩ => show win0_7.index t (0 : Fin 2) * 1024 + 1 * r.val = 1024 * t.val + r.val; omega
  | ⟨1, _⟩ => show win0_7.index t (1 : Fin 2) * 1024 + 1 * l.val = l.val; omega

theorem flushed7_eq (c : Dev nD) (t : Fin cfg0.N) :
    (dats m 0 c).flushed 7 t = ((cfg0.win 7).blk t).view.read (Elt Ideal) (Gm m c) := by
  rw [flushed7]
  funext y
  obtain ⟨r, l, rfl⟩ : ∃ r l : Fin 1024, y = (ix2 r l : S1024x1024.Idx) := ⟨y 0, y 1, by funext a; match a with | ⟨0, _⟩ => rfl | ⟨1, _⟩ => rfl⟩
  show out0_7 (iblk m c 0 t) (iblk m c 1 t) (iblk m c 2 t) (iblk m c 3 t) (iblk m c 4 t) (iblk m c 5 t) (iblk m c 6 t) (ix2 r l)
    = Gm m c (((cfg0.win 7).blk t).view.emb (ix2 r l))
  rw [emb7, PostFinalBody.out_apply]
  simp only [ib0, ib1, ib2, ib3, ib4, ib5, ib6]
  rfl

theorem mem7 (t : Fin cfg0.N) (r l : Fin 1024) : (ix2 (row t r) l : S32768x1024.Idx) ∈ ((cfg0.win 7).blk t).view.set := by
  have h := ((cfg0.win 7).blk t).view.emb_mem_set (ix2 r l)
  rw [emb7] at h
  exact h

theorem covered7 (i : S32768x1024.Idx) :
    ∃ t : Fin cfg0.N, (cfg0.win 7).flush t = true ∧ i ∈ ((cfg0.win 7).blk t).view.set := by
  have h0 : (i 0).val < 32768 := (i 0).isLt
  obtain ⟨t, r, e⟩ : ∃ (t : Fin cfg0.N) (r : Fin 1024), (ix2 (row t r) (i 1) : S32768x1024.Idx) = i := by
    refine ⟨⟨(i 0).val / 1024, by show _ < 32; omega⟩, ⟨(i 0).val % 1024, by omega⟩, ?_⟩
    funext a; apply Fin.ext
    match a with
    | ⟨0, _⟩ => show 1024 * ((i 0).val / 1024) + (i 0).val % 1024 = (i 0).val; omega
    | ⟨1, _⟩ => rfl
  exact ⟨t, flush0_7 t, e ▸ mem7 t r (i 1)⟩

theorem final7 (c : Dev nD) : (dats m 0 c).arrAt 7 cfg0.N = Gm m c :=
  (dats m 0 c).arrAt_eq_of_cover 7 (Gm m c) (fun t _ => flushed7_eq m c t) covered7

end Cert.PostFinalValue

end
-- ==== Proof.RefPostFinal.lean ====
/- The reference's result with the final normalisation, row by row, and the two runs set side by side. -/
module

public import proofs.«01_k».proof.Proof.PostFinalValue
public import proofs.«01_k».proof.Proof.Gen.RefPostFinalIdeal.Read
public import proofs.«01_k».proof.Defs
public import Idealize.ShloMosaic.Lib.Pointwise

@[expose] public section

noncomputable section

namespace Cert.RefPostFinalRows

open Cert.RefPostFinalIdeal Cert.RefPostFinalIdeal.Value Cert.RefPostFinalIdeal.Read Idealize.ShloMosaic Idealize.ShloMosaic.TcCoe Idealize.SL.Sem Cert.Rows

variable (x0 : Vec Ideal S32768x1024 .f32) (x1 : Vec Ideal S32768x1024 .bf16) (x2 : Vec Ideal S1024x1024 .f32)
    (x3 : Vec Ideal S1024 .f32) (x4 : Vec Ideal S1024x4096 .f32) (x5 : Vec Ideal S4096x1024 .f32) (x6 : Vec Ideal S1024 .f32)

theorem res_apply (r : Fin 32768) (l : Fin 1024) :
    val_main_v2 (F := Ideal) x0 x1 x2 (ix2 r l) = resid (fun k => x0 (ix2 r k)) (fun k => x1 (ix2 r k)) (fun k j => x2 (ix2 k j)) l := by
  pointwise [val_main_v2, val_main_v1, val_main_v0, resid]

theorem norm_apply (r : Fin 32768) (l : Fin 1024) :
    val_main_v15 (F := Ideal) x0 x1 x2 x3 (ix2 r l)
      = rms (fun j => val_main_v2 (F := Ideal) x0 x1 x2 (ix2 r j)) (fun j => x3 (ix1 j)) l := by
  unfold val_main_v15 val_main_v12 val_main_v11 val_main_v10 val_main_v9 val_main_v7 val_main_v5 val_main_v4 val_main_v3
  generalize val_main_v2 (F := Ideal) x0 x1 x2 = y
  pointwise [val_main_v14, val_main_v13, val_main_v6, val_main_v8, val_main_cst, val_main_cst_0, val_main_cst_1, rms, scale]

theorem mlp_apply (r : Fin 32768) (l : Fin 1024) :
    val_main_v20 (F := Ideal) x0 x1 x2 x3 x4 x5 (ix2 r l)
      = mlp (fun j => val_main_v15 (F := Ideal) x0 x1 x2 x3 (ix2 r j)) (fun k f => x4 (ix2 k f)) (fun f j => x5 (ix2 f j)) l := by
  unfold val_main_v20 val_main_v19 val_main_v18 val_main_v16
  generalize val_main_v15 (F := Ideal) x0 x1 x2 x3 = y
  pointwise [val_main_v17, val_main_cst_2, mlp, unit]

theorem layer_apply (r : Fin 32768) (l : Fin 1024) :
    val_main_v21 (F := Ideal) x0 x1 x2 x3 x4 x5 (ix2 r l)
      = layer (fun k => x0 (ix2 r k)) (fun k => x1 (ix2 r k)) (fun k j => x2 (ix2 k j)) (fun j => x3 (ix1 j))
          (fun k f => x4 (ix2 k f)) (fun f j => x5 (ix2 f j)) l := by
  have h : val_main_v21 (F := Ideal) x0 x1 x2 x3 x4 x5 (ix2 r l)
      = val_main_v2 (F := Ideal) x0 x1 x2 (ix2 r l) + val_main_v20 (F := Ideal) x0 x1 x2 x3 x4 x5 (ix2 r l) := rfl
  rw [h, mlp_apply]
  simp only [norm_apply, res_apply]
  rfl

theorem final_apply (r : Fin 32768) (l : Fin 1024) :
    val_main_v34 (F := Ideal) x0 x1 x2 x3 x4 x5 x6 (ix2 r l)
      = rms (fun j => val_main_v21 (F := Ideal) x0 x1 x2 x3 x4 x5 (ix2 r j)) (fun j => x6 (ix1 j)) l := by
  unfold val_main_v34 val_main_v31 val_main_v30 val_main_v29 val_main_v28 val_main_v26 val_main_v24 val_main_v23 val_main_v22
  generalize val_main_v21 (F := Ideal) x0 x1 x2 x3 x4 x5 = y
  pointwise [val_main_v33, val_main_v32, val_main_v25, val_main_v27, val_main_cst_3, val_main_cst_4, val_main_cst_5, rms, scale]

theorem ref_eq : val_main_v34 (F := Ideal) x0 x1 x2 x3 x4 x5 x6 = PostFinalValue.G x0 x1 x2 x3 x4 x5 x6 := by
  funext i
  obtain ⟨r, l, rfl⟩ : ∃ (r : Fin 32768) (l : Fin 1024), i = (ix2 r l : S32768x1024.Idx) :=
    ⟨i 0, i 1, by funext a; match a with | ⟨0, _⟩ => rfl | ⟨1, _⟩ => rfl⟩
  rw [final_apply]
  simp only [layer_apply]
  rfl

/-- The reference runs, leaves its arguments as they were, and uses no semaphore. -/
theorem frame : Cert.quiescent_RefPostFinalIdeal := fun m ρ _ =>
  (θ_run Cert.RefPostFinalIdeal.defs _ _).mono (fun r h => ⟨fun c => (h c).2, sem_eq_zero_of_no_sems (by decide) r.2⟩)
    (run (F := Ideal) m ρ)

/-- Kernel and reference end with the same result array. -/
theorem algebraic : Cert.algebraic_PostFinalIdeal_RefPostFinalIdeal := by
  intro m g m' g' _ hm
  refine ⟨PostFinalValue.Gm m, ?_, ?_⟩
  · refine (θ_run Cert.PostFinalIdeal.defs _ _).mono (fun r h c => ⟨(h c).1.trans (PostFinalValue.final7 m c), (h c).2⟩)
      (Cert.PostFinalIdeal.Value.run_blocks m g)
  · refine (θ_run defs _ _).mono (fun r h c => ⟨(h c).1.trans ?_, (h c).2⟩) (run m' g')
    refine (val_main_v34_eq m' c).trans ?_
    obtain ⟨h0, h1, h2, h3, h4, h5, h6⟩ := hm c
    rw [h0, h1, h2, h3, h4, h5, h6]
    exact ref_eq _ _ _ _ _ _ _

end Cert.RefPostFinalRows

end
-- ==== Proof.PostBody.lean ====
/- What the post kernel without the final normalisation computes at one grid point, row by row. -/
module

public import proofs.«01_k».proof.Proof.Gen.PostIdeal.Value
public import proofs.«01_k».proof.Proof.Rows

@[expose] public section

noncomputable section

namespace Cert.PostBody

open Cert.PostIdeal Cert.PostIdeal.Gen Idealize.ShloMosaic Cert.Rows

theorem pay2_apply (v0 : Vec Ideal S1024x1024 .f32) (v1 v2 : Vec Ideal S1024x1024 .bf16) (r l : Fin 1024) :
    k0_pay2 v0 v1 v2 (ix2 r l) = resid (fun k => v0 (ix2 r k)) (fun k => v1 (ix2 r k)) (fun k j => v2 (ix2 k j)) l := by
  pointwise [k0_pay2, resid]

theorem pay3_apply (v0 : Vec Ideal S1024x1024 .f32) (v1 v2 : Vec Ideal S1024x1024 .bf16) (v6 : Vec Ideal S1x1024 .f32) (r l : Fin 1024) :
    k0_pay3 v0 v1 v2 v6 (ix2 r l)
      = rms (resid (fun k => v0 (ix2 r k)) (fun k => v1 (ix2 r k)) (fun k j => v2 (ix2 k j))) (fun j => v6 (ix2 0 j)) l := by
  pointwise [k0_pay3, pay2_apply, rms, scale]

theorem pay4_apply (v0 : Vec Ideal S1024x1024 .f32) (v1 v2 : Vec Ideal S1024x1024 .bf16) (v6 : Vec Ideal S1x1024 .f32)
    (u : Vec Ideal S1024x512 .bf16) (d : Vec Ideal S512x1024 .bf16) (r l : Fin 1024) :
    k0_pay4 v0 v1 v2 v6 u d (ix2 r l)
      = mlp (fun k => k0_pay3 v0 v1 v2 v6 (ix2 r k)) (fun k f => u (ix2 k f)) (fun f j => d (ix2 f j)) l := by
  unfold k0_pay4
  generalize k0_pay3 v0 v1 v2 v6 = n
  pointwise [mlp, unit]

theorem pay6_apply (n : FVec Ideal S1024x1024 .bf16) (acc : FVec Ideal S1024x1024 .f32) (v35 : FVec Ideal S1024x512 .f32)
    (d1 : Vec Ideal S512x1024 .bf16) (u2 : Vec Ideal S1024x512 .bf16) (d2 : Vec Ideal S512x1024 .bf16)
    (u3 : Vec Ideal S1024x512 .bf16) (d3 : Vec Ideal S512x1024 .bf16) (r l : Fin 1024) :
    k0_pay6 n acc v35 d1 u2 d2 u3 d3 (ix2 r l)
      = acc (ix2 r l) + (∑ f : Fin 512, max (v35 (ix2 r f)) 0 * max (v35 (ix2 r f)) 0 * d1 (ix2 f l))
        + mlp (fun k => n (ix2 r k)) (fun k f => u2 (ix2 k f)) (fun f j => d2 (ix2 f j)) l
        + mlp (fun k => n (ix2 r k)) (fun k f => u3 (ix2 k f)) (fun f j => d3 (ix2 f j)) l := by
  pointwise [k0_pay6, mlp, unit]

theorem pay8_apply (n : FVec Ideal S1024x1024 .bf16) (acc : FVec Ideal S1024x1024 .f32) (v72 : FVec Ideal S1024x512 .bf16)
    (d1 : Vec Ideal S512x1024 .bf16) (u2 : Vec Ideal S1024x512 .bf16) (d2 : Vec Ideal S512x1024 .bf16)
    (u3 : Vec Ideal S1024x512 .bf16) (d3 : Vec Ideal S512x1024 .bf16)
    (u4 : Vec Ideal S1024x512 .bf16) (d4 : Vec Ideal S512x1024 .bf16) (r l : Fin 1024) :
    k0_pay8 n acc v72 d1 u2 d2 u3 d3 u4 d4 (ix2 r l)
      = acc (ix2 r l) + (∑ f : Fin 512, v72 (ix2 r f) * d1 (ix2 f l))
        + mlp (fun k => n (ix2 r k)) (fun k f => u2 (ix2 k f)) (fun f j => d2 (ix2 f j)) l
        + mlp (fun k => n (ix2 r k)) (fun k f => u3 (ix2 k f)) (fun f j => d3 (ix2 f j)) l
        + mlp (fun k => n (ix2 r k)) (fun k f => u4 (ix2 k f)) (fun f j => d4 (ix2 f j)) l := by
  pointwise [k0_pay8, mlp, unit]

theorem pay5_apply (v0 : Vec Ideal S1024x1024 .f32) (v1 v2 : Vec Ideal S1024x1024 .bf16) (v6 : Vec Ideal S1x1024 .f32)
    (u : Vec Ideal S1024x512 .bf16) (r : Fin 1024) (f : Fin 512) :
    k0_pay5 v0 v1 v2 v6 u (ix2 r f) = ∑ k, k0_pay3 v0 v1 v2 v6 (ix2 r k) * u (ix2 k f) := by
  unfold k0_pay5
  generalize k0_pay3 v0 v1 v2 v6 = n
  pointwise

theorem pay7_apply (n : FVec Ideal S1024x1024 .bf16) (u : Vec Ideal S1024x512 .bf16) (r : Fin 1024) (f : Fin 512) :
    k0_pay7 n u (ix2 r f) = unit (fun k => n (ix2 r k)) (fun k f => u (ix2 k f)) f := by
  pointwise [k0_pay7, unit]

theorem pay1_apply (x y : FVec Ideal S1024x1024 .f32) (r l : Fin 1024) :
    k0_pay1 x y (ix2 r l) = x (ix2 r l) + y (ix2 r l) := by
  pointwise [k0_pay1]

/-- A load of 512 columns from column `o` on. -/
theorem ld_cols (X : Vec Ideal S1024x4096 .bf16) (o : ℕ) (h) (ho : o + 512 ≤ 4096) (k : Fin 1024) (f : Fin 512) :
    View.ld X (Rect.unit (s := S1024x4096) ![0, o] S1024x512.size h) (ix2 k f) = X (ix2 k ⟨o + f.val, by omega⟩) := by
  unfold View.ld
  congr 1
  funext a
  apply Fin.ext
  fin_cases a
  · show 0 + 1 * k.val = k.val; omega
  · show o + 1 * f.val = o + f.val; omega

/-- A load of 512 rows from row `o` on. -/
theorem ld_rows (X : Vec Ideal S4096x1024 .bf16) (o : ℕ) (h) (ho : o + 512 ≤ 4096) (f : Fin 512) (j : Fin 1024) :
    View.ld X (Rect.unit (s := S4096x1024) ![o, 0] S512x1024.size h) (ix2 f j) = X (ix2 ⟨o + f.val, by omega⟩ j) := by
  unfold View.ld
  congr 1
  funext a
  apply Fin.ext
  fin_cases a
  · show o + 1 * f.val = o + f.val; omega
  · show 0 + 1 * j.val = j.val; omega

/-- THE BODY'S RESULT at row `r`, feature `l` of its block. -/
theorem out_apply (x0 : Vec Ideal S1024x1024 .f32) (x1 x2 : Vec Ideal S1024x1024 .bf16) (x3 : Vec Ideal S1x1024 .f32)
    (x4 : Vec Ideal S1024x4096 .bf16) (x5 : Vec Ideal S4096x1024 .bf16) (r l : Fin 1024) :
    out0_6 x0 x1 x2 x3 x4 x5 (ix2 r l)
      = layer (fun k => x0 (ix2 r k)) (fun k => x1 (ix2 r k)) (fun k j => x2 (ix2 k j)) (fun j => x3 (ix2 0 j))
          (fun k f => x4 (ix2 k f)) (fun f j => x5 (ix2 f j)) l := by
  unfold out0_6 k0_pay9
  have e0 (X : Vec Ideal S1024x1024 .f32) : View.ld X r0_0 = X := View.ld_unit_zero (by funext a; fin_cases a <;> rfl) _ X
  have e0' (X : Vec Ideal S1024x1024 .bf16) : View.ld X r0_0 = X := View.ld_unit_zero (by funext a; fin_cases a <;> rfl) _ X
  have e1 (X : Vec Ideal S1x1024 .f32) : View.ld X r0_1 = X := View.ld_unit_zero (by funext a; fin_cases a <;> rfl) _ X
  obtain ⟨u0, hu0⟩ : ∃ u : Vec Ideal S1024x512 .bf16, View.ld x4 r0_2 = u := ⟨_, rfl⟩
  obtain ⟨d0, hd0⟩ : ∃ d : Vec Ideal S512x1024 .bf16, View.ld x5 r0_3 = d := ⟨_, rfl⟩
  have hu0' (k : Fin 1024) (f : Fin 512) : u0 (ix2 k f) = x4 (ix2 k ⟨0 + f.val, by omega⟩) := by
    rw [← hu0]; exact ld_cols x4 0 _ (by norm_num) k f
  have hd0' (f : Fin 512) (j : Fin 1024) : d0 (ix2 f j) = x5 (ix2 ⟨0 + f.val, by omega⟩ j) := by
    rw [← hd0]; exact ld_rows x5 0 _ (by norm_num) f j
  obtain ⟨u1, hu1⟩ : ∃ u : Vec Ideal S1024x512 .bf16, View.ld x4 r0_4 = u := ⟨_, rfl⟩
  obtain ⟨d1, hd1⟩ : ∃ d : Vec Ideal S512x1024 .bf16, View.ld x5 r0_5 = d := ⟨_, rfl⟩
  have hu1' (k : Fin 1024) (f : Fin 512) : u1 (ix2 k f) = x4 (ix2 k ⟨512 + f.val, by omega⟩) := by
    rw [← hu1]; exact ld_cols x4 512 _ (by norm_num) k f
  have hd1' (f : Fin 512) (j : Fin 1024) : d1 (ix2 f j) = x5 (ix2 ⟨512 + f.val, by omega⟩ j) := by
    rw [← hd1]; exact ld_rows x5 512 _ (by norm_num) f j
  obtain ⟨u2, hu2⟩ : ∃ u : Vec Ideal S1024x512 .bf16, View.ld x4 r0_6 = u := ⟨_, rfl⟩
  obtain ⟨d2, hd2⟩ : ∃ d : Vec Ideal S512x1024 .bf16, View.ld x5 r0_7 = d := ⟨_, rfl⟩
  have hu2' (k : Fin 1024) (f : Fin 512) : u2 (ix2 k f) = x4 (ix2 k ⟨1024 + f.val, by omega⟩) := by
    rw [← hu2]; exact ld_cols x4 1024 _ (by norm_num) k f
  have hd2' (f : Fin 512) (j : Fin 1024) : d2 (ix2 f j) = x5 (ix2 ⟨1024 + f.val, by omega⟩ j) := by
    rw [← hd2]; exact ld_rows x5 1024 _ (by norm_num) f j
  obtain ⟨u3, hu3⟩ : ∃ u : Vec Ideal S1024x512 .bf16, View.ld x4 r0_8 = u := ⟨_, rfl⟩
  obtain ⟨d3, hd3⟩ : ∃ d : Vec Ideal S512x1024 .bf16, View.ld x5 r0_9 = d := ⟨_, rfl⟩
  have hu3' (k : Fin 1024) (f : Fin 512) : u3 (ix2 k f) = x4 (ix2 k ⟨1536 + f.val, by omega⟩) := by
    rw [← hu3]; exact ld_cols x4 1536 _ (by norm_num) k f
  have hd3' (f : Fin 512) (j : Fin 1024) : d3 (ix2 f j) = x5 (ix2 ⟨1536 + f.val, by omega⟩ j) := by
    rw [← hd3]; exact ld_rows x5 1536 _ (by norm_num) f j
  obtain ⟨u4, hu4⟩ : ∃ u : Vec Ideal S1024x512 .bf16, View.ld x4 r0_10 = u := ⟨_, rfl⟩
  obtain ⟨d4, hd4⟩ : ∃ d : Vec Ideal S512x1024 .bf16, View.ld x5 r0_11 = d := ⟨_, rfl⟩
  have hu4' (k : Fin 1024) (f : Fin 512) : u4 (ix2 k f) = x4 (ix2 k ⟨2048 + f.val, by omega⟩) := by
    rw [← hu4]; exact ld_cols x4 2048 _ (by norm_num) k f
  have hd4' (f : Fin 512) (j : Fin 1024) : d4 (ix2 f j) = x5 (ix2 ⟨2048 + f.val, by omega⟩ j) := by
    rw [← hd4]; exact ld_rows x5 2048 _ (by norm_num) f j
  obtain ⟨u5, hu5⟩ : ∃ u : Vec Ideal S1024x512 .bf16, View.ld x4 r0_12 = u := ⟨_, rfl⟩
  obtain ⟨d5, hd5⟩ : ∃ d : Vec Ideal S512x1024 .bf16, View.ld x5 r0_13 = d := ⟨_, rfl⟩
  have hu5' (k : Fin 1024) (f : Fin 512) : u5 (ix2 k f) = x4 (ix2 k ⟨2560 + f.val, by omega⟩) := by
    rw [← hu5]; exact ld_cols x4 2560 _ (by norm_num) k f
  have hd5' (f : Fin 512) (j : Fin 1024) : d5 (ix2 f j) = x5 (ix2 ⟨2560 + f.val, by omega⟩ j) := by
    rw [← hd5]; exact ld_rows x5 2560 _ (by norm_num) f j
  obtain ⟨u6, hu6⟩ : ∃ u : Vec Ideal S1024x512 .bf16, View.ld x4 r0_14 = u := ⟨_, rfl⟩
  obtain ⟨d6, hd6⟩ : ∃ d : Vec Ideal S512x1024 .bf16, View.ld x5 r0_15 = d := ⟨_, rfl⟩
  have hu6' (k : Fin 1024) (f : Fin 512) : u6 (ix2 k f) = x4 (ix2 k ⟨3072 + f.val, by omega⟩) := by
    rw [← hu6]; exact ld_cols x4 3072 _ (by norm_num) k f
  have hd6' (f : Fin 512) (j : Fin 1024) : d6 (ix2 f j) = x5 (ix2 ⟨3072 + f.val, by omega⟩ j) := by
    rw [← hd6]; exact ld_rows x5 3072 _ (by norm_num) f j
  obtain ⟨u7, hu7⟩ : ∃ u : Vec Ideal S1024x512 .bf16, View.ld x4 r0_16 = u := ⟨_, rfl⟩
  obtain ⟨d7, hd7⟩ : ∃ d : Vec Ideal S512x1024 .bf16, View.ld x5 r0_17 = d := ⟨_, rfl⟩
  have hu7' (k : Fin 1024) (f : Fin 512) : u7 (ix2 k f) = x4 (ix2 k ⟨3584 + f.val, by omega⟩) := by
    rw [← hu7]; exact ld_cols x4 3584 _ (by norm_num) k f
  have hd7' (f : Fin 512) (j : Fin 1024) : d7 (ix2 f j) = x5 (ix2 ⟨3584 + f.val, by omega⟩ j) := by
    rw [← hd7]; exact ld_rows x5 3584 _ (by norm_num) f j
  rw [View.canon_unit_zero (by funext a; fin_cases a <;> rfl), e0, e0', e0', e1, hu0, hd0, hu1, hd1, hu2, hd2, hu3, hd3, hu4, hd4, hu5, hd5, hu6, hd6, hu7, hd7, pay1_apply]
  unfold layer
  simp only [mlp_chunks, Fin.sum_univ_eight, pay8_apply, pay7_apply, pay6_apply, pay5_apply, pay4_apply, pay3_apply, pay2_apply]
  simp only [hu0', hd0', hu1', hd1', hu2', hd2', hu3', hd3', hu4', hd4', hu5', hd5', hu6', hd6', hu7', hd7']
  rfl

end Cert.PostBody

end
-- ==== Proof.PostValue.lean ====
/- The result array of the post kernel without the final normalisation, as one function of the argument arrays. -/
module

public import proofs.«01_k».proof.Proof.PostBody
public import Idealize.ShloMosaic.Lib.StableHlo.ReadAt

@[expose] public section

noncomputable section

namespace Cert.PostValue

open Cert.PostIdeal Cert.PostIdeal.Gen Cert.PostIdeal.Value Idealize.ShloMosaic Idealize.ShloMosaic.TcCoe Idealize.SL.Sem Cert.Rows

variable (m : (ℓ : Loc nD τ sig) → Buf (Elt Ideal) ℓ) (ρ : Dev nD → PrngReg)

theorem V_v0 (c : Dev nD) (j : S1024x1024.Idx) : V m c main_v0 j = m ((c : Thread nD τ).loc main_arg2) j := by
  unfold V; after_reads_at
theorem V_v1 (c : Dev nD) (j : S1024x4096.Idx) : V m c main_v1 j = m ((c : Thread nD τ).loc main_arg4) j := by
  unfold V; after_reads_at
theorem V_v2 (c : Dev nD) (j : S4096x1024.Idx) : V m c main_v2 j = m ((c : Thread nD τ).loc main_arg5) j := by
  unfold V; after_reads_at
theorem V_v3 (c : Dev nD) (l : Fin 1024) : V m c main_v3 (ix2 0 l) = m ((c : Thread nD τ).loc main_arg3) (ix1 l) := by
  unfold V; after_reads_at
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

/-- Row `r` of block `t` is this row of the array. -/
def row (t : Fin cfg0.N) (r : Fin 1024) : Fin 32768 := ⟨1024 * t.val + r.val, by have h : t.val < 32 := t.isLt; omega⟩

theorem ib0 (c : Dev nD) (t : Fin cfg0.N) (r k : Fin 1024) :
    iblk m c 0 t (ix2 r k) = m ((c : Thread nD τ).loc main_arg0) (ix2 (row t r) k) := by
  show V m c main_arg0 (((cfg0.win 0).blk t).view.emb (ix2 r k)) = _
  rw [V_main_arg0]; congr 1; funext a; apply Fin.ext
  obtain ⟨h0, h1⟩ := idx0 t
  match a with
  | ⟨0, _⟩ => show win0_0.index t (0 : Fin 2) * 1024 + 1 * r.val = 1024 * t.val + r.val; omega
  | ⟨1, _⟩ => show win0_0.index t (1 : Fin 2) * 1024 + 1 * k.val = k.val; omega

theorem ib1 (c : Dev nD) (t : Fin cfg0.N) (r k : Fin 1024) :
    iblk m c 1 t (ix2 r k) = m ((c : Thread nD τ).loc main_arg1) (ix2 (row t r) k) := by
  show V m c main_arg1 (((cfg0.win 1).blk t).view.emb (ix2 r k)) = _
  rw [V_main_arg1]; congr 1; funext a; apply Fin.ext
  obtain ⟨h0, h1⟩ := idx1 t
  match a with
  | ⟨0, _⟩ => show win0_1.index t (0 : Fin 2) * 1024 + 1 * r.val = 1024 * t.val + r.val; omega
  | ⟨1, _⟩ => show win0_1.index t (1 : Fin 2) * 1024 + 1 * k.val = k.val; omega

theorem ib2 (c : Dev nD) (t : Fin cfg0.N) (k j : Fin 1024) :
    iblk m c 2 t (ix2 k j) = m ((c : Thread nD τ).loc main_arg2) (ix2 k j) := by
  show V m c main_v0 (((cfg0.win 2).blk t).view.emb (ix2 k j)) = _
  rw [V_v0]; congr 1; funext a; apply Fin.ext
  obtain ⟨h0, h1⟩ := idx2 t
  match a with
  | ⟨0, _⟩ => show win0_2.index t (0 : Fin 2) * 1024 + 1 * k.val = k.val; omega
  | ⟨1, _⟩ => show win0_2.index t (1 : Fin 2) * 1024 + 1 * j.val = j.val; omega

theorem ib3 (c : Dev nD) (t : Fin cfg0.N) (j : Fin 1024) :
    iblk m c 3 t (ix2 0 j) = m ((c : Thread nD τ).loc main_arg3) (ix1 j) := by
  refine Eq.trans ?_ (V_v3 m c j)
  show V m c main_v3 (((cfg0.win 3).blk t).view.emb (ix2 0 j)) = _
  congr 1; funext a; apply Fin.ext
  obtain ⟨h0, h1⟩ := idx3 t
  match a with
  | ⟨0, _⟩ => show win0_3.index t (0 : Fin 2) * 1 + 1 * 0 = 0; omega
  | ⟨1, _⟩ => show win0_3.index t (1 : Fin 2) * 1024 + 1 * j.val = j.val; omega

theorem ib4 (c : Dev nD) (t : Fin cfg0.N) (k : Fin 1024) (f : Fin 4096) :
    iblk m c 4 t (ix2 k f) = m ((c : Thread nD τ).loc main_arg4) (ix2 k f) := by
  show V m c main_v1 (((cfg0.win 4).blk t).view.emb (ix2 k f)) = _
  rw [V_v1]; congr 1; funext a; apply Fin.ext
  obtain ⟨h0, h1⟩ := idx4 t
  match a with
  | ⟨0, _⟩ => show win0_4.index t (0 : Fin 2) * 1024 + 1 * k.val = k.val; omega
  | ⟨1, _⟩ => show win0_4.index t (1 : Fin 2) * 4096 + 1 * f.val = f.val; omega

theorem ib5 (c : Dev nD) (t : Fin cfg0.N) (f : Fin 4096) (j : Fin 1024) :
    iblk m c 5 t (ix2 f j) = m ((c : Thread nD τ).loc main_arg5) (ix2 f j) := by
  show V m c main_v2 (((cfg0.win 5).blk t).view.emb (ix2 f j)) = _
  rw [V_v2]; congr 1; funext a; apply Fin.ext
  obtain ⟨h0, h1⟩ := idx5 t
  match a with
  | ⟨0, _⟩ => show win0_5.index t (0 : Fin 2) * 4096 + 1 * f.val = f.val; omega
  | ⟨1, _⟩ => show win0_5.index t (1 : Fin 2) * 1024 + 1 * j.val = j.val; omega

/-- The result array: every row through the layer. -/
def G (a0 : Vec Ideal S32768x1024 .f32) (a1 : Vec Ideal S32768x1024 .bf16) (a2 : Vec Ideal S1024x1024 .f32) (a3 : Vec Ideal S1024 .f32)
    (a4 : Vec Ideal S1024x4096 .f32) (a5 : Vec Ideal S4096x1024 .f32) : Vec Ideal S32768x1024 .f32 :=
  fun i => layer (fun k => a0 (ix2 (i 0) k)) (fun k => a1 (ix2 (i 0) k)) (fun k j => a2 (ix2 k j)) (fun j => a3 (ix1 j))
    (fun k f => a4 (ix2 k f)) (fun f j => a5 (ix2 f j)) (i 1)

/-- The result array of the arguments as launched. -/
abbrev Gm (c : Dev nD) : Vec Ideal S32768x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem emb6 (t : Fin cfg0.N) (r l : Fin 1024) : ((cfg0.win 6).blk t).view.emb (ix2 r l) = (ix2 (row t r) l : S32768x1024.Idx) := by
  funext a; apply Fin.ext
  obtain ⟨h0, h1⟩ := idx6 t
  match a with
  | ⟨0, _⟩ => show win0_6.index t (0 : Fin 2) * 1024 + 1 * r.val = 1024 * t.val + r.val; omega
  | ⟨1, _⟩ => show win0_6.index t (1 : Fin 2) * 1024 + 1 * l.val = l.val; omega

theorem flushed6_eq (c : Dev nD) (t : Fin cfg0.N) :
    (dats m 0 c).flushed 6 t = ((cfg0.win 6).blk t).view.read (Elt Ideal) (Gm m c) := by
  rw [flushed6]
  funext y
  obtain ⟨r, l, rfl⟩ : ∃ r l : Fin 1024, y = (ix2 r l : S1024x1024.Idx) := ⟨y 0, y 1, by funext a; match a with | ⟨0, _⟩ => rfl | ⟨1, _⟩ => rfl⟩
  show out0_6 (iblk m c 0 t) (iblk m c 1 t) (iblk m c 2 t) (iblk m c 3 t) (iblk m c 4 t) (iblk m c 5 t) (ix2 r l)
    = Gm m c (((cfg0.win 6).blk t).view.emb (ix2 r l))
  rw [emb6, PostBody.out_apply]
  simp only [ib0, ib1, ib2, ib3, ib4, ib5]
  rfl

theorem mem6 (t : Fin cfg0.N) (r l : Fin 1024) : (ix2 (row t r) l : S32768x1024.Idx) ∈ ((cfg0.win 6).blk t).view.set := by
  have h := ((cfg0.win 6).blk t).view.emb_mem_set (ix2 r l)
  rw [emb6] at h
  exact h

theorem covered6 (i : S32768x1024.Idx) :
    ∃ t : Fin cfg0.N, (cfg0.win 6).flush t = true ∧ i ∈ ((cfg0.win 6).blk t).view.set := by
  have h0 : (i 0).val < 32768 := (i 0).isLt
  obtain ⟨t, r, e⟩ : ∃ (t : Fin cfg0.N) (r : Fin 1024), (ix2 (row t r) (i 1) : S32768x1024.Idx) = i := by
    refine ⟨⟨(i 0).val / 1024, by show _ < 32; omega⟩, ⟨(i 0).val % 1024, by omega⟩, ?_⟩
    funext a; apply Fin.ext
    match a with
    | ⟨0, _⟩ => show 1024 * ((i 0).val / 1024) + (i 0).val % 1024 = (i 0).val; omega
    | ⟨1, _⟩ => rfl
  exact ⟨t, flush0_6 t, e ▸ mem6 t r (i 1)⟩

theorem final6 (c : Dev nD) : (dats m 0 c).arrAt 6 cfg0.N = Gm m c :=
  (dats m 0 c).arrAt_eq_of_cover 6 (Gm m c) (fun t _ => flushed6_eq m c t) covered6

end Cert.PostValue

end
-- ==== Proof.RefPost.lean ====
/- The reference's result without the final normalisation, row by row, and the two runs set side by side. -/
module

public import proofs.«01_k».proof.Proof.PostValue
public import proofs.«01_k».proof.Proof.Gen.RefPostIdeal.Read
public import proofs.«01_k».proof.Defs
public import Idealize.ShloMosaic.Lib.Pointwise

@[expose] public section

noncomputable section

namespace Cert.RefPostRows

open Cert.RefPostIdeal Cert.RefPostIdeal.Value Cert.RefPostIdeal.Read Idealize.ShloMosaic Idealize.ShloMosaic.TcCoe Idealize.SL.Sem Cert.Rows

variable (x0 : Vec Ideal S32768x1024 .f32) (x1 : Vec Ideal S32768x1024 .bf16) (x2 : Vec Ideal S1024x1024 .f32)
    (x3 : Vec Ideal S1024 .f32) (x4 : Vec Ideal S1024x4096 .f32) (x5 : Vec Ideal S4096x1024 .f32)

theorem res_apply (r : Fin 32768) (l : Fin 1024) :
    val_main_v2 (F := Ideal) x0 x1 x2 (ix2 r l) = resid (fun k => x0 (ix2 r k)) (fun k => x1 (ix2 r k)) (fun k j => x2 (ix2 k j)) l := by
  pointwise [val_main_v2, val_main_v1, val_main_v0, resid]

theorem norm_apply (r : Fin 32768) (l : Fin 1024) :
    val_main_v15 (F := Ideal) x0 x1 x2 x3 (ix2 r l)
      = rms (fun j => val_main_v2 (F := Ideal) x0 x1 x2 (ix2 r j)) (fun j => x3 (ix1 j)) l := by
  unfold val_main_v15 val_main_v12 val_main_v11 val_main_v10 val_main_v9 val_main_v7 val_main_v5 val_main_v4 val_main_v3
  generalize val_main_v2 (F := Ideal) x0 x1 x2 = y
  pointwise [val_main_v14, val_main_v13, val_main_v6, val_main_v8, val_main_cst, val_main_cst_0, val_main_cst_1, rms, scale]

theorem mlp_apply (r : Fin 32768) (l : Fin 1024) :
    val_main_v20 (F := Ideal) x0 x1 x2 x3 x4 x5 (ix2 r l)
      = mlp (fun j => val_main_v15 (F := Ideal) x0 x1 x2 x3 (ix2 r j)) (fun k f => x4 (ix2 k f)) (fun f j => x5 (ix2 f j)) l := by
  unfold val_main_v20 val_main_v19 val_main_v18 val_main_v16
  generalize val_main_v15 (F := Ideal) x0 x1 x2 x3 = y
  pointwise [val_main_v17, val_main_cst_2, mlp, unit]

theorem layer_apply (r : Fin 32768) (l : Fin 1024) :
    val_main_v21 (F := Ideal) x0 x1 x2 x3 x4 x5 (ix2 r l)
      = layer (fun k => x0 (ix2 r k)) (fun k => x1 (ix2 r k)) (fun k j => x2 (ix2 k j)) (fun j => x3 (ix1 j))
          (fun k f => x4 (ix2 k f)) (fun f j => x5 (ix2 f j)) l := by
  have h : val_main_v21 (F := Ideal) x0 x1 x2 x3 x4 x5 (ix2 r l)
      = val_main_v2 (F := Ideal) x0 x1 x2 (ix2 r l) + val_main_v20 (F := Ideal) x0 x1 x2 x3 x4 x5 (ix2 r l) := rfl
  rw [h, mlp_apply]
  simp only [norm_apply, res_apply]
  rfl

theorem ref_eq : val_main_v21 (F := Ideal) x0 x1 x2 x3 x4 x5 = PostValue.G x0 x1 x2 x3 x4 x5 := by
  funext i
  obtain ⟨r, l, rfl⟩ : ∃ (r : Fin 32768) (l : Fin 1024), i = (ix2 r l : S32768x1024.Idx) :=
    ⟨i 0, i 1, by funext a; match a with | ⟨0, _⟩ => rfl | ⟨1, _⟩ => rfl⟩
  rw [layer_apply]
  rfl

/-- The reference runs, leaves its arguments as they were, and uses no semaphore. -/
theorem frame : Cert.quiescent_RefPostIdeal := fun m ρ _ =>
  (θ_run Cert.RefPostIdeal.defs _ _).mono (fun r h => ⟨fun c => (h c).2, sem_eq_zero_of_no_sems (by decide) r.2⟩)
    (run (F := Ideal) m ρ)

/-- Kernel and reference end with the same result array. -/
theorem algebraic : Cert.algebraic_PostIdeal_RefPostIdeal := by
  intro m g m' g' _ hm
  refine ⟨PostValue.Gm m, ?_, ?_⟩
  · refine (θ_run Cert.PostIdeal.defs _ _).mono (fun r h c => ⟨(h c).1.trans (PostValue.final6 m c), (h c).2⟩)
      (Cert.PostIdeal.Value.run_blocks m g)
  · refine (θ_run defs _ _).mono (fun r h c => ⟨(h c).1.trans ?_, (h c).2⟩) (run m' g')
    refine (val_main_v21_eq _ _ _ _ _ _).trans ?_
    obtain ⟨h0, h1, h2, h3, h4, h5⟩ := hm c
    rw [h0, h1, h2, h3, h4, h5]
    exact ref_eq _ _ _ _ _ _

end Cert.RefPostRows

end
-- ==== Proof.QkvRows.lean ====
/- The projection of a normalised row: a run of columns times the queries' factor, the others as they are. -/
module

public import proofs.«01_k».proof.Proof.Rows
public import Idealize.ShloMosaic.Lib.Pointwise

@[expose] public section

noncomputable section

namespace Cert.Rows

open Idealize.ShloMosaic

/-- The queries' factor: one over the root of the head's width, and the logarithm's base changed to two. -/
def qs : EReal := (((1 / 8) * (Real.log 2)⁻¹ : ℝ) : EReal)

/-- Column `j` of the projection of a row's normalisation: the first 1024 columns, the queries, carry the factor. -/
def proj {N : ℕ} (x g : Fin 1024 → EReal) (w : Fin 1024 → Fin N → EReal) (j : Fin N) : EReal :=
  if j.val < 1024 then (∑ k, rms x g k * w k j) * qs else ∑ k, rms x g k * w k j

/-- The same factor as the reference computes it: one eighth over the logarithm of two. -/
theorem qs_ref : Ideal.div (Ideal.ofBits FTy.f32 0x3E000000#32) (Ideal.log (Ideal.ofBits FTy.f32 0x40000000#32)) = qs := by
  have h2 : Ideal.ofBits FTy.f32 0x40000000#32 = ((2 : ℝ) : EReal) := by simp [Ideal.ofBits, Ideal.ieee, -EReal.coe_mul]; norm_num
  have h8 : Ideal.ofBits FTy.f32 0x3E000000#32 = ((1 / 8 : ℝ) : EReal) := by simp [Ideal.ofBits, Ideal.ieee, -EReal.coe_mul]; norm_num
  have hl : Real.log 2 ≠ 0 := (Real.log_pos (by norm_num)).ne'
  rw [h2, h8, Ideal.log_coe, if_neg (by norm_num), Ideal.div_coe hl, ← EReal.coe_mul, one_div (Real.log 2)]
  rfl

end Cert.Rows

end
-- ==== Proof.Qkv0Value.lean ====
/- What the projection kernel of 3072 columns computes at one grid point, and its result array. -/
module

public import proofs.«01_k».proof.Proof.Gen.Qkv0Ideal.Value
public import proofs.«01_k».proof.Proof.QkvRows
public import Idealize.ShloMosaic.Lib.StableHlo.ReadAt

@[expose] public section

noncomputable section

namespace Cert.Qkv0Value

open Cert.Qkv0Ideal Cert.Qkv0Ideal.Gen Cert.Qkv0Ideal.Value Idealize.ShloMosaic Idealize.ShloMosaic.TcCoe Idealize.SL.Sem Cert.Rows

theorem pay4_apply (v0 : Vec Ideal S1024x1024 .f32) (v1 : Vec Ideal S1x1024 .f32) (r l : Fin 1024) :
    k0_pay4 v0 v1 (ix2 r l) = rms (fun k => v0 (ix2 r k)) (fun j => v1 (ix2 0 j)) l := by
  pointwise [k0_pay4, rms, scale]

/-- The named constant is the queries' factor. -/
theorem named_eq : Named.named (F := Ideal) (φ := .f32) κ "q_scale" 0x3E38AA3B#32 = qs := rfl

theorem pay5_apply (v0 : Vec Ideal S1024x1024 .f32) (v1 : Vec Ideal S1x1024 .f32) (w : Vec Ideal S1024x512 .bf16) (r : Fin 1024) (f : Fin 512) :
    k0_pay5 v0 v1 w (ix2 r f) = (∑ k, k0_pay4 v0 v1 (ix2 r k) * w (ix2 k f)) * qs := by
  rw [← named_eq]
  unfold k0_pay5
  generalize k0_pay4 v0 v1 = n
  pointwise

theorem pay6_apply (v0 : Vec Ideal S1024x1024 .f32) (v1 : Vec Ideal S1x1024 .f32) (w : Vec Ideal S1024x512 .bf16) (r : Fin 1024) (f : Fin 512) :
    k0_pay6 v0 v1 w (ix2 r f) = (∑ k, k0_pay4 v0 v1 (ix2 r k) * w (ix2 k f)) * qs := by
  rw [← named_eq]
  unfold k0_pay6
  generalize k0_pay4 v0 v1 = n
  pointwise

theorem pay7_apply (v0 : Vec Ideal S1024x1024 .f32) (v1 : Vec Ideal S1x1024 .f32) (w : Vec Ideal S1024x512 .bf16) (r : Fin 1024) (f : Fin 512) :
    k0_pay7 v0 v1 w (ix2 r f) = ∑ k, k0_pay4 v0 v1 (ix2 r k) * w (ix2 k f) := by
  unfold k0_pay7
  generalize k0_pay4 v0 v1 = n
  pointwise

theorem pay1_apply (n : FVec Ideal S1024x1024 .bf16) (w : Vec Ideal S1024x512 .bf16) (r : Fin 1024) (f : Fin 512) :
    k0_pay1 n w (ix2 r f) = ∑ k, n (ix2 r k) * w (ix2 k f) := by
  pointwise [k0_pay1]

theorem pay2_apply (n : FVec Ideal S1024x1024 .bf16) (w : Vec Ideal S1024x512 .bf16) (r : Fin 1024) (f : Fin 512) :
    k0_pay2 n w (ix2 r f) = ∑ k, n (ix2 r k) * w (ix2 k f) := by
  pointwise [k0_pay2]

theorem pay3_apply (n : FVec Ideal S1024x1024 .bf16) (w : Vec Ideal S1024x512 .bf16) (r : Fin 1024) (f : Fin 512) :
    k0_pay3 n w (ix2 r f) = ∑ k, n (ix2 r k) * w (ix2 k f) := by
  pointwise [k0_pay3]

/-- The result's block: every row of the block projected. -/
def block (x0 : Vec Ideal S1024x1024 .f32) (x1 : Vec Ideal S1x1024 .f32) (x2 : Vec Ideal S1024x3072 .bf16) : Vec Ideal S1024x3072 .bf16 :=
  fun y => proj (fun k => x0 (ix2 (y 0) k)) (fun k => x1 (ix2 0 k)) (fun k j => x2 (ix2 k j)) (y 1)

/-- A run of 512 columns from column `o` on. -/
abbrev cols (o : ℕ) (h : ∀ a, (![0, o] : Fin 2 → Nat) a + S1024x512.size a ≤ S1024x3072.size a) : Rect S1024x3072 := Rect.unit (s := S1024x3072) ![0, o] S1024x512.size h

theorem cols_emb (o : ℕ) (h) (ho : o + 512 ≤ 3072) (r : Fin 1024) (f : Fin 512) :
    (cols o h).emb (ix2 r f : S1024x512.Idx) = (ix2 r ⟨o + f.val, by omega⟩ : S1024x3072.Idx) := by
  funext a
  apply Fin.ext
  match a with
  | ⟨0, _⟩ => show 0 + 1 * r.val = r.val; omega
  | ⟨1, _⟩ => show o + 1 * f.val = o + f.val; omega

theorem ld_cols (X : Vec Ideal S1024x3072 .bf16) (o : ℕ) (h) (ho : o + 512 ≤ 3072) (k : Fin 1024) (f : Fin 512) :
    View.ld X (cols o h) (ix2 k f : S1024x512.Idx) = X (ix2 k ⟨o + f.val, by omega⟩) := congrArg X (cols_emb o h ho k f)

/-- A piece whose entries are the projection's leaves the block's entries at its columns. -/
theorem piece (x0 : Vec Ideal S1024x1024 .f32) (x1 : Vec Ideal S1x1024 .f32) (x2 : Vec Ideal S1024x3072 .bf16)
    (o : ℕ) (h) (ho : o + 512 ≤ 3072) (P : Vec Ideal S1024x512 .bf16)
    (hP : ∀ r f, P (ix2 r f) = proj (fun k => x0 (ix2 r k)) (fun k => x1 (ix2 0 k)) (fun k j => x2 (ix2 k j)) ⟨o + f.val, by omega⟩)
    (x : S1024x512.Idx) : P x = block x0 x1 x2 ((cols o h).emb x) := by
  obtain ⟨r, f, rfl⟩ : ∃ (r : Fin 1024) (f : Fin 512), x = (ix2 r f : S1024x512.Idx) :=
    ⟨x 0, x 1, by funext a; match a with | ⟨0, _⟩ => rfl | ⟨1, _⟩ => rfl⟩
  rw [cols_emb o h ho, hP]
  rfl

/-- The body's result is the block. -/
theorem out_eq (x0 : Vec Ideal S1024x1024 .f32) (x1 : Vec Ideal S1x1024 .f32) (x2 : Vec Ideal S1024x3072 .bf16) :
    out0_3 x0 x1 x2 = block x0 x1 x2 := by
  have e0 : View.ld x0 r0_0 = x0 := View.ld_unit_zero (by funext a; fin_cases a <;> rfl) _ x0
  have e1 : View.ld x1 r0_1 = x1 := View.ld_unit_zero (by funext a; fin_cases a <;> rfl) _ x1
  funext y
  unfold out0_3 k0_pay8
  rw [e0, e1]
  refine View.canon_apply_of_pieces (block x0 x1 x2) _ ?_ y (cover0_3 _ _ _ _ _ _ y)
  refine List.forall_mem_cons.mpr ⟨piece x0 x1 x2 2560 (by decide) (by norm_num) _ (fun r f => ?_), ?_⟩
  · have hf := f.isLt
    refine (pay3_apply _ _ r f).trans ?_
    simp only [pay4_apply]
    unfold proj
    rw [if_neg (by show ¬ (2560 + f.val < 1024); omega)]
    exact Finset.sum_congr rfl fun k _ => congrArg _ (ld_cols x2 2560 (by decide) (by norm_num) k f)
  refine List.forall_mem_cons.mpr ⟨piece x0 x1 x2 2048 (by decide) (by norm_num) _ (fun r f => ?_), ?_⟩
  · have hf := f.isLt
    refine (pay2_apply _ _ r f).trans ?_
    simp only [pay4_apply]
    unfold proj
    rw [if_neg (by show ¬ (2048 + f.val < 1024); omega)]
    exact Finset.sum_congr rfl fun k _ => congrArg _ (ld_cols x2 2048 (by decide) (by norm_num) k f)
  refine List.forall_mem_cons.mpr ⟨piece x0 x1 x2 1536 (by decide) (by norm_num) _ (fun r f => ?_), ?_⟩
  · have hf := f.isLt
    refine (pay1_apply _ _ r f).trans ?_
    simp only [pay4_apply]
    unfold proj
    rw [if_neg (by show ¬ (1536 + f.val < 1024); omega)]
    exact Finset.sum_congr rfl fun k _ => congrArg _ (ld_cols x2 1536 (by decide) (by norm_num) k f)
  refine List.forall_mem_cons.mpr ⟨piece x0 x1 x2 1024 (by decide) (by norm_num) _ (fun r f => ?_), ?_⟩
  · have hf := f.isLt
    refine (pay7_apply _ _ _ r f).trans ?_
    simp only [pay4_apply]
    unfold proj
    rw [if_neg (by show ¬ (1024 + f.val < 1024); omega)]
    exact Finset.sum_congr rfl fun k _ => congrArg _ (ld_cols x2 1024 (by decide) (by norm_num) k f)
  refine List.forall_mem_cons.mpr ⟨piece x0 x1 x2 512 (by decide) (by norm_num) _ (fun r f => ?_), ?_⟩
  · have hf := f.isLt
    refine (pay6_apply _ _ _ r f).trans ?_
    simp only [pay4_apply]
    unfold proj
    rw [if_pos (by show (512 + f.val < 1024); omega)]
    exact congrArg (· * qs) (Finset.sum_congr rfl fun k _ => congrArg _ (ld_cols x2 512 (by decide) (by norm_num) k f))
  refine List.forall_mem_cons.mpr ⟨piece x0 x1 x2 0 (by decide) (by norm_num) _ (fun r f => ?_), ?_⟩
  · have hf := f.isLt
    refine (pay5_apply _ _ _ r f).trans ?_
    simp only [pay4_apply]
    unfold proj
    rw [if_pos (by show (0 + f.val < 1024); omega)]
    exact congrArg (· * qs) (Finset.sum_congr rfl fun k _ => congrArg _ (ld_cols x2 0 (by decide) (by norm_num) k f))
  exact fun _ h => absurd h List.not_mem_nil

variable (m : (ℓ : Loc nD τ sig) → Buf (Elt Ideal) ℓ) (ρ : Dev nD → PrngReg)

theorem V_v0 (c : Dev nD) (j : S1024x3072.Idx) : V m c main_v0 j = m ((c : Thread nD τ).loc main_arg2) j := by
  unfold V; after_reads_at
theorem V_v1 (c : Dev nD) (l : Fin 1024) : V m c main_v1 (ix2 0 l) = m ((c : Thread nD τ).loc main_arg1) (ix1 l) := by
  unfold V; after_reads_at

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

/-- Row `r` of block `t` is this row of the array. -/
def row (t : Fin cfg0.N) (r : Fin 1024) : Fin 32768 := ⟨1024 * t.val + r.val, by have h : t.val < 32 := t.isLt; omega⟩

theorem ib0 (c : Dev nD) (t : Fin cfg0.N) (r k : Fin 1024) :
    iblk m c 0 t (ix2 r k) = m ((c : Thread nD τ).loc main_arg0) (ix2 (row t r) k) := by
  show V m c main_arg0 (((cfg0.win 0).blk t).view.emb (ix2 r k)) = _
  rw [V_main_arg0]; congr 1; funext a; apply Fin.ext
  obtain ⟨h0, h1⟩ := idx0 t
  match a with
  | ⟨0, _⟩ => show win0_0.index t (0 : Fin 2) * 1024 + 1 * r.val = 1024 * t.val + r.val; omega
  | ⟨1, _⟩ => show win0_0.index t (1 : Fin 2) * 1024 + 1 * k.val = k.val; omega

theorem ib1 (c : Dev nD) (t : Fin cfg0.N) (j : Fin 1024) :
    iblk m c 1 t (ix2 0 j) = m ((c : Thread nD τ).loc main_arg1) (ix1 j) := by
  refine Eq.trans ?_ (V_v1 m c j)
  show V m c main_v1 (((cfg0.win 1).blk t).view.emb (ix2 0 j)) = _
  congr 1; funext a; apply Fin.ext
  obtain ⟨h0, h1⟩ := idx1 t
  match a with
  | ⟨0, _⟩ => show win0_1.index t (0 : Fin 2) * 1 + 1 * 0 = 0; omega
  | ⟨1, _⟩ => show win0_1.index t (1 : Fin 2) * 1024 + 1 * j.val = j.val; omega

theorem ib2 (c : Dev nD) (t : Fin cfg0.N) (k : Fin 1024) (j : Fin 3072) :
    iblk m c 2 t (ix2 k j) = m ((c : Thread nD τ).loc main_arg2) (ix2 k j) := by
  show V m c main_v0 (((cfg0.win 2).blk t).view.emb (ix2 k j)) = _
  rw [V_v0]; congr 1; funext a; apply Fin.ext
  obtain ⟨h0, h1⟩ := idx2 t
  match a with
  | ⟨0, _⟩ => show win0_2.index t (0 : Fin 2) * 1024 + 1 * k.val = k.val; omega
  | ⟨1, _⟩ => show win0_2.index t (1 : Fin 2) * 3072 + 1 * j.val = j.val; omega

/-- The result array: every row's projection. -/
def G (a0 : Vec Ideal S32768x1024 .f32) (a1 : Vec Ideal S1024 .f32) (a2 : Vec Ideal S1024x3072 .f32) : Vec Ideal S32768x3072 .bf16 :=
  fun i => proj (fun k => a0 (ix2 (i 0) k)) (fun k => a1 (ix1 k)) (fun k j => a2 (ix2 k j)) (i 1)

/-- The result array of the arguments as launched. -/
abbrev Gm (c : Dev nD) : Vec Ideal S32768x3072 .bf16 :=
  G (m ((c : Thread nD τ).loc main_arg0)) (m ((c : Thread nD τ).loc main_arg1)) (m ((c : Thread nD τ).loc main_arg2))

theorem emb3 (t : Fin cfg0.N) (r : Fin 1024) (l : Fin 3072) :
    ((cfg0.win 3).blk t).view.emb (ix2 r l) = (ix2 (row t r) l : S32768x3072.Idx) := by
  funext a; apply Fin.ext
  obtain ⟨h0, h1⟩ := idx3 t
  match a with
  | ⟨0, _⟩ => show win0_3.index t (0 : Fin 2) * 1024 + 1 * r.val = 1024 * t.val + r.val; omega
  | ⟨1, _⟩ => show win0_3.index t (1 : Fin 2) * 3072 + 1 * l.val = l.val; omega

theorem flushed3_eq (c : Dev nD) (t : Fin cfg0.N) :
    (dats m 0 c).flushed 3 t = ((cfg0.win 3).blk t).view.read (Elt Ideal) (Gm m c) := by
  rw [flushed3]
  funext y
  obtain ⟨r, l, rfl⟩ : ∃ (r : Fin 1024) (l : Fin 3072), y = (ix2 r l : S1024x3072.Idx) :=
    ⟨y 0, y 1, by funext a; match a with | ⟨0, _⟩ => rfl | ⟨1, _⟩ => rfl⟩
  show out0_3 (iblk m c 0 t) (iblk m c 1 t) (iblk m c 2 t) (ix2 r l) = Gm m c (((cfg0.win 3).blk t).view.emb (ix2 r l))
  rw [emb3, out_eq]
  show proj (fun k => iblk m c 0 t (ix2 r k)) (fun k => iblk m c 1 t (ix2 0 k)) (fun k j => iblk m c 2 t (ix2 k j)) l = _
  simp only [ib0, ib1, ib2]
  rfl

theorem mem3 (t : Fin cfg0.N) (r : Fin 1024) (l : Fin 3072) : (ix2 (row t r) l : S32768x3072.Idx) ∈ ((cfg0.win 3).blk t).view.set := by
  have h := ((cfg0.win 3).blk t).view.emb_mem_set (ix2 r l)
  rw [emb3] at h
  exact h

theorem covered3 (i : S32768x3072.Idx) :
    ∃ t : Fin cfg0.N, (cfg0.win 3).flush t = true ∧ i ∈ ((cfg0.win 3).blk t).view.set := by
  have h0 : (i 0).val < 32768 := (i 0).isLt
  obtain ⟨t, r, e⟩ : ∃ (t : Fin cfg0.N) (r : Fin 1024), (ix2 (row t r) (i 1) : S32768x3072.Idx) = i := by
    refine ⟨⟨(i 0).val / 1024, by show _ < 32; omega⟩, ⟨(i 0).val % 1024, by omega⟩, ?_⟩
    funext a; apply Fin.ext
    match a with
    | ⟨0, _⟩ => show 1024 * ((i 0).val / 1024) + (i 0).val % 1024 = (i 0).val; omega
    | ⟨1, _⟩ => rfl
  exact ⟨t, flush0_3 t, e ▸ mem3 t r (i 1)⟩

theorem final3 (c : Dev nD) : (dats m 0 c).arrAt 3 cfg0.N = Gm m c :=
  (dats m 0 c).arrAt_eq_of_cover 3 (Gm m c) (fun t _ => flushed3_eq m c t) covered3

end Cert.Qkv0Value

end
-- ==== Proof.RefQkv0.lean ====
/- The projection's reference of 3072 columns at an index, and the two runs set side by side. -/
module

public import proofs.«01_k».proof.Proof.Qkv0Value
public import proofs.«01_k».proof.Proof.Gen.RefQkv0Ideal.Read
public import proofs.«01_k».proof.Defs
public import Idealize.ShloMosaic.Lib.Pointwise

@[expose] public section

noncomputable section

namespace Cert.RefQkv0Rows

open Cert.RefQkv0Ideal Cert.RefQkv0Ideal.Value Cert.RefQkv0Ideal.Read Idealize.ShloMosaic Idealize.ShloMosaic.TcCoe Idealize.SL.Sem Cert.Rows

variable (x0 : Vec Ideal S32768x1024 .f32) (x1 : Vec Ideal S1024 .f32) (x2 : Vec Ideal S1024x3072 .f32)

theorem norm_apply (r : Fin 32768) (l : Fin 1024) :
    val_main_v12 (F := Ideal) x0 x1 (ix2 r l) = rms (fun j => x0 (ix2 r j)) (fun j => x1 (ix1 j)) l := by
  unfold val_main_v12 val_main_v9 val_main_v8 val_main_v7 val_main_v6 val_main_v4 val_main_v2 val_main_v1 val_main_v0
  pointwise [val_main_v11, val_main_v10, val_main_v3, val_main_v5, val_main_cst, val_main_cst_0, val_main_cst_1, rms, scale]

theorem dot_apply (r : Fin 32768) (j : Fin 3072) :
    val_main_v13 (F := Ideal) x0 x1 x2 (ix2 r j) = ∑ k, rms (fun j => x0 (ix2 r j)) (fun j => x1 (ix1 j)) k * x2 (ix2 k j) := by
  simp only [← norm_apply]
  unfold val_main_v13
  generalize val_main_v12 (F := Ideal) x0 x1 = y
  pointwise

theorem factor (i : S32768x1024.Idx) : val_main_v17 (F := Ideal) i = qs := qs_ref

theorem ref_eq : val_main_v21 (F := Ideal) x0 x1 x2 = Qkv0Value.G x0 x1 x2 := by
  funext i
  obtain ⟨r, j, rfl⟩ : ∃ (r : Fin 32768) (j : Fin 3072), i = (ix2 r j : S32768x3072.Idx) :=
    ⟨i 0, i 1, by funext a; match a with | ⟨0, _⟩ => rfl | ⟨1, _⟩ => rfl⟩
  show val_main_v20 (F := Ideal) x0 x1 x2 (ix2 r j) = proj (fun j => x0 (ix2 r j)) (fun j => x1 (ix1 j)) (fun k j => x2 (ix2 k j)) j
  unfold val_main_v20 proj
  refine (concatenate_apply _ _ _ _ _).trans ((concatenateAt_cons _ _ _ _ _ _ _ _).trans ?_)
  by_cases h : j.val < 1024
  · rw [if_pos h, ← dot_apply]
    refine (dif_pos h).trans ?_
    refine congrArg₂ (fun a b : EReal => a * b) (congrArg (val_main_v13 (F := Ideal) x0 x1 x2) (funext fun x => Fin.ext ?_)) (factor _)
    match x with
    | ⟨0, _⟩ => show 0 + r.val = r.val; omega
    | ⟨1, _⟩ => show 0 + j.val = j.val; omega
  · rw [if_neg h, ← dot_apply]
    refine (dif_neg h).trans ((concatenateAt_singleton _ _ _ _ _ _).trans ?_)
    refine congrArg (val_main_v13 (F := Ideal) x0 x1 x2) (funext fun x => Fin.ext ?_)
    match x with
    | ⟨0, _⟩ => show 0 + r.val = r.val; omega
    | ⟨1, _⟩ => show 1024 + (j.val - 1024) = j.val; omega

/-- The reference runs, leaves its arguments as they were, and uses no semaphore. -/
theorem frame : Cert.quiescent_RefQkv0Ideal := fun m ρ _ =>
  (θ_run Cert.RefQkv0Ideal.defs _ _).mono (fun r h => ⟨fun c => (h c).2, sem_eq_zero_of_no_sems (by decide) r.2⟩)
    (run (F := Ideal) m ρ)

/-- The constant named is the value printed. -/
theorem preserves : Cert.preserves_Qkv0_Qkv0Ideal :=
  IdealRules.named_const.statement Cert.Qkv0Ideal.κ "q_scale" .f32 0x3E38AA3B#32 (((1 / 8) * (Real.log 2)⁻¹ : ℝ) : EReal) rfl

/-- Kernel and reference end with the same result array. -/
theorem algebraic : Cert.algebraic_Qkv0Ideal_RefQkv0Ideal := by
  intro m g m' g' _ hm
  refine ⟨Qkv0Value.Gm m, ?_, ?_⟩
  · refine (θ_run Cert.Qkv0Ideal.defs _ _).mono (fun r h c => ⟨(h c).1.trans (Qkv0Value.final3 m c), (h c).2⟩)
      (Cert.Qkv0Ideal.Value.run_blocks m g)
  · refine (θ_run defs _ _).mono (fun r h c => ⟨(h c).1.trans ?_, (h c).2⟩) (run m' g')
    refine (val_main_v21_eq _ _ _).trans ?_
    obtain ⟨h0, h1, h2⟩ := hm c
    rw [h0, h1, h2]
    exact ref_eq _ _ _

end Cert.RefQkv0Rows

end
-- ==== Proof.Qkv3Value.lean ====
/- What the projection kernel of 1280 columns computes at one grid point, and its result array. -/
module

public import proofs.«01_k».proof.Proof.Gen.Qkv3Ideal.Value
public import proofs.«01_k».proof.Proof.QkvRows
public import Idealize.ShloMosaic.Lib.StableHlo.ReadAt

@[expose] public section

noncomputable section

namespace Cert.Qkv3Value

open Cert.Qkv3Ideal Cert.Qkv3Ideal.Gen Cert.Qkv3Ideal.Value Idealize.ShloMosaic Idealize.ShloMosaic.TcCoe Idealize.SL.Sem Cert.Rows

theorem pay4_apply (v0 : Vec Ideal S1024x1024 .f32) (v1 : Vec Ideal S1x1024 .f32) (r l : Fin 1024) :
    k0_pay4 v0 v1 (ix2 r l) = rms (fun k => v0 (ix2 r k)) (fun j => v1 (ix2 0 j)) l := by
  pointwise [k0_pay4, rms, scale]

/-- The named constant is the queries' factor. -/
theorem named_eq : Named.named (F := Ideal) (φ := .f32) κ "q_scale" 0x3E38AA3B#32 = qs := rfl

theorem pay5_apply (v0 : Vec Ideal S1024x1024 .f32) (v1 : Vec Ideal S1x1024 .f32) (w : Vec Ideal S1024x256 .bf16) (r : Fin 1024) (f : Fin 256) :
    k0_pay5 v0 v1 w (ix2 r f) = (∑ k, k0_pay4 v0 v1 (ix2 r k) * w (ix2 k f)) * qs := by
  rw [← named_eq]
  unfold k0_pay5
  generalize k0_pay4 v0 v1 = n
  pointwise

theorem pay6_apply (v0 : Vec Ideal S1024x1024 .f32) (v1 : Vec Ideal S1x1024 .f32) (w : Vec Ideal S1024x256 .bf16) (r : Fin 1024) (f : Fin 256) :
    k0_pay6 v0 v1 w (ix2 r f) = (∑ k, k0_pay4 v0 v1 (ix2 r k) * w (ix2 k f)) * qs := by
  rw [← named_eq]
  unfold k0_pay6
  generalize k0_pay4 v0 v1 = n
  pointwise

theorem pay7_apply (v0 : Vec Ideal S1024x1024 .f32) (v1 : Vec Ideal S1x1024 .f32) (w : Vec Ideal S1024x256 .bf16) (r : Fin 1024) (f : Fin 256) :
    k0_pay7 v0 v1 w (ix2 r f) = ∑ k, k0_pay4 v0 v1 (ix2 r k) * w (ix2 k f) := by
  unfold k0_pay7
  generalize k0_pay4 v0 v1 = n
  pointwise

theorem pay1_apply (y : FVec Ideal S1024x256 .f32) (r : Fin 1024) (f : Fin 256) :
    k0_pay1 y k0_pay8 (ix2 r f) = y (ix2 r f) * qs := by
  rw [← named_eq]
  pointwise [k0_pay1, k0_pay8]

theorem pay2_apply (n : FVec Ideal S1024x1024 .bf16) (w : Vec Ideal S1024x256 .bf16) (r : Fin 1024) (f : Fin 256) :
    k0_pay2 n w (ix2 r f) = (∑ k, n (ix2 r k) * w (ix2 k f)) * qs := by
  rw [← named_eq]
  pointwise [k0_pay2]

theorem pay3_apply (n : FVec Ideal S1024x1024 .bf16) (w : Vec Ideal S1024x256 .bf16) (r : Fin 1024) (f : Fin 256) :
    k0_pay3 n w (ix2 r f) = ∑ k, n (ix2 r k) * w (ix2 k f) := by
  pointwise [k0_pay3]

/-- The result's block: every row of the block projected. -/
def block (x0 : Vec Ideal S1024x1024 .f32) (x1 : Vec Ideal S1x1024 .f32) (x2 : Vec Ideal S1024x1280 .bf16) : Vec Ideal S1024x1280 .bf16 :=
  fun y => proj (fun k => x0 (ix2 (y 0) k)) (fun k => x1 (ix2 0 k)) (fun k j => x2 (ix2 k j)) (y 1)

/-- A run of 256 columns from column `o` on. -/
abbrev cols (o : ℕ) (h : ∀ a, (![0, o] : Fin 2 → Nat) a + S1024x256.size a ≤ S1024x1280.size a) : Rect S1024x1280 := Rect.unit (s := S1024x1280) ![0, o] S1024x256.size h

theorem cols_emb (o : ℕ) (h) (ho : o + 256 ≤ 1280) (r : Fin 1024) (f : Fin 256) :
    (cols o h).emb (ix2 r f : S1024x256.Idx) = (ix2 r ⟨o + f.val, by omega⟩ : S1024x1280.Idx) := by
  funext a
  apply Fin.ext
  match a with
  | ⟨0, _⟩ => show 0 + 1 * r.val = r.val; omega
  | ⟨1, _⟩ => show o + 1 * f.val = o + f.val; omega

theorem ld_cols (X : Vec Ideal S1024x1280 .bf16) (o : ℕ) (h) (ho : o + 256 ≤ 1280) (k : Fin 1024) (f : Fin 256) :
    View.ld X (cols o h) (ix2 k f : S1024x256.Idx) = X (ix2 k ⟨o + f.val, by omega⟩) := congrArg X (cols_emb o h ho k f)

/-- A piece whose entries are the projection's leaves the block's entries at its columns. -/
theorem piece (x0 : Vec Ideal S1024x1024 .f32) (x1 : Vec Ideal S1x1024 .f32) (x2 : Vec Ideal S1024x1280 .bf16)
    (o : ℕ) (h) (ho : o + 256 ≤ 1280) (P : Vec Ideal S1024x256 .bf16)
    (hP : ∀ r f, P (ix2 r f) = proj (fun k => x0 (ix2 r k)) (fun k => x1 (ix2 0 k)) (fun k j => x2 (ix2 k j)) ⟨o + f.val, by omega⟩)
    (x : S1024x256.Idx) : P x = block x0 x1 x2 ((cols o h).emb x) := by
  obtain ⟨r, f, rfl⟩ : ∃ (r : Fin 1024) (f : Fin 256), x = (ix2 r f : S1024x256.Idx) :=
    ⟨x 0, x 1, by funext a; match a with | ⟨0, _⟩ => rfl | ⟨1, _⟩ => rfl⟩
  rw [cols_emb o h ho, hP]
  rfl

/-- The body's result is the block. -/
theorem out_eq (x0 : Vec Ideal S1024x1024 .f32) (x1 : Vec Ideal S1x1024 .f32) (x2 : Vec Ideal S1024x1280 .bf16) :
    out0_3 x0 x1 x2 = block x0 x1 x2 := by
  have e0 : View.ld x0 r0_0 = x0 := View.ld_unit_zero (by funext a; fin_cases a <;> rfl) _ x0
  have e1 : View.ld x1 r0_1 = x1 := View.ld_unit_zero (by funext a; fin_cases a <;> rfl) _ x1
  funext y
  unfold out0_3 k0_pay9
  rw [e0, e1]
  refine View.canon_apply_of_pieces (block x0 x1 x2) _ ?_ y (cover0_3 _ _ _ _ _ y)
  refine List.forall_mem_cons.mpr ⟨piece x0 x1 x2 1024 (by decide) (by norm_num) _ (fun r f => ?_), ?_⟩
  · have hf := f.isLt
    refine (pay3_apply _ _ r f).trans ?_
    simp only [pay4_apply]
    unfold proj
    rw [if_neg (by show ¬ (1024 + f.val < 1024); omega)]
    exact Finset.sum_congr rfl fun k _ => congrArg _ (ld_cols x2 1024 (by decide) (by norm_num) k f)
  refine List.forall_mem_cons.mpr ⟨piece x0 x1 x2 768 (by decide) (by norm_num) _ (fun r f => ?_), ?_⟩
  · have hf := f.isLt
    refine (pay2_apply _ _ r f).trans ?_
    simp only [pay4_apply]
    unfold proj
    rw [if_pos (by show (768 + f.val < 1024); omega)]
    exact congrArg (· * qs) (Finset.sum_congr rfl fun k _ => congrArg _ (ld_cols x2 768 (by decide) (by norm_num) k f))
  refine List.forall_mem_cons.mpr ⟨piece x0 x1 x2 512 (by decide) (by norm_num) _ (fun r f => ?_), ?_⟩
  · have hf := f.isLt
    refine (pay1_apply _ r f).trans ?_
    simp only [pay7_apply, pay4_apply]
    unfold proj
    rw [if_pos (by show (512 + f.val < 1024); omega)]
    exact congrArg (· * qs) (Finset.sum_congr rfl fun k _ => congrArg _ (ld_cols x2 512 (by decide) (by norm_num) k f))
  refine List.forall_mem_cons.mpr ⟨piece x0 x1 x2 256 (by decide) (by norm_num) _ (fun r f => ?_), ?_⟩
  · have hf := f.isLt
    refine (pay6_apply _ _ _ r f).trans ?_
    simp only [pay4_apply]
    unfold proj
    rw [if_pos (by show (256 + f.val < 1024); omega)]
    exact congrArg (· * qs) (Finset.sum_congr rfl fun k _ => congrArg _ (ld_cols x2 256 (by decide) (by norm_num) k f))
  refine List.forall_mem_cons.mpr ⟨piece x0 x1 x2 0 (by decide) (by norm_num) _ (fun r f => ?_), ?_⟩
  · have hf := f.isLt
    refine (pay5_apply _ _ _ r f).trans ?_
    simp only [pay4_apply]
    unfold proj
    rw [if_pos (by show (0 + f.val < 1024); omega)]
    exact congrArg (· * qs) (Finset.sum_congr rfl fun k _ => congrArg _ (ld_cols x2 0 (by decide) (by norm_num) k f))
  exact fun _ h => absurd h List.not_mem_nil

variable (m : (ℓ : Loc nD τ sig) → Buf (Elt Ideal) ℓ) (ρ : Dev nD → PrngReg)

theorem V_v0 (c : Dev nD) (j : S1024x1280.Idx) : V m c main_v0 j = m ((c : Thread nD τ).loc main_arg2) j := by
  unfold V; after_reads_at
theorem V_v1 (c : Dev nD) (l : Fin 1024) : V m c main_v1 (ix2 0 l) = m ((c : Thread nD τ).loc main_arg1) (ix1 l) := by
  unfold V; after_reads_at

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

/-- Row `r` of block `t` is this row of the array. -/
def row (t : Fin cfg0.N) (r : Fin 1024) : Fin 32768 := ⟨1024 * t.val + r.val, by have h : t.val < 32 := t.isLt; omega⟩

theorem ib0 (c : Dev nD) (t : Fin cfg0.N) (r k : Fin 1024) :
    iblk m c 0 t (ix2 r k) = m ((c : Thread nD τ).loc main_arg0) (ix2 (row t r) k) := by
  show V m c main_arg0 (((cfg0.win 0).blk t).view.emb (ix2 r k)) = _
  rw [V_main_arg0]; congr 1; funext a; apply Fin.ext
  obtain ⟨h0, h1⟩ := idx0 t
  match a with
  | ⟨0, _⟩ => show win0_0.index t (0 : Fin 2) * 1024 + 1 * r.val = 1024 * t.val + r.val; omega
  | ⟨1, _⟩ => show win0_0.index t (1 : Fin 2) * 1024 + 1 * k.val = k.val; omega

theorem ib1 (c : Dev nD) (t : Fin cfg0.N) (j : Fin 1024) :
    iblk m c 1 t (ix2 0 j) = m ((c : Thread nD τ).loc main_arg1) (ix1 j) := by
  refine Eq.trans ?_ (V_v1 m c j)
  show V m c main_v1 (((cfg0.win 1).blk t).view.emb (ix2 0 j)) = _
  congr 1; funext a; apply Fin.ext
  obtain ⟨h0, h1⟩ := idx1 t
  match a with
  | ⟨0, _⟩ => show win0_1.index t (0 : Fin 2) * 1 + 1 * 0 = 0; omega
  | ⟨1, _⟩ => show win0_1.index t (1 : Fin 2) * 1024 + 1 * j.val = j.val; omega

theorem ib2 (c : Dev nD) (t : Fin cfg0.N) (k : Fin 1024) (j : Fin 1280) :
    iblk m c 2 t (ix2 k j) = m ((c : Thread nD τ).loc main_arg2) (ix2 k j) := by
  show V m c main_v0 (((cfg0.win 2).blk t).view.emb (ix2 k j)) = _
  rw [V_v0]; congr 1; funext a; apply Fin.ext
  obtain ⟨h0, h1⟩ := idx2 t
  match a with
  | ⟨0, _⟩ => show win0_2.index t (0 : Fin 2) * 1024 + 1 * k.val = k.val; omega
  | ⟨1, _⟩ => show win0_2.index t (1 : Fin 2) * 1280 + 1 * j.val = j.val; omega

/-- The result array: every row's projection. -/
def G (a0 : Vec Ideal S32768x1024 .f32) (a1 : Vec Ideal S1024 .f32) (a2 : Vec Ideal S1024x1280 .f32) : Vec Ideal S32768x1280 .bf16 :=
  fun i => proj (fun k => a0 (ix2 (i 0) k)) (fun k => a1 (ix1 k)) (fun k j => a2 (ix2 k j)) (i 1)

/-- The result array of the arguments as launched. -/
abbrev Gm (c : Dev nD) : Vec Ideal S32768x1280 .bf16 :=
  G (m ((c : Thread nD τ).loc main_arg0)) (m ((c : Thread nD τ).loc main_arg1)) (m ((c : Thread nD τ).loc main_arg2))

theorem emb3 (t : Fin cfg0.N) (r : Fin 1024) (l : Fin 1280) :
    ((cfg0.win 3).blk t).view.emb (ix2 r l) = (ix2 (row t r) l : S32768x1280.Idx) := by
  funext a; apply Fin.ext
  obtain ⟨h0, h1⟩ := idx3 t
  match a with
  | ⟨0, _⟩ => show win0_3.index t (0 : Fin 2) * 1024 + 1 * r.val = 1024 * t.val + r.val; omega
  | ⟨1, _⟩ => show win0_3.index t (1 : Fin 2) * 1280 + 1 * l.val = l.val; omega

theorem flushed3_eq (c : Dev nD) (t : Fin cfg0.N) :
    (dats m 0 c).flushed 3 t = ((cfg0.win 3).blk t).view.read (Elt Ideal) (Gm m c) := by
  rw [flushed3]
  funext y
  obtain ⟨r, l, rfl⟩ : ∃ (r : Fin 1024) (l : Fin 1280), y = (ix2 r l : S1024x1280.Idx) :=
    ⟨y 0, y 1, by funext a; match a with | ⟨0, _⟩ => rfl | ⟨1, _⟩ => rfl⟩
  show out0_3 (iblk m c 0 t) (iblk m c 1 t) (iblk m c 2 t) (ix2 r l) = Gm m c (((cfg0.win 3).blk t).view.emb (ix2 r l))
  rw [emb3, out_eq]
  show proj (fun k => iblk m c 0 t (ix2 r k)) (fun k => iblk m c 1 t (ix2 0 k)) (fun k j => iblk m c 2 t (ix2 k j)) l = _
  simp only [ib0, ib1, ib2]
  rfl

theorem mem3 (t : Fin cfg0.N) (r : Fin 1024) (l : Fin 1280) : (ix2 (row t r) l : S32768x1280.Idx) ∈ ((cfg0.win 3).blk t).view.set := by
  have h := ((cfg0.win 3).blk t).view.emb_mem_set (ix2 r l)
  rw [emb3] at h
  exact h

theorem covered3 (i : S32768x1280.Idx) :
    ∃ t : Fin cfg0.N, (cfg0.win 3).flush t = true ∧ i ∈ ((cfg0.win 3).blk t).view.set := by
  have h0 : (i 0).val < 32768 := (i 0).isLt
  obtain ⟨t, r, e⟩ : ∃ (t : Fin cfg0.N) (r : Fin 1024), (ix2 (row t r) (i 1) : S32768x1280.Idx) = i := by
    refine ⟨⟨(i 0).val / 1024, by show _ < 32; omega⟩, ⟨(i 0).val % 1024, by omega⟩, ?_⟩
    funext a; apply Fin.ext
    match a with
    | ⟨0, _⟩ => show 1024 * ((i 0).val / 1024) + (i 0).val % 1024 = (i 0).val; omega
    | ⟨1, _⟩ => rfl
  exact ⟨t, flush0_3 t, e ▸ mem3 t r (i 1)⟩

theorem final3 (c : Dev nD) : (dats m 0 c).arrAt 3 cfg0.N = Gm m c :=
  (dats m 0 c).arrAt_eq_of_cover 3 (Gm m c) (fun t _ => flushed3_eq m c t) covered3

end Cert.Qkv3Value

end
-- ==== Proof.RefQkv3.lean ====
/- The projection's reference of 1280 columns at an index, and the two runs set side by side. -/
module

public import proofs.«01_k».proof.Proof.Qkv3Value
public import proofs.«01_k».proof.Proof.Gen.RefQkv3Ideal.Read
public import proofs.«01_k».proof.Defs
public import Idealize.ShloMosaic.Lib.Pointwise

@[expose] public section

noncomputable section

namespace Cert.RefQkv3Rows

open Cert.RefQkv3Ideal Cert.RefQkv3Ideal.Value Cert.RefQkv3Ideal.Read Idealize.ShloMosaic Idealize.ShloMosaic.TcCoe Idealize.SL.Sem Cert.Rows

variable (x0 : Vec Ideal S32768x1024 .f32) (x1 : Vec Ideal S1024 .f32) (x2 : Vec Ideal S1024x1280 .f32)

theorem norm_apply (r : Fin 32768) (l : Fin 1024) :
    val_main_v12 (F := Ideal) x0 x1 (ix2 r l) = rms (fun j => x0 (ix2 r j)) (fun j => x1 (ix1 j)) l := by
  unfold val_main_v12 val_main_v9 val_main_v8 val_main_v7 val_main_v6 val_main_v4 val_main_v2 val_main_v1 val_main_v0
  pointwise [val_main_v11, val_main_v10, val_main_v3, val_main_v5, val_main_cst, val_main_cst_0, val_main_cst_1, rms, scale]

theorem dot_apply (r : Fin 32768) (j : Fin 1280) :
    val_main_v13 (F := Ideal) x0 x1 x2 (ix2 r j) = ∑ k, rms (fun j => x0 (ix2 r j)) (fun j => x1 (ix1 j)) k * x2 (ix2 k j) := by
  simp only [← norm_apply]
  unfold val_main_v13
  generalize val_main_v12 (F := Ideal) x0 x1 = y
  pointwise

theorem factor (i : S32768x1024.Idx) : val_main_v17 (F := Ideal) i = qs := qs_ref

theorem ref_eq : val_main_v21 (F := Ideal) x0 x1 x2 = Qkv3Value.G x0 x1 x2 := by
  funext i
  obtain ⟨r, j, rfl⟩ : ∃ (r : Fin 32768) (j : Fin 1280), i = (ix2 r j : S32768x1280.Idx) :=
    ⟨i 0, i 1, by funext a; match a with | ⟨0, _⟩ => rfl | ⟨1, _⟩ => rfl⟩
  show val_main_v20 (F := Ideal) x0 x1 x2 (ix2 r j) = proj (fun j => x0 (ix2 r j)) (fun j => x1 (ix1 j)) (fun k j => x2 (ix2 k j)) j
  unfold val_main_v20 proj
  refine (concatenate_apply _ _ _ _ _).trans ((concatenateAt_cons _ _ _ _ _ _ _ _).trans ?_)
  by_cases h : j.val < 1024
  · rw [if_pos h, ← dot_apply]
    refine (dif_pos h).trans ?_
    refine congrArg₂ (fun a b : EReal => a * b) (congrArg (val_main_v13 (F := Ideal) x0 x1 x2) (funext fun x => Fin.ext ?_)) (factor _)
    match x with
    | ⟨0, _⟩ => show 0 + r.val = r.val; omega
    | ⟨1, _⟩ => show 0 + j.val = j.val; omega
  · rw [if_neg h, ← dot_apply]
    refine (dif_neg h).trans ((concatenateAt_singleton _ _ _ _ _ _).trans ?_)
    refine congrArg (val_main_v13 (F := Ideal) x0 x1 x2) (funext fun x => Fin.ext ?_)
    match x with
    | ⟨0, _⟩ => show 0 + r.val = r.val; omega
    | ⟨1, _⟩ => show 1024 + (j.val - 1024) = j.val; omega

/-- The reference runs, leaves its arguments as they were, and uses no semaphore. -/
theorem frame : Cert.quiescent_RefQkv3Ideal := fun m ρ _ =>
  (θ_run Cert.RefQkv3Ideal.defs _ _).mono (fun r h => ⟨fun c => (h c).2, sem_eq_zero_of_no_sems (by decide) r.2⟩)
    (run (F := Ideal) m ρ)

/-- The constant named is the value printed. -/
theorem preserves : Cert.preserves_Qkv3_Qkv3Ideal :=
  IdealRules.named_const.statement Cert.Qkv3Ideal.κ "q_scale" .f32 0x3E38AA3B#32 (((1 / 8) * (Real.log 2)⁻¹ : ℝ) : EReal) rfl

/-- Kernel and reference end with the same result array. -/
theorem algebraic : Cert.algebraic_Qkv3Ideal_RefQkv3Ideal := by
  intro m g m' g' _ hm
  refine ⟨Qkv3Value.Gm m, ?_, ?_⟩
  · refine (θ_run Cert.Qkv3Ideal.defs _ _).mono (fun r h c => ⟨(h c).1.trans (Qkv3Value.final3 m c), (h c).2⟩)
      (Cert.Qkv3Ideal.Value.run_blocks m g)
  · refine (θ_run defs _ _).mono (fun r h c => ⟨(h c).1.trans ?_, (h c).2⟩) (run m' g')
    refine (val_main_v21_eq _ _ _).trans ?_
    obtain ⟨h0, h1, h2⟩ := hm c
    rw [h0, h1, h2]
    exact ref_eq _ _ _

end Cert.RefQkv3Rows

end
-- ==== Proof.MergeStage.lean ====
/- The stage of the merge: the strided stores that lay a view of side-by-side token rows out row by row, and what a tile then holds. -/
module

public import proofs.«01_k».proof.Proof.Gen.PostMergeIdeal.Skeleton
public import Idealize.ShloMosaic.Lib.Pointwise
public import Idealize.ShloMosaic.Lib.WholeRead

@[expose] public section

noncomputable section

namespace Cert.Merge

open Cert.PostMergeIdeal Cert.PostMergeIdeal.Gen Idealize.ShloMosaic Idealize.ShloMosaic.TcCoe

variable {F : FTy → Type} [FloatOps F]

theorem tiles : ∀ t : Fin 4, t ∈ ([3, 2, 1, 0] : List (Fin 4)) := by decide

/-! ## A view of 4 token rows side by side -/

theorem tok4_inb (s : Fin 6) (t : Fin 4) (r : Fin 4) : ∀ a, S1x1x128x128.size a = 0 ∨
    (![s.val, t.val, r.val, 0] : Fin 4 → Nat) a + (![1, 1, 4, 1] : Fin 4 → Nat) a * (S1x1x128x128.size a - 1) < S6x4x512x128.size a := by
  intro a; right
  match a with
  | ⟨0, _⟩ => show s.val + 1 * (1 - 1) < 6; omega
  | ⟨1, _⟩ => show t.val + 1 * (1 - 1) < 4; omega
  | ⟨2, _⟩ => show r.val + 4 * (128 - 1) < 512; omega
  | ⟨3, _⟩ => show 0 + 1 * (128 - 1) < 128; omega

theorem col4_inb (r : Fin 4) (t : Fin 4) : ∀ a, (![0, r.val * 512 + t.val * 128] : Fin 2 → Nat) a + S128x128.size a ≤ S128x2048.size a := by
  intro a
  match a with
  | ⟨0, _⟩ => show 0 + 128 ≤ 128; omega
  | ⟨1, _⟩ => show r.val * 512 + t.val * 128 + 128 ≤ 2048; omega

/-- Every 4th row of tile `t` of slot `s`, from row `r` on. -/
abbrev tok4 (s : Fin 6) (t : Fin 4) (r : Fin 4) : Rect S6x4x512x128 :=
  ⟨⟨![s.val, t.val, r.val, 0], S1x1x128x128.size, ![1, 1, 4, 1], tok4_inb s t r⟩, spos_1_1_4_1⟩

/-- The view's columns of residue `r`, tile `t`. -/
def ld4 (arg : Memref sig .tc .vmem S128x2048 .f32) (harg : arg.IsWhole) (x : Vec F S128x2048 .f32) (r : Fin 4) (t : Fin 4) : Vec F S128x128 .f32 :=
  View.readAt (Elt F) arg.view (Rect.unit (s := S128x2048) ![0, r.val * 512 + t.val * 128] S128x128.size (col4_inb r t)).toLoadRect (harg.unread x)

def piece4 (s : Fin 6) (arg : Memref sig .tc .vmem S128x2048 .f32) (harg : arg.IsWhole) (x : Vec F S128x2048 .f32) (r : Fin 4) (t : Fin 4) :
    View.Piece (Elt F) S6x4x512x128 .f32 :=
  ⟨tok4 s t r, shapeCast S1x1x128x128 (ld4 arg harg x r t) shapeCasts_S128x128_S1x1x128x128⟩

/-- The stores of one view into its slot, the last first. -/
def rows4 (s : Fin 6) (arg : Memref sig .tc .vmem S128x2048 .f32) (harg : arg.IsWhole) (x : Vec F S128x2048 .f32) : List (View.Piece (Elt F) S6x4x512x128 .f32) :=
  ([3, 2, 1, 0] : List (Fin 4)).flatMap fun r => ([3, 2, 1, 0] : List (Fin 4)).map fun t => piece4 s arg harg x r t

/-- A token row's entry in the view. -/
abbrev at4 (x : Vec F S128x2048 .f32) (a f : Fin 512) : F .f32 :=
  x (ix2 ⟨a.val / 4, by omega⟩ ⟨a.val % 4 * 512 + f.val, by omega⟩)

theorem cast4 (x : FVec F S128x128 .f32) (a : Fin 128) (l : Fin 128) :
    shapeCast S1x1x128x128 x shapeCasts_S128x128_S1x1x128x128 (ix4 0 0 a l) = x (ix2 a l) := by
  pointwise

theorem tok4_emb (s : Fin 6) (t : Fin 4) (r : Fin 4) (a : Fin 128) (l : Fin 128) :
    (tok4 s t r).emb (ix4 0 0 a l : S1x1x128x128.Idx) = (ix4 s t ⟨r.val + 4 * a.val, by omega⟩ l : S6x4x512x128.Idx) := by
  funext x; apply Fin.ext
  match x with
  | ⟨0, _⟩ => show s.val + 1 * 0 = s.val; omega
  | ⟨1, _⟩ => show t.val + 1 * 0 = t.val; omega
  | ⟨2, _⟩ => show r.val + 4 * a.val = r.val + 4 * a.val; rfl
  | ⟨3, _⟩ => show 0 + 1 * l.val = l.val; omega

/-- The token rows, laid out by tile. -/
def lay4 (x : Vec Ideal S128x2048 .f32) (y : S6x4x512x128.Idx) : EReal :=
  at4 (F := Ideal) x (y 2) ⟨(y 1).val * 128 + (y 3).val, by have h1 : (y 1).val < 4 := (y 1).isLt; have h3 : (y 3).val < 128 := (y 3).isLt; omega⟩

theorem piece4_apply (s : Fin 6) (arg : Memref sig .tc .vmem S128x2048 .f32) (harg : arg.IsWhole) (x : Vec Ideal S128x2048 .f32) (r : Fin 4) (t : Fin 4)
    (y : S1x1x128x128.Idx) :
    shapeCast S1x1x128x128 (ld4 (F := Ideal) arg harg x r t) shapeCasts_S128x128_S1x1x128x128 y = lay4 x ((tok4 s t r).emb y) := by
  obtain ⟨a, l, rfl⟩ : ∃ (a : Fin 128) (l : Fin 128), y = (ix4 0 0 a l : S1x1x128x128.Idx) :=
    ⟨y 2, y 3, by
      funext x
      match x with
      | ⟨0, _⟩ => exact Fin.ext (Nat.lt_one_iff.1 (y 0).isLt)
      | ⟨1, _⟩ => exact Fin.ext (Nat.lt_one_iff.1 (y 1).isLt)
      | ⟨2, _⟩ => rfl
      | ⟨3, _⟩ => rfl⟩
  refine (cast4 (F := Ideal) _ a l).trans ?_
  rw [tok4_emb]
  refine (congrFun (harg.read_unread x) _).trans (congrArg x (funext fun z => Fin.ext ?_))
  match z with
  | ⟨0, _⟩ => show 0 + 1 * a.val = (r.val + 4 * a.val) / 4; omega
  | ⟨1, _⟩ => show r.val * 512 + t.val * 128 + 1 * l.val = (r.val + 4 * a.val) % 4 * 512 + (t.val * 128 + l.val); omega

theorem all4 : ∀ r : Fin 4, r ∈ ([3, 2, 1, 0] : List (Fin 4)) := by decide

/-- WHAT A TILE OF THE SLOT HOLDS once a view is stored in it: the token rows. -/
theorem read4 (arg13 : Memref sig .tc .vmem S6x4x512x128 .f32) (s : Fin 6) (arg : Memref sig .tc .vmem S128x2048 .f32) (harg : arg.IsWhole)
    (x : Vec Ideal S128x2048 .f32) (L : List (View.Piece (Elt Ideal) S6x4x512x128 .f32)) (t : Fin 4)
    (h : ∀ a, (![s.val, t.val, 0, 0] : Fin 4 → Nat) a + S1x1x512x128.size a ≤ S6x4x512x128.size a) (a : Fin 512) (l : Fin 128) :
    arg13.view.readCov (rows4 s arg harg x ++ L) (Rect.unit (s := S6x4x512x128) ![s.val, t.val, 0, 0] S1x1x512x128.size h).toLoadRect (ix4 0 0 a l)
      = at4 x a ⟨t.val * 128 + l.val, by omega⟩ := by
  have e : (Rect.unit (s := S6x4x512x128) ![s.val, t.val, 0, 0] S1x1x512x128.size h).toLoadRect.idx (ix4 0 0 a l)
      = (ix4 s t a l : S6x4x512x128.Idx) := by
    funext x; apply Fin.ext
    match x with
    | ⟨0, _⟩ => show s.val + 1 * 0 = s.val; omega
    | ⟨1, _⟩ => show t.val + 1 * 0 = t.val; omega
    | ⟨2, _⟩ => show 0 + 1 * a.val = a.val; omega
    | ⟨3, _⟩ => show 0 + 1 * l.val = l.val; omega
  unfold View.readCov
  rw [View.writes_append]
  refine (congrArg (View.read (Elt Ideal) arg13.view _) e).trans ?_
  refine (View.read_writes_apply_of_pieces arg13.view _
    (lay4 x) _ ?_ _ ?_).trans rfl
  · intro p hp y
    obtain ⟨r, -, hp⟩ := List.mem_flatMap.1 hp
    obtain ⟨t', -, rfl⟩ := List.mem_map.1 hp
    exact piece4_apply s arg harg x r t' y
  · refine ⟨piece4 s arg harg x ⟨a.val % 4, by omega⟩ t, List.mem_flatMap.2 ⟨⟨a.val % 4, by omega⟩, all4 _, List.mem_map.2 ⟨t, tiles t, rfl⟩⟩, ?_⟩
    · have hm := (tok4 s t ⟨a.val % 4, by omega⟩).idx_mem (ix4 0 0 ⟨a.val / 4, by omega⟩ l : S1x1x128x128.Idx)
      have hi : (tok4 s t ⟨a.val % 4, by omega⟩).idx (ix4 0 0 ⟨a.val / 4, by omega⟩ l : S1x1x128x128.Idx) = (ix4 s t a l : S6x4x512x128.Idx) := by
        refine (tok4_emb s t _ _ l).trans ?_
        congr 1
        exact Fin.ext (Nat.mod_add_div a.val 4)
      exact hi ▸ hm

/-! ## A view of 16 token rows side by side -/

theorem tok16_inb (s : Fin 6) (t : Fin 4) (r : Fin 16) : ∀ a, S1x1x32x128.size a = 0 ∨
    (![s.val, t.val, r.val, 0] : Fin 4 → Nat) a + (![1, 1, 16, 1] : Fin 4 → Nat) a * (S1x1x32x128.size a - 1) < S6x4x512x128.size a := by
  intro a; right
  match a with
  | ⟨0, _⟩ => show s.val + 1 * (1 - 1) < 6; omega
  | ⟨1, _⟩ => show t.val + 1 * (1 - 1) < 4; omega
  | ⟨2, _⟩ => show r.val + 16 * (32 - 1) < 512; omega
  | ⟨3, _⟩ => show 0 + 1 * (128 - 1) < 128; omega

theorem col16_inb (r : Fin 16) (t : Fin 4) : ∀ a, (![0, r.val * 512 + t.val * 128] : Fin 2 → Nat) a + S32x128.size a ≤ S32x8192.size a := by
  intro a
  match a with
  | ⟨0, _⟩ => show 0 + 32 ≤ 32; omega
  | ⟨1, _⟩ => show r.val * 512 + t.val * 128 + 128 ≤ 8192; omega

/-- Every 16th row of tile `t` of slot `s`, from row `r` on. -/
abbrev tok16 (s : Fin 6) (t : Fin 4) (r : Fin 16) : Rect S6x4x512x128 :=
  ⟨⟨![s.val, t.val, r.val, 0], S1x1x32x128.size, ![1, 1, 16, 1], tok16_inb s t r⟩, spos_1_1_16_1⟩

/-- The view's columns of residue `r`, tile `t`. -/
def ld16 (arg : Memref sig .tc .vmem S32x8192 .f32) (harg : arg.IsWhole) (x : Vec F S32x8192 .f32) (r : Fin 16) (t : Fin 4) : Vec F S32x128 .f32 :=
  View.readAt (Elt F) arg.view (Rect.unit (s := S32x8192) ![0, r.val * 512 + t.val * 128] S32x128.size (col16_inb r t)).toLoadRect (harg.unread x)

def piece16 (s : Fin 6) (arg : Memref sig .tc .vmem S32x8192 .f32) (harg : arg.IsWhole) (x : Vec F S32x8192 .f32) (r : Fin 16) (t : Fin 4) :
    View.Piece (Elt F) S6x4x512x128 .f32 :=
  ⟨tok16 s t r, shapeCast S1x1x32x128 (ld16 arg harg x r t) shapeCasts_S32x128_S1x1x32x128⟩

/-- The stores of one view into its slot, the last first. -/
def rows16 (s : Fin 6) (arg : Memref sig .tc .vmem S32x8192 .f32) (harg : arg.IsWhole) (x : Vec F S32x8192 .f32) : List (View.Piece (Elt F) S6x4x512x128 .f32) :=
  ([15, 14, 13, 12, 11, 10, 9, 8, 7, 6, 5, 4, 3, 2, 1, 0] : List (Fin 16)).flatMap fun r => ([3, 2, 1, 0] : List (Fin 4)).map fun t => piece16 s arg harg x r t

/-- A token row's entry in the view. -/
abbrev at16 (x : Vec F S32x8192 .f32) (a f : Fin 512) : F .f32 :=
  x (ix2 ⟨a.val / 16, by omega⟩ ⟨a.val % 16 * 512 + f.val, by omega⟩)

theorem cast16 (x : FVec F S32x128 .f32) (a : Fin 32) (l : Fin 128) :
    shapeCast S1x1x32x128 x shapeCasts_S32x128_S1x1x32x128 (ix4 0 0 a l) = x (ix2 a l) := by
  pointwise

theorem tok16_emb (s : Fin 6) (t : Fin 4) (r : Fin 16) (a : Fin 32) (l : Fin 128) :
    (tok16 s t r).emb (ix4 0 0 a l : S1x1x32x128.Idx) = (ix4 s t ⟨r.val + 16 * a.val, by omega⟩ l : S6x4x512x128.Idx) := by
  funext x; apply Fin.ext
  match x with
  | ⟨0, _⟩ => show s.val + 1 * 0 = s.val; omega
  | ⟨1, _⟩ => show t.val + 1 * 0 = t.val; omega
  | ⟨2, _⟩ => show r.val + 16 * a.val = r.val + 16 * a.val; rfl
  | ⟨3, _⟩ => show 0 + 1 * l.val = l.val; omega

/-- The token rows, laid out by tile. -/
def lay16 (x : Vec Ideal S32x8192 .f32) (y : S6x4x512x128.Idx) : EReal :=
  at16 (F := Ideal) x (y 2) ⟨(y 1).val * 128 + (y 3).val, by have h1 : (y 1).val < 4 := (y 1).isLt; have h3 : (y 3).val < 128 := (y 3).isLt; omega⟩

theorem piece16_apply (s : Fin 6) (arg : Memref sig .tc .vmem S32x8192 .f32) (harg : arg.IsWhole) (x : Vec Ideal S32x8192 .f32) (r : Fin 16) (t : Fin 4)
    (y : S1x1x32x128.Idx) :
    shapeCast S1x1x32x128 (ld16 (F := Ideal) arg harg x r t) shapeCasts_S32x128_S1x1x32x128 y = lay16 x ((tok16 s t r).emb y) := by
  obtain ⟨a, l, rfl⟩ : ∃ (a : Fin 32) (l : Fin 128), y = (ix4 0 0 a l : S1x1x32x128.Idx) :=
    ⟨y 2, y 3, by
      funext x
      match x with
      | ⟨0, _⟩ => exact Fin.ext (Nat.lt_one_iff.1 (y 0).isLt)
      | ⟨1, _⟩ => exact Fin.ext (Nat.lt_one_iff.1 (y 1).isLt)
      | ⟨2, _⟩ => rfl
      | ⟨3, _⟩ => rfl⟩
  refine (cast16 (F := Ideal) _ a l).trans ?_
  rw [tok16_emb]
  refine (congrFun (harg.read_unread x) _).trans (congrArg x (funext fun z => Fin.ext ?_))
  match z with
  | ⟨0, _⟩ => show 0 + 1 * a.val = (r.val + 16 * a.val) / 16; omega
  | ⟨1, _⟩ => show r.val * 512 + t.val * 128 + 1 * l.val = (r.val + 16 * a.val) % 16 * 512 + (t.val * 128 + l.val); omega

theorem all16 : ∀ r : Fin 16, r ∈ ([15, 14, 13, 12, 11, 10, 9, 8, 7, 6, 5, 4, 3, 2, 1, 0] : List (Fin 16)) := by decide

/-- WHAT A TILE OF THE SLOT HOLDS once a view is stored in it: the token rows. -/
theorem read16 (arg13 : Memref sig .tc .vmem S6x4x512x128 .f32) (s : Fin 6) (arg : Memref sig .tc .vmem S32x8192 .f32) (harg : arg.IsWhole)
    (x : Vec Ideal S32x8192 .f32) (L : List (View.Piece (Elt Ideal) S6x4x512x128 .f32)) (t : Fin 4)
    (h : ∀ a, (![s.val, t.val, 0, 0] : Fin 4 → Nat) a + S1x1x512x128.size a ≤ S6x4x512x128.size a) (a : Fin 512) (l : Fin 128) :
    arg13.view.readCov (rows16 s arg harg x ++ L) (Rect.unit (s := S6x4x512x128) ![s.val, t.val, 0, 0] S1x1x512x128.size h).toLoadRect (ix4 0 0 a l)
      = at16 x a ⟨t.val * 128 + l.val, by omega⟩ := by
  have e : (Rect.unit (s := S6x4x512x128) ![s.val, t.val, 0, 0] S1x1x512x128.size h).toLoadRect.idx (ix4 0 0 a l)
      = (ix4 s t a l : S6x4x512x128.Idx) := by
    funext x; apply Fin.ext
    match x with
    | ⟨0, _⟩ => show s.val + 1 * 0 = s.val; omega
    | ⟨1, _⟩ => show t.val + 1 * 0 = t.val; omega
    | ⟨2, _⟩ => show 0 + 1 * a.val = a.val; omega
    | ⟨3, _⟩ => show 0 + 1 * l.val = l.val; omega
  unfold View.readCov
  rw [View.writes_append]
  refine (congrArg (View.read (Elt Ideal) arg13.view _) e).trans ?_
  refine (View.read_writes_apply_of_pieces arg13.view _
    (lay16 x) _ ?_ _ ?_).trans rfl
  · intro p hp y
    obtain ⟨r, -, hp⟩ := List.mem_flatMap.1 hp
    obtain ⟨t', -, rfl⟩ := List.mem_map.1 hp
    exact piece16_apply s arg harg x r t' y
  · refine ⟨piece16 s arg harg x ⟨a.val % 16, by omega⟩ t, List.mem_flatMap.2 ⟨⟨a.val % 16, by omega⟩, all16 _, List.mem_map.2 ⟨t, tiles t, rfl⟩⟩, ?_⟩
    · have hm := (tok16 s t ⟨a.val % 16, by omega⟩).idx_mem (ix4 0 0 ⟨a.val / 16, by omega⟩ l : S1x1x32x128.Idx)
      have hi : (tok16 s t ⟨a.val % 16, by omega⟩).idx (ix4 0 0 ⟨a.val / 16, by omega⟩ l : S1x1x32x128.Idx) = (ix4 s t a l : S6x4x512x128.Idx) := by
        refine (tok16_emb s t _ _ l).trans ?_
        congr 1
        exact Fin.ext (Nat.mod_add_div a.val 16)
      exact hi ▸ hm

end Cert.Merge

end
-- ==== Proof.MergeList.lean ====
/- The lists of stores of the merge's run, as the views stored one after the other. -/
module

public import proofs.«01_k».proof.Proof.Gen.PostMergeIdeal.Value
public import proofs.«01_k».proof.Proof.MergeStage

@[expose] public section

noncomputable section

namespace Cert.Merge

open Cert.PostMergeIdeal Cert.PostMergeIdeal.Gen Idealize.ShloMosaic Idealize.ShloMosaic.TcCoe

variable {F : FTy → Type} [FloatOps F] (c : Dev nD)
  (arg3 : Memref sig .tc .vmem S128x2048 .f32) (harg3 : arg3.IsWhole) (arg4 : Memref sig .tc .vmem S32x8192 .f32) (harg4 : arg4.IsWhole)
  (arg6 : Memref sig .tc .vmem S128x2048 .f32) (harg6 : arg6.IsWhole) (arg7 : Memref sig .tc .vmem S32x8192 .f32) (harg7 : arg7.IsWhole)
  (x2 : Vec F S128x2048 .f32) (x3 : Vec F S32x8192 .f32) (x5 : Vec F S128x2048 .f32) (x6 : Vec F S32x8192 .f32)

theorem list16 : kernelRun0_A.sl.HS0_16 (F := F) c arg6 harg6 x5 = rows4 1 arg6 harg6 x5 ++ [] := by rfl

theorem list80 : kernelRun0_A.sl.HS0_80 (F := F) c arg6 harg6 arg7 harg7 x5 x6
    = rows16 2 arg7 harg7 x6 ++ kernelRun0_A.sl.HS0_16 (F := F) c arg6 harg6 x5 := by rfl

theorem list96 : kernelRun0_A.sl.HS0_96 (F := F) c arg3 harg3 arg6 harg6 arg7 harg7 x2 x5 x6
    = rows4 4 arg3 harg3 x2 ++ kernelRun0_A.sl.HS0_80 (F := F) c arg6 harg6 arg7 harg7 x5 x6 := by rfl

theorem list160 : kernelRun0_A.sl.HS0_160 (F := F) c arg3 harg3 arg4 harg4 arg6 harg6 arg7 harg7 x2 x3 x5 x6
    = rows16 5 arg4 harg4 x3 ++ kernelRun0_A.sl.HS0_96 (F := F) c arg3 harg3 arg6 harg6 arg7 harg7 x2 x5 x6 := by rfl

end Cert.Merge

end
-- ==== Proof.MergeRows.lean ====
/- The mathematics of the merge: three outputs weighted by their log-denominators, two ways. -/
module

public import proofs.«01_k».proof.Proof.Rows

@[expose] public section

noncomputable section

namespace Cert.MergeRows

open Idealize.ShloMosaic Cert.Rows

/-- Three outputs weighted by the exponentials of their log-denominators over the largest, the division last. -/
def mrg (l0 l1 l2 o0 o1 o2 : EReal) : EReal :=
  Ideal.div (Ideal.exp (l0 - max (max l0 l1) l2) * o0 + Ideal.exp (l1 - max (max l0 l1) l2) * o1 + Ideal.exp (l2 - max (max l0 l1) l2) * o2)
    (Ideal.exp (l0 - max (max l0 l1) l2) + Ideal.exp (l1 - max (max l0 l1) l2) + Ideal.exp (l2 - max (max l0 l1) l2))

/-- The same with the weights divided first: a softmax over the three. -/
def soft (l0 l1 l2 o0 o1 o2 : EReal) : EReal :=
  Ideal.div (Ideal.exp (l0 - max (max l0 l1) l2)) (Ideal.exp (l0 - max (max l0 l1) l2) + Ideal.exp (l1 - max (max l0 l1) l2) + Ideal.exp (l2 - max (max l0 l1) l2)) * o0
  + Ideal.div (Ideal.exp (l1 - max (max l0 l1) l2)) (Ideal.exp (l0 - max (max l0 l1) l2) + Ideal.exp (l1 - max (max l0 l1) l2) + Ideal.exp (l2 - max (max l0 l1) l2)) * o1
  + Ideal.div (Ideal.exp (l2 - max (max l0 l1) l2)) (Ideal.exp (l0 - max (max l0 l1) l2) + Ideal.exp (l1 - max (max l0 l1) l2) + Ideal.exp (l2 - max (max l0 l1) l2)) * o2

/-- With real log-denominators the two are equal, whatever the outputs. -/
theorem mrg_eq_soft (l0 l1 l2 : ℝ) (o0 o1 o2 : EReal) : mrg l0 l1 l2 o0 o1 o2 = soft l0 l1 l2 o0 o1 o2 := by
  unfold mrg soft
  obtain ⟨M, hM⟩ : ∃ M : ℝ, max (max (l0 : EReal) l1) l2 = (M : EReal) := ⟨max (max l0 l1) l2, by
    rw [EReal.coe_strictMono.monotone.map_max, EReal.coe_strictMono.monotone.map_max]⟩
  rw [hM]
  simp only [← EReal.coe_sub, Ideal.exp_coe]
  have p0 := Real.exp_pos (l0 - M)
  have p1 := Real.exp_pos (l1 - M)
  have p2 := Real.exp_pos (l2 - M)
  generalize Real.exp (l0 - M) = e0 at *
  generalize Real.exp (l1 - M) = e1 at *
  generalize Real.exp (l2 - M) = e2 at *
  have hs : e0 + e1 + e2 ≠ 0 := by positivity
  rw [← EReal.coe_add, ← EReal.coe_add]
  simp only [Ideal.div_coe hs]
  have hk : (0 : EReal) ≤ ((1 / (e0 + e1 + e2) : ℝ) : EReal) := by exact_mod_cast (by positivity)
  generalize 1 / (e0 + e1 + e2) = k at hk
  rw [EReal.right_distrib_of_nonneg_of_ne_top hk (EReal.coe_ne_top k), EReal.right_distrib_of_nonneg_of_ne_top hk (EReal.coe_ne_top k)]
  simp only [mul_right_comm]

/-- The residual row after the merged outputs' projection. -/
def resid (h : Fin 1024 → EReal) (a : Fin 512 → EReal) (w : Fin 512 → Fin 1024 → EReal) (j : Fin 1024) : EReal := h j + ∑ k, a k * w k j

/-- The row the layer leaves: the residual row plus the perceptron of the normalised residual row. -/
def layer (h : Fin 1024 → EReal) (a : Fin 512 → EReal) (w : Fin 512 → Fin 1024 → EReal) (g : Fin 1024 → EReal)
    (u : Fin 1024 → Fin 4096 → EReal) (d : Fin 4096 → Fin 1024 → EReal) (j : Fin 1024) : EReal :=
  resid h a w j + mlp (rms (resid h a w) g) u d j

end Cert.MergeRows

end
-- ==== Proof.MergeBody.lean ====
/- What the post kernel that merges the dilated groups computes at one grid point, row by row. -/
module

public import proofs.«01_k».proof.Proof.MergeList
public import proofs.«01_k».proof.Proof.MergeRows

@[expose] public section

noncomputable section

namespace Cert.MergeBody

open Cert.PostMergeIdeal Cert.PostMergeIdeal.Gen Idealize.ShloMosaic Idealize.ShloMosaic.TcCoe Cert.MergeRows
open Cert.Rows (rms scale mlp unit mlp_chunks)

theorem cast_tile (x : Vec Ideal S1x1x512x128 .f32) (a : Fin 512) (l : Fin 128) :
    shapeCast S512x128 x shapeCasts_S1x1x512x128_S512x128 (ix2 a l) = x (ix4 0 0 a l) := by
  pointwise

/-- Four tiles side by side. -/
theorem cat_apply (y0 y1 y2 y3 : FVec Ideal S512x128 .f32) (g : Fin 512 → Fin 512 → EReal)
    (h0 : ∀ (a : Fin 512) (l : Fin 128), y0 (ix2 a l) = g a ⟨0 * 128 + l.val, by omega⟩)
    (h1 : ∀ (a : Fin 512) (l : Fin 128), y1 (ix2 a l) = g a ⟨1 * 128 + l.val, by omega⟩)
    (h2 : ∀ (a : Fin 512) (l : Fin 128), y2 (ix2 a l) = g a ⟨2 * 128 + l.val, by omega⟩)
    (h3 : ∀ (a : Fin 512) (l : Fin 128), y3 (ix2 a l) = g a ⟨3 * 128 + l.val, by omega⟩) (a f : Fin 512) :
    concatenate S512x512 1 [⟨S512x128, y0⟩, ⟨S512x128, y1⟩, ⟨S512x128, y2⟩, ⟨S512x128, y3⟩]
      concatenates_S512x128_S512x128_S512x128_S512x128_S512x512_d1 (ix2 a f) = g a f := by
  refine (concatenate_apply _ _ _ _ _).trans ((concatenateAt_cons _ _ _ _ _ _ _ _).trans ?_)
  by_cases c0 : f.val < 128
  · refine (dif_pos c0).trans (Eq.trans (congrArg y0 (funext fun x => ?_)) ((h0 a ⟨f.val, c0⟩).trans (congrArg (g a) (Fin.ext ?_))))
    · match x with | ⟨0, _⟩ => rfl | ⟨1, _⟩ => rfl
    · show 0 * 128 + f.val = f.val; omega
  · refine (dif_neg c0).trans ((concatenateAt_cons _ _ _ _ _ _ _ _).trans ?_)
    by_cases c1 : f.val - 128 < 128
    · refine (dif_pos c1).trans (Eq.trans (congrArg y1 (funext fun x => ?_)) ((h1 a ⟨f.val - 128, c1⟩).trans (congrArg (g a) (Fin.ext ?_))))
      · match x with | ⟨0, _⟩ => rfl | ⟨1, _⟩ => rfl
      · show 1 * 128 + (f.val - 128) = f.val; omega
    · refine (dif_neg c1).trans ((concatenateAt_cons _ _ _ _ _ _ _ _).trans ?_)
      by_cases c2 : f.val - 128 - 128 < 128
      · refine (dif_pos c2).trans (Eq.trans (congrArg y2 (funext fun x => ?_)) ((h2 a ⟨f.val - 128 - 128, c2⟩).trans (congrArg (g a) (Fin.ext ?_))))
        · match x with | ⟨0, _⟩ => rfl | ⟨1, _⟩ => rfl
        · show 2 * 128 + (f.val - 128 - 128) = f.val; omega
      · refine (dif_neg c2).trans ((concatenateAt_singleton _ _ _ _ _ _).trans
          (Eq.trans (congrArg y3 (funext fun x => ?_)) ((h3 a ⟨f.val - 128 - 128 - 128, by omega⟩).trans (congrArg (g a) (Fin.ext ?_)))))
        · match x with | ⟨0, _⟩ => rfl | ⟨1, _⟩ => rfl
        · show 3 * 128 + (f.val - 128 - 128 - 128) = f.val; omega

section Slots

variable (c : Dev nD)
  (arg3 : Memref sig .tc .vmem S128x2048 .f32) (harg3 : arg3.IsWhole) (arg4 : Memref sig .tc .vmem S32x8192 .f32) (harg4 : arg4.IsWhole)
  (arg6 : Memref sig .tc .vmem S128x2048 .f32) (harg6 : arg6.IsWhole) (arg7 : Memref sig .tc .vmem S32x8192 .f32) (harg7 : arg7.IsWhole)
  (arg13 : Memref sig .tc .vmem S6x4x512x128 .f32)
  (x2 : Vec Ideal S128x2048 .f32) (x3 : Vec Ideal S32x8192 .f32) (x5 : Vec Ideal S128x2048 .f32) (x6 : Vec Ideal S32x8192 .f32)

theorem v65_apply (a : Fin 512) (l : Fin 128) : kernelRun0_A.sl.v65 (F := Ideal) c arg6 harg6 arg13 x5 (ix4 0 0 a l) = Merge.at4 (F := Ideal) x5 a ⟨0 * 128 + l.val, by omega⟩ := by
  unfold kernelRun0_A.sl.v65
  rw [Merge.list16]
  exact Merge.read4 arg13 1 arg6 harg6 x5 _ 0 _ a l

theorem v67_apply (a : Fin 512) (l : Fin 128) : kernelRun0_A.sl.v67 (F := Ideal) c arg6 harg6 arg13 x5 (ix4 0 0 a l) = Merge.at4 (F := Ideal) x5 a ⟨1 * 128 + l.val, by omega⟩ := by
  unfold kernelRun0_A.sl.v67
  rw [Merge.list16]
  exact Merge.read4 arg13 1 arg6 harg6 x5 _ 1 _ a l

theorem v69_apply (a : Fin 512) (l : Fin 128) : kernelRun0_A.sl.v69 (F := Ideal) c arg6 harg6 arg13 x5 (ix4 0 0 a l) = Merge.at4 (F := Ideal) x5 a ⟨2 * 128 + l.val, by omega⟩ := by
  unfold kernelRun0_A.sl.v69
  rw [Merge.list16]
  exact Merge.read4 arg13 1 arg6 harg6 x5 _ 2 _ a l

theorem v71_apply (a : Fin 512) (l : Fin 128) : kernelRun0_A.sl.v71 (F := Ideal) c arg6 harg6 arg13 x5 (ix4 0 0 a l) = Merge.at4 (F := Ideal) x5 a ⟨3 * 128 + l.val, by omega⟩ := by
  unfold kernelRun0_A.sl.v71
  rw [Merge.list16]
  exact Merge.read4 arg13 1 arg6 harg6 x5 _ 3 _ a l

/-- The log-denominators of the second group, row by row. -/
theorem slot1 (a f : Fin 512) : kernelRun0_A.sl.r_2 (F := Ideal) c arg6 harg6 arg13 x5 (ix2 a f) = Merge.at4 (F := Ideal) x5 a f := by
  unfold kernelRun0_A.sl.r_2 k0_pay18
  exact cat_apply _ _ _ _ (fun a f => Merge.at4 (F := Ideal) x5 a f)
    (fun a l => (cast_tile _ a l).trans (v65_apply c arg6 harg6 arg13 x5 a l))
    (fun a l => (cast_tile _ a l).trans (v67_apply c arg6 harg6 arg13 x5 a l))
    (fun a l => (cast_tile _ a l).trans (v69_apply c arg6 harg6 arg13 x5 a l))
    (fun a l => (cast_tile _ a l).trans (v71_apply c arg6 harg6 arg13 x5 a l)) a f

theorem v330_apply (a : Fin 512) (l : Fin 128) : kernelRun0_A.sl.v330 (F := Ideal) c arg6 harg6 arg7 harg7 arg13 x5 x6 (ix4 0 0 a l) = Merge.at16 (F := Ideal) x6 a ⟨0 * 128 + l.val, by omega⟩ := by
  unfold kernelRun0_A.sl.v330
  rw [Merge.list80]
  exact Merge.read16 arg13 2 arg7 harg7 x6 _ 0 _ a l

theorem v332_apply (a : Fin 512) (l : Fin 128) : kernelRun0_A.sl.v332 (F := Ideal) c arg6 harg6 arg7 harg7 arg13 x5 x6 (ix4 0 0 a l) = Merge.at16 (F := Ideal) x6 a ⟨1 * 128 + l.val, by omega⟩ := by
  unfold kernelRun0_A.sl.v332
  rw [Merge.list80]
  exact Merge.read16 arg13 2 arg7 harg7 x6 _ 1 _ a l

theorem v334_apply (a : Fin 512) (l : Fin 128) : kernelRun0_A.sl.v334 (F := Ideal) c arg6 harg6 arg7 harg7 arg13 x5 x6 (ix4 0 0 a l) = Merge.at16 (F := Ideal) x6 a ⟨2 * 128 + l.val, by omega⟩ := by
  unfold kernelRun0_A.sl.v334
  rw [Merge.list80]
  exact Merge.read16 arg13 2 arg7 harg7 x6 _ 2 _ a l

theorem v336_apply (a : Fin 512) (l : Fin 128) : kernelRun0_A.sl.v336 (F := Ideal) c arg6 harg6 arg7 harg7 arg13 x5 x6 (ix4 0 0 a l) = Merge.at16 (F := Ideal) x6 a ⟨3 * 128 + l.val, by omega⟩ := by
  unfold kernelRun0_A.sl.v336
  rw [Merge.list80]
  exact Merge.read16 arg13 2 arg7 harg7 x6 _ 3 _ a l

/-- The log-denominators of the third group. -/
theorem slot2 (a f : Fin 512) : kernelRun0_A.sl.r_11 (F := Ideal) c arg6 harg6 arg7 harg7 arg13 x5 x6 (ix2 a f) = Merge.at16 (F := Ideal) x6 a f := by
  unfold kernelRun0_A.sl.r_11 k0_pay83
  exact cat_apply _ _ _ _ (fun a f => Merge.at16 (F := Ideal) x6 a f)
    (fun a l => (cast_tile _ a l).trans (v330_apply c arg6 harg6 arg7 harg7 arg13 x5 x6 a l))
    (fun a l => (cast_tile _ a l).trans (v332_apply c arg6 harg6 arg7 harg7 arg13 x5 x6 a l))
    (fun a l => (cast_tile _ a l).trans (v334_apply c arg6 harg6 arg7 harg7 arg13 x5 x6 a l))
    (fun a l => (cast_tile _ a l).trans (v336_apply c arg6 harg6 arg7 harg7 arg13 x5 x6 a l)) a f

theorem v404_apply (a : Fin 512) (l : Fin 128) : kernelRun0_A.sl.v404 (F := Ideal) c arg3 harg3 arg6 harg6 arg7 harg7 arg13 x2 x5 x6 (ix4 0 0 a l) = Merge.at4 (F := Ideal) x2 a ⟨0 * 128 + l.val, by omega⟩ := by
  unfold kernelRun0_A.sl.v404
  rw [Merge.list96]
  exact Merge.read4 arg13 4 arg3 harg3 x2 _ 0 _ a l

theorem v406_apply (a : Fin 512) (l : Fin 128) : kernelRun0_A.sl.v406 (F := Ideal) c arg3 harg3 arg6 harg6 arg7 harg7 arg13 x2 x5 x6 (ix4 0 0 a l) = Merge.at4 (F := Ideal) x2 a ⟨1 * 128 + l.val, by omega⟩ := by
  unfold kernelRun0_A.sl.v406
  rw [Merge.list96]
  exact Merge.read4 arg13 4 arg3 harg3 x2 _ 1 _ a l

theorem v408_apply (a : Fin 512) (l : Fin 128) : kernelRun0_A.sl.v408 (F := Ideal) c arg3 harg3 arg6 harg6 arg7 harg7 arg13 x2 x5 x6 (ix4 0 0 a l) = Merge.at4 (F := Ideal) x2 a ⟨2 * 128 + l.val, by omega⟩ := by
  unfold kernelRun0_A.sl.v408
  rw [Merge.list96]
  exact Merge.read4 arg13 4 arg3 harg3 x2 _ 2 _ a l

theorem v410_apply (a : Fin 512) (l : Fin 128) : kernelRun0_A.sl.v410 (F := Ideal) c arg3 harg3 arg6 harg6 arg7 harg7 arg13 x2 x5 x6 (ix4 0 0 a l) = Merge.at4 (F := Ideal) x2 a ⟨3 * 128 + l.val, by omega⟩ := by
  unfold kernelRun0_A.sl.v410
  rw [Merge.list96]
  exact Merge.read4 arg13 4 arg3 harg3 x2 _ 3 _ a l

/-- The outputs of the second group. -/
theorem slot4 (a f : Fin 512) : kernelRun0_A.sl.r_14 (F := Ideal) c arg3 harg3 arg6 harg6 arg7 harg7 arg13 x2 x5 x6 (ix2 a f) = Merge.at4 (F := Ideal) x2 a f := by
  unfold kernelRun0_A.sl.r_14 k0_pay100
  exact cat_apply _ _ _ _ (fun a f => Merge.at4 (F := Ideal) x2 a f)
    (fun a l => (cast_tile _ a l).trans (v404_apply c arg3 harg3 arg6 harg6 arg7 harg7 arg13 x2 x5 x6 a l))
    (fun a l => (cast_tile _ a l).trans (v406_apply c arg3 harg3 arg6 harg6 arg7 harg7 arg13 x2 x5 x6 a l))
    (fun a l => (cast_tile _ a l).trans (v408_apply c arg3 harg3 arg6 harg6 arg7 harg7 arg13 x2 x5 x6 a l))
    (fun a l => (cast_tile _ a l).trans (v410_apply c arg3 harg3 arg6 harg6 arg7 harg7 arg13 x2 x5 x6 a l)) a f

theorem v669_apply (a : Fin 512) (l : Fin 128) : kernelRun0_A.sl.v669 (F := Ideal) c arg3 harg3 arg4 harg4 arg6 harg6 arg7 harg7 arg13 x2 x3 x5 x6 (ix4 0 0 a l) = Merge.at16 (F := Ideal) x3 a ⟨0 * 128 + l.val, by omega⟩ := by
  unfold kernelRun0_A.sl.v669
  rw [Merge.list160]
  exact Merge.read16 arg13 5 arg4 harg4 x3 _ 0 _ a l

theorem v671_apply (a : Fin 512) (l : Fin 128) : kernelRun0_A.sl.v671 (F := Ideal) c arg3 harg3 arg4 harg4 arg6 harg6 arg7 harg7 arg13 x2 x3 x5 x6 (ix4 0 0 a l) = Merge.at16 (F := Ideal) x3 a ⟨1 * 128 + l.val, by omega⟩ := by
  unfold kernelRun0_A.sl.v671
  rw [Merge.list160]
  exact Merge.read16 arg13 5 arg4 harg4 x3 _ 1 _ a l

theorem v673_apply (a : Fin 512) (l : Fin 128) : kernelRun0_A.sl.v673 (F := Ideal) c arg3 harg3 arg4 harg4 arg6 harg6 arg7 harg7 arg13 x2 x3 x5 x6 (ix4 0 0 a l) = Merge.at16 (F := Ideal) x3 a ⟨2 * 128 + l.val, by omega⟩ := by
  unfold kernelRun0_A.sl.v673
  rw [Merge.list160]
  exact Merge.read16 arg13 5 arg4 harg4 x3 _ 2 _ a l

theorem v675_apply (a : Fin 512) (l : Fin 128) : kernelRun0_A.sl.v675 (F := Ideal) c arg3 harg3 arg4 harg4 arg6 harg6 arg7 harg7 arg13 x2 x3 x5 x6 (ix4 0 0 a l) = Merge.at16 (F := Ideal) x3 a ⟨3 * 128 + l.val, by omega⟩ := by
  unfold kernelRun0_A.sl.v675
  rw [Merge.list160]
  exact Merge.read16 arg13 5 arg4 harg4 x3 _ 3 _ a l

theorem slot5_0 (a : Fin 512) (l : Fin 128) : kernelRun0_A.sl.r_23 (F := Ideal) c arg3 harg3 arg4 harg4 arg6 harg6 arg7 harg7 arg13 x2 x3 x5 x6 (ix2 a l) = Merge.at16 (F := Ideal) x3 a ⟨0 * 128 + l.val, by omega⟩ := by
  unfold kernelRun0_A.sl.r_23 k0_pay165
  exact (cast_tile _ a l).trans (v669_apply c arg3 harg3 arg4 harg4 arg6 harg6 arg7 harg7 arg13 x2 x3 x5 x6 a l)

theorem slot5_1 (a : Fin 512) (l : Fin 128) : kernelRun0_A.sl.r_24 (F := Ideal) c arg3 harg3 arg4 harg4 arg6 harg6 arg7 harg7 arg13 x2 x3 x5 x6 (ix2 a l) = Merge.at16 (F := Ideal) x3 a ⟨1 * 128 + l.val, by omega⟩ := by
  unfold kernelRun0_A.sl.r_24 k0_pay166
  exact (cast_tile _ a l).trans (v671_apply c arg3 harg3 arg4 harg4 arg6 harg6 arg7 harg7 arg13 x2 x3 x5 x6 a l)

theorem slot5_2 (a : Fin 512) (l : Fin 128) : kernelRun0_A.sl.r_25 (F := Ideal) c arg3 harg3 arg4 harg4 arg6 harg6 arg7 harg7 arg13 x2 x3 x5 x6 (ix2 a l) = Merge.at16 (F := Ideal) x3 a ⟨2 * 128 + l.val, by omega⟩ := by
  unfold kernelRun0_A.sl.r_25 k0_pay167
  exact (cast_tile _ a l).trans (v673_apply c arg3 harg3 arg4 harg4 arg6 harg6 arg7 harg7 arg13 x2 x3 x5 x6 a l)

theorem slot5_3 (a : Fin 512) (l : Fin 128) : shapeCast S512x128 (kernelRun0_A.sl.v675 (F := Ideal) c arg3 harg3 arg4 harg4 arg6 harg6 arg7 harg7 arg13 x2 x3 x5 x6) shapeCasts_S1x1x512x128_S512x128 (ix2 a l) = Merge.at16 (F := Ideal) x3 a ⟨3 * 128 + l.val, by omega⟩ :=
  (cast_tile _ a l).trans (v675_apply c arg3 harg3 arg4 harg4 arg6 harg6 arg7 harg7 arg13 x2 x3 x5 x6 a l)

end Slots

/-! ## The arithmetic -/

theorem pay168_apply (l0 l1 l2 o0 o1 : FVec Ideal S512x512 .f32) (t0 t1 t2 : FVec Ideal S512x128 .f32) (t3 : Vec Ideal S1x1x512x128 .f32)
    (h : Vec Ideal S512x1024 .f32) (w : Vec Ideal S512x1024 .bf16) (o2 : Fin 512 → Fin 512 → EReal)
    (h0 : ∀ (a : Fin 512) (l : Fin 128), t0 (ix2 a l) = o2 a ⟨0 * 128 + l.val, by omega⟩)
    (h1 : ∀ (a : Fin 512) (l : Fin 128), t1 (ix2 a l) = o2 a ⟨1 * 128 + l.val, by omega⟩)
    (h2 : ∀ (a : Fin 512) (l : Fin 128), t2 (ix2 a l) = o2 a ⟨2 * 128 + l.val, by omega⟩)
    (h3 : ∀ (a : Fin 512) (l : Fin 128), shapeCast S512x128 t3 shapeCasts_S1x1x512x128_S512x128 (ix2 a l) = o2 a ⟨3 * 128 + l.val, by omega⟩)
    (r : Fin 512) (l : Fin 1024) :
    k0_pay168 l0 l1 l2 o0 o1 t0 t1 t2 t3 h w (ix2 r l)
      = resid (fun k => h (ix2 r k)) (fun k => mrg (l0 (ix2 r k)) (l1 (ix2 r k)) (l2 (ix2 r k)) (o0 (ix2 r k)) (o1 (ix2 r k)) (o2 r k))
          (fun k j => w (ix2 k j)) l := by
  unfold k0_pay168
  obtain ⟨y, hy⟩ : ∃ y : FVec Ideal S512x512 .f32, concatenate S512x512 1 [⟨S512x128, t0⟩, ⟨S512x128, t1⟩, ⟨S512x128, t2⟩, ⟨S512x128, shapeCast S512x128 t3 shapeCasts_S1x1x512x128_S512x128⟩]
      concatenates_S512x128_S512x128_S512x128_S512x128_S512x512_d1 = y := ⟨_, rfl⟩
  have e (a f : Fin 512) : y (ix2 a f) = o2 a f := by
    rw [← hy]; exact cat_apply t0 t1 t2 _ o2 h0 h1 h2 h3 a f
  simp only [hy, ← e]
  pointwise [resid, mrg]

theorem pay169_apply (l0 l1 l2 o0 o1 : FVec Ideal S512x512 .f32) (t0 t1 t2 : FVec Ideal S512x128 .f32) (t3 : Vec Ideal S1x1x512x128 .f32)
    (h : Vec Ideal S512x1024 .f32) (w : Vec Ideal S512x1024 .bf16) (g : Vec Ideal S1x1024 .f32) (r : Fin 512) (l : Fin 1024) :
    k0_pay169 l0 l1 l2 o0 o1 t0 t1 t2 t3 h w g (ix2 r l)
      = rms (fun j => k0_pay168 l0 l1 l2 o0 o1 t0 t1 t2 t3 h w (ix2 r j)) (fun j => g (ix2 0 j)) l := by
  unfold k0_pay169
  generalize k0_pay168 l0 l1 l2 o0 o1 t0 t1 t2 t3 h w = y
  pointwise [rms, scale]

theorem pay170_apply (r : Fin 512) (l : Fin 1024) : k0_pay170 (F := Ideal) (ix2 r l) = 0 := by
  pointwise [k0_pay170]

theorem pay171_eq (u : Vec Ideal S1024x512 .bf16) : k0_pay171 u = u := by
  funext i
  obtain ⟨k, f, rfl⟩ : ∃ (k : Fin 1024) (f : Fin 512), i = (ix2 k f : S1024x512.Idx) := ⟨i 0, i 1, by funext a; match a with | ⟨0, _⟩ => rfl | ⟨1, _⟩ => rfl⟩
  pointwise [k0_pay171]

theorem pay176_eq (d : Vec Ideal S512x1024 .bf16) : k0_pay176 d = d := by
  funext i
  obtain ⟨k, f, rfl⟩ : ∃ (k : Fin 512) (f : Fin 1024), i = (ix2 k f : S512x1024.Idx) := ⟨i 0, i 1, by funext a; match a with | ⟨0, _⟩ => rfl | ⟨1, _⟩ => rfl⟩
  pointwise [k0_pay176]

theorem pay172_apply (n : FVec Ideal S512x1024 .bf16) (acc : FVec Ideal S512x1024 .f32) (u0 : FVec Ideal S1024x512 .bf16)
    (d0 : Vec Ideal S512x1024 .bf16) (u1 : Vec Ideal S1024x512 .bf16) (d1 : Vec Ideal S512x1024 .bf16)
    (u2 : Vec Ideal S1024x512 .bf16) (d2 : Vec Ideal S512x1024 .bf16) (r : Fin 512) (l : Fin 1024) :
    k0_pay172 n acc u0 d0 u1 d1 u2 d2 (ix2 r l)
      = acc (ix2 r l) + mlp (fun k => n (ix2 r k)) (fun k f => u0 (ix2 k f)) (fun f j => d0 (ix2 f j)) l
        + mlp (fun k => n (ix2 r k)) (fun k f => u1 (ix2 k f)) (fun f j => d1 (ix2 f j)) l
        + mlp (fun k => n (ix2 r k)) (fun k f => u2 (ix2 k f)) (fun f j => d2 (ix2 f j)) l := by
  pointwise [k0_pay172, mlp, unit]

theorem pay173_apply (n : FVec Ideal S512x1024 .bf16) (u : Vec Ideal S1024x512 .bf16) (r f : Fin 512) :
    k0_pay173 n u (ix2 r f) = unit (fun k => n (ix2 r k)) (fun k f => u (ix2 k f)) f := by
  pointwise [k0_pay173, unit]

theorem pay174_apply (n : FVec Ideal S512x1024 .bf16) (acc : FVec Ideal S512x1024 .f32) (y : FVec Ideal S512x512 .f32)
    (d0 : Vec Ideal S512x1024 .bf16) (u1 : Vec Ideal S1024x512 .bf16) (d1 : Vec Ideal S512x1024 .bf16)
    (u2 : Vec Ideal S1024x512 .bf16) (d2 : Vec Ideal S512x1024 .bf16) (r : Fin 512) (l : Fin 1024) :
    k0_pay174 n acc y d0 u1 d1 u2 d2 (ix2 r l)
      = acc (ix2 r l) + (∑ f : Fin 512, y (ix2 r f) * d0 (ix2 f l))
        + mlp (fun k => n (ix2 r k)) (fun k f => u1 (ix2 k f)) (fun f j => d1 (ix2 f j)) l
        + mlp (fun k => n (ix2 r k)) (fun k f => u2 (ix2 k f)) (fun f j => d2 (ix2 f j)) l := by
  pointwise [k0_pay174, mlp, unit]

theorem pay175_apply (n : FVec Ideal S512x1024 .bf16) (u : Vec Ideal S1024x512 .bf16) (r f : Fin 512) :
    k0_pay175 n u (ix2 r f) = unit (fun k => n (ix2 r k)) (fun k f => u (ix2 k f)) f := by
  pointwise [k0_pay175, unit]

theorem pay1_apply (x : FVec Ideal S512x1024 .f32) (n : FVec Ideal S512x1024 .bf16) (acc : FVec Ideal S512x1024 .f32) (y : FVec Ideal S512x512 .bf16)
    (d0 : FVec Ideal S512x1024 .bf16) (u1 : Vec Ideal S1024x512 .bf16) (d1 : Vec Ideal S512x1024 .bf16) (r : Fin 512) (l : Fin 1024) :
    k0_pay1 x n acc y d0 (constant S512x1024 .f32 0x00000000#32) u1 d1 (ix2 r l)
      = x (ix2 r l) + (acc (ix2 r l) + (∑ f : Fin 512, y (ix2 r f) * d0 (ix2 f l))
        + mlp (fun k => n (ix2 r k)) (fun k f => u1 (ix2 k f)) (fun f j => d1 (ix2 f j)) l) := by
  pointwise [k0_pay1, mlp, unit]

end Cert.MergeBody

end
-- ==== Proof.MergeOut.lean ====
/- The block the merging post kernel leaves at one grid point. -/
module

public import proofs.«01_k».proof.Proof.MergeBody

@[expose] public section

noncomputable section

namespace Cert.MergeBody

open Cert.PostMergeIdeal Cert.PostMergeIdeal.Gen Idealize.ShloMosaic Idealize.ShloMosaic.TcCoe Cert.MergeRows
open Cert.Rows (rms scale mlp unit mlp_chunks)

theorem ld_h (arg : Memref sig .tc .vmem S512x1024 .f32) (harg : arg.IsWhole) (x : Vec Ideal S512x1024 .f32) (h) :
    View.readAt (Elt Ideal) arg.view (Rect.unit (s := S512x1024) ![0, 0] S512x1024.size h).toLoadRect (harg.unread x) = x :=
  (congrArg (fun y => View.ld y (Rect.unit (s := S512x1024) ![0, 0] S512x1024.size h)) (harg.read_unread x)).trans
    (View.ld_unit_zero (by funext a; fin_cases a <;> rfl) _ x)

theorem ld_o (arg : Memref sig .tc .vmem S512x512 .f32) (harg : arg.IsWhole) (x : Vec Ideal S512x512 .f32) (h) :
    View.readAt (Elt Ideal) arg.view (Rect.unit (s := S512x512) ![0, 0] S512x512.size h).toLoadRect (harg.unread x) = x :=
  (congrArg (fun y => View.ld y (Rect.unit (s := S512x512) ![0, 0] S512x512.size h)) (harg.read_unread x)).trans
    (View.ld_unit_zero (by funext a; fin_cases a <;> rfl) _ x)

theorem ld_w (arg : Memref sig .tc .vmem S512x1024 .bf16) (harg : arg.IsWhole) (x : Vec Ideal S512x1024 .bf16) (h) :
    View.readAt (Elt Ideal) arg.view (Rect.unit (s := S512x1024) ![0, 0] S512x1024.size h).toLoadRect (harg.unread x) = x :=
  (congrArg (fun y => View.ld y (Rect.unit (s := S512x1024) ![0, 0] S512x1024.size h)) (harg.read_unread x)).trans
    (View.ld_unit_zero (by funext a; fin_cases a <;> rfl) _ x)

theorem ld_g (arg : Memref sig .tc .vmem S1x1024 .f32) (harg : arg.IsWhole) (x : Vec Ideal S1x1024 .f32) (h) :
    View.readAt (Elt Ideal) arg.view (Rect.unit (s := S1x1024) ![0, 0] S1x1024.size h).toLoadRect (harg.unread x) = x :=
  (congrArg (fun y => View.ld y (Rect.unit (s := S1x1024) ![0, 0] S1x1024.size h)) (harg.read_unread x)).trans
    (View.ld_unit_zero (by funext a; fin_cases a <;> rfl) _ x)

/-- A load of 512 columns of the first weight from column `o` on. -/
theorem ld_cols (arg : Memref sig .tc .vmem S1024x4096 .bf16) (harg : arg.IsWhole) (x : Vec Ideal S1024x4096 .bf16) (o : ℕ) (h)
    (ho : o + 512 ≤ 4096) (k : Fin 1024) (f : Fin 512) :
    View.readAt (Elt Ideal) arg.view (Rect.unit (s := S1024x4096) ![0, o] S1024x512.size h).toLoadRect (harg.unread x) (ix2 k f)
      = x (ix2 k ⟨o + f.val, by omega⟩) := by
  refine (congrFun (harg.read_unread x) _).trans (congrArg x (funext fun a => Fin.ext ?_))
  match a with
  | ⟨0, _⟩ => show 0 + 1 * k.val = k.val; omega
  | ⟨1, _⟩ => show o + 1 * f.val = o + f.val; omega

/-- A load of 512 rows of the second weight from row `o` on. -/
theorem ld_rows (arg : Memref sig .tc .vmem S4096x1024 .bf16) (harg : arg.IsWhole) (x : Vec Ideal S4096x1024 .bf16) (o : ℕ) (h)
    (ho : o + 512 ≤ 4096) (f : Fin 512) (j : Fin 1024) :
    View.readAt (Elt Ideal) arg.view (Rect.unit (s := S4096x1024) ![o, 0] S512x1024.size h).toLoadRect (harg.unread x) (ix2 f j)
      = x (ix2 ⟨o + f.val, by omega⟩ j) := by
  refine (congrFun (harg.read_unread x) _).trans (congrArg x (funext fun a => Fin.ext ?_))
  match a with
  | ⟨0, _⟩ => show o + 1 * f.val = o + f.val; omega
  | ⟨1, _⟩ => show 0 + 1 * j.val = j.val; omega

variable (c : Dev nD)
  (arg1 : Memref sig .tc .vmem S512x1024 .f32) (harg1 : arg1.IsWhole)
  (arg2 : Memref sig .tc .vmem S512x512 .f32) (harg2 : arg2.IsWhole)
  (arg3 : Memref sig .tc .vmem S128x2048 .f32) (harg3 : arg3.IsWhole)
  (arg4 : Memref sig .tc .vmem S32x8192 .f32) (harg4 : arg4.IsWhole)
  (arg5 : Memref sig .tc .vmem S512x512 .f32) (harg5 : arg5.IsWhole)
  (arg6 : Memref sig .tc .vmem S128x2048 .f32) (harg6 : arg6.IsWhole)
  (arg7 : Memref sig .tc .vmem S32x8192 .f32) (harg7 : arg7.IsWhole)
  (arg8 : Memref sig .tc .vmem S512x1024 .bf16) (harg8 : arg8.IsWhole)
  (arg9 : Memref sig .tc .vmem S1x1024 .f32) (harg9 : arg9.IsWhole)
  (arg10 : Memref sig .tc .vmem S1024x4096 .bf16) (harg10 : arg10.IsWhole)
  (arg11 : Memref sig .tc .vmem S4096x1024 .bf16) (harg11 : arg11.IsWhole)
  (arg12 : Memref sig .tc .vmem S512x1024 .f32) (harg12 : arg12.IsWhole)
  (arg13 : Memref sig .tc .vmem S6x4x512x128 .f32) (harg13 : arg13.IsWhole)
  (x0 : Vec Ideal S512x1024 .f32)
  (x1 : Vec Ideal S512x512 .f32)
  (x2 : Vec Ideal S128x2048 .f32)
  (x3 : Vec Ideal S32x8192 .f32)
  (x4 : Vec Ideal S512x512 .f32)
  (x5 : Vec Ideal S128x2048 .f32)
  (x6 : Vec Ideal S32x8192 .f32)
  (x7 : Vec Ideal S512x1024 .bf16)
  (x8 : Vec Ideal S1x1024 .f32)
  (x9 : Vec Ideal S1024x4096 .bf16)
  (x10 : Vec Ideal S4096x1024 .bf16)

theorem out_pieces (i : grid0.Coords) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10).1
    = [⟨Rect.unit (s := S512x1024) ![0, 0] S512x1024.size inb_S512x1024_S512x1024_0_0,
        k0_pay1 (kernelRun0_A.sl.r_26 (F := Ideal) c arg1 harg1 arg2 harg2 arg3 harg3 arg4 harg4 arg5 harg5 arg6 harg6 arg7 harg7 arg8 harg8 arg13 x0 x1 x2 x3 x4 x5 x6 x7) (kernelRun0_A.sl.r_27 (F := Ideal) c arg1 harg1 arg2 harg2 arg3 harg3 arg4 harg4 arg5 harg5 arg6 harg6 arg7 harg7 arg8 harg8 arg9 harg9 arg13 x0 x1 x2 x3 x4 x5 x6 x7 x8) (kernelRun0_A.sl.r_31 (F := Ideal) c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (kernelRun0_A.sl.r_32 (F := Ideal) c arg1 harg1 arg2 harg2 arg3 harg3 arg4 harg4 arg5 harg5 arg6 harg6 arg7 harg7 arg8 harg8 arg9 harg9 arg10 harg10 arg13 x0 x1 x2 x3 x4 x5 x6 x7 x8 x9) (kernelRun0_A.sl.r_33 (F := Ideal) c arg11 harg11 x10) (constant S512x1024 .f32 0x00000000#32)
          (View.readAt (Elt Ideal) arg10.view (Rect.unit (s := S1024x4096) ![0, 3584] S1024x512.size inb_S1024x4096_S1024x512_0_3584).toLoadRect (harg10.unread x9))
          (View.readAt (Elt Ideal) arg11.view (Rect.unit (s := S4096x1024) ![3584, 0] S512x1024.size inb_S4096x1024_S512x1024_3584_0).toLoadRect (harg11.unread x10))⟩] := by rfl

/-- The residual row. -/
abbrev res (r : Fin 512) : Fin 1024 → EReal :=
  resid (fun k => x0 (ix2 r k)) (fun k => mrg (x4 (ix2 r k)) (Merge.at4 (F := Ideal) x5 r k) (Merge.at16 (F := Ideal) x6 r k)
    (x1 (ix2 r k)) (Merge.at4 (F := Ideal) x2 r k) (Merge.at16 (F := Ideal) x3 r k)) (fun k j => x7 (ix2 k j))

theorem r26_apply (r : Fin 512) (l : Fin 1024) : (kernelRun0_A.sl.r_26 (F := Ideal) c arg1 harg1 arg2 harg2 arg3 harg3 arg4 harg4 arg5 harg5 arg6 harg6 arg7 harg7 arg8 harg8 arg13 x0 x1 x2 x3 x4 x5 x6 x7) (ix2 r l) = res x0 x1 x2 x3 x4 x5 x6 x7 r l := by
  unfold kernelRun0_A.sl.r_26 kernelRun0_A.sl.r kernelRun0_A.sl.r_12
  rw [ld_o, ld_o, ld_h, ld_w]
  refine (pay168_apply _ _ _ _ _ _ _ _ _ _ _ (fun a f => Merge.at16 (F := Ideal) x3 a f)
    (slot5_0 c arg3 harg3 arg4 harg4 arg6 harg6 arg7 harg7 arg13 x2 x3 x5 x6) (slot5_1 c arg3 harg3 arg4 harg4 arg6 harg6 arg7 harg7 arg13 x2 x3 x5 x6)
    (slot5_2 c arg3 harg3 arg4 harg4 arg6 harg6 arg7 harg7 arg13 x2 x3 x5 x6) (slot5_3 c arg3 harg3 arg4 harg4 arg6 harg6 arg7 harg7 arg13 x2 x3 x5 x6) r l).trans ?_
  simp only [slot1, slot2, slot4]

theorem r27_apply (r : Fin 512) (l : Fin 1024) : (kernelRun0_A.sl.r_27 (F := Ideal) c arg1 harg1 arg2 harg2 arg3 harg3 arg4 harg4 arg5 harg5 arg6 harg6 arg7 harg7 arg8 harg8 arg9 harg9 arg13 x0 x1 x2 x3 x4 x5 x6 x7 x8) (ix2 r l) = rms (res x0 x1 x2 x3 x4 x5 x6 x7 r) (fun j => x8 (ix2 0 j)) l := by
  unfold kernelRun0_A.sl.r_27
  refine (pay169_apply _ _ _ _ _ _ _ _ _ _ _ _ r l).trans ?_
  have e := funext fun j => r26_apply c arg1 harg1 arg2 harg2 arg3 harg3 arg4 harg4 arg5 harg5 arg6 harg6 arg7 harg7 arg8 harg8 arg13 x0 x1 x2 x3 x4 x5 x6 x7 r j
  unfold kernelRun0_A.sl.r_26 at e
  rw [e, ld_g]

/-- Eight runs of 512 hidden units, of the row `n`. -/
theorem r31_apply (r : Fin 512) (l : Fin 1024) : (kernelRun0_A.sl.r_31 (F := Ideal) c arg1 harg1 arg2 harg2 arg3 harg3 arg4 harg4 arg5 harg5 arg6 harg6 arg7 harg7 arg8 harg8 arg9 harg9 arg10 harg10 arg11 harg11 arg13 x0 x1 x2 x3 x4 x5 x6 x7 x8 x9 x10) (ix2 r l)
    = 0 + mlp (fun k => (kernelRun0_A.sl.r_27 (F := Ideal) c arg1 harg1 arg2 harg2 arg3 harg3 arg4 harg4 arg5 harg5 arg6 harg6 arg7 harg7 arg8 harg8 arg9 harg9 arg13 x0 x1 x2 x3 x4 x5 x6 x7 x8) (ix2 r k)) (fun k f => (View.readAt (Elt Ideal) arg10.view (Rect.unit (s := S1024x4096) ![0, 0] S1024x512.size inb_S1024x4096_S1024x512_0_0).toLoadRect (harg10.unread x9)) (ix2 k f)) (fun f j => (View.readAt (Elt Ideal) arg11.view (Rect.unit (s := S4096x1024) ![0, 0] S512x1024.size inb_S4096x1024_S512x1024_0_0).toLoadRect (harg11.unread x10)) (ix2 f j)) l
        + mlp (fun k => (kernelRun0_A.sl.r_27 (F := Ideal) c arg1 harg1 arg2 harg2 arg3 harg3 arg4 harg4 arg5 harg5 arg6 harg6 arg7 harg7 arg8 harg8 arg9 harg9 arg13 x0 x1 x2 x3 x4 x5 x6 x7 x8) (ix2 r k)) (fun k f => (View.readAt (Elt Ideal) arg10.view (Rect.unit (s := S1024x4096) ![0, 512] S1024x512.size inb_S1024x4096_S1024x512_0_512).toLoadRect (harg10.unread x9)) (ix2 k f)) (fun f j => (View.readAt (Elt Ideal) arg11.view (Rect.unit (s := S4096x1024) ![512, 0] S512x1024.size inb_S4096x1024_S512x1024_512_0).toLoadRect (harg11.unread x10)) (ix2 f j)) l
        + mlp (fun k => (kernelRun0_A.sl.r_27 (F := Ideal) c arg1 harg1 arg2 harg2 arg3 harg3 arg4 harg4 arg5 harg5 arg6 harg6 arg7 harg7 arg8 harg8 arg9 harg9 arg13 x0 x1 x2 x3 x4 x5 x6 x7 x8) (ix2 r k)) (fun k f => (View.readAt (Elt Ideal) arg10.view (Rect.unit (s := S1024x4096) ![0, 1024] S1024x512.size inb_S1024x4096_S1024x512_0_1024).toLoadRect (harg10.unread x9)) (ix2 k f)) (fun f j => (View.readAt (Elt Ideal) arg11.view (Rect.unit (s := S4096x1024) ![1024, 0] S512x1024.size inb_S4096x1024_S512x1024_1024_0).toLoadRect (harg11.unread x10)) (ix2 f j)) l
        + mlp (fun k => (kernelRun0_A.sl.r_27 (F := Ideal) c arg1 harg1 arg2 harg2 arg3 harg3 arg4 harg4 arg5 harg5 arg6 harg6 arg7 harg7 arg8 harg8 arg9 harg9 arg13 x0 x1 x2 x3 x4 x5 x6 x7 x8) (ix2 r k)) (fun k f => (View.readAt (Elt Ideal) arg10.view (Rect.unit (s := S1024x4096) ![0, 1536] S1024x512.size inb_S1024x4096_S1024x512_0_1536).toLoadRect (harg10.unread x9)) (ix2 k f)) (fun f j => (View.readAt (Elt Ideal) arg11.view (Rect.unit (s := S4096x1024) ![1536, 0] S512x1024.size inb_S4096x1024_S512x1024_1536_0).toLoadRect (harg11.unread x10)) (ix2 f j)) l
        + mlp (fun k => (kernelRun0_A.sl.r_27 (F := Ideal) c arg1 harg1 arg2 harg2 arg3 harg3 arg4 harg4 arg5 harg5 arg6 harg6 arg7 harg7 arg8 harg8 arg9 harg9 arg13 x0 x1 x2 x3 x4 x5 x6 x7 x8) (ix2 r k)) (fun k f => (View.readAt (Elt Ideal) arg10.view (Rect.unit (s := S1024x4096) ![0, 2048] S1024x512.size inb_S1024x4096_S1024x512_0_2048).toLoadRect (harg10.unread x9)) (ix2 k f)) (fun f j => (View.readAt (Elt Ideal) arg11.view (Rect.unit (s := S4096x1024) ![2048, 0] S512x1024.size inb_S4096x1024_S512x1024_2048_0).toLoadRect (harg11.unread x10)) (ix2 f j)) l
        + mlp (fun k => (kernelRun0_A.sl.r_27 (F := Ideal) c arg1 harg1 arg2 harg2 arg3 harg3 arg4 harg4 arg5 harg5 arg6 harg6 arg7 harg7 arg8 harg8 arg9 harg9 arg13 x0 x1 x2 x3 x4 x5 x6 x7 x8) (ix2 r k)) (fun k f => (View.readAt (Elt Ideal) arg10.view (Rect.unit (s := S1024x4096) ![0, 2560] S1024x512.size inb_S1024x4096_S1024x512_0_2560).toLoadRect (harg10.unread x9)) (ix2 k f)) (fun f j => (View.readAt (Elt Ideal) arg11.view (Rect.unit (s := S4096x1024) ![2560, 0] S512x1024.size inb_S4096x1024_S512x1024_2560_0).toLoadRect (harg11.unread x10)) (ix2 f j)) l := by
  unfold kernelRun0_A.sl.r_31
  rw [pay174_apply]
  unfold kernelRun0_A.sl.r_29 kernelRun0_A.sl.r_30 kernelRun0_A.sl.r_28
  rw [pay172_apply, pay170_apply, pay171_eq]
  simp only [pay173_apply]
  rfl

/-- THE BODY'S RESULT at row `r`, feature `l` of its block. -/
theorem out_apply (i : grid0.Coords) (r : Fin 512) (l : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix2 r l)
      = layer (fun k => x0 (ix2 r k)) (fun k => mrg (x4 (ix2 r k)) (Merge.at4 (F := Ideal) x5 r k) (Merge.at16 (F := Ideal) x6 r k)
          (x1 (ix2 r k)) (Merge.at4 (F := Ideal) x2 r k) (Merge.at16 (F := Ideal) x3 r k)) (fun k j => x7 (ix2 k j)) (fun j => x8 (ix2 0 j))
          (fun k f => x9 (ix2 k f)) (fun f j => x10 (ix2 f j)) l := by
  unfold out0_A_11
  rw [View.read_writes_junk_eq_canon, out_pieces, View.canon_unit_zero (by funext a; fin_cases a <;> rfl), pay1_apply, r31_apply, r26_apply]
  unfold kernelRun0_A.sl.r_32 kernelRun0_A.sl.r_33
  rw [pay176_eq]
  simp only [pay175_apply]
  unfold layer
  refine congrArg (res x0 x1 x2 x3 x4 x5 x6 x7 r l + ·) ?_
  rw [mlp_chunks, Fin.sum_univ_eight, zero_add]
  simp only [r27_apply, ld_cols _ _ _ 0 _ (by norm_num), ld_cols _ _ _ 512 _ (by norm_num), ld_cols _ _ _ 1024 _ (by norm_num), ld_cols _ _ _ 1536 _ (by norm_num),
    ld_cols _ _ _ 2048 _ (by norm_num), ld_cols _ _ _ 2560 _ (by norm_num), ld_cols _ _ _ 3072 _ (by norm_num), ld_cols _ _ _ 3584 _ (by norm_num),
    ld_rows _ _ _ 0 _ (by norm_num), ld_rows _ _ _ 512 _ (by norm_num), ld_rows _ _ _ 1024 _ (by norm_num), ld_rows _ _ _ 1536 _ (by norm_num),
    ld_rows _ _ _ 2048 _ (by norm_num), ld_rows _ _ _ 2560 _ (by norm_num), ld_rows _ _ _ 3072 _ (by norm_num), ld_rows _ _ _ 3584 _ (by norm_num)]
  rfl

end Cert.MergeBody

end
-- ==== Proof.MergeValue.lean ====
/- The result array of the merging post kernel, as one function of the argument arrays. -/
module

public import proofs.«01_k».proof.Proof.MergeOut
public import Idealize.ShloMosaic.Lib.StableHlo.ReadAt

@[expose] public section

noncomputable section

namespace Cert.MergeValue

open Cert.PostMergeIdeal Cert.PostMergeIdeal.Gen Cert.PostMergeIdeal.Value Idealize.ShloMosaic Idealize.ShloMosaic.TcCoe Idealize.SL.Sem Cert.MergeRows

variable (m : (ℓ : Loc nD τ sig) → Buf (Elt Ideal) ℓ) (ρ : Dev nD → PrngReg)

theorem V_v0 (c : Dev nD) (j : S512x1024.Idx) : V m c main_v0 j = m ((c : Thread nD τ).loc main_arg7) j := by
  unfold V; after_reads_at
theorem V_v1 (c : Dev nD) (j : S1024x4096.Idx) : V m c main_v1 j = m ((c : Thread nD τ).loc main_arg9) j := by
  unfold V; after_reads_at
theorem V_v2 (c : Dev nD) (j : S4096x1024.Idx) : V m c main_v2 j = m ((c : Thread nD τ).loc main_arg10) j := by
  unfold V; after_reads_at
theorem V_v3 (c : Dev nD) (l : Fin 1024) : V m c main_v3 (ix2 0 l) = m ((c : Thread nD τ).loc main_arg8) (ix1 l) := by
  unfold V; after_reads_at
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = t.val ∧ win0_11.index t (1 : Fin 2) = 0 := (by decide +kernel : ∀ t : Fin grid0.N, _)

/-- Row `r` of block `t` is this row of the array of `n` rows to a block. -/
def row (t : Fin cfg0.N) (r : Fin 512) : Fin 32768 := ⟨512 * t.val + r.val, by have h : t.val < 64 := t.isLt; omega⟩
def row4 (t : Fin cfg0.N) (r : Fin 128) : Fin 8192 := ⟨128 * t.val + r.val, by have h : t.val < 64 := t.isLt; omega⟩
def row16 (t : Fin cfg0.N) (r : Fin 32) : Fin 2048 := ⟨32 * t.val + r.val, by have h : t.val < 64 := t.isLt; omega⟩

theorem ib0 (c : Dev nD) (t : Fin cfg0.N) (r : Fin 512) (k : Fin 1024) :
    iblk m c 0 t (ix2 r k) = m ((c : Thread nD τ).loc main_arg0) (ix2 (row t r) k) := by
  show V m c main_arg0 (((cfg0.win 0).blk t).view.emb (ix2 r k)) = _
  rw [V_main_arg0]; congr 1; funext a; apply Fin.ext
  obtain ⟨h0, h1⟩ := idx0 t
  match a with
  | ⟨0, _⟩ => show win0_0.index t (0 : Fin 2) * 512 + 1 * r.val = 512 * t.val + r.val; omega
  | ⟨1, _⟩ => show win0_0.index t (1 : Fin 2) * 1024 + 1 * k.val = k.val; omega

theorem ib1 (c : Dev nD) (t : Fin cfg0.N) (r : Fin 512) (k : Fin 512) :
    iblk m c 1 t (ix2 r k) = m ((c : Thread nD τ).loc main_arg1) (ix2 (row t r) k) := by
  show V m c main_arg1 (((cfg0.win 1).blk t).view.emb (ix2 r k)) = _
  rw [V_main_arg1]; congr 1; funext a; apply Fin.ext
  obtain ⟨h0, h1⟩ := idx1 t
  match a with
  | ⟨0, _⟩ => show win0_1.index t (0 : Fin 2) * 512 + 1 * r.val = 512 * t.val + r.val; omega
  | ⟨1, _⟩ => show win0_1.index t (1 : Fin 2) * 512 + 1 * k.val = k.val; omega

theorem ib2 (c : Dev nD) (t : Fin cfg0.N) (r : Fin 128) (k : Fin 2048) :
    iblk m c 2 t (ix2 r k) = m ((c : Thread nD τ).loc main_arg2) (ix2 (row4 t r) k) := by
  show V m c main_arg2 (((cfg0.win 2).blk t).view.emb (ix2 r k)) = _
  rw [V_main_arg2]; congr 1; funext a; apply Fin.ext
  obtain ⟨h0, h1⟩ := idx2 t
  match a with
  | ⟨0, _⟩ => show win0_2.index t (0 : Fin 2) * 128 + 1 * r.val = 128 * t.val + r.val; omega
  | ⟨1, _⟩ => show win0_2.index t (1 : Fin 2) * 2048 + 1 * k.val = k.val; omega

theorem ib3 (c : Dev nD) (t : Fin cfg0.N) (r : Fin 32) (k : Fin 8192) :
    iblk m c 3 t (ix2 r k) = m ((c : Thread nD τ).loc main_arg3) (ix2 (row16 t r) k) := by
  show V m c main_arg3 (((cfg0.win 3).blk t).view.emb (ix2 r k)) = _
  rw [V_main_arg3]; congr 1; funext a; apply Fin.ext
  obtain ⟨h0, h1⟩ := idx3 t
  match a with
  | ⟨0, _⟩ => show win0_3.index t (0 : Fin 2) * 32 + 1 * r.val = 32 * t.val + r.val; omega
  | ⟨1, _⟩ => show win0_3.index t (1 : Fin 2) * 8192 + 1 * k.val = k.val; omega

theorem ib4 (c : Dev nD) (t : Fin cfg0.N) (r : Fin 512) (k : Fin 512) :
    iblk m c 4 t (ix2 r k) = m ((c : Thread nD τ).loc main_arg4) (ix2 (row t r) k) := by
  show V m c main_arg4 (((cfg0.win 4).blk t).view.emb (ix2 r k)) = _
  rw [V_main_arg4]; congr 1; funext a; apply Fin.ext
  obtain ⟨h0, h1⟩ := idx4 t
  match a with
  | ⟨0, _⟩ => show win0_4.index t (0 : Fin 2) * 512 + 1 * r.val = 512 * t.val + r.val; omega
  | ⟨1, _⟩ => show win0_4.index t (1 : Fin 2) * 512 + 1 * k.val = k.val; omega

theorem ib5 (c : Dev nD) (t : Fin cfg0.N) (r : Fin 128) (k : Fin 2048) :
    iblk m c 5 t (ix2 r k) = m ((c : Thread nD τ).loc main_arg5) (ix2 (row4 t r) k) := by
  show V m c main_arg5 (((cfg0.win 5).blk t).view.emb (ix2 r k)) = _
  rw [V_main_arg5]; congr 1; funext a; apply Fin.ext
  obtain ⟨h0, h1⟩ := idx5 t
  match a with
  | ⟨0, _⟩ => show win0_5.index t (0 : Fin 2) * 128 + 1 * r.val = 128 * t.val + r.val; omega
  | ⟨1, _⟩ => show win0_5.index t (1 : Fin 2) * 2048 + 1 * k.val = k.val; omega

theorem ib6 (c : Dev nD) (t : Fin cfg0.N) (r : Fin 32) (k : Fin 8192) :
    iblk m c 6 t (ix2 r k) = m ((c : Thread nD τ).loc main_arg6) (ix2 (row16 t r) k) := by
  show V m c main_arg6 (((cfg0.win 6).blk t).view.emb (ix2 r k)) = _
  rw [V_main_arg6]; congr 1; funext a; apply Fin.ext
  obtain ⟨h0, h1⟩ := idx6 t
  match a with
  | ⟨0, _⟩ => show win0_6.index t (0 : Fin 2) * 32 + 1 * r.val = 32 * t.val + r.val; omega
  | ⟨1, _⟩ => show win0_6.index t (1 : Fin 2) * 8192 + 1 * k.val = k.val; omega

theorem ib7 (c : Dev nD) (t : Fin cfg0.N) (r : Fin 512) (k : Fin 1024) :
    iblk m c 7 t (ix2 r k) = m ((c : Thread nD τ).loc main_arg7) (ix2 r k) := by
  show V m c main_v0 (((cfg0.win 7).blk t).view.emb (ix2 r k)) = _
  rw [V_v0]; congr 1; funext a; apply Fin.ext
  obtain ⟨h0, h1⟩ := idx7 t
  match a with
  | ⟨0, _⟩ => show win0_7.index t (0 : Fin 2) * 512 + 1 * r.val = r.val; omega
  | ⟨1, _⟩ => show win0_7.index t (1 : Fin 2) * 1024 + 1 * k.val = k.val; omega

theorem ib9 (c : Dev nD) (t : Fin cfg0.N) (r : Fin 1024) (k : Fin 4096) :
    iblk m c 9 t (ix2 r k) = m ((c : Thread nD τ).loc main_arg9) (ix2 r k) := by
  show V m c main_v1 (((cfg0.win 9).blk t).view.emb (ix2 r k)) = _
  rw [V_v1]; congr 1; funext a; apply Fin.ext
  obtain ⟨h0, h1⟩ := idx9 t
  match a with
  | ⟨0, _⟩ => show win0_9.index t (0 : Fin 2) * 1024 + 1 * r.val = r.val; omega
  | ⟨1, _⟩ => show win0_9.index t (1 : Fin 2) * 4096 + 1 * k.val = k.val; omega

theorem ib10 (c : Dev nD) (t : Fin cfg0.N) (r : Fin 4096) (k : Fin 1024) :
    iblk m c 10 t (ix2 r k) = m ((c : Thread nD τ).loc main_arg10) (ix2 r k) := by
  show V m c main_v2 (((cfg0.win 10).blk t).view.emb (ix2 r k)) = _
  rw [V_v2]; congr 1; funext a; apply Fin.ext
  obtain ⟨h0, h1⟩ := idx10 t
  match a with
  | ⟨0, _⟩ => show win0_10.index t (0 : Fin 2) * 4096 + 1 * r.val = r.val; omega
  | ⟨1, _⟩ => show win0_10.index t (1 : Fin 2) * 1024 + 1 * k.val = k.val; omega

theorem ib8 (c : Dev nD) (t : Fin cfg0.N) (j : Fin 1024) :
    iblk m c 8 t (ix2 0 j) = m ((c : Thread nD τ).loc main_arg8) (ix1 j) := by
  refine Eq.trans ?_ (V_v3 m c j)
  show V m c main_v3 (((cfg0.win 8).blk t).view.emb (ix2 0 j)) = _
  congr 1; funext a; apply Fin.ext
  obtain ⟨h0, h1⟩ := idx8 t
  match a with
  | ⟨0, _⟩ => show win0_8.index t (0 : Fin 2) * 1 + 1 * 0 = 0; omega
  | ⟨1, _⟩ => show win0_8.index t (1 : Fin 2) * 1024 + 1 * j.val = j.val; omega

/-- A token row's entry in the array of four token rows side by side, and in that of sixteen. -/
def tok4 (x : Vec Ideal S8192x2048 .f32) (a : Fin 32768) (f : Fin 512) : EReal := x (ix2 ⟨a.val / 4, by omega⟩ ⟨a.val % 4 * 512 + f.val, by omega⟩)
def tok16 (x : Vec Ideal S2048x8192 .f32) (a : Fin 32768) (f : Fin 512) : EReal := x (ix2 ⟨a.val / 16, by omega⟩ ⟨a.val % 16 * 512 + f.val, by omega⟩)

theorem row4_eq (t : Fin cfg0.N) (r : Fin 512) : row4 t ⟨r.val / 4, by omega⟩ = ⟨(row t r).val / 4, by have := (row t r).isLt; omega⟩ :=
  Fin.ext (by show 128 * t.val + r.val / 4 = (512 * t.val + r.val) / 4; omega)
theorem row16_eq (t : Fin cfg0.N) (r : Fin 512) : row16 t ⟨r.val / 16, by omega⟩ = ⟨(row t r).val / 16, by have := (row t r).isLt; omega⟩ :=
  Fin.ext (by show 32 * t.val + r.val / 16 = (512 * t.val + r.val) / 16; omega)
theorem col4_eq (t : Fin cfg0.N) (r f : Fin 512) : (⟨r.val % 4 * 512 + f.val, by omega⟩ : Fin 2048) = ⟨(row t r).val % 4 * 512 + f.val, by omega⟩ :=
  Fin.ext (by show r.val % 4 * 512 + f.val = (512 * t.val + r.val) % 4 * 512 + f.val; omega)
theorem col16_eq (t : Fin cfg0.N) (r f : Fin 512) : (⟨r.val % 16 * 512 + f.val, by omega⟩ : Fin 8192) = ⟨(row t r).val % 16 * 512 + f.val, by omega⟩ :=
  Fin.ext (by show r.val % 16 * 512 + f.val = (512 * t.val + r.val) % 16 * 512 + f.val; omega)

theorem at4_2 (c : Dev nD) (t : Fin cfg0.N) (r f : Fin 512) :
    Merge.at4 (F := Ideal) (iblk m c 2 t) r f = tok4 (m ((c : Thread nD τ).loc main_arg2)) (row t r) f := by
  refine (ib2 m c t _ _).trans ?_
  rw [row4_eq, col4_eq t]; rfl
theorem at4_5 (c : Dev nD) (t : Fin cfg0.N) (r f : Fin 512) :
    Merge.at4 (F := Ideal) (iblk m c 5 t) r f = tok4 (m ((c : Thread nD τ).loc main_arg5)) (row t r) f := by
  refine (ib5 m c t _ _).trans ?_
  rw [row4_eq, col4_eq t]; rfl
theorem at16_3 (c : Dev nD) (t : Fin cfg0.N) (r f : Fin 512) :
    Merge.at16 (F := Ideal) (iblk m c 3 t) r f = tok16 (m ((c : Thread nD τ).loc main_arg3)) (row t r) f := by
  refine (ib3 m c t _ _).trans ?_
  rw [row16_eq, col16_eq t]; rfl
theorem at16_6 (c : Dev nD) (t : Fin cfg0.N) (r f : Fin 512) :
    Merge.at16 (F := Ideal) (iblk m c 6 t) r f = tok16 (m ((c : Thread nD τ).loc main_arg6)) (row t r) f := by
  refine (ib6 m c t _ _).trans ?_
  rw [row16_eq, col16_eq t]; rfl

/-- The result array, the groups merged by `w`: every row through the layer. -/
def G (w : EReal → EReal → EReal → EReal → EReal → EReal → EReal) (a0 : Vec Ideal S32768x1024 .f32) (a1 : Vec Ideal S32768x512 .f32) (a2 : Vec Ideal S8192x2048 .f32) (a3 : Vec Ideal S2048x8192 .f32)
    (a4 : Vec Ideal S32768x512 .f32) (a5 : Vec Ideal S8192x2048 .f32) (a6 : Vec Ideal S2048x8192 .f32) (a7 : Vec Ideal S512x1024 .f32) (a8 : Vec Ideal S1024 .f32)
    (a9 : Vec Ideal S1024x4096 .f32) (a10 : Vec Ideal S4096x1024 .f32) : Vec Ideal S32768x1024 .f32 :=
  fun i => layer (fun k => a0 (ix2 (i 0) k))
    (fun k => w (a4 (ix2 (i 0) k)) (tok4 a5 (i 0) k) (tok16 a6 (i 0) k) (a1 (ix2 (i 0) k)) (tok4 a2 (i 0) k) (tok16 a3 (i 0) k))
    (fun k j => a7 (ix2 k j)) (fun j => a8 (ix1 j)) (fun k f => a9 (ix2 k f)) (fun f j => a10 (ix2 f j)) (i 1)

/-- The result array of the arguments as launched. -/
abbrev Gm (c : Dev nD) : Vec Ideal S32768x1024 .f32 :=
  G mrg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem emb11 (t : Fin cfg0.N) (r : Fin 512) (l : Fin 1024) : ((cfg0.win 11).blk t).view.emb (ix2 r l) = (ix2 (row t r) l : S32768x1024.Idx) := by
  funext a; apply Fin.ext
  obtain ⟨h0, h1⟩ := idx11 t
  match a with
  | ⟨0, _⟩ => show win0_11.index t (0 : Fin 2) * 512 + 1 * r.val = 512 * t.val + r.val; omega
  | ⟨1, _⟩ => show win0_11.index t (1 : Fin 2) * 1024 + 1 * l.val = l.val; omega

theorem flushed11_eq (c : Dev nD) (t : Fin cfg0.N) :
    (dats m 0 c).flushed 11 t = ((cfg0.win 11).blk t).view.read (Elt Ideal) (Gm m c) := by
  rw [flushed11_A]
  funext y
  obtain ⟨r, l, rfl⟩ : ∃ (r : Fin 512) (l : Fin 1024), y = (ix2 r l : S512x1024.Idx) := ⟨y 0, y 1, by funext a; match a with | ⟨0, _⟩ => rfl | ⟨1, _⟩ => rfl⟩
  refine (MergeBody.out_apply _ _ _ _ _ _ _ _ _ _ _ _ _ _ _ _ _ _ _ _ _ _ _ _ _ _ _ _ _ _ _ _ _ _ _ _ _ _ _ r l).trans ?_
  refine Eq.trans ?_ (congrArg (Gm m c) (emb11 t r l)).symm
  simp only [ib0, ib1, at4_2, at16_3, ib4, at4_5, at16_6, ib7, ib8, ib9, ib10]
  rfl

theorem mem11 (t : Fin cfg0.N) (r : Fin 512) (l : Fin 1024) : (ix2 (row t r) l : S32768x1024.Idx) ∈ ((cfg0.win 11).blk t).view.set := by
  have h := ((cfg0.win 11).blk t).view.emb_mem_set (ix2 r l)
  rw [emb11] at h
  exact h

theorem covered11 (i : S32768x1024.Idx) :
    ∃ t : Fin cfg0.N, (cfg0.win 11).flush t = true ∧ i ∈ ((cfg0.win 11).blk t).view.set := by
  have h0 : (i 0).val < 32768 := (i 0).isLt
  obtain ⟨t, r, e⟩ : ∃ (t : Fin cfg0.N) (r : Fin 512), (ix2 (row t r) (i 1) : S32768x1024.Idx) = i := by
    refine ⟨⟨(i 0).val / 512, by show _ < 64; omega⟩, ⟨(i 0).val % 512, by omega⟩, ?_⟩
    funext a; apply Fin.ext
    match a with
    | ⟨0, _⟩ => show 512 * ((i 0).val / 512) + (i 0).val % 512 = (i 0).val; omega
    | ⟨1, _⟩ => rfl
  exact ⟨t, flush0_11 t, e ▸ mem11 t r (i 1)⟩

theorem final11 (c : Dev nD) : (dats m 0 c).arrAt 11 cfg0.N = Gm m c :=
  (dats m 0 c).arrAt_eq_of_cover 11 (Gm m c) (fun t _ => flushed11_eq m c t) covered11

end Cert.MergeValue

end
-- ==== Proof.RefMerge.lean ====
/- The merged reference's result, row by row, and the two runs set side by side. -/
module

public import proofs.«01_k».proof.Proof.MergeValue
public import proofs.«01_k».proof.Proof.Gen.RefPostMergeIdeal.Read
public import proofs.«01_k».proof.Proof.Gen.Pre_finite_lse
public import proofs.«01_k».proof.Defs
public import Idealize.ShloMosaic.Lib.Pointwise

@[expose] public section

noncomputable section

namespace Cert.RefMergeRows

open Cert.RefPostMergeIdeal Cert.RefPostMergeIdeal.Gen Cert.RefPostMergeIdeal.Value Cert.RefPostMergeIdeal.Read Idealize.ShloMosaic Idealize.ShloMosaic.TcCoe Idealize.SL.Sem Cert.MergeRows
open Cert.Rows (rms scale mlp unit)
open Cert.MergeValue (tok4 tok16)

variable (x0 : Vec Ideal S32768x1024 .f32) (x1 : Vec Ideal S32768x512 .f32) (x2 : Vec Ideal S8192x2048 .f32) (x3 : Vec Ideal S2048x8192 .f32)
    (x4 : Vec Ideal S32768x512 .f32) (x5 : Vec Ideal S8192x2048 .f32) (x6 : Vec Ideal S2048x8192 .f32) (x7 : Vec Ideal S512x1024 .f32)
    (x8 : Vec Ideal S1024 .f32) (x9 : Vec Ideal S1024x4096 .f32) (x10 : Vec Ideal S4096x1024 .f32)

/-! ## The groups' arrays, token by token -/

theorem v0_apply (r : Fin 32768) (f : Fin 512) : val_main_v0 (F := Ideal) x5 (ix2 r f) = tok4 x5 r f := by
  rw [val_main_v0_apply]
  refine congrArg x5 (funext fun a => Fin.ext ?_)
  match a with
  | ⟨0, _⟩ => show (r.val * 512 + f.val) / 2048 = r.val / 4; omega
  | ⟨1, _⟩ => show (r.val * 512 + f.val) % 2048 = r.val % 4 * 512 + f.val; omega

theorem v22_apply (r : Fin 32768) (f : Fin 512) : val_main_v22 (F := Ideal) x2 (ix2 r f) = tok4 x2 r f := by
  rw [val_main_v22_apply]
  refine congrArg x2 (funext fun a => Fin.ext ?_)
  match a with
  | ⟨0, _⟩ => show (r.val * 512 + f.val) / 2048 = r.val / 4; omega
  | ⟨1, _⟩ => show (r.val * 512 + f.val) % 2048 = r.val % 4 * 512 + f.val; omega

theorem v1_apply (r : Fin 32768) (f : Fin 512) : val_main_v1 (F := Ideal) x6 (ix2 r f) = tok16 x6 r f := by
  rw [val_main_v1_apply]
  refine congrArg x6 (funext fun a => Fin.ext ?_)
  match a with
  | ⟨0, _⟩ => show (r.val * 512 + f.val) / 8192 = r.val / 16; omega
  | ⟨1, _⟩ => show (r.val * 512 + f.val) % 8192 = r.val % 16 * 512 + f.val; omega

theorem v27_apply (r : Fin 32768) (f : Fin 512) : val_main_v27 (F := Ideal) x3 (ix2 r f) = tok16 x3 r f := by
  rw [val_main_v27_apply]
  refine congrArg x3 (funext fun a => Fin.ext ?_)
  match a with
  | ⟨0, _⟩ => show (r.val * 512 + f.val) / 8192 = r.val / 16; omega
  | ⟨1, _⟩ => show (r.val * 512 + f.val) % 8192 = r.val % 16 * 512 + f.val; omega

/-! ## The softmax over the three groups -/

/-- The three log-denominators of a token. -/
def logs (r : Fin 32768) (f : Fin 512) : Fin 3 → EReal := ![x4 (ix2 r f), tok4 x5 r f, tok16 x6 r f]

theorem stack_apply (k : Fin 3) (r : Fin 32768) (f : Fin 512) : val_main_v5 (F := Ideal) x4 x5 x6 (ix3 k r f) = logs x4 x5 x6 r f k := by
  unfold val_main_v5
  have e2 : val_main_v2 (F := Ideal) x4 (ix3 0 r f) = x4 (ix2 r f) := by
    rw [val_main_v2_apply]
    refine congrArg x4 (funext fun x => ?_)
    match x with | ⟨0, _⟩ => rfl | ⟨1, _⟩ => rfl
  have e3 : val_main_v3 (F := Ideal) x5 (ix3 0 r f) = tok4 x5 r f := by
    rw [val_main_v3_apply]
    refine Eq.trans (congrArg (val_main_v0 (F := Ideal) x5) (funext fun x => ?_)) (v0_apply x5 r f)
    match x with | ⟨0, _⟩ => rfl | ⟨1, _⟩ => rfl
  have e4 : val_main_v4 (F := Ideal) x6 (ix3 0 r f) = tok16 x6 r f := by
    rw [val_main_v4_apply]
    refine Eq.trans (congrArg (val_main_v1 (F := Ideal) x6) (funext fun x => ?_)) (v1_apply x6 r f)
    match x with | ⟨0, _⟩ => rfl | ⟨1, _⟩ => rfl
  refine (concatenate_apply _ _ _ _ _).trans ((concatenateAt_cons _ _ _ _ _ _ _ _).trans ?_)
  match k with
  | ⟨0, _⟩ =>
    refine (dif_pos (show 0 < 1 by decide)).trans (Eq.trans (congrArg (val_main_v2 (F := Ideal) x4) (funext fun x => ?_)) e2)
    match x with | ⟨0, _⟩ => rfl | ⟨1, _⟩ => rfl | ⟨2, _⟩ => rfl
  | ⟨1, _⟩ =>
    refine (dif_neg (show ¬ 1 < 1 by decide)).trans ((concatenateAt_cons _ _ _ _ _ _ _ _).trans ?_)
    refine (dif_pos (show 1 - 1 < 1 by decide)).trans (Eq.trans (congrArg (val_main_v3 (F := Ideal) x5) (funext fun x => ?_)) e3)
    match x with | ⟨0, _⟩ => rfl | ⟨1, _⟩ => rfl | ⟨2, _⟩ => rfl
  | ⟨2, _⟩ =>
    refine (dif_neg (show ¬ 2 < 1 by decide)).trans ((concatenateAt_cons _ _ _ _ _ _ _ _).trans ?_)
    refine (dif_neg (show ¬ 2 - 1 < 1 by decide)).trans ((concatenateAt_singleton _ _ _ _ _ _).trans (Eq.trans (congrArg (val_main_v4 (F := Ideal) x6) (funext fun x => ?_)) e4))
    match x with | ⟨0, _⟩ => rfl | ⟨1, _⟩ => rfl | ⟨2, _⟩ => rfl

theorem neg_inf : Ideal.ofBits FTy.f32 0xFF800000#32 = (⊥ : EReal) := by simp [Ideal.ofBits, Ideal.ieee]

theorem fold3 (g : Fin 3 → EReal) : Finset.fold max ⊥ g Finset.univ = max (max (g 0) (g 1)) (g 2) := by
  have h : (Finset.univ : Finset (Fin 3)) = {0, 1, 2} := by decide
  rw [h, Finset.fold_insert (by decide), Finset.fold_insert (by decide), Finset.fold_singleton, max_bot_right, max_assoc]

/-- The largest of a token's three log-denominators. -/
def top (g : Fin 3 → EReal) : EReal := max (max (g 0) (g 1)) (g 2)

theorem max_apply (r : Fin 32768) (f : Fin 512) : val_main_v8 (F := Ideal) x4 x5 x6 (ix2 r f) = top (logs x4 x5 x6 r f) := by
  have e : val_main_v6 (F := Ideal) x4 x5 x6 (ix2 r f) = top (logs x4 x5 x6 r f) := by
    unfold val_main_v6
    refine (Host.reduce_eq_fold_single _ _ _ _ (by decide) _ _).trans ?_
    show Finset.fold max (Ideal.ofBits FTy.f32 0xFF800000#32) _ _ = _
    rw [neg_inf]
    refine Eq.trans (congrArg (fun f => Finset.fold max ⊥ f Finset.univ) (funext fun k => ?_)) (fold3 (logs x4 x5 x6 r f))
    refine Eq.trans (congrArg (val_main_v5 (F := Ideal) x4 x5 x6) (funext fun x => ?_)) (stack_apply x4 x5 x6 k r f)
    match x with | ⟨0, _⟩ => rfl | ⟨1, _⟩ => rfl | ⟨2, _⟩ => rfl
  rw [val_main_v8_apply, e, val_main_v7_apply]
  show max (Ideal.ofBits FTy.f32 0xFF800000#32) _ = _
  rw [neg_inf]
  exact max_eq_right bot_le

theorem exp_apply (k : Fin 3) (r : Fin 32768) (f : Fin 512) :
    val_main_v12 (F := Ideal) x4 x5 x6 (ix3 k r f) = Ideal.exp (logs x4 x5 x6 r f k - top (logs x4 x5 x6 r f)) := by
  rw [val_main_v12_apply, val_main_v11_apply, val_main_v10_apply, val_main_v9_apply, stack_apply, ← max_apply]
  refine congrArg (fun u => Ideal.exp (logs x4 x5 x6 r f k - u)) (congrArg (val_main_v8 (F := Ideal) x4 x5 x6) (funext fun x => ?_))
  match x with | ⟨0, _⟩ => rfl | ⟨1, _⟩ => rfl

theorem sum_apply (r : Fin 32768) (f : Fin 512) :
    val_main_v13 (F := Ideal) x4 x5 x6 (ix2 r f) = ∑ k : Fin 3, Ideal.exp (logs x4 x5 x6 r f k - top (logs x4 x5 x6 r f)) := by
  rw [val_main_v13_apply]
  have z : (val_main_cst_1 (F := Ideal)) (Shape.Idx.first h_S_) = 0 := by
    show Ideal.ofBits FTy.f32 0x00000000#32 = 0
    simp [Ideal.ofBits, Ideal.ieee]
  rw [z, zero_add]
  refine Finset.sum_congr rfl fun k _ => Eq.trans (congrArg (val_main_v12 (F := Ideal) x4 x5 x6) (funext fun x => ?_)) (exp_apply x4 x5 x6 k r f)
  match x with | ⟨0, _⟩ => rfl | ⟨1, _⟩ => rfl | ⟨2, _⟩ => rfl

theorem weight_apply (k : Fin 3) (r : Fin 32768) (f : Fin 512) :
    val_main_v16 (F := Ideal) x4 x5 x6 (ix3 k r f)
      = Ideal.div (Ideal.exp (logs x4 x5 x6 r f k - top (logs x4 x5 x6 r f))) (∑ k : Fin 3, Ideal.exp (logs x4 x5 x6 r f k - top (logs x4 x5 x6 r f))) := by
  rw [val_main_v16_apply, val_main_v15_apply, val_main_v14_apply, exp_apply, ← sum_apply]
  refine congrArg (fun u => Ideal.div (Ideal.exp (logs x4 x5 x6 r f k - top (logs x4 x5 x6 r f))) u) (congrArg (val_main_v13 (F := Ideal) x4 x5 x6) (funext fun x => ?_))
  match x with | ⟨0, _⟩ => rfl | ⟨1, _⟩ => rfl

theorem v18_weight (r : Fin 32768) (f : Fin 512) : val_main_v18 (F := Ideal) x4 x5 x6 (ix2 r f) = val_main_v16 (F := Ideal) x4 x5 x6 (ix3 0 r f) := by
  rw [val_main_v18_apply, val_main_v17_apply]
  refine congrArg (val_main_v16 (F := Ideal) x4 x5 x6) (funext fun a => Fin.ext ?_)
  match a with
  | ⟨0, _⟩ => rfl
  | ⟨1, _⟩ => show (r.val * 512 + f.val) / 512 % 32768 = r.val; omega
  | ⟨2, _⟩ => show (r.val * 512 + f.val) % 512 = f.val; omega

theorem v21_weight (r : Fin 32768) (f : Fin 512) : val_main_v21 (F := Ideal) x4 x5 x6 (ix2 r f) = val_main_v16 (F := Ideal) x4 x5 x6 (ix3 1 r f) := by
  rw [val_main_v21_apply, val_main_v20_apply]
  refine congrArg (val_main_v16 (F := Ideal) x4 x5 x6) (funext fun a => Fin.ext ?_)
  match a with
  | ⟨0, _⟩ => rfl
  | ⟨1, _⟩ => show (r.val * 512 + f.val) / 512 % 32768 = r.val; omega
  | ⟨2, _⟩ => show (r.val * 512 + f.val) % 512 = f.val; omega

theorem v26_weight (r : Fin 32768) (f : Fin 512) : val_main_v26 (F := Ideal) x4 x5 x6 (ix2 r f) = val_main_v16 (F := Ideal) x4 x5 x6 (ix3 2 r f) := by
  rw [val_main_v26_apply, val_main_v25_apply]
  refine congrArg (val_main_v16 (F := Ideal) x4 x5 x6) (funext fun a => Fin.ext ?_)
  match a with
  | ⟨0, _⟩ => rfl
  | ⟨1, _⟩ => show (r.val * 512 + f.val) / 512 % 32768 = r.val; omega
  | ⟨2, _⟩ => show (r.val * 512 + f.val) % 512 = f.val; omega

theorem merged_apply (r : Fin 32768) (f : Fin 512) :
    val_main_v29 (F := Ideal) x1 x2 x3 x4 x5 x6 (ix2 r f)
      = soft (x4 (ix2 r f)) (tok4 x5 r f) (tok16 x6 r f) (x1 (ix2 r f)) (tok4 x2 r f) (tok16 x3 r f) := by
  rw [val_main_v29_apply, val_main_v28_apply, val_main_v24_apply, val_main_v23_apply, val_main_v19_apply, v27_apply, v22_apply, v18_weight, v21_weight, v26_weight,
    weight_apply, weight_apply, weight_apply, Fin.sum_univ_three]
  rfl

/-! ## The layer -/

theorem res_apply (r : Fin 32768) (l : Fin 1024) :
    val_main_v31 (F := Ideal) x0 x1 x2 x3 x4 x5 x6 x7 (ix2 r l)
      = resid (fun k => x0 (ix2 r k)) (fun k => val_main_v29 (F := Ideal) x1 x2 x3 x4 x5 x6 (ix2 r k)) (fun k j => x7 (ix2 k j)) l := by
  unfold val_main_v31 val_main_v30
  generalize val_main_v29 (F := Ideal) x1 x2 x3 x4 x5 x6 = y
  pointwise [resid]

theorem norm_apply (r : Fin 32768) (l : Fin 1024) :
    val_main_v44 (F := Ideal) x0 x1 x2 x3 x4 x5 x6 x7 x8 (ix2 r l)
      = rms (fun j => val_main_v31 (F := Ideal) x0 x1 x2 x3 x4 x5 x6 x7 (ix2 r j)) (fun j => x8 (ix1 j)) l := by
  unfold val_main_v44 val_main_v41 val_main_v40 val_main_v39 val_main_v38 val_main_v36 val_main_v34 val_main_v33 val_main_v32
  generalize val_main_v31 (F := Ideal) x0 x1 x2 x3 x4 x5 x6 x7 = y
  pointwise [val_main_v43, val_main_v42, val_main_v35, val_main_v37, val_main_cst_2, val_main_cst_3, val_main_cst_4, rms, scale]

theorem mlp_apply (r : Fin 32768) (l : Fin 1024) :
    val_main_v49 (F := Ideal) x0 x1 x2 x3 x4 x5 x6 x7 x8 x9 x10 (ix2 r l)
      = mlp (fun j => val_main_v44 (F := Ideal) x0 x1 x2 x3 x4 x5 x6 x7 x8 (ix2 r j)) (fun k f => x9 (ix2 k f)) (fun f j => x10 (ix2 f j)) l := by
  unfold val_main_v49 val_main_v48 val_main_v47 val_main_v45
  generalize val_main_v44 (F := Ideal) x0 x1 x2 x3 x4 x5 x6 x7 x8 = y
  pointwise [val_main_v46, val_main_cst_5, mlp, unit]

theorem ref_eq : val_main_v50 (F := Ideal) x0 x1 x2 x3 x4 x5 x6 x7 x8 x9 x10 = MergeValue.G soft x0 x1 x2 x3 x4 x5 x6 x7 x8 x9 x10 := by
  funext i
  obtain ⟨r, l, rfl⟩ : ∃ (r : Fin 32768) (l : Fin 1024), i = (ix2 r l : S32768x1024.Idx) :=
    ⟨i 0, i 1, by funext a; match a with | ⟨0, _⟩ => rfl | ⟨1, _⟩ => rfl⟩
  have h : val_main_v50 (F := Ideal) x0 x1 x2 x3 x4 x5 x6 x7 x8 x9 x10 (ix2 r l)
      = val_main_v31 (F := Ideal) x0 x1 x2 x3 x4 x5 x6 x7 (ix2 r l) + val_main_v49 (F := Ideal) x0 x1 x2 x3 x4 x5 x6 x7 x8 x9 x10 (ix2 r l) := rfl
  rw [h, mlp_apply]
  simp only [norm_apply, res_apply, merged_apply]
  rfl

/-! ## The two merges agree on real log-denominators -/

theorem real_of_abs {x : EReal} (h : Ideal.cmp .olt (max x (-x)) (Ideal.ofBits FTy.f32 0x7F800000#32) = 1#1) : ∃ r : ℝ, x = (r : EReal) := by
  have hb : Ideal.ofBits FTy.f32 0x7F800000#32 = (⊤ : EReal) := by simp [Ideal.ofBits, Ideal.ieee]
  rw [hb] at h
  induction x using EReal.rec with
  | bot => exact absurd h (by simp [Ideal.cmp])
  | top => exact absurd h (by simp [Ideal.cmp])
  | coe r => exact ⟨r, rfl⟩

theorem soft_eq (h4 : ∀ i, ∃ r : ℝ, x4 i = (r : EReal)) (h5 : ∀ i, ∃ r : ℝ, x5 i = (r : EReal)) (h6 : ∀ i, ∃ r : ℝ, x6 i = (r : EReal)) :
    MergeValue.G soft x0 x1 x2 x3 x4 x5 x6 x7 x8 x9 x10 = MergeValue.G mrg x0 x1 x2 x3 x4 x5 x6 x7 x8 x9 x10 := by
  have e (r : Fin 32768) (k : Fin 512) : soft (x4 (ix2 r k)) (tok4 x5 r k) (tok16 x6 r k) (x1 (ix2 r k)) (tok4 x2 r k) (tok16 x3 r k)
      = mrg (x4 (ix2 r k)) (tok4 x5 r k) (tok16 x6 r k) (x1 (ix2 r k)) (tok4 x2 r k) (tok16 x3 r k) := by
    obtain ⟨u, hu⟩ := h4 (ix2 r k)
    obtain ⟨v, hv⟩ := h5 (ix2 ⟨r.val / 4, by omega⟩ ⟨r.val % 4 * 512 + k.val, by omega⟩)
    obtain ⟨w, hw⟩ := h6 (ix2 ⟨r.val / 16, by omega⟩ ⟨r.val % 16 * 512 + k.val, by omega⟩)
    have hv' : tok4 x5 r k = (v : EReal) := hv
    have hw' : tok16 x6 r k = (w : EReal) := hw
    rw [hu, hv', hw', mrg_eq_soft]
  funext i
  obtain ⟨r, l, rfl⟩ : ∃ (r : Fin 32768) (l : Fin 1024), i = (ix2 r l : S32768x1024.Idx) :=
    ⟨i 0, i 1, by funext a; match a with | ⟨0, _⟩ => rfl | ⟨1, _⟩ => rfl⟩
  exact congrArg (fun w => layer (fun k => x0 (ix2 r k)) w (fun k j => x7 (ix2 k j)) (fun j => x8 (ix1 j)) (fun k f => x9 (ix2 k f)) (fun f j => x10 (ix2 f j)) l)
    (funext fun k => e r k)

/-- The reference runs, leaves its arguments as they were, and uses no semaphore. -/
theorem frame : Cert.quiescent_RefPostMergeIdeal := fun m ρ _ =>
  (θ_run Cert.RefPostMergeIdeal.defs _ _).mono (fun r h => ⟨fun c => (h c).2, sem_eq_zero_of_no_sems (by decide) r.2⟩)
    (run (F := Ideal) m ρ)

/-- Kernel and reference end with the same result array. -/
theorem algebraic : Cert.algebraic_PostMergeIdeal_RefPostMergeIdeal_pre_finite_lse := by
  intro m g m' g' hp hm
  refine ⟨MergeValue.Gm m, ?_, ?_⟩
  · refine (θ_run Cert.PostMergeIdeal.defs _ _).mono (fun r h c => ⟨(h c).1.trans (MergeValue.final11 m c), (h c).2⟩)
      (Cert.PostMergeIdeal.Value.run_blocks m g)
  · refine (θ_run defs _ _).mono (fun r h c => ⟨(h c).1.trans ?_, (h c).2⟩) (run m' g')
    refine (val_main_v50_eq _ _).trans ?_
    obtain ⟨h0, h1, h2, h3, h4, h5, h6, h7, h8, h9, h10⟩ := hm c
    rw [h0, h1, h2, h3, h4, h5, h6, h7, h8, h9, h10]
    obtain ⟨p4, p5, p6⟩ := hp c
    exact (ref_eq _ _ _ _ _ _ _ _ _ _ _).trans (soft_eq _ _ _ _ _ _ _ _ _ _ _
      (fun i => real_of_abs (congrFun p4 i)) (fun i => real_of_abs (congrFun p5 i)) (fun i => real_of_abs (congrFun p6 i)))

end Cert.RefMergeRows

end
-- ==== Proof.lean ====
/- The proof of the certificate's claims. The frames are the generated ones; the value claims are Proof/SwaClaim.lean,
   Proof/RefPostFinal.lean, Proof/RefPost.lean, Proof/RefQkv0.lean, Proof/RefQkv3.lean and Proof/RefMerge.lean. -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.SwaClaim
public import proofs.«01_k».proof.Defs
public import proofs.«01_k».proof.Proof.Gen.PostFinal
public import proofs.«01_k».proof.Proof.Gen.PostFinal.Skeleton
public import proofs.«01_k».proof.Proof.Gen.PostFinal.Launch
public import proofs.«01_k».proof.Proof.Gen.PostFinal.Points
public import proofs.«01_k».proof.Proof.Gen.PostFinal.Frame
public import proofs.«01_k».proof.Proof.Gen.PostFinalIdeal
public import proofs.«01_k».proof.Proof.Gen.PostFinalIdeal.Skeleton
public import proofs.«01_k».proof.Proof.Gen.PostFinalIdeal.Launch
public import proofs.«01_k».proof.Proof.Gen.PostFinalIdeal.Points
public import proofs.«01_k».proof.Proof.Gen.PostFinalIdeal.Frame
public import proofs.«01_k».proof.Proof.Gen.RefPostFinalIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.RefPostIdeal
public import proofs.«01_k».proof.Proof.RefPostFinal
public import proofs.«01_k».proof.Proof.RefPost
public import Idealize.ShloMosaic.Adequacy
public import Idealize.ShloMosaic.Init
public import proofs.«01_k».proof.Proof.Gen.Qkv0
public import proofs.«01_k».proof.Proof.Gen.Qkv0.Skeleton
public import proofs.«01_k».proof.Proof.Gen.Qkv0.Launch
public import proofs.«01_k».proof.Proof.Gen.Qkv0.Points
public import proofs.«01_k».proof.Proof.Gen.Qkv0.Frame
public import proofs.«01_k».proof.Proof.Gen.Qkv0Ideal
public import proofs.«01_k».proof.Proof.Gen.Qkv0Ideal.Skeleton
public import proofs.«01_k».proof.Proof.Gen.Qkv0Ideal.Launch
public import proofs.«01_k».proof.Proof.Gen.Qkv0Ideal.Points
public import proofs.«01_k».proof.Proof.Gen.Qkv0Ideal.Frame
public import proofs.«01_k».proof.Proof.Gen.RefQkv0Ideal
public import proofs.«01_k».proof.Proof.Gen.Qkv3
public import proofs.«01_k».proof.Proof.Gen.Qkv3.Skeleton
public import proofs.«01_k».proof.Proof.Gen.Qkv3.Launch
public import proofs.«01_k».proof.Proof.Gen.Qkv3.Points
public import proofs.«01_k».proof.Proof.Gen.Qkv3.Frame
public import proofs.«01_k».proof.Proof.Gen.Qkv3Ideal
public import proofs.«01_k».proof.Proof.Gen.Qkv3Ideal.Skeleton
public import proofs.«01_k».proof.Proof.Gen.Qkv3Ideal.Launch
public import proofs.«01_k».proof.Proof.Gen.Qkv3Ideal.Points
public import proofs.«01_k».proof.Proof.Gen.Qkv3Ideal.Frame
public import proofs.«01_k».proof.Proof.Gen.RefQkv3Ideal
public import proofs.«01_k».proof.Proof.RefQkv0
public import proofs.«01_k».proof.Proof.RefQkv3
public import proofs.«01_k».proof.Proof.Gen.PostMerge
public import proofs.«01_k».proof.Proof.Gen.PostMerge.Skeleton
public import proofs.«01_k».proof.Proof.Gen.PostMerge.Launch
public import proofs.«01_k».proof.Proof.Gen.PostMerge.Points
public import proofs.«01_k».proof.Proof.Gen.PostMerge.Frame
public import proofs.«01_k».proof.Proof.Gen.PostMergeIdeal
public import proofs.«01_k».proof.Proof.Gen.PostMergeIdeal.Skeleton
public import proofs.«01_k».proof.Proof.Gen.PostMergeIdeal.Launch
public import proofs.«01_k».proof.Proof.Gen.PostMergeIdeal.Points
public import proofs.«01_k».proof.Proof.Gen.PostMergeIdeal.Frame
public import proofs.«01_k».proof.Proof.Gen.RefPostMergeIdeal
public import proofs.«01_k».proof.Proof.Gen.Pre_finite_lse
public import proofs.«01_k».proof.Proof.RefMerge

@[expose] public section

noncomputable section

namespace Cert.Proof

open Idealize.ShloMosaic Idealize.SL.Sem Cert.PostFinal

theorem claim : Cert.Claim := ⟨Cert.Kernel.Gen.facts, Cert.KernelIdeal.Gen.facts, Cert.ReferenceIdeal.Gen.facts,
  Cert.PostFinal.Gen.facts, Cert.PostFinalIdeal.Gen.facts, Cert.RefPostFinalIdeal.Gen.facts,
  Cert.Post.Gen.facts, Cert.PostIdeal.Gen.facts, Cert.RefPostIdeal.Gen.facts,
  Cert.Qkv0.Gen.facts, Cert.Qkv0Ideal.Gen.facts, Cert.RefQkv0Ideal.Gen.facts,
  Cert.Qkv3.Gen.facts, Cert.Qkv3Ideal.Gen.facts, Cert.RefQkv3Ideal.Gen.facts,
  Cert.PostMerge.Gen.facts, Cert.PostMergeIdeal.Gen.facts, Cert.RefPostMergeIdeal.Gen.facts,
  Cert.Pre_finite.Gen.facts, Cert.Pre_finite_lse.Gen.facts,
  fun m ρ _ => Cert.Kernel.Gen.frame m ρ, fun m ρ _ => Cert.KernelIdeal.Gen.frame m ρ, fun m ρ _ => Cert.KernelIdeal.Gen.frame m ρ,
  Cert.SwaEq.frame_ref, fun m ρ _ => Cert.SwaEq.frame_ref m ρ trivial,
  fun m ρ _ => Cert.PostFinal.Gen.frame m ρ, fun m ρ _ => Cert.PostFinalIdeal.Gen.frame m ρ,
  Cert.RefPostFinalRows.frame,
  fun m ρ _ => Cert.Post.Gen.frame m ρ, fun m ρ _ => Cert.PostIdeal.Gen.frame m ρ,
  Cert.RefPostRows.frame,
  fun m ρ _ => Cert.Qkv0.Gen.frame m ρ, fun m ρ _ => Cert.Qkv0Ideal.Gen.frame m ρ, Cert.RefQkv0Rows.frame,
  fun m ρ _ => Cert.Qkv3.Gen.frame m ρ, fun m ρ _ => Cert.Qkv3Ideal.Gen.frame m ρ, Cert.RefQkv3Rows.frame,
  fun m ρ _ => Cert.PostMerge.Gen.frame m ρ, fun m ρ _ => Cert.PostMergeIdeal.Gen.frame m ρ,
  fun m ρ _ => Cert.PostMergeIdeal.Gen.frame m ρ, Cert.RefMergeRows.frame, fun m ρ _ => Cert.RefMergeRows.frame m ρ trivial,
  Cert.SwaEq.preserves, Cert.SwaEq.algebraic,
  trivial, Cert.RefPostFinalRows.algebraic, trivial, Cert.RefPostRows.algebraic,
  Cert.RefQkv0Rows.preserves, Cert.RefQkv0Rows.algebraic, Cert.RefQkv3Rows.preserves, Cert.RefQkv3Rows.algebraic,
  trivial, Cert.RefMergeRows.algebraic⟩

end Cert.Proof

end
